-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_finite_router [hPre_finite_router : Cert.Pre_finite_router.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.2.1 = (fun _ => 1#1)
    ∧ (Cert.Pre_finite_router.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6)) (m ((c.tc : Thread Cert.OutKernelIdeal.nD Cert.OutKernelIdeal.τ).loc Cert.OutKernelIdeal.main_arg7)) (m ((c.tc : Thread Cert.OutKernelIdeal.nD Cert.OutKernelIdeal.τ).loc Cert.OutKernelIdeal.main_arg8)) (m ((c.tc : Thread Cert.OutKernelIdeal.nD Cert.OutKernelIdeal.τ).loc Cert.OutKernelIdeal.main_arg9))).2.2.2.2.2.2.2.2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_finite_router [hPre_finite_router : Cert.Pre_finite_router.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.2.2.2.2.1 = (fun _ => 1#1)
    ∧ (Cert.Pre_finite_router.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6)) (m ((c.tc : Thread Cert.OutReferenceIdeal.nD Cert.OutReferenceIdeal.τ).loc Cert.OutReferenceIdeal.main_arg7)) (m ((c.tc : Thread Cert.OutReferenceIdeal.nD Cert.OutReferenceIdeal.τ).loc Cert.OutReferenceIdeal.main_arg8)) (m ((c.tc : Thread Cert.OutReferenceIdeal.nD Cert.OutReferenceIdeal.τ).loc Cert.OutReferenceIdeal.main_arg9))).2.2.2.2.2.2.2.2.2 = (fun _ => 1#1)

def Pre_EvenKernel (m : (ℓ : Loc Cert.EvenKernel.nD Cert.EvenKernel.τ Cert.EvenKernel.sig) → Buf (Elt Bits) ℓ) : Prop :=
  True

def Pre_EvenKernelIdeal (m : (ℓ : Loc Cert.EvenKernelIdeal.nD Cert.EvenKernelIdeal.τ Cert.EvenKernelIdeal.sig) → Buf (Elt Ideal) ℓ) : Prop :=
  True

def Pre_EvenKernelIdeal_finite_first_router [hPre_finite_first_router : Cert.Pre_finite_first_router.Facts] (m : (ℓ : Loc Cert.EvenKernelIdeal.nD Cert.EvenKernelIdeal.τ Cert.EvenKernelIdeal.sig) → Buf (Elt Ideal) ℓ) : Prop :=
  ∀ c : Dev Cert.EvenKernelIdeal.nD,
    (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.2.2.2.2.1 = (fun _ => 1#1)
    ∧ (Cert.Pre_finite_first_router.fn (F := Ideal) (m ((c.tc : Thread Cert.EvenKernelIdeal.nD Cert.EvenKernelIdeal.τ).loc Cert.EvenKernelIdeal.main_arg0)) (m ((c.tc : Thread Cert.EvenKernelIdeal.nD Cert.EvenKernelIdeal.τ).loc Cert.EvenKernelIdeal.main_arg1)) (m ((c.tc : Thread Cert.EvenKernelIdeal.nD Cert.EvenKernelIdeal.τ).loc Cert.EvenKernelIdeal.main_arg2)) (m ((c.tc : Thread Cert.EvenKernelIdeal.nD Cert.EvenKernelIdeal.τ).loc Cert.EvenKernelIdeal.main_arg3)) (m ((c.tc : Thread Cert.EvenKernelIdeal.nD Cert.EvenKernelIdeal.τ).loc Cert.EvenKernelIdeal.main_arg4)) (m ((c.tc : Thread Cert.EvenKernelIdeal.nD Cert.EvenKernelIdeal.τ).loc Cert.EvenKernelIdeal.main_arg5)) (m ((c.tc : Thread Cert.EvenKernelIdeal.nD Cert.EvenKernelIdeal.τ).loc Cert.EvenKernelIdeal.main_arg6)) (m ((c.tc : Thread Cert.EvenKernelIdeal.nD Cert.EvenKernelIdeal.τ).loc Cert.EvenKernelIdeal.main_arg7)) (m ((c.tc : Thread Cert.EvenKernelIdeal.nD Cert.EvenKernelIdeal.τ).loc Cert.EvenKernelIdeal.main_arg8)) (m ((c.tc : Thread Cert.EvenKernelIdeal.nD Cert.EvenKernelIdeal.τ).loc Cert.EvenKernelIdeal.main_arg9)) (m ((c.tc : Thread Cert.EvenKernelIdeal.nD Cert.EvenKernelIdeal.τ).loc Cert.EvenKernelIdeal.main_arg10))).2.2.2.2.2.2.2.2.2.2 = (fun _ => 1#1)

def Pre_EvenReferenceIdeal (m : (ℓ : Loc Cert.EvenReferenceIdeal.nD Cert.EvenReferenceIdeal.τ Cert.EvenReferenceIdeal.sig) → Buf (Elt Ideal) ℓ) : Prop :=
  True

def Pre_EvenReferenceIdeal_finite_first_router [hPre_finite_first_router : Cert.Pre_finite_first_router.Facts] (m : (ℓ : Loc Cert.EvenReferenceIdeal.nD Cert.EvenReferenceIdeal.τ Cert.EvenReferenceIdeal.sig) → Buf (Elt Ideal) ℓ) : Prop :=
  ∀ c : Dev Cert.EvenReferenceIdeal.nD,
    (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.2.2.2.2.1 = (fun _ => 1#1)
    ∧ (Cert.Pre_finite_first_router.fn (F := Ideal) (m ((c.tc : Thread Cert.EvenReferenceIdeal.nD Cert.EvenReferenceIdeal.τ).loc Cert.EvenReferenceIdeal.main_arg0)) (m ((c.tc : Thread Cert.EvenReferenceIdeal.nD Cert.EvenReferenceIdeal.τ).loc Cert.EvenReferenceIdeal.main_arg1)) (m ((c.tc : Thread Cert.EvenReferenceIdeal.nD Cert.EvenReferenceIdeal.τ).loc Cert.EvenReferenceIdeal.main_arg2)) (m ((c.tc : Thread Cert.EvenReferenceIdeal.nD Cert.EvenReferenceIdeal.τ).loc Cert.EvenReferenceIdeal.main_arg3)) (m ((c.tc : Thread Cert.EvenReferenceIdeal.nD Cert.EvenReferenceIdeal.τ).loc Cert.EvenReferenceIdeal.main_arg4)) (m ((c.tc : Thread Cert.EvenReferenceIdeal.nD Cert.EvenReferenceIdeal.τ).loc Cert.EvenReferenceIdeal.main_arg5)) (m ((c.tc : Thread Cert.EvenReferenceIdeal.nD Cert.EvenReferenceIdeal.τ).loc Cert.EvenReferenceIdeal.main_arg6)) (m ((c.tc : Thread Cert.EvenReferenceIdeal.nD Cert.EvenReferenceIdeal.τ).loc Cert.EvenReferenceIdeal.main_arg7)) (m ((c.tc : Thread Cert.EvenReferenceIdeal.nD Cert.EvenReferenceIdeal.τ).loc Cert.EvenReferenceIdeal.main_arg8)) (m ((c.tc : Thread Cert.EvenReferenceIdeal.nD Cert.EvenReferenceIdeal.τ).loc Cert.EvenReferenceIdeal.main_arg9)) (m ((c.tc : Thread Cert.EvenReferenceIdeal.nD Cert.EvenReferenceIdeal.τ).loc Cert.EvenReferenceIdeal.main_arg10))).2.2.2.2.2.2.2.2.2.2 = (fun _ => 1#1)

def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffKernelIdeal_finite_attention [hPre_finite_attention : Cert.Pre_finite_attention.Facts] (m : (ℓ : Loc Cert.DiffKernelIdeal.nD Cert.DiffKernelIdeal.τ Cert.DiffKernelIdeal.sig) → Buf (Elt Ideal) ℓ) : Prop :=
  ∀ c : Dev Cert.DiffKernelIdeal.nD,
    (Cert.Pre_finite_attention.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4))).1 = (fun _ => 1#1)
    ∧ (Cert.Pre_finite_attention.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4))).2.1 = (fun _ => 1#1)
    ∧ (Cert.Pre_finite_attention.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4))).2.2.1 = (fun _ => 1#1)
    ∧ (Cert.Pre_finite_attention.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4))).2.2.2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_attention [hPre_finite_attention : Cert.Pre_finite_attention.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_attention.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).1 = (fun _ => 1#1)
    ∧ (Cert.Pre_finite_attention.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.1 = (fun _ => 1#1)
    ∧ (Cert.Pre_finite_attention.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.2.1 = (fun _ => 1#1)
    ∧ (Cert.Pre_finite_attention.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.2.2 = (fun _ => 1#1)

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_prompt_attention [hPre_finite_prompt_attention : Cert.Pre_finite_prompt_attention.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_prompt_attention.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2))).1 = (fun _ => 1#1)
    ∧ (Cert.Pre_finite_prompt_attention.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2))).2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_prompt_attention [hPre_finite_prompt_attention : Cert.Pre_finite_prompt_attention.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_prompt_attention.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).1 = (fun _ => 1#1)
    ∧ (Cert.Pre_finite_prompt_attention.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutKernelIdeal_pre_finite_router [hOutKernelIdeal : Cert.OutKernelIdeal.Facts] [hPre_finite_router : Cert.Pre_finite_router.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_finite_router m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_OutReferenceIdeal_pre_finite_router [hOutReferenceIdeal : Cert.OutReferenceIdeal.Facts] [hPre_finite_router : Cert.Pre_finite_router.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_finite_router m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_EvenKernel [hEvenKernel : Cert.EvenKernel.Facts] : Prop :=
  ∀ (m : (ℓ : Loc Cert.EvenKernel.nD Cert.EvenKernel.τ Cert.EvenKernel.sig) → Buf (Elt Bits) ℓ) (g : Dev Cert.EvenKernel.nD → PrngReg), Pre_EvenKernel m →
    θ_run (Cert.EvenKernel.defs (F := Bits)) (onTc (τ := Cert.EvenKernel.τ) (Cert.EvenKernel.main (F := Bits))) ⟨m, fun _ => 0, g⟩ (fun r => (∀ c : Dev Cert.EvenKernel.nD,
      r.2.mem ((c.tc : Thread Cert.EvenKernel.nD Cert.EvenKernel.τ).loc Cert.EvenKernel.main_arg0) = m ((c.tc : Thread Cert.EvenKernel.nD Cert.EvenKernel.τ).loc Cert.EvenKernel.main_arg0)
      ∧ r.2.mem ((c.tc : Thread Cert.EvenKernel.nD Cert.EvenKernel.τ).loc Cert.EvenKernel.main_arg1) = m ((c.tc : Thread Cert.EvenKernel.nD Cert.EvenKernel.τ).loc Cert.EvenKernel.main_arg1)
      ∧ r.2.mem ((c.tc : Thread Cert.EvenKernel.nD Cert.EvenKernel.τ).loc Cert.EvenKernel.main_arg2) = m ((c.tc : Thread Cert.EvenKernel.nD Cert.EvenKernel.τ).loc Cert.EvenKernel.main_arg2)
      ∧ r.2.mem ((c.tc : Thread Cert.EvenKernel.nD Cert.EvenKernel.τ).loc Cert.EvenKernel.main_arg3) = m ((c.tc : Thread Cert.EvenKernel.nD Cert.EvenKernel.τ).loc Cert.EvenKernel.main_arg3)
      ∧ r.2.mem ((c.tc : Thread Cert.EvenKernel.nD Cert.EvenKernel.τ).loc Cert.EvenKernel.main_arg4) = m ((c.tc : Thread Cert.EvenKernel.nD Cert.EvenKernel.τ).loc Cert.EvenKernel.main_arg4)
      ∧ r.2.mem ((c.tc : Thread Cert.EvenKernel.nD Cert.EvenKernel.τ).loc Cert.EvenKernel.main_arg5) = m ((c.tc : Thread Cert.EvenKernel.nD Cert.EvenKernel.τ).loc Cert.EvenKernel.main_arg5)
      ∧ r.2.mem ((c.tc : Thread Cert.EvenKernel.nD Cert.EvenKernel.τ).loc Cert.EvenKernel.main_arg6) = m ((c.tc : Thread Cert.EvenKernel.nD Cert.EvenKernel.τ).loc Cert.EvenKernel.main_arg6)
      ∧ r.2.mem ((c.tc : Thread Cert.EvenKernel.nD Cert.EvenKernel.τ).loc Cert.EvenKernel.main_arg7) = m ((c.tc : Thread Cert.EvenKernel.nD Cert.EvenKernel.τ).loc Cert.EvenKernel.main_arg7)
      ∧ r.2.mem ((c.tc : Thread Cert.EvenKernel.nD Cert.EvenKernel.τ).loc Cert.EvenKernel.main_arg8) = m ((c.tc : Thread Cert.EvenKernel.nD Cert.EvenKernel.τ).loc Cert.EvenKernel.main_arg8)
      ∧ r.2.mem ((c.tc : Thread Cert.EvenKernel.nD Cert.EvenKernel.τ).loc Cert.EvenKernel.main_arg9) = m ((c.tc : Thread Cert.EvenKernel.nD Cert.EvenKernel.τ).loc Cert.EvenKernel.main_arg9)
      ∧ r.2.mem ((c.tc : Thread Cert.EvenKernel.nD Cert.EvenKernel.τ).loc Cert.EvenKernel.main_arg10) = m ((c.tc : Thread Cert.EvenKernel.nD Cert.EvenKernel.τ).loc Cert.EvenKernel.main_arg10))
      ∧ r.2.sem = fun _ => 0)

def quiescent_EvenKernelIdeal [hEvenKernelIdeal : Cert.EvenKernelIdeal.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
      ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10))
      ∧ r.2.sem = fun _ => 0)

def quiescent_EvenKernelIdeal_pre_finite_first_router [hEvenKernelIdeal : Cert.EvenKernelIdeal.Facts] [hPre_finite_first_router : Cert.Pre_finite_first_router.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg), Pre_EvenKernelIdeal_finite_first_router m →
    θ_run (Cert.EvenKernelIdeal.defs (F := Ideal)) (onTc (τ := Cert.EvenKernelIdeal.τ) (Cert.EvenKernelIdeal.main (F := Ideal))) ⟨m, fun _ => 0, g⟩ (fun r => (∀ c : Dev Cert.EvenKernelIdeal.nD,
      r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
      ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
      ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
      ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
      ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
      ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
      ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
      ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
      ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
      ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
      ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9)
      ∧ r.2.mem ((c.tc : Thread Cert.EvenReferenceIdeal.nD Cert.EvenReferenceIdeal.τ).loc Cert.EvenReferenceIdeal.main_arg10) = m ((c.tc : Thread Cert.EvenReferenceIdeal.nD Cert.EvenReferenceIdeal.τ).loc Cert.EvenReferenceIdeal.main_arg10))
      ∧ r.2.sem = fun _ => 0)

def quiescent_EvenReferenceIdeal_pre_finite_first_router [hEvenReferenceIdeal : Cert.EvenReferenceIdeal.Facts] [hPre_finite_first_router : Cert.Pre_finite_first_router.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal_finite_first_router m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3)
      ∧ r.2.mem ((c.tc : Thread Cert.EvenReferenceIdeal.nD Cert.EvenReferenceIdeal.τ).loc Cert.EvenReferenceIdeal.main_arg4) = m ((c.tc : Thread Cert.EvenReferenceIdeal.nD Cert.EvenReferenceIdeal.τ).loc Cert.EvenReferenceIdeal.main_arg4)
      ∧ r.2.mem ((c.tc : Thread Cert.EvenReferenceIdeal.nD Cert.EvenReferenceIdeal.τ).loc Cert.EvenReferenceIdeal.main_arg5) = m ((c.tc : Thread Cert.EvenReferenceIdeal.nD Cert.EvenReferenceIdeal.τ).loc Cert.EvenReferenceIdeal.main_arg5)
      ∧ r.2.mem ((c.tc : Thread Cert.EvenReferenceIdeal.nD Cert.EvenReferenceIdeal.τ).loc Cert.EvenReferenceIdeal.main_arg6) = m ((c.tc : Thread Cert.EvenReferenceIdeal.nD Cert.EvenReferenceIdeal.τ).loc Cert.EvenReferenceIdeal.main_arg6)
      ∧ r.2.mem ((c.tc : Thread Cert.EvenReferenceIdeal.nD Cert.EvenReferenceIdeal.τ).loc Cert.EvenReferenceIdeal.main_arg7) = m ((c.tc : Thread Cert.EvenReferenceIdeal.nD Cert.EvenReferenceIdeal.τ).loc Cert.EvenReferenceIdeal.main_arg7)
      ∧ r.2.mem ((c.tc : Thread Cert.EvenReferenceIdeal.nD Cert.EvenReferenceIdeal.τ).loc Cert.EvenReferenceIdeal.main_arg8) = m ((c.tc : Thread Cert.EvenReferenceIdeal.nD Cert.EvenReferenceIdeal.τ).loc Cert.EvenReferenceIdeal.main_arg8)
      ∧ r.2.mem ((c.tc : Thread Cert.EvenReferenceIdeal.nD Cert.EvenReferenceIdeal.τ).loc Cert.EvenReferenceIdeal.main_arg9) = m ((c.tc : Thread Cert.EvenReferenceIdeal.nD Cert.EvenReferenceIdeal.τ).loc Cert.EvenReferenceIdeal.main_arg9)
      ∧ r.2.mem ((c.tc : Thread Cert.EvenReferenceIdeal.nD Cert.EvenReferenceIdeal.τ).loc Cert.EvenReferenceIdeal.main_arg10) = m ((c.tc : Thread Cert.EvenReferenceIdeal.nD Cert.EvenReferenceIdeal.τ).loc Cert.EvenReferenceIdeal.main_arg10))
      ∧ r.2.sem = fun _ => 0)

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2)
      ∧ r.2.mem ((c.tc : Thread Cert.DiffKernel.nD Cert.DiffKernel.τ).loc Cert.DiffKernel.main_arg3) = m ((c.tc : Thread Cert.DiffKernel.nD Cert.DiffKernel.τ).loc Cert.DiffKernel.main_arg3)
      ∧ r.2.mem ((c.tc : Thread Cert.DiffKernel.nD Cert.DiffKernel.τ).loc Cert.DiffKernel.main_arg4) = m ((c.tc : Thread Cert.DiffKernel.nD Cert.DiffKernel.τ).loc Cert.DiffKernel.main_arg4))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4))
      ∧ r.2.sem = fun _ => 0)

def quiescent_DiffKernelIdeal_pre_finite_attention [hDiffKernelIdeal : Cert.DiffKernelIdeal.Facts] [hPre_finite_attention : Cert.Pre_finite_attention.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal_finite_attention m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_DiffReferenceIdeal_pre_finite_attention [hDiffReferenceIdeal : Cert.DiffReferenceIdeal.Facts] [hPre_finite_attention : Cert.Pre_finite_attention.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_attention m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxKernelIdeal_pre_finite_prompt_attention [hCtxKernelIdeal : Cert.CtxKernelIdeal.Facts] [hPre_finite_prompt_attention : Cert.Pre_finite_prompt_attention.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_prompt_attention m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_prompt_attention [hCtxReferenceIdeal : Cert.CtxReferenceIdeal.Facts] [hPre_finite_prompt_attention : Cert.Pre_finite_prompt_attention.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_prompt_attention m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v55_0)) (v1 : (c : Dev Cert.ProjKernelIdeal.nD) → Buf (Elt Ideal) ((c.tc : Thread Cert.ProjKernelIdeal.nD Cert.ProjKernelIdeal.τ).loc Cert.ProjKernelIdeal.main_v55_1)) (v2 : (c : Dev Cert.ProjKernelIdeal.nD) → Buf (Elt Ideal) ((c.tc : Thread Cert.ProjKernelIdeal.nD Cert.ProjKernelIdeal.τ).loc Cert.ProjKernelIdeal.main_v55_2)) (v3 : (c : Dev Cert.ProjKernelIdeal.nD) → Buf (Elt Ideal) ((c.tc : Thread Cert.ProjKernelIdeal.nD Cert.ProjKernelIdeal.τ).loc Cert.ProjKernelIdeal.main_v55_3)) (v4 : (c : Dev Cert.ProjKernelIdeal.nD) → Buf (Elt Ideal) ((c.tc : Thread Cert.ProjKernelIdeal.nD Cert.ProjKernelIdeal.τ).loc Cert.ProjKernelIdeal.main_v55_4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v55_0) = v0 c
          ∧ r.2.mem ((c.tc : Thread Cert.ProjKernelIdeal.nD Cert.ProjKernelIdeal.τ).loc Cert.ProjKernelIdeal.main_v55_1) = v1 c
          ∧ r.2.mem ((c.tc : Thread Cert.ProjKernelIdeal.nD Cert.ProjKernelIdeal.τ).loc Cert.ProjKernelIdeal.main_v55_2) = v2 c
          ∧ r.2.mem ((c.tc : Thread Cert.ProjKernelIdeal.nD Cert.ProjKernelIdeal.τ).loc Cert.ProjKernelIdeal.main_v55_3) = v3 c
          ∧ r.2.mem ((c.tc : Thread Cert.ProjKernelIdeal.nD Cert.ProjKernelIdeal.τ).loc Cert.ProjKernelIdeal.main_v55_4) = v4 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v98) = v0 c
          ∧ r.2.mem ((c.tc : Thread Cert.ProjReferenceIdeal.nD Cert.ProjReferenceIdeal.τ).loc Cert.ProjReferenceIdeal.main_v101) = v1 c
          ∧ r.2.mem ((c.tc : Thread Cert.ProjReferenceIdeal.nD Cert.ProjReferenceIdeal.τ).loc Cert.ProjReferenceIdeal.main_v103) = v2 c
          ∧ r.2.mem ((c.tc : Thread Cert.ProjReferenceIdeal.nD Cert.ProjReferenceIdeal.τ).loc Cert.ProjReferenceIdeal.main_v105) = v3 c
          ∧ r.2.mem ((c.tc : Thread Cert.ProjReferenceIdeal.nD Cert.ProjReferenceIdeal.τ).loc Cert.ProjReferenceIdeal.main_v106) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v0_0)) (v1 : (c : Dev Cert.InKernelIdeal.nD) → Buf (Elt Ideal) ((c.tc : Thread Cert.InKernelIdeal.nD Cert.InKernelIdeal.τ).loc Cert.InKernelIdeal.main_v0_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0_0) = v0 c
          ∧ r.2.mem ((c.tc : Thread Cert.InKernelIdeal.nD Cert.InKernelIdeal.τ).loc Cert.InKernelIdeal.main_v0_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v31) = v0 c
          ∧ r.2.mem ((c.tc : Thread Cert.InReferenceIdeal.nD Cert.InReferenceIdeal.τ).loc Cert.InReferenceIdeal.main_v33) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_OutKernel_OutKernelIdeal : Prop :=
  True

def algebraic_OutKernelIdeal_OutReferenceIdeal_pre_finite_router [hOutKernelIdeal : Cert.OutKernelIdeal.Facts] [hOutReferenceIdeal : Cert.OutReferenceIdeal.Facts] [hPre_finite_router : Cert.Pre_finite_router.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_finite_router m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)) (v2 : (c : Dev Cert.OutKernelIdeal.nD) → Buf (Elt Ideal) ((c.tc : Thread Cert.OutKernelIdeal.nD Cert.OutKernelIdeal.τ).loc Cert.OutKernelIdeal.main_v0_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_v0_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v46) = v0 c
          ∧ r.2.mem ((c.tc : Thread Cert.OutReferenceIdeal.nD Cert.OutReferenceIdeal.τ).loc Cert.OutReferenceIdeal.main_v83) = v1 c
          ∧ r.2.mem ((c.tc : Thread Cert.OutReferenceIdeal.nD Cert.OutReferenceIdeal.τ).loc Cert.OutReferenceIdeal.main_v84) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_EvenKernel_EvenKernelIdeal : Prop :=
  True

def algebraic_EvenKernelIdeal_EvenReferenceIdeal_pre_finite_first_router [hEvenKernelIdeal : Cert.EvenKernelIdeal.Facts] [hEvenReferenceIdeal : Cert.EvenReferenceIdeal.Facts] [hPre_finite_first_router : Cert.Pre_finite_first_router.Facts] : Prop :=
  ∀ (m : (ℓ : Loc Cert.EvenKernelIdeal.nD Cert.EvenKernelIdeal.τ Cert.EvenKernelIdeal.sig) → Buf (Elt Ideal) ℓ) (g : Dev Cert.EvenKernelIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenKernelIdeal_finite_first_router m →
    (∀ c : Dev Cert.EvenKernelIdeal.nD,
      m' ((c.tc : Thread Cert.EvenReferenceIdeal.nD Cert.EvenReferenceIdeal.τ).loc Cert.EvenReferenceIdeal.main_arg0) = m ((c.tc : Thread Cert.EvenKernelIdeal.nD Cert.EvenKernelIdeal.τ).loc Cert.EvenKernelIdeal.main_arg0)
      ∧ m' ((c.tc : Thread Cert.EvenReferenceIdeal.nD Cert.EvenReferenceIdeal.τ).loc Cert.EvenReferenceIdeal.main_arg1) = m ((c.tc : Thread Cert.EvenKernelIdeal.nD Cert.EvenKernelIdeal.τ).loc Cert.EvenKernelIdeal.main_arg1)
      ∧ m' ((c.tc : Thread Cert.EvenReferenceIdeal.nD Cert.EvenReferenceIdeal.τ).loc Cert.EvenReferenceIdeal.main_arg2) = m ((c.tc : Thread Cert.EvenKernelIdeal.nD Cert.EvenKernelIdeal.τ).loc Cert.EvenKernelIdeal.main_arg2)
      ∧ m' ((c.tc : Thread Cert.EvenReferenceIdeal.nD Cert.EvenReferenceIdeal.τ).loc Cert.EvenReferenceIdeal.main_arg3) = m ((c.tc : Thread Cert.EvenKernelIdeal.nD Cert.EvenKernelIdeal.τ).loc Cert.EvenKernelIdeal.main_arg3)
      ∧ m' ((c.tc : Thread Cert.EvenReferenceIdeal.nD Cert.EvenReferenceIdeal.τ).loc Cert.EvenReferenceIdeal.main_arg4) = m ((c.tc : Thread Cert.EvenKernelIdeal.nD Cert.EvenKernelIdeal.τ).loc Cert.EvenKernelIdeal.main_arg4)
      ∧ m' ((c.tc : Thread Cert.EvenReferenceIdeal.nD Cert.EvenReferenceIdeal.τ).loc Cert.EvenReferenceIdeal.main_arg5) = m ((c.tc : Thread Cert.EvenKernelIdeal.nD Cert.EvenKernelIdeal.τ).loc Cert.EvenKernelIdeal.main_arg5)
      ∧ m' ((c.tc : Thread Cert.EvenReferenceIdeal.nD Cert.EvenReferenceIdeal.τ).loc Cert.EvenReferenceIdeal.main_arg6) = m ((c.tc : Thread Cert.EvenKernelIdeal.nD Cert.EvenKernelIdeal.τ).loc Cert.EvenKernelIdeal.main_arg6)
      ∧ m' ((c.tc : Thread Cert.EvenReferenceIdeal.nD Cert.EvenReferenceIdeal.τ).loc Cert.EvenReferenceIdeal.main_arg7) = m ((c.tc : Thread Cert.EvenKernelIdeal.nD Cert.EvenKernelIdeal.τ).loc Cert.EvenKernelIdeal.main_arg7)
      ∧ m' ((c.tc : Thread Cert.EvenReferenceIdeal.nD Cert.EvenReferenceIdeal.τ).loc Cert.EvenReferenceIdeal.main_arg8) = m ((c.tc : Thread Cert.EvenKernelIdeal.nD Cert.EvenKernelIdeal.τ).loc Cert.EvenKernelIdeal.main_arg8)
      ∧ m' ((c.tc : Thread Cert.EvenReferenceIdeal.nD Cert.EvenReferenceIdeal.τ).loc Cert.EvenReferenceIdeal.main_arg9) = m ((c.tc : Thread Cert.EvenKernelIdeal.nD Cert.EvenKernelIdeal.τ).loc Cert.EvenKernelIdeal.main_arg9)
      ∧ m' ((c.tc : Thread Cert.EvenReferenceIdeal.nD Cert.EvenReferenceIdeal.τ).loc Cert.EvenReferenceIdeal.main_arg10) = m ((c.tc : Thread Cert.EvenKernelIdeal.nD Cert.EvenKernelIdeal.τ).loc Cert.EvenKernelIdeal.main_arg10)) →
    ∃ (v0 : (c : Dev Cert.EvenKernelIdeal.nD) → Buf (Elt Ideal) ((c.tc : Thread Cert.EvenKernelIdeal.nD Cert.EvenKernelIdeal.τ).loc Cert.EvenKernelIdeal.main_v0_0)) (v1 : (c : Dev Cert.EvenKernelIdeal.nD) → Buf (Elt Ideal) ((c.tc : Thread Cert.EvenKernelIdeal.nD Cert.EvenKernelIdeal.τ).loc Cert.EvenKernelIdeal.main_v0_1)) (v2 : (c : Dev Cert.EvenKernelIdeal.nD) → Buf (Elt Ideal) ((c.tc : Thread Cert.EvenKernelIdeal.nD Cert.EvenKernelIdeal.τ).loc Cert.EvenKernelIdeal.main_v0_2)),
      θ_run (Cert.EvenKernelIdeal.defs (F := Ideal)) (onTc (τ := Cert.EvenKernelIdeal.τ) (Cert.EvenKernelIdeal.main (F := Ideal))) ⟨m, fun _ => 0, g⟩ (fun r => ∀ c : Dev Cert.EvenKernelIdeal.nD,
          r.2.mem ((c.tc : Thread Cert.EvenKernelIdeal.nD Cert.EvenKernelIdeal.τ).loc Cert.EvenKernelIdeal.main_v0_0) = v0 c
          ∧ r.2.mem ((c.tc : Thread Cert.EvenKernelIdeal.nD Cert.EvenKernelIdeal.τ).loc Cert.EvenKernelIdeal.main_v0_1) = v1 c
          ∧ r.2.mem ((c.tc : Thread Cert.EvenKernelIdeal.nD Cert.EvenKernelIdeal.τ).loc Cert.EvenKernelIdeal.main_v0_2) = v2 c
          ∧ r.2.mem ((c.tc : Thread Cert.EvenKernelIdeal.nD Cert.EvenKernelIdeal.τ).loc Cert.EvenKernelIdeal.main_arg0) = m ((c.tc : Thread Cert.EvenKernelIdeal.nD Cert.EvenKernelIdeal.τ).loc Cert.EvenKernelIdeal.main_arg0)
          ∧ r.2.mem ((c.tc : Thread Cert.EvenKernelIdeal.nD Cert.EvenKernelIdeal.τ).loc Cert.EvenKernelIdeal.main_arg1) = m ((c.tc : Thread Cert.EvenKernelIdeal.nD Cert.EvenKernelIdeal.τ).loc Cert.EvenKernelIdeal.main_arg1)
          ∧ r.2.mem ((c.tc : Thread Cert.EvenKernelIdeal.nD Cert.EvenKernelIdeal.τ).loc Cert.EvenKernelIdeal.main_arg2) = m ((c.tc : Thread Cert.EvenKernelIdeal.nD Cert.EvenKernelIdeal.τ).loc Cert.EvenKernelIdeal.main_arg2)
          ∧ r.2.mem ((c.tc : Thread Cert.EvenKernelIdeal.nD Cert.EvenKernelIdeal.τ).loc Cert.EvenKernelIdeal.main_arg3) = m ((c.tc : Thread Cert.EvenKernelIdeal.nD Cert.EvenKernelIdeal.τ).loc Cert.EvenKernelIdeal.main_arg3)
          ∧ r.2.mem ((c.tc : Thread Cert.EvenKernelIdeal.nD Cert.EvenKernelIdeal.τ).loc Cert.EvenKernelIdeal.main_arg4) = m ((c.tc : Thread Cert.EvenKernelIdeal.nD Cert.EvenKernelIdeal.τ).loc Cert.EvenKernelIdeal.main_arg4)
          ∧ r.2.mem ((c.tc : Thread Cert.EvenKernelIdeal.nD Cert.EvenKernelIdeal.τ).loc Cert.EvenKernelIdeal.main_arg5) = m ((c.tc : Thread Cert.EvenKernelIdeal.nD Cert.EvenKernelIdeal.τ).loc Cert.EvenKernelIdeal.main_arg5)
          ∧ r.2.mem ((c.tc : Thread Cert.EvenKernelIdeal.nD Cert.EvenKernelIdeal.τ).loc Cert.EvenKernelIdeal.main_arg6) = m ((c.tc : Thread Cert.EvenKernelIdeal.nD Cert.EvenKernelIdeal.τ).loc Cert.EvenKernelIdeal.main_arg6)
          ∧ r.2.mem ((c.tc : Thread Cert.EvenKernelIdeal.nD Cert.EvenKernelIdeal.τ).loc Cert.EvenKernelIdeal.main_arg7) = m ((c.tc : Thread Cert.EvenKernelIdeal.nD Cert.EvenKernelIdeal.τ).loc Cert.EvenKernelIdeal.main_arg7)
          ∧ r.2.mem ((c.tc : Thread Cert.EvenKernelIdeal.nD Cert.EvenKernelIdeal.τ).loc Cert.EvenKernelIdeal.main_arg8) = m ((c.tc : Thread Cert.EvenKernelIdeal.nD Cert.EvenKernelIdeal.τ).loc Cert.EvenKernelIdeal.main_arg8)
          ∧ r.2.mem ((c.tc : Thread Cert.EvenKernelIdeal.nD Cert.EvenKernelIdeal.τ).loc Cert.EvenKernelIdeal.main_arg9) = m ((c.tc : Thread Cert.EvenKernelIdeal.nD Cert.EvenKernelIdeal.τ).loc Cert.EvenKernelIdeal.main_arg9)
          ∧ r.2.mem ((c.tc : Thread Cert.EvenKernelIdeal.nD Cert.EvenKernelIdeal.τ).loc Cert.EvenKernelIdeal.main_arg10) = m ((c.tc : Thread Cert.EvenKernelIdeal.nD Cert.EvenKernelIdeal.τ).loc Cert.EvenKernelIdeal.main_arg10))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v47) = v0 c
          ∧ r.2.mem ((c.tc : Thread Cert.EvenReferenceIdeal.nD Cert.EvenReferenceIdeal.τ).loc Cert.EvenReferenceIdeal.main_v84) = v1 c
          ∧ r.2.mem ((c.tc : Thread Cert.EvenReferenceIdeal.nD Cert.EvenReferenceIdeal.τ).loc Cert.EvenReferenceIdeal.main_v85) = v2 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3)
          ∧ r.2.mem ((c.tc : Thread Cert.EvenReferenceIdeal.nD Cert.EvenReferenceIdeal.τ).loc Cert.EvenReferenceIdeal.main_arg4) = m' ((c.tc : Thread Cert.EvenReferenceIdeal.nD Cert.EvenReferenceIdeal.τ).loc Cert.EvenReferenceIdeal.main_arg4)
          ∧ r.2.mem ((c.tc : Thread Cert.EvenReferenceIdeal.nD Cert.EvenReferenceIdeal.τ).loc Cert.EvenReferenceIdeal.main_arg5) = m' ((c.tc : Thread Cert.EvenReferenceIdeal.nD Cert.EvenReferenceIdeal.τ).loc Cert.EvenReferenceIdeal.main_arg5)
          ∧ r.2.mem ((c.tc : Thread Cert.EvenReferenceIdeal.nD Cert.EvenReferenceIdeal.τ).loc Cert.EvenReferenceIdeal.main_arg6) = m' ((c.tc : Thread Cert.EvenReferenceIdeal.nD Cert.EvenReferenceIdeal.τ).loc Cert.EvenReferenceIdeal.main_arg6)
          ∧ r.2.mem ((c.tc : Thread Cert.EvenReferenceIdeal.nD Cert.EvenReferenceIdeal.τ).loc Cert.EvenReferenceIdeal.main_arg7) = m' ((c.tc : Thread Cert.EvenReferenceIdeal.nD Cert.EvenReferenceIdeal.τ).loc Cert.EvenReferenceIdeal.main_arg7)
          ∧ r.2.mem ((c.tc : Thread Cert.EvenReferenceIdeal.nD Cert.EvenReferenceIdeal.τ).loc Cert.EvenReferenceIdeal.main_arg8) = m' ((c.tc : Thread Cert.EvenReferenceIdeal.nD Cert.EvenReferenceIdeal.τ).loc Cert.EvenReferenceIdeal.main_arg8)
          ∧ r.2.mem ((c.tc : Thread Cert.EvenReferenceIdeal.nD Cert.EvenReferenceIdeal.τ).loc Cert.EvenReferenceIdeal.main_arg9) = m' ((c.tc : Thread Cert.EvenReferenceIdeal.nD Cert.EvenReferenceIdeal.τ).loc Cert.EvenReferenceIdeal.main_arg9)
          ∧ r.2.mem ((c.tc : Thread Cert.EvenReferenceIdeal.nD Cert.EvenReferenceIdeal.τ).loc Cert.EvenReferenceIdeal.main_arg10) = m' ((c.tc : Thread Cert.EvenReferenceIdeal.nD Cert.EvenReferenceIdeal.τ).loc Cert.EvenReferenceIdeal.main_arg10))

def preserves_DiffKernel_DiffKernelIdeal : Prop :=
  True

def algebraic_DiffKernelIdeal_DiffReferenceIdeal_pre_finite_attention [hDiffKernelIdeal : Cert.DiffKernelIdeal.Facts] [hDiffReferenceIdeal : Cert.DiffReferenceIdeal.Facts] [hPre_finite_attention : Cert.Pre_finite_attention.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal_finite_attention m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)
      ∧ m' ((c.tc : Thread Cert.DiffReferenceIdeal.nD Cert.DiffReferenceIdeal.τ).loc Cert.DiffReferenceIdeal.main_arg3) = m ((c.tc : Thread Cert.DiffKernelIdeal.nD Cert.DiffKernelIdeal.τ).loc Cert.DiffKernelIdeal.main_arg3)
      ∧ m' ((c.tc : Thread Cert.DiffReferenceIdeal.nD Cert.DiffReferenceIdeal.τ).loc Cert.DiffReferenceIdeal.main_arg4) = m ((c.tc : Thread Cert.DiffKernelIdeal.nD Cert.DiffKernelIdeal.τ).loc Cert.DiffKernelIdeal.main_arg4)) →
    ∃ (v0 : (c : Dev Cert.DiffKernelIdeal.nD) → Buf (Elt Ideal) ((c.tc : Thread Cert.DiffKernelIdeal.nD Cert.DiffKernelIdeal.τ).loc Cert.DiffKernelIdeal.main_v0)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v0) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
          ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
          ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v71) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4))

def preserves_CtxKernel_CtxKernelIdeal : Prop :=
  True

def algebraic_CtxKernelIdeal_CtxReferenceIdeal_pre_finite_prompt_attention [hCtxKernelIdeal : Cert.CtxKernelIdeal.Facts] [hCtxReferenceIdeal : Cert.CtxReferenceIdeal.Facts] [hPre_finite_prompt_attention : Cert.Pre_finite_prompt_attention.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_prompt_attention m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)) →
    ∃ (v0 : (c : Dev Cert.CtxKernelIdeal.nD) → Buf (Elt Ideal) ((c.tc : Thread Cert.CtxKernelIdeal.nD Cert.CtxKernelIdeal.τ).loc Cert.CtxKernelIdeal.main_v0)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v0) = v0 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v67) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hEvenKernel : Cert.EvenKernel.Facts) (hEvenKernelIdeal : Cert.EvenKernelIdeal.Facts) (hEvenReferenceIdeal : Cert.EvenReferenceIdeal.Facts) (hDiffKernel : Cert.DiffKernel.Facts) (hDiffKernelIdeal : Cert.DiffKernelIdeal.Facts) (hDiffReferenceIdeal : Cert.DiffReferenceIdeal.Facts) (hCtxKernel : Cert.CtxKernel.Facts) (hCtxKernelIdeal : Cert.CtxKernelIdeal.Facts) (hCtxReferenceIdeal : Cert.CtxReferenceIdeal.Facts) (hPre_finite_router : Cert.Pre_finite_router.Facts) (hPre_finite_first_router : Cert.Pre_finite_first_router.Facts) (hPre_finite_attention : Cert.Pre_finite_attention.Facts) (hPre_finite_prompt_attention : Cert.Pre_finite_prompt_attention.Facts),
    quiescent_Kernel (hKernel := hKernel)
    ∧ quiescent_KernelIdeal (hKernelIdeal := hKernelIdeal)
    ∧ quiescent_ReferenceIdeal (hReferenceIdeal := hReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutKernelIdeal_pre_finite_router (hOutKernelIdeal := hOutKernelIdeal) (hPre_finite_router := hPre_finite_router)
    ∧ quiescent_OutReferenceIdeal (hOutReferenceIdeal := hOutReferenceIdeal)
    ∧ quiescent_OutReferenceIdeal_pre_finite_router (hOutReferenceIdeal := hOutReferenceIdeal) (hPre_finite_router := hPre_finite_router)
    ∧ quiescent_EvenKernel (hEvenKernel := hEvenKernel)
    ∧ quiescent_EvenKernelIdeal (hEvenKernelIdeal := hEvenKernelIdeal)
    ∧ quiescent_EvenKernelIdeal_pre_finite_first_router (hEvenKernelIdeal := hEvenKernelIdeal) (hPre_finite_first_router := hPre_finite_first_router)
    ∧ quiescent_EvenReferenceIdeal (hEvenReferenceIdeal := hEvenReferenceIdeal)
    ∧ quiescent_EvenReferenceIdeal_pre_finite_first_router (hEvenReferenceIdeal := hEvenReferenceIdeal) (hPre_finite_first_router := hPre_finite_first_router)
    ∧ quiescent_DiffKernel (hDiffKernel := hDiffKernel)
    ∧ quiescent_DiffKernelIdeal (hDiffKernelIdeal := hDiffKernelIdeal)
    ∧ quiescent_DiffKernelIdeal_pre_finite_attention (hDiffKernelIdeal := hDiffKernelIdeal) (hPre_finite_attention := hPre_finite_attention)
    ∧ quiescent_DiffReferenceIdeal (hDiffReferenceIdeal := hDiffReferenceIdeal)
    ∧ quiescent_DiffReferenceIdeal_pre_finite_attention (hDiffReferenceIdeal := hDiffReferenceIdeal) (hPre_finite_attention := hPre_finite_attention)
    ∧ quiescent_CtxKernel (hCtxKernel := hCtxKernel)
    ∧ quiescent_CtxKernelIdeal (hCtxKernelIdeal := hCtxKernelIdeal)
    ∧ quiescent_CtxKernelIdeal_pre_finite_prompt_attention (hCtxKernelIdeal := hCtxKernelIdeal) (hPre_finite_prompt_attention := hPre_finite_prompt_attention)
    ∧ quiescent_CtxReferenceIdeal (hCtxReferenceIdeal := hCtxReferenceIdeal)
    ∧ quiescent_CtxReferenceIdeal_pre_finite_prompt_attention (hCtxReferenceIdeal := hCtxReferenceIdeal) (hPre_finite_prompt_attention := hPre_finite_prompt_attention)
    ∧ preserves_Kernel_KernelIdeal
    ∧ algebraic_KernelIdeal_ReferenceIdeal (hKernelIdeal := hKernelIdeal) (hReferenceIdeal := hReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal_pre_finite_router (hOutKernelIdeal := hOutKernelIdeal) (hOutReferenceIdeal := hOutReferenceIdeal) (hPre_finite_router := hPre_finite_router)
    ∧ preserves_EvenKernel_EvenKernelIdeal
    ∧ algebraic_EvenKernelIdeal_EvenReferenceIdeal_pre_finite_first_router (hEvenKernelIdeal := hEvenKernelIdeal) (hEvenReferenceIdeal := hEvenReferenceIdeal) (hPre_finite_first_router := hPre_finite_first_router)
    ∧ preserves_DiffKernel_DiffKernelIdeal
    ∧ algebraic_DiffKernelIdeal_DiffReferenceIdeal_pre_finite_attention (hDiffKernelIdeal := hDiffKernelIdeal) (hDiffReferenceIdeal := hDiffReferenceIdeal) (hPre_finite_attention := hPre_finite_attention)
    ∧ preserves_CtxKernel_CtxKernelIdeal
    ∧ algebraic_CtxKernelIdeal_CtxReferenceIdeal_pre_finite_prompt_attention (hCtxKernelIdeal := hCtxKernelIdeal) (hCtxReferenceIdeal := hCtxReferenceIdeal) (hPre_finite_prompt_attention := hPre_finite_prompt_attention)
-- ==== Pre_finite_attention.lean ====
abbrev S8192x2304 : Shape := ⟨2, ![8192, 2304]⟩
abbrev S2x256x512 : Shape := ⟨3, ![2, 256, 512]⟩
abbrev S1x4x4x64 : Shape := ⟨4, ![1, 4, 4, 64]⟩
abbrev S1x128 : Shape := ⟨2, ![1, 128]⟩
abbrev S_ : Shape := ⟨0, ![]⟩

class Facts : Prop where
  bitsLt_bf16_f32 : FTy.bits .bf16 < FTy.bits .f32
  bcast_S_S8192x2304 : S_.BroadcastsInDim S8192x2304 (![] : Fin 0 → Fin S8192x2304.rank)
  bcast_S_S2x256x512 : S_.BroadcastsInDim S2x256x512 (![] : Fin 0 → Fin S2x256x512.rank)
  bcast_S_S1x4x4x64 : S_.BroadcastsInDim S1x4x4x64 (![] : Fin 0 → Fin S1x4x4x64.rank)

variable [Facts]

def fn {F : FTy → Type} [FloatOps F] (main_arg0 : FVec F S8192x2304 .bf16) (main_arg1 : FVec F S2x256x512 .f32) (main_arg2 : FVec F S2x256x512 .f32) (main_arg3 : FVec F S1x4x4x64 .f32) (main_arg4 : FVec F S1x128 .f32) : IVec S8192x2304 1 × IVec S2x256x512 1 × IVec S2x256x512 1 × IVec S1x4x4x64 1 :=
  let main_v0 : FVec F S8192x2304 .f32 := (extf .f32 · bitsLt_bf16_f32) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_v4 : FVec F S2x256x512 .f32 := Host.absf main_arg1
  let main_cst_0 : FVec F S_ .f32 := constant S_ .f32 0x7F800000#32
  let main_v5 : FVec F S2x256x512 .f32 := broadcastInDim S2x256x512 ![] bcast_S_S2x256x512 main_cst_0
  let main_v6 : IVec S2x256x512 1 := cmpf .olt main_v4 main_v5
  let main_v7 : FVec F S2x256x512 .f32 := Host.absf main_arg2
  let main_cst_1 : FVec F S_ .f32 := constant S_ .f32 0x7F800000#32
  let main_v8 : FVec F S2x256x512 .f32 := broadcastInDim S2x256x512 ![] bcast_S_S2x256x512 main_cst_1
  let main_v9 : IVec S2x256x512 1 := cmpf .olt main_v7 main_v8
  let main_v10 : FVec F S1x4x4x64 .f32 := Host.absf main_arg3
  let main_cst_2 : FVec F S_ .f32 := constant S_ .f32 0x7F800000#32
  let main_v11 : FVec F S1x4x4x64 .f32 := broadcastInDim S1x4x4x64 ![] bcast_S_S1x4x4x64 main_cst_2
  let main_v12 : IVec S1x4x4x64 1 := cmpf .olt main_v10 main_v11
  (main_v3, main_v6, main_v9, main_v12)
-- ==== Pre_finite_first_router.lean ====
abbrev S4096x768 : Shape := ⟨2, ![4096, 768]⟩
abbrev S4096x256 : Shape := ⟨2, ![4096, 256]⟩
abbrev S1x1024x1024 : Shape := ⟨3, ![1, 1024, 1024]⟩
abbrev S4096x1024 : Shape := ⟨2, ![4096, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  bcast_S_S4096x256 : S_.BroadcastsInDim S4096x256 (![] : Fin 0 → Fin S4096x256.rank)
  bcast_S_S1x1024x1024 : S_.BroadcastsInDim S1x1024x1024 (![] : Fin 0 → Fin S1x1024x1024.rank)
  bcast_S_S4096x1024 : S_.BroadcastsInDim S4096x1024 (![] : Fin 0 → Fin S4096x1024.rank)
  bcast_S_S2x8x6x1024 : S_.BroadcastsInDim S2x8x6x1024 (![] : Fin 0 → Fin S2x8x6x1024.rank)
  bcast_S_S2x2x1024 : S_.BroadcastsInDim S2x2x1024 (![] : Fin 0 → Fin S2x2x1024.rank)
  bcast_S_S2x1024x16 : S_.BroadcastsInDim S2x1024x16 (![] : Fin 0 → Fin S2x1024x16.rank)

variable [Facts]

def fn_part1 {F : FTy → Type} [FloatOps F] (main_arg5 : FVec F S4096x1024 .f32) (main_arg6 : FVec F S4096x1024 .f32) (main_arg7 : FVec F S2x8x6x1024 .f32) (main_arg8 : FVec F S2x2x1024 .f32) (main_arg9 : FVec F S2x2x1024 .f32) (main_arg10 : FVec F S2x1024x16 .f32) (main_v3 : IVec S4096x768 1) (main_v7 : IVec S4096x768 1) (main_v11 : IVec S4096x256 1) (main_v15 : IVec S4096x256 1) (main_v18 : IVec S1x1024x1024 1) : IVec S4096x768 1 × IVec S4096x768 1 × IVec S4096x256 1 × IVec S4096x256 1 × IVec S1x1024x1024 1 × IVec S4096x1024 1 × IVec S4096x1024 1 × IVec S2x8x6x1024 1 × IVec S2x2x1024 1 × IVec S2x2x1024 1 × IVec S2x1024x16 1 :=
  let main_v19 : FVec F S4096x1024 .f32 := Host.absf main_arg5
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_v22 : FVec F S4096x1024 .f32 := Host.absf main_arg6
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  let main_v25 : FVec F S2x8x6x1024 .f32 := Host.absf main_arg7
  let main_cst_6 : FVec F S_ .f32 := constant S_ .f32 0x7F800000#32
  let main_v26 : FVec F S2x8x6x1024 .f32 := broadcastInDim S2x8x6x1024 ![] bcast_S_S2x8x6x1024 main_cst_6
  let main_v27 : IVec S2x8x6x1024 1 := cmpf .olt main_v25 main_v26
  let main_v28 : FVec F S2x2x1024 .f32 := Host.absf main_arg8
  let main_cst_7 : FVec F S_ .f32 := constant S_ .f32 0x7F800000#32
  let main_v29 : FVec F S2x2x1024 .f32 := broadcastInDim S2x2x1024 ![] bcast_S_S2x2x1024 main_cst_7
  let main_v30 : IVec S2x2x1024 1 := cmpf .olt main_v28 main_v29
  let main_v31 : FVec F S2x2x1024 .f32 := Host.absf main_arg9
  let main_cst_8 : FVec F S_ .f32 := constant S_ .f32 0x7F800000#32
  let main_v32 : FVec F S2x2x1024 .f32 := broadcastInDim S2x2x1024 ![] bcast_S_S2x2x1024 main_cst_8
  let main_v33 : IVec S2x2x1024 1 := cmpf .olt main_v31 main_v32
  let main_v34 : FVec F S2x1024x16 .f32 := Host.absf main_arg10
  let main_cst_9 : FVec F S_ .f32 := constant S_ .f32 0x7F800000#32
  let main_v35 : FVec F S2x1024x16 .f32 := broadcastInDim S2x1024x16 ![] bcast_S_S2x1024x16 main_cst_9
  let main_v36 : IVec S2x1024x16 1 := cmpf .olt main_v34 main_v35
  (main_v3, main_v7, main_v11, main_v15, main_v18, main_v21, main_v24, main_v27, main_v30, main_v33, main_v36)

def fn {F : FTy → Type} [FloatOps F] (main_arg0 : FVec F S4096x768 .bf16) (main_arg1 : FVec F S4096x768 .bf16) (main_arg2 : FVec F S4096x256 .bf16) (main_arg3 : FVec F S4096x256 .bf16) (main_arg4 : FVec F S1x1024x1024 .f32) (main_arg5 : FVec F S4096x1024 .f32) (main_arg6 : FVec F S4096x1024 .f32) (main_arg7 : FVec F S2x8x6x1024 .f32) (main_arg8 : FVec F S2x2x1024 .f32) (main_arg9 : FVec F S2x2x1024 .f32) (main_arg10 : FVec F S2x1024x16 .f32) : IVec S4096x768 1 × IVec S4096x768 1 × IVec S4096x256 1 × IVec S4096x256 1 × IVec S1x1024x1024 1 × IVec S4096x1024 1 × IVec S4096x1024 1 × IVec S2x8x6x1024 1 × IVec S2x2x1024 1 × IVec S2x2x1024 1 × IVec S2x1024x16 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_v4 : FVec F S4096x768 .f32 := (extf .f32 · bitsLt_bf16_f32) main_arg1
  let main_v5 : FVec F S4096x768 .f32 := Host.absf main_v4
  let main_cst_0 : FVec F S_ .f32 := constant S_ .f32 0x7F800000#32
  let main_v6 : FVec F S4096x768 .f32 := broadcastInDim S4096x768 ![] bcast_S_S4096x768 main_cst_0
  let main_v7 : IVec S4096x768 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S4096x256 .f32 := (extf .f32 · bitsLt_bf16_f32) main_arg3
  let main_v13 : FVec F S4096x256 .f32 := Host.absf main_v12
  let main_cst_2 : FVec F S_ .f32 := constant S_ .f32 0x7F800000#32
  let main_v14 : FVec F S4096x256 .f32 := broadcastInDim S4096x256 ![] bcast_S_S4096x256 main_cst_2
  let main_v15 : IVec S4096x256 1 := cmpf .olt main_v13 main_v14
  let main_v16 : FVec F S1x1024x1024 .f32 := Host.absf main_arg4
  let main_cst_3 : FVec F S_ .f32 := constant S_ .f32 0x7F800000#32
  let main_v17 : FVec F S1x1024x1024 .f32 := broadcastInDim S1x1024x1024 ![] bcast_S_S1x1024x1024 main_cst_3
  let main_v18 : IVec S1x1024x1024 1 := cmpf .olt main_v16 main_v17
  fn_part1 (F := F) main_arg5 main_arg6 main_arg7 main_arg8 main_arg9 main_arg10 main_v3 main_v7 main_v11 main_v15 main_v18
-- ==== Pre_finite_prompt_attention.lean ====
abbrev S8192x2304 : Shape := ⟨2, ![8192, 2304]⟩
abbrev S1x4x4x64 : Shape := ⟨4, ![1, 4, 4, 64]⟩
abbrev S1x128 : Shape := ⟨2, ![1, 128]⟩
abbrev S_ : Shape := ⟨0, ![]⟩

class Facts : Prop where
  bitsLt_bf16_f32 : FTy.bits .bf16 < FTy.bits .f32
  bcast_S_S8192x2304 : S_.BroadcastsInDim S8192x2304 (![] : Fin 0 → Fin S8192x2304.rank)
  bcast_S_S1x4x4x64 : S_.BroadcastsInDim S1x4x4x64 (![] : Fin 0 → Fin S1x4x4x64.rank)

variable [Facts]

def fn {F : FTy → Type} [FloatOps F] (main_arg0 : FVec F S8192x2304 .bf16) (main_arg1 : FVec F S1x4x4x64 .f32) (main_arg2 : FVec F S1x128 .f32) : IVec S8192x2304 1 × IVec S1x4x4x64 1 :=
  let main_v0 : FVec F S8192x2304 .f32 := (extf .f32 · bitsLt_bf16_f32) main_arg0
  let main_v1 : FVec F S8192x2304 .f32 := Host.absf main_v0
  let main_cst : FVec F S_ .f32 := constant S_ .f32 0x7F800000#32
  let main_v2 : FVec F S8192x2304 .f32 := broadcastInDim S8192x2304 ![] bcast_S_S8192x2304 main_cst
  let main_v3 : IVec S8192x2304 1 := cmpf .olt main_v1 main_v2
  let main_v4 : FVec F S1x4x4x64 .f32 := Host.absf main_arg1
  let main_cst_0 : FVec F S_ .f32 := constant S_ .f32 0x7F800000#32
  let main_v5 : FVec F S1x4x4x64 .f32 := broadcastInDim S1x4x4x64 ![] bcast_S_S1x4x4x64 main_cst_0
  let main_v6 : IVec S1x4x4x64 1 := cmpf .olt main_v4 main_v5
  (main_v3, main_v6)
-- ==== Pre_finite_router.lean ====
abbrev S4096x512 : Shape := ⟨2, ![4096, 512]⟩
abbrev S1x1024x1024 : Shape := ⟨3, ![1, 1024, 1024]⟩
abbrev S8192x1024 : Shape := ⟨2, ![8192, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S1x1024x1024 : S_.BroadcastsInDim S1x1024x1024 (![] : Fin 0 → Fin S1x1024x1024.rank)
  bcast_S_S8192x1024 : S_.BroadcastsInDim S8192x1024 (![] : Fin 0 → Fin S8192x1024.rank)
  bcast_S_S2x8x6x1024 : S_.BroadcastsInDim S2x8x6x1024 (![] : Fin 0 → Fin S2x8x6x1024.rank)
  bcast_S_S2x2x1024 : S_.BroadcastsInDim S2x2x1024 (![] : Fin 0 → Fin S2x2x1024.rank)
  bcast_S_S2x1024x16 : S_.BroadcastsInDim S2x1024x16 (![] : Fin 0 → Fin S2x1024x16.rank)

variable [Facts]

def fn_part1 {F : FTy → Type} [FloatOps F] (main_arg5 : FVec F S8192x1024 .f32) (main_arg6 : FVec F S2x8x6x1024 .f32) (main_arg7 : FVec F S2x2x1024 .f32) (main_arg8 : FVec F S2x2x1024 .f32) (main_arg9 : FVec F S2x1024x16 .f32) (main_v3 : IVec S4096x512 1) (main_v7 : IVec S4096x512 1) (main_v11 : IVec S4096x512 1) (main_v15 : IVec S4096x512 1) (main_v18 : IVec S1x1024x1024 1) : IVec S4096x512 1 × IVec S4096x512 1 × IVec S4096x512 1 × IVec S4096x512 1 × IVec S1x1024x1024 1 × IVec S8192x1024 1 × IVec S2x8x6x1024 1 × IVec S2x2x1024 1 × IVec S2x2x1024 1 × IVec S2x1024x16 1 :=
  let main_v19 : FVec F S8192x1024 .f32 := Host.absf main_arg5
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_v22 : FVec F S2x8x6x1024 .f32 := Host.absf main_arg6
  let main_cst_5 : FVec F S_ .f32 := constant S_ .f32 0x7F800000#32
  let main_v23 : FVec F S2x8x6x1024 .f32 := broadcastInDim S2x8x6x1024 ![] bcast_S_S2x8x6x1024 main_cst_5
  let main_v24 : IVec S2x8x6x1024 1 := cmpf .olt main_v22 main_v23
  let main_v25 : FVec F S2x2x1024 .f32 := Host.absf main_arg7
  let main_cst_6 : FVec F S_ .f32 := constant S_ .f32 0x7F800000#32
  let main_v26 : FVec F S2x2x1024 .f32 := broadcastInDim S2x2x1024 ![] bcast_S_S2x2x1024 main_cst_6
  let main_v27 : IVec S2x2x1024 1 := cmpf .olt main_v25 main_v26
  let main_v28 : FVec F S2x2x1024 .f32 := Host.absf main_arg8
  let main_cst_7 : FVec F S_ .f32 := constant S_ .f32 0x7F800000#32
  let main_v29 : FVec F S2x2x1024 .f32 := broadcastInDim S2x2x1024 ![] bcast_S_S2x2x1024 main_cst_7
  let main_v30 : IVec S2x2x1024 1 := cmpf .olt main_v28 main_v29
  let main_v31 : FVec F S2x1024x16 .f32 := Host.absf main_arg9
  let main_cst_8 : FVec F S_ .f32 := constant S_ .f32 0x7F800000#32
  let main_v32 : FVec F S2x1024x16 .f32 := broadcastInDim S2x1024x16 ![] bcast_S_S2x1024x16 main_cst_8
  let main_v33 : IVec S2x1024x16 1 := cmpf .olt main_v31 main_v32
  (main_v3, main_v7, main_v11, main_v15, main_v18, main_v21, main_v24, main_v27, main_v30, main_v33)

def fn {F : FTy → Type} [FloatOps F] (main_arg0 : FVec F S4096x512 .bf16) (main_arg1 : FVec F S4096x512 .bf16) (main_arg2 : FVec F S4096x512 .bf16) (main_arg3 : FVec F S4096x512 .bf16) (main_arg4 : FVec F S1x1024x1024 .f32) (main_arg5 : FVec F S8192x1024 .f32) (main_arg6 : FVec F S2x8x6x1024 .f32) (main_arg7 : FVec F S2x2x1024 .f32) (main_arg8 : FVec F S2x2x1024 .f32) (main_arg9 : FVec F S2x1024x16 .f32) : IVec S4096x512 1 × IVec S4096x512 1 × IVec S4096x512 1 × IVec S4096x512 1 × IVec S1x1024x1024 1 × IVec S8192x1024 1 × IVec S2x8x6x1024 1 × IVec S2x2x1024 1 × IVec S2x2x1024 1 × IVec S2x1024x16 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  let main_v16 : FVec F S1x1024x1024 .f32 := Host.absf main_arg4
  let main_cst_3 : FVec F S_ .f32 := constant S_ .f32 0x7F800000#32
  let main_v17 : FVec F S1x1024x1024 .f32 := broadcastInDim S1x1024x1024 ![] bcast_S_S1x1024x1024 main_cst_3
  let main_v18 : IVec S1x1024x1024 1 := cmpf .olt main_v16 main_v17
  fn_part1 (F := F) main_arg5 main_arg6 main_arg7 main_arg8 main_arg9 main_v3 main_v7 main_v11 main_v15 main_v18
-- ==== Kernel.lean ====
abbrev S16x2x512x1024 : Shape := ⟨4, ![16, 2, 512, 1024]⟩
abbrev S16x2x512x1 : Shape := ⟨4, ![16, 2, 512, 1]⟩
abbrev S2x16x1024x2048 : Shape := ⟨4, ![2, 16, 1024, 2048]⟩
abbrev S2x16x2048x1024 : Shape := ⟨4, ![2, 16, 2048, 1024]⟩
abbrev S16x1024x1024 : Shape := ⟨3, ![16, 1024, 1024]⟩
abbrev S16x1024x1 : Shape := ⟨3, ![16, 1024, 1]⟩
abbrev S1x1024x1024 : Shape := ⟨3, ![1, 1024, 1024]⟩
abbrev S1x1024x1 : Shape := ⟨3, ![1, 1024, 1]⟩
abbrev S1x1x1024x1024 : Shape := ⟨4, ![1, 1, 1024, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16x2x512x1024, .bf16⟩
  | .hbm, ⟨1, _⟩ => ⟨S16x2x512x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x1024x1024, .bf16⟩
  | .hbm, ⟨6, _⟩ => ⟨S16x1024x1, .f32⟩
  | .hbm, ⟨7, _⟩ => ⟨S16x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1, .f32⟩
  | .local _ .vmem, ⟨3, _⟩ => ⟨S1x1024x1, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | _, _ => ⟨S16x2x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32_17 : BitVec 32 := 1#32
  let v28 : BitVec 1 := Scalar.cmpi .eq arg1 c1_i32_17
  let v29 : BitVec 32 := Scalar.extui v28
  let c0_i32_18 : BitVec 32 := 0#32
  let v30 : BitVec 1 := Scalar.cmpi .ne v29 c0_i32_18
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x2x512x1024 : Shape := ⟨4, ![16, 2, 512, 1024]⟩
abbrev S16x2x512x1 : Shape := ⟨4, ![16, 2, 512, 1]⟩
abbrev S2x16x1024x2048 : Shape := ⟨4, ![2, 16, 1024, 2048]⟩
abbrev S2x16x2048x1024 : Shape := ⟨4, ![2, 16, 2048, 1024]⟩
abbrev S16x1024x1024 : Shape := ⟨3, ![16, 1024, 1024]⟩
abbrev S16x1024 : Shape := ⟨2, ![16, 1024]⟩
abbrev S1x16x1024x2048 : Shape := ⟨4, ![1, 16, 1024, 2048]⟩
abbrev S16x1024x2048 : Shape := ⟨3, ![16, 1024, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x1 : Shape := ⟨3, ![16, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2x512x1024, .bf16⟩
  | .hbm, ⟨1, _⟩ => ⟨S16x2x512x1, .f32⟩
  | .hbm, ⟨2, _⟩ => ⟨S2x16x1024x2048, .f32⟩
  | .hbm, ⟨3, _⟩ => ⟨S2x16x1024x2048, .f32⟩
  | .hbm, ⟨4, _⟩ => ⟨S2x16x2048x1024, .f32⟩
  | .hbm, ⟨5, _⟩ => ⟨S16x2x512x1024, .f32⟩
  | .hbm, ⟨6, _⟩ => ⟨S16x1024x1024, .f32⟩
  | .hbm, ⟨7, _⟩ => ⟨S16x1024, .f32⟩
  | .hbm, ⟨8, _⟩ => ⟨S1x16x1024x2048, .f32⟩
  | .hbm, ⟨9, _⟩ => ⟨S16x1024x2048, .f32⟩
  | .hbm, ⟨10, _⟩ => ⟨S16x1024x2048, .f32⟩
  | .hbm, ⟨11, _⟩ => ⟨S16x1024x2048, .f32⟩
  | .hbm, ⟨12, _⟩ => ⟨S16x1024x2048, .f32⟩
  | .hbm, ⟨13, _⟩ => ⟨S_, .f32⟩
  | .hbm, ⟨14, _⟩ => ⟨S16x1024x2048, .f32⟩
  | .hbm, ⟨15, _⟩ => ⟨S16x1024x2048, .f32⟩
  | .hbm, ⟨16, _⟩ => ⟨S_, .f32⟩
  | .hbm, ⟨17, _⟩ => ⟨S16x1024x2048, .f32⟩
  | .hbm, ⟨18, _⟩ => ⟨S16x1024x2048, .f32⟩
  | .hbm, ⟨19, _⟩ => ⟨S16x1024x2048, .f32⟩
  | .hbm, ⟨20, _⟩ => ⟨S1x16x1024x2048, .f32⟩
  | .hbm, ⟨21, _⟩ => ⟨S16x1024x2048, .f32⟩
  | .hbm, ⟨22, _⟩ => ⟨S16x1024x2048, .f32⟩
  | .hbm, ⟨23, _⟩ => ⟨S16x1024x2048, .f32⟩
  | .hbm, ⟨24, _⟩ => ⟨S1x16x2048x1024, .f32⟩
  | .hbm, ⟨25, _⟩ => ⟨S16x2048x1024, .f32⟩
  | .hbm, ⟨26, _⟩ => ⟨S16x1024x1024, .f32⟩
  | .hbm, ⟨27, _⟩ => ⟨S16x1024x1, .f32⟩
  | .hbm, ⟨28, _⟩ => ⟨S16x1024x1024, .f32⟩
  | .hbm, ⟨29, _⟩ => ⟨S16x1024x1024, .f32⟩
  | .hbm, ⟨30, _⟩ => ⟨S16x1024x1024, .bf16⟩
  | _, _ => ⟨S16x2x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== ProjKernel.lean ====
abbrev S8192x1024 : Shape := ⟨2, ![8192, 1024]⟩
abbrev S2x8x6x1024 : Shape := ⟨4, ![2, 8, 6, 1024]⟩
abbrev S1x1024x2304 : Shape := ⟨3, ![1, 1024, 2304]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x2304 : Shape := ⟨2, ![8192, 2304]⟩
abbrev S16x128x256 : Shape := ⟨3, ![16, 128, 256]⟩
abbrev S16x512x256 : Shape := ⟨3, ![16, 512, 256]⟩
abbrev S4096x512 : Shape := ⟨2, ![4096, 512]⟩
abbrev S512x1024 : Shape := ⟨2, ![512, 1024]⟩
abbrev S1x1x6x1024 : Shape := ⟨4, ![1, 1, 6, 1024]⟩
abbrev S512x128 : Shape := ⟨2, ![512, 128]⟩
abbrev S512x2304 : Shape := ⟨2, ![512, 2304]⟩
abbrev S2x128x256 : Shape := ⟨3, ![2, 128, 256]⟩
abbrev S2x512x256 : Shape := ⟨3, ![2, 512, 256]⟩
abbrev S512x512 : Shape := ⟨2, ![512, 512]⟩
abbrev S1024x2304 : Shape := ⟨2, ![1024, 2304]⟩
abbrev S6x1024 : Shape := ⟨2, ![6, 1024]⟩
abbrev S1x1024 : Shape := ⟨2, ![1, 1024]⟩
abbrev S256x128 : Shape := ⟨2, ![256, 128]⟩
abbrev S128x256 : Shape := ⟨2, ![128, 256]⟩
abbrev S1x128x256 : Shape := ⟨3, ![1, 128, 256]⟩
abbrev S256x512 : Shape := ⟨2, ![256, 512]⟩
abbrev S512x256 : Shape := ⟨2, ![512, 256]⟩
abbrev S1x512x256 : Shape := ⟨3, ![1, 512, 256]⟩
abbrev S1x128 : Shape := ⟨2, ![1, 128]⟩

abbrev nBuf : Space → Nat
  | .hbm => 69
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S2x8x6x1024, .f32⟩
  | .hbm, ⟨2, _⟩ => ⟨S1x1024x2304, .f32⟩
  | .hbm, ⟨3, _⟩ => ⟨S32, .i32⟩
  | .hbm, ⟨4, _⟩ => ⟨S32x1, .i32⟩
  | .hbm, ⟨5, _⟩ => ⟨S32x64, .i32⟩
  | .hbm, ⟨6, _⟩ => ⟨S2048, .i32⟩
  | .hbm, ⟨7, _⟩ => ⟨S2048, .f32⟩
  | .hbm, ⟨8, _⟩ => ⟨S64, .i32⟩
  | .hbm, ⟨9, _⟩ => ⟨S1x64, .i32⟩
  | .hbm, ⟨10, _⟩ => ⟨S32x64, .i32⟩
  | .hbm, ⟨11, _⟩ => ⟨S2048, .i32⟩
  | .hbm, ⟨12, _⟩ => ⟨S2048, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x64, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S64, .f32⟩
  | .hbm, ⟨53, _⟩ => ⟨S2048x64, .f32⟩
  | .hbm, ⟨54, _⟩ => ⟨S1x2048x1x64, .f32⟩
  | .hbm, ⟨55, _⟩ => ⟨S1x2048x2x64, .f32⟩
  | .hbm, ⟨56, _⟩ => ⟨S2048x128, .f32⟩
  | .hbm, ⟨57, _⟩ => ⟨S2048x64, .f32⟩
  | .hbm, ⟨58, _⟩ => ⟨S1x64, .f32⟩
  | .hbm, ⟨59, _⟩ => ⟨S2048x64, .f32⟩
  | .hbm, ⟨60, _⟩ => ⟨S2048x64, .f32⟩
  | .hbm, ⟨61, _⟩ => ⟨S1x2048x1x64, .f32⟩
  | .hbm, ⟨62, _⟩ => ⟨S1x2048x2x64, .f32⟩
  | .hbm, ⟨63, _⟩ => ⟨S2048x128, .f32⟩
  | .hbm, ⟨64, _⟩ => ⟨S8192x2304, .bf16⟩
  | .hbm, ⟨65, _⟩ => ⟨S16x128x256, .f32⟩
  | .hbm, ⟨66, _⟩ => ⟨S16x128x256, .f32⟩
  | .hbm, ⟨67, _⟩ => ⟨S16x512x256, .f32⟩
  | .hbm, ⟨68, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024x2304, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2304, .bf16⟩
  | .local _ .vmem, ⟨10, _⟩ => ⟨S512x2304, .bf16⟩
  | .local _ .vmem, ⟨11, _⟩ => ⟨S2x128x256, .f32⟩
  | .local _ .vmem, ⟨12, _⟩ => ⟨S2x128x256, .f32⟩
  | .local _ .vmem, ⟨13, _⟩ => ⟨S2x128x256, .f32⟩
  | .local _ .vmem, ⟨14, _⟩ => ⟨S2x128x256, .f32⟩
  | .local _ .vmem, ⟨15, _⟩ => ⟨S2x512x256, .f32⟩
  | .local _ .vmem, ⟨16, _⟩ => ⟨S2x512x256, .f32⟩
  | .local _ .vmem, ⟨17, _⟩ => ⟨S512x512, .f32⟩
  | .local _ .vmem, ⟨18, _⟩ => ⟨S512x512, .f32⟩
  | .local _ .vmem, ⟨19, _⟩ => ⟨S1024x2304, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55_0 : Ref sig .tc := ⟨.hbm, 64, rfl⟩
abbrev main_v55_1 : Ref sig .tc := ⟨.hbm, 65, rfl⟩
abbrev main_v55_2 : Ref sig .tc := ⟨.hbm, 66, rfl⟩
abbrev main_v55_3 : Ref sig .tc := ⟨.hbm, 67, rfl⟩
abbrev main_v55_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c8_i32 : BitVec 32 := 8#32
  let v17 : BitVec 1 := Scalar.cmpi .slt arg0 c8_i32
  let v18 : BitVec 32 := Scalar.extui v17
  let c0_i32_9 : BitVec 32 := 0#32
  let v19 : BitVec 1 := Scalar.cmpi .ne v18 c0_i32_9
  v19

def k0_cond3 (i : grid0.Coords) : BitVec 1 :=
  let arg0 : BitVec 32 := BitVec.ofNat 32 (i 0).val
  let c8_i32_10 : BitVec 32 := 8#32
  let v20 : BitVec 1 := Scalar.cmpi .sge arg0 c8_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![c1_i32_7.toNat, v20.toNat, c0_i32_8.toNat, c0_i32_9.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjReferenceIdeal.lean ====
abbrev S8192x1024 : Shape := ⟨2, ![8192, 1024]⟩
abbrev S2x8x6x1024 : Shape := ⟨4, ![2, 8, 6, 1024]⟩
abbrev S1x1024x2304 : Shape := ⟨3, ![1, 1024, 2304]⟩
abbrev S4096x1024 : Shape := ⟨2, ![4096, 1024]⟩
abbrev S1x1x1x1024 : Shape := ⟨4, ![1, 1, 1, 1024]⟩
abbrev S1024 : Shape := ⟨1, ![1024]⟩
abbrev S_ : Shape := ⟨0, ![]⟩
abbrev S1x1024 : Shape := ⟨2, ![1, 1024]⟩
abbrev S1024x2304 : Shape := ⟨2, ![1024, 2304]⟩
abbrev S4096x2304 : Shape := ⟨2, ![4096, 2304]⟩
abbrev S2x2048x1024 : Shape := ⟨3, ![2, 2048, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x2048x2304 : Shape := ⟨3, ![2, 2048, 2304]⟩
abbrev S2x2048x36x64 : Shape := ⟨4, ![2, 2048, 36, 64]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2x2048x36x32 : Shape := ⟨4, ![2, 2048, 36, 32]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S2x2048x36x16 : Shape := ⟨4, ![2, 2048, 36, 16]⟩
abbrev S2x2048x10x64 : Shape := ⟨4, ![2, 2048, 10, 64]⟩
abbrev S2x2048x2x64 : Shape := ⟨4, ![2, 2048, 2, 64]⟩
abbrev S2x2048x16x64 : Shape := ⟨4, ![2, 2048, 16, 64]⟩
abbrev S2x2048x8x64 : Shape := ⟨4, ![2, 2048, 8, 64]⟩
abbrev S8192x2304 : Shape := ⟨2, ![8192, 2304]⟩
abbrev S16x256x2304 : Shape := ⟨3, ![16, 256, 2304]⟩
abbrev S16x256x128 : Shape := ⟨3, ![16, 256, 128]⟩
abbrev S16x128x256 : Shape := ⟨3, ![16, 128, 256]⟩
abbrev S16x256x512 : Shape := ⟨3, ![16, 256, 512]⟩
abbrev S16x512x256 : Shape := ⟨3, ![16, 512, 256]⟩
abbrev S4096x512 : Shape := ⟨2, ![4096, 512]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8x6x1024, .f32⟩
  | .hbm, ⟨2, _⟩ => ⟨S1x1024x2304, .f32⟩
  | .hbm, ⟨3, _⟩ => ⟨S4096x1024, .f32⟩
  | .hbm, ⟨4, _⟩ => ⟨S1x1x1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1x1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S1024x2304, .f32⟩
  | .hbm, ⟨18, _⟩ => ⟨S4096x2304, .f32⟩
  | .hbm, ⟨19, _⟩ => ⟨S4096x1024, .f32⟩
  | .hbm, ⟨20, _⟩ => ⟨S2x2048x1024, .f32⟩
  | .hbm, ⟨21, _⟩ => ⟨S1x2x1x1024, .f32⟩
  | .hbm, ⟨22, _⟩ => ⟨S2x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S1x2x1x1024, .f32⟩
  | .hbm, ⟨30, _⟩ => ⟨S2x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S1024x2304, .f32⟩
  | .hbm, ⟨35, _⟩ => ⟨S2x2048x2304, .f32⟩
  | .hbm, ⟨36, _⟩ => ⟨S2x2048x36x64, .f32⟩
  | .hbm, ⟨37, _⟩ => ⟨S32, .i32⟩
  | .hbm, ⟨38, _⟩ => ⟨S32x1, .i32⟩
  | .hbm, ⟨39, _⟩ => ⟨S32x64, .i32⟩
  | .hbm, ⟨40, _⟩ => ⟨S2048, .i32⟩
  | .hbm, ⟨41, _⟩ => ⟨S2048, .f32⟩
  | .hbm, ⟨42, _⟩ => ⟨S64, .i32⟩
  | .hbm, ⟨43, _⟩ => ⟨S1x64, .i32⟩
  | .hbm, ⟨44, _⟩ => ⟨S32x64, .i32⟩
  | .hbm, ⟨45, _⟩ => ⟨S2048, .i32⟩
  | .hbm, ⟨46, _⟩ => ⟨S2048, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S2x2048x36x32, .f32⟩
  | .hbm, ⟨56, _⟩ => ⟨S2x2048x36x32, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S1x2048x1x16, .f32⟩
  | .hbm, ⟨63, _⟩ => ⟨S1x2048x1x16, .f32⟩
  | .hbm, ⟨64, _⟩ => ⟨S1x2048x1x16, .f32⟩
  | .hbm, ⟨65, _⟩ => ⟨S2x2048x36x16, .f32⟩
  | .hbm, ⟨66, _⟩ => ⟨S2x2048x36x16, .f32⟩
  | .hbm, ⟨67, _⟩ => ⟨S2x2048x36x16, .f32⟩
  | .hbm, ⟨68, _⟩ => ⟨S2x2048x36x16, .f32⟩
  | .hbm, ⟨69, _⟩ => ⟨S2x2048x36x16, .f32⟩
  | .hbm, ⟨70, _⟩ => ⟨S2x2048x36x16, .f32⟩
  | .hbm, ⟨71, _⟩ => ⟨S2x2048x36x16, .f32⟩
  | .hbm, ⟨72, _⟩ => ⟨S2x2048x36x16, .f32⟩
  | .hbm, ⟨73, _⟩ => ⟨S2x2048x36x16, .f32⟩
  | .hbm, ⟨74, _⟩ => ⟨S2x2048x36x16, .f32⟩
  | .hbm, ⟨75, _⟩ => ⟨S2x2048x36x16, .f32⟩
  | .hbm, ⟨76, _⟩ => ⟨S2x2048x36x16, .f32⟩
  | .hbm, ⟨77, _⟩ => ⟨S2048x1, .f32⟩
  | .hbm, ⟨78, _⟩ => ⟨S1x16, .f32⟩
  | .hbm, ⟨79, _⟩ => ⟨S2048x16, .f32⟩
  | .hbm, ⟨80, _⟩ => ⟨S2048x16, .f32⟩
  | .hbm, ⟨81, _⟩ => ⟨S2048x16, .f32⟩
  | .hbm, ⟨82, _⟩ => ⟨S1x2048x1x16, .f32⟩
  | .hbm, ⟨83, _⟩ => ⟨S1x2048x1x16, .f32⟩
  | .hbm, ⟨84, _⟩ => ⟨S1x2048x1x16, .f32⟩
  | .hbm, ⟨85, _⟩ => ⟨S2x2048x36x16, .f32⟩
  | .hbm, ⟨86, _⟩ => ⟨S2x2048x36x16, .f32⟩
  | .hbm, ⟨87, _⟩ => ⟨S2x2048x36x16, .f32⟩
  | .hbm, ⟨88, _⟩ => ⟨S2x2048x36x16, .f32⟩
  | .hbm, ⟨89, _⟩ => ⟨S2x2048x36x16, .f32⟩
  | .hbm, ⟨90, _⟩ => ⟨S2x2048x36x16, .f32⟩
  | .hbm, ⟨91, _⟩ => ⟨S2x2048x36x16, .f32⟩
  | .hbm, ⟨92, _⟩ => ⟨S2x2048x36x16, .f32⟩
  | .hbm, ⟨93, _⟩ => ⟨S2x2048x36x16, .f32⟩
  | .hbm, ⟨94, _⟩ => ⟨S2x2048x36x16, .f32⟩
  | .hbm, ⟨95, _⟩ => ⟨S2x2048x36x16, .f32⟩
  | .hbm, ⟨96, _⟩ => ⟨S2x2048x36x16, .f32⟩
  | .hbm, ⟨97, _⟩ => ⟨S2x2048x36x64, .f32⟩
  | .hbm, ⟨98, _⟩ => ⟨S2x2048x10x64, .f32⟩
  | .hbm, ⟨99, _⟩ => ⟨S2x2048x2x64, .f32⟩
  | .hbm, ⟨100, _⟩ => ⟨S2x2048x16x64, .f32⟩
  | .hbm, ⟨101, _⟩ => ⟨S2x2048x8x64, .f32⟩
  | .hbm, ⟨102, _⟩ => ⟨S2x2048x36x64, .f32⟩
  | .hbm, ⟨103, _⟩ => ⟨S4096x2304, .f32⟩
  | .hbm, ⟨104, _⟩ => ⟨S8192x2304, .f32⟩
  | .hbm, ⟨105, _⟩ => ⟨S8192x2304, .bf16⟩
  | .hbm, ⟨106, _⟩ => ⟨S16x256x2304, .f32⟩
  | .hbm, ⟨107, _⟩ => ⟨S16x256x128, .f32⟩
  | .hbm, ⟨108, _⟩ => ⟨S16x128x256, .f32⟩
  | .hbm, ⟨109, _⟩ => ⟨S16x256x128, .f32⟩
  | .hbm, ⟨110, _⟩ => ⟨S16x128x256, .f32⟩
  | .hbm, ⟨111, _⟩ => ⟨S16x256x512, .f32⟩
  | .hbm, ⟨112, _⟩ => ⟨S16x512x256, .f32⟩
  | .hbm, ⟨113, _⟩ => ⟨S4096x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩

abbrev nD : Nat := 1
abbrev τ : Topo := Topo.v7x

variable {F : FTy → Type} [FloatOps F]
-- ==== InKernel.lean ====
abbrev S4096x1024 : Shape := ⟨2, ![4096, 1024]⟩
abbrev S2x8x6x1024 : Shape := ⟨4, ![2, 8, 6, 1024]⟩
abbrev S1x1024x1792 : Shape := ⟨3, ![1, 1024, 1792]⟩
abbrev S8192x768 : Shape := ⟨2, ![8192, 768]⟩
abbrev S8192x1024 : Shape := ⟨2, ![8192, 1024]⟩
abbrev S512x1024 : Shape := ⟨2, ![512, 1024]⟩
abbrev S1x1x6x1024 : Shape := ⟨4, ![1, 1, 6, 1024]⟩
abbrev S512x768 : Shape := ⟨2, ![512, 768]⟩
abbrev S1024x1792 : Shape := ⟨2, ![1024, 1792]⟩
abbrev S6x1024 : Shape := ⟨2, ![6, 1024]⟩
abbrev S1x1024 : Shape := ⟨2, ![1, 1024]⟩
abbrev S512x1792 : Shape := ⟨2, ![512, 1792]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x8x6x1024, .f32⟩
  | .hbm, ⟨3, _⟩ => ⟨S1x1024x1792, .f32⟩
  | .hbm, ⟨4, _⟩ => ⟨S8192x768, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1024x1792, .f32⟩
  | .local _ .vmem, ⟨7, _⟩ => ⟨S512x768, .f32⟩
  | .local _ .vmem, ⟨8, _⟩ => ⟨S512x768, .f32⟩
  | .local _ .vmem, ⟨9, _⟩ => ⟨S512x1024, .bf16⟩
  | .local _ .vmem, ⟨10, _⟩ => ⟨S512x1024, .bf16⟩
  | .local _ .vmem, ⟨11, _⟩ => ⟨S1024x1792, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InReferenceIdeal.lean ====
abbrev S4096x1024 : Shape := ⟨2, ![4096, 1024]⟩
abbrev S2x8x6x1024 : Shape := ⟨4, ![2, 8, 6, 1024]⟩
abbrev S1x1024x1792 : Shape := ⟨3, ![1, 1024, 1792]⟩
abbrev S1x1x1x1024 : Shape := ⟨4, ![1, 1, 1, 1024]⟩
abbrev S1024 : Shape := ⟨1, ![1024]⟩
abbrev S_ : Shape := ⟨0, ![]⟩
abbrev S1x1024 : Shape := ⟨2, ![1, 1024]⟩
abbrev S2x2048x1024 : Shape := ⟨3, ![2, 2048, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1024x1792 : Shape := ⟨2, ![1024, 1792]⟩
abbrev S4096x1792 : Shape := ⟨2, ![4096, 1792]⟩
abbrev S2x2048x1792 : Shape := ⟨3, ![2, 2048, 1792]⟩
abbrev S8192x1792 : Shape := ⟨2, ![8192, 1792]⟩
abbrev S8192x768 : Shape := ⟨2, ![8192, 768]⟩
abbrev S8192x1024 : Shape := ⟨2, ![8192, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x8x6x1024, .f32⟩
  | .hbm, ⟨3, _⟩ => ⟨S1x1024x1792, .f32⟩
  | .hbm, ⟨4, _⟩ => ⟨S1x1x1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1x1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S2x2048x1024, .f32⟩
  | .hbm, ⟨18, _⟩ => ⟨S1x2x1x1024, .f32⟩
  | .hbm, ⟨19, _⟩ => ⟨S2x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S1x2x1x1024, .f32⟩
  | .hbm, ⟨27, _⟩ => ⟨S2x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S1024x1792, .f32⟩
  | .hbm, ⟨32, _⟩ => ⟨S4096x1792, .f32⟩
  | .hbm, ⟨33, _⟩ => ⟨S1024x1792, .f32⟩
  | .hbm, ⟨34, _⟩ => ⟨S2x2048x1792, .f32⟩
  | .hbm, ⟨35, _⟩ => ⟨S4096x1792, .f32⟩
  | .hbm, ⟨36, _⟩ => ⟨S8192x1792, .f32⟩
  | .hbm, ⟨37, _⟩ => ⟨S8192x768, .f32⟩
  | .hbm, ⟨38, _⟩ => ⟨S8192x1024, .f32⟩
  | .hbm, ⟨39, _⟩ => ⟨S8192x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== OutKernel.lean ====
abbrev S4096x512 : Shape := ⟨2, ![4096, 512]⟩
abbrev S1x1024x1024 : Shape := ⟨3, ![1, 1024, 1024]⟩
abbrev S8192x1024 : Shape := ⟨2, ![8192, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S16x8192 : Shape := ⟨2, ![16, 8192]⟩
abbrev S512x512 : Shape := ⟨2, ![512, 512]⟩
abbrev S512x1024 : Shape := ⟨2, ![512, 1024]⟩
abbrev S1x1x6x1024 : Shape := ⟨4, ![1, 1, 6, 1024]⟩
abbrev S1x2x1024 : Shape := ⟨3, ![1, 2, 1024]⟩
abbrev S1x1024x16 : Shape := ⟨3, ![1, 1024, 16]⟩
abbrev S16x512 : Shape := ⟨2, ![16, 512]⟩
abbrev S1024x1024 : Shape := ⟨2, ![1024, 1024]⟩
abbrev S6x1024 : Shape := ⟨2, ![6, 1024]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024x16 : Shape := ⟨2, ![1024, 16]⟩
abbrev S1024x32 : Shape := ⟨2, ![1024, 32]⟩
abbrev S512x16 : Shape := ⟨2, ![512, 16]⟩
abbrev S512x112 : Shape := ⟨2, ![512, 112]⟩
abbrev S512x128 : Shape := ⟨2, ![512, 128]⟩
abbrev S128x512 : Shape := ⟨2, ![128, 512]⟩

abbrev nBuf : Space → Nat
  | .hbm => 13
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1x1024x1024, .f32⟩
  | .hbm, ⟨5, _⟩ => ⟨S8192x1024, .f32⟩
  | .hbm, ⟨6, _⟩ => ⟨S2x8x6x1024, .f32⟩
  | .hbm, ⟨7, _⟩ => ⟨S2x2x1024, .f32⟩
  | .hbm, ⟨8, _⟩ => ⟨S2x2x1024, .f32⟩
  | .hbm, ⟨9, _⟩ => ⟨S2x1024x16, .f32⟩
  | .hbm, ⟨10, _⟩ => ⟨S8192x1024, .f32⟩
  | .hbm, ⟨11, _⟩ => ⟨S8192x1024, .bf16⟩
  | .hbm, ⟨12, _⟩ => ⟨S16x8192, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024x1024, .f32⟩
  | .local _ .vmem, ⟨9, _⟩ => ⟨S512x1024, .f32⟩
  | .local _ .vmem, ⟨10, _⟩ => ⟨S512x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S1x2x1024, .f32⟩
  | .local _ .vmem, ⟨14, _⟩ => ⟨S1x2x1024, .f32⟩
  | .local _ .vmem, ⟨15, _⟩ => ⟨S1x1024x16, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S16x512, .f32⟩
  | .local _ .vmem, ⟨21, _⟩ => ⟨S16x512, .f32⟩
  | .local _ .vmem, ⟨22, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![c1_i32_7.toNat, v20.toNat, c0_i32_8.toNat, c0_i32_9.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S4096x512 : Shape := ⟨2, ![4096, 512]⟩
abbrev S1x1024x1024 : Shape := ⟨3, ![1, 1024, 1024]⟩
abbrev S8192x1024 : Shape := ⟨2, ![8192, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S8192x512 : Shape := ⟨2, ![8192, 512]⟩
abbrev S1024x1024 : Shape := ⟨2, ![1024, 1024]⟩
abbrev S_ : Shape := ⟨0, ![]⟩
abbrev S1x1x1x1024 : Shape := ⟨4, ![1, 1, 1, 1024]⟩
abbrev S1024 : Shape := ⟨1, ![1024]⟩
abbrev S4096x1024 : Shape := ⟨2, ![4096, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x2048x1024 : Shape := ⟨3, ![2, 2048, 1024]⟩
abbrev S8192 : Shape := ⟨1, ![8192]⟩
abbrev S8192x1 : Shape := ⟨2, ![8192, 1]⟩
abbrev S1x1x1024 : Shape := ⟨3, ![1, 1, 1024]⟩
abbrev S1x1024 : Shape := ⟨2, ![1, 1024]⟩
abbrev S1x1024x16 : Shape := ⟨3, ![1, 1024, 16]⟩
abbrev S1024x16 : Shape := ⟨2, ![1024, 16]⟩
abbrev S8192x16 : Shape := ⟨2, ![8192, 16]⟩
abbrev S16x8192 : Shape := ⟨2, ![16, 8192]⟩

abbrev nBuf : Space → Nat
  | .hbm => 105
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S1x1024x1024, .f32⟩
  | .hbm, ⟨5, _⟩ => ⟨S8192x1024, .f32⟩
  | .hbm, ⟨6, _⟩ => ⟨S2x8x6x1024, .f32⟩
  | .hbm, ⟨7, _⟩ => ⟨S2x2x1024, .f32⟩
  | .hbm, ⟨8, _⟩ => ⟨S2x2x1024, .f32⟩
  | .hbm, ⟨9, _⟩ => ⟨S2x1024x16, .f32⟩
  | .hbm, ⟨10, _⟩ => ⟨S8192x512, .bf16⟩
  | .hbm, ⟨11, _⟩ => ⟨S8192x512, .bf16⟩
  | .hbm, ⟨12, _⟩ => ⟨S8192x1024, .bf16⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S1x1x1x1024, .f32⟩
  | .hbm, ⟨20, _⟩ => ⟨S1024, .f32⟩
  | .hbm, ⟨21, _⟩ => ⟨S4096x1024, .f32⟩
  | .hbm, ⟨22, _⟩ => ⟨S1x2x1x1024, .f32⟩
  | .hbm, ⟨23, _⟩ => ⟨S2x1024, .f32⟩
  | .hbm, ⟨24, _⟩ => ⟨S2x1x1024, .f32⟩
  | .hbm, ⟨25, _⟩ => ⟨S2x2048x1024, .f32⟩
  | .hbm, ⟨26, _⟩ => ⟨S4096x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S1x1x1024, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1x1x1024, .f32⟩
  | .hbm, ⟨64, _⟩ => ⟨S1024, .f32⟩
  | .hbm, ⟨65, _⟩ => ⟨S4096x1024, .f32⟩
  | .hbm, ⟨66, _⟩ => ⟨S1x2x1x1024, .f32⟩
  | .hbm, ⟨67, _⟩ => ⟨S2x1024, .f32⟩
  | .hbm, ⟨68, _⟩ => ⟨S2x1x1024, .f32⟩
  | .hbm, ⟨69, _⟩ => ⟨S2x2048x1024, .f32⟩
  | .hbm, ⟨70, _⟩ => ⟨S4096x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x1x1x1024, .f32⟩
  | .hbm, ⟨77, _⟩ => ⟨S1024, .f32⟩
  | .hbm, ⟨78, _⟩ => ⟨S4096x1024, .f32⟩
  | .hbm, ⟨79, _⟩ => ⟨S1x2x1x1024, .f32⟩
  | .hbm, ⟨80, _⟩ => ⟨S2x1024, .f32⟩
  | .hbm, ⟨81, _⟩ => ⟨S2x1x1024, .f32⟩
  | .hbm, ⟨82, _⟩ => ⟨S2x2048x1024, .f32⟩
  | .hbm, ⟨83, _⟩ => ⟨S4096x1024, .f32⟩
  | .hbm, ⟨84, _⟩ => ⟨S8192x1024, .f32⟩
  | .hbm, ⟨85, _⟩ => ⟨S8192x1024, .f32⟩
  | .hbm, ⟨86, _⟩ => ⟨S1x1024x16, .f32⟩
  | .hbm, ⟨87, _⟩ => ⟨S1024x16, .f32⟩
  | .hbm, ⟨88, _⟩ => ⟨S8192x16, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192x1, .f32⟩
  | .hbm, ⟨95, _⟩ => ⟨S8192x16, .f32⟩
  | .hbm, ⟨96, _⟩ => ⟨S8192x16, .f32⟩
  | .hbm, ⟨97, _⟩ => ⟨S8192x16, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x16, .f32⟩
  | .hbm, ⟨102, _⟩ => ⟨S8192x16, .f32⟩
  | .hbm, ⟨103, _⟩ => ⟨S8192x1024, .bf16⟩
  | .hbm, ⟨104, _⟩ => ⟨S16x8192, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== EvenKernel.lean ====
abbrev S4096x768 : Shape := ⟨2, ![4096, 768]⟩
abbrev S4096x256 : Shape := ⟨2, ![4096, 256]⟩
abbrev S1x1024x1024 : Shape := ⟨3, ![1, 1024, 1024]⟩
abbrev S4096x1024 : Shape := ⟨2, ![4096, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S8192x1024 : Shape := ⟨2, ![8192, 1024]⟩
abbrev S16x8192 : Shape := ⟨2, ![16, 8192]⟩
abbrev S512x768 : Shape := ⟨2, ![512, 768]⟩
abbrev S512x256 : Shape := ⟨2, ![512, 256]⟩
abbrev S512x1024 : Shape := ⟨2, ![512, 1024]⟩
abbrev S1x1x6x1024 : Shape := ⟨4, ![1, 1, 6, 1024]⟩
abbrev S1x2x1024 : Shape := ⟨3, ![1, 2, 1024]⟩
abbrev S1x1024x16 : Shape := ⟨3, ![1, 1024, 16]⟩
abbrev S16x512 : Shape := ⟨2, ![16, 512]⟩
abbrev S1024x1024 : Shape := ⟨2, ![1024, 1024]⟩
abbrev S768x1024 : Shape := ⟨2, ![768, 1024]⟩
abbrev S256x1024 : Shape := ⟨2, ![256, 1024]⟩
abbrev S6x1024 : Shape := ⟨2, ![6, 1024]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024x16 : Shape := ⟨2, ![1024, 16]⟩
abbrev S1024x32 : Shape := ⟨2, ![1024, 32]⟩
abbrev S512x16 : Shape := ⟨2, ![512, 16]⟩
abbrev S512x112 : Shape := ⟨2, ![512, 112]⟩
abbrev S512x128 : Shape := ⟨2, ![512, 128]⟩
abbrev S128x512 : Shape := ⟨2, ![128, 512]⟩

abbrev nBuf : Space → Nat
  | .hbm => 14
  | .vmem => 25
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x256, .bf16⟩
  | .hbm, ⟨3, _⟩ => ⟨S4096x256, .bf16⟩
  | .hbm, ⟨4, _⟩ => ⟨S1x1024x1024, .f32⟩
  | .hbm, ⟨5, _⟩ => ⟨S4096x1024, .f32⟩
  | .hbm, ⟨6, _⟩ => ⟨S4096x1024, .f32⟩
  | .hbm, ⟨7, _⟩ => ⟨S2x8x6x1024, .f32⟩
  | .hbm, ⟨8, _⟩ => ⟨S2x2x1024, .f32⟩
  | .hbm, ⟨9, _⟩ => ⟨S2x2x1024, .f32⟩
  | .hbm, ⟨10, _⟩ => ⟨S2x1024x16, .f32⟩
  | .hbm, ⟨11, _⟩ => ⟨S8192x1024, .f32⟩
  | .hbm, ⟨12, _⟩ => ⟨S8192x1024, .bf16⟩
  | .hbm, ⟨13, _⟩ => ⟨S16x8192, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x1024x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1x6x1024, .f32⟩
  | .local _ .vmem, ⟨14, _⟩ => ⟨S1x1x6x1024, .f32⟩
  | .local _ .vmem, ⟨15, _⟩ => ⟨S1x2x1024, .f32⟩
  | .local _ .vmem, ⟨16, _⟩ => ⟨S1x2x1024, .f32⟩
  | .local _ .vmem, ⟨17, _⟩ => ⟨S1x1024x16, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S16x512, .f32⟩
  | .local _ .vmem, ⟨23, _⟩ => ⟨S16x512, .f32⟩
  | .local _ .vmem, ⟨24, _⟩ => ⟨S1024x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi v18 c1_i32_5
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenReferenceIdeal.lean ====
abbrev S4096x768 : Shape := ⟨2, ![4096, 768]⟩
abbrev S4096x256 : Shape := ⟨2, ![4096, 256]⟩
abbrev S1x1024x1024 : Shape := ⟨3, ![1, 1024, 1024]⟩
abbrev S4096x1024 : Shape := ⟨2, ![4096, 1024]⟩
abbrev S2x8x6x1024 : Shape := ⟨4, ![2, 8, 6, 1024]⟩
abbrev S2x2x1024 : Shape := ⟨3, ![2, 2, 1024]⟩
abbrev S2x1024x16 : Shape := ⟨3, ![2, 1024, 16]⟩
abbrev S8192x768 : Shape := ⟨2, ![8192, 768]⟩
abbrev S8192x256 : Shape := ⟨2, ![8192, 256]⟩
abbrev S8192x1024 : Shape := ⟨2, ![8192, 1024]⟩
abbrev S1024x1024 : Shape := ⟨2, ![1024, 1024]⟩
abbrev S_ : Shape := ⟨0, ![]⟩
abbrev S1x1x1x1024 : Shape := ⟨4, ![1, 1, 1, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x2048x1024 : Shape := ⟨3, ![2, 2048, 1024]⟩
abbrev S8192 : Shape := ⟨1, ![8192]⟩
abbrev S8192x1 : Shape := ⟨2, ![8192, 1]⟩
abbrev S1x1x1024 : Shape := ⟨3, ![1, 1, 1024]⟩
abbrev S1x1024 : Shape := ⟨2, ![1, 1024]⟩
abbrev S1x1024x16 : Shape := ⟨3, ![1, 1024, 16]⟩
abbrev S1024x16 : Shape := ⟨2, ![1024, 16]⟩
abbrev S8192x16 : Shape := ⟨2, ![8192, 16]⟩
abbrev S16x8192 : Shape := ⟨2, ![16, 8192]⟩

abbrev nBuf : Space → Nat
  | .hbm => 107
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x256, .bf16⟩
  | .hbm, ⟨3, _⟩ => ⟨S4096x256, .bf16⟩
  | .hbm, ⟨4, _⟩ => ⟨S1x1024x1024, .f32⟩
  | .hbm, ⟨5, _⟩ => ⟨S4096x1024, .f32⟩
  | .hbm, ⟨6, _⟩ => ⟨S4096x1024, .f32⟩
  | .hbm, ⟨7, _⟩ => ⟨S2x8x6x1024, .f32⟩
  | .hbm, ⟨8, _⟩ => ⟨S2x2x1024, .f32⟩
  | .hbm, ⟨9, _⟩ => ⟨S2x2x1024, .f32⟩
  | .hbm, ⟨10, _⟩ => ⟨S2x1024x16, .f32⟩
  | .hbm, ⟨11, _⟩ => ⟨S8192x768, .bf16⟩
  | .hbm, ⟨12, _⟩ => ⟨S8192x256, .bf16⟩
  | .hbm, ⟨13, _⟩ => ⟨S8192x1024, .bf16⟩
  | .hbm, ⟨14, _⟩ => ⟨S8192x1024, .f32⟩
  | .hbm, ⟨15, _⟩ => ⟨S1024x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S1x1x1x1024, .f32⟩
  | .hbm, ⟨22, _⟩ => ⟨S1024, .f32⟩
  | .hbm, ⟨23, _⟩ => ⟨S4096x1024, .f32⟩
  | .hbm, ⟨24, _⟩ => ⟨S1x2x1x1024, .f32⟩
  | .hbm, ⟨25, _⟩ => ⟨S2x1024, .f32⟩
  | .hbm, ⟨26, _⟩ => ⟨S2x1x1024, .f32⟩
  | .hbm, ⟨27, _⟩ => ⟨S2x2048x1024, .f32⟩
  | .hbm, ⟨28, _⟩ => ⟨S4096x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1x1024, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1x1024, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1x1x1x1024, .f32⟩
  | .hbm, ⟨66, _⟩ => ⟨S1024, .f32⟩
  | .hbm, ⟨67, _⟩ => ⟨S4096x1024, .f32⟩
  | .hbm, ⟨68, _⟩ => ⟨S1x2x1x1024, .f32⟩
  | .hbm, ⟨69, _⟩ => ⟨S2x1024, .f32⟩
  | .hbm, ⟨70, _⟩ => ⟨S2x1x1024, .f32⟩
  | .hbm, ⟨71, _⟩ => ⟨S2x2048x1024, .f32⟩
  | .hbm, ⟨72, _⟩ => ⟨S4096x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1x1x1024, .f32⟩
  | .hbm, ⟨79, _⟩ => ⟨S1024, .f32⟩
  | .hbm, ⟨80, _⟩ => ⟨S4096x1024, .f32⟩
  | .hbm, ⟨81, _⟩ => ⟨S1x2x1x1024, .f32⟩
  | .hbm, ⟨82, _⟩ => ⟨S2x1024, .f32⟩
  | .hbm, ⟨83, _⟩ => ⟨S2x1x1024, .f32⟩
  | .hbm, ⟨84, _⟩ => ⟨S2x2048x1024, .f32⟩
  | .hbm, ⟨85, _⟩ => ⟨S4096x1024, .f32⟩
  | .hbm, ⟨86, _⟩ => ⟨S8192x1024, .f32⟩
  | .hbm, ⟨87, _⟩ => ⟨S8192x1024, .f32⟩
  | .hbm, ⟨88, _⟩ => ⟨S1x1024x16, .f32⟩
  | .hbm, ⟨89, _⟩ => ⟨S1024x16, .f32⟩
  | .hbm, ⟨90, _⟩ => ⟨S8192x16, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192x1, .f32⟩
  | .hbm, ⟨97, _⟩ => ⟨S8192x16, .f32⟩
  | .hbm, ⟨98, _⟩ => ⟨S8192x16, .f32⟩
  | .hbm, ⟨99, _⟩ => ⟨S8192x16, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S8192x16, .f32⟩
  | .hbm, ⟨104, _⟩ => ⟨S8192x16, .f32⟩
  | .hbm, ⟨105, _⟩ => ⟨S8192x1024, .bf16⟩
  | .hbm, ⟨106, _⟩ => ⟨S16x8192, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== DiffKernel.lean ====
abbrev S8192x2304 : Shape := ⟨2, ![8192, 2304]⟩
abbrev S2x256x512 : Shape := ⟨3, ![2, 256, 512]⟩
abbrev S1x4x4x64 : Shape := ⟨4, ![1, 4, 4, 64]⟩
abbrev S1x128 : Shape := ⟨2, ![1, 128]⟩
abbrev S4096x512 : Shape := ⟨2, ![4096, 512]⟩
abbrev S512x256 : Shape := ⟨2, ![512, 256]⟩
abbrev S2048x256 : Shape := ⟨2, ![2048, 256]⟩
abbrev S1x256x256 : Shape := ⟨3, ![1, 256, 256]⟩
abbrev S1x1x4x64 : Shape := ⟨4, ![1, 1, 4, 64]⟩
abbrev S4x64 : Shape := ⟨2, ![4, 64]⟩
abbrev S4 : Shape := ⟨1, ![4]⟩
abbrev S4x1 : Shape := ⟨2, ![4, 1]⟩
abbrev S256x256 : Shape := ⟨2, ![256, 256]⟩
abbrev S2304x256 : Shape := ⟨2, ![2304, 256]⟩
abbrev S1 : Shape := ⟨1, ![1]⟩
abbrev S1x1 : Shape := ⟨2, ![1, 1]⟩
abbrev S512x128 : Shape := ⟨2, ![512, 128]⟩
abbrev S2304x128 : Shape := ⟨2, ![2304, 128]⟩
abbrev S512x64 : Shape := ⟨2, ![512, 64]⟩
abbrev S2304x64 : Shape := ⟨2, ![2304, 64]⟩
abbrev S512x2304 : Shape := ⟨2, ![512, 2304]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x2304, .bf16⟩
  | .hbm, ⟨1, _⟩ => ⟨S2x256x512, .f32⟩
  | .hbm, ⟨2, _⟩ => ⟨S2x256x512, .f32⟩
  | .hbm, ⟨3, _⟩ => ⟨S1x4x4x64, .f32⟩
  | .hbm, ⟨4, _⟩ => ⟨S1x128, .f32⟩
  | .hbm, ⟨5, _⟩ => ⟨S4096x512, .bf16⟩
  | .local _ .vmem, ⟨0, _⟩ => ⟨S1x4x4x64, .f32⟩
  | .local _ .vmem, ⟨1, _⟩ => ⟨S1x128, .f32⟩
  | .local _ .vmem, ⟨2, _⟩ => ⟨S512x256, .bf16⟩
  | .local _ .vmem, ⟨3, _⟩ => ⟨S512x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S512x256, .bf16⟩
  | .local _ .vmem, ⟨13, _⟩ => ⟨S512x256, .bf16⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c8_i32 : BitVec 32 := 8#32
  let v1 : BitVec 32 := Scalar.addi c8_i32 v0
  let v2 : BitVec 32 := Scalar.addi v1 arg2
  let c3_i32 : BitVec 32 := 3#32
  let v3 : BitVec 32 := Scalar.addi c3_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c5_i32 : BitVec 32 := 5#32
  let v1 : BitVec 32 := Scalar.addi c5_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c7_i32 : BitVec 32 := 7#32
  let v1 : BitVec 32 := Scalar.addi c7_i32 arg1
  let c0_i32 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1x4x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffReferenceIdeal.lean ====
abbrev S8192x2304 : Shape := ⟨2, ![8192, 2304]⟩
abbrev S2x256x512 : Shape := ⟨3, ![2, 256, 512]⟩
abbrev S1x4x4x64 : Shape := ⟨4, ![1, 4, 4, 64]⟩
abbrev S1x128 : Shape := ⟨2, ![1, 128]⟩
abbrev S4096x2304 : Shape := ⟨2, ![4096, 2304]⟩
abbrev S4096x512 : Shape := ⟨2, ![4096, 512]⟩
abbrev S2x2048x4x2x64 : Shape := ⟨5, ![2, 2048, 4, 2, 64]⟩
abbrev S2x2048x4x128 : Shape := ⟨4, ![2, 2048, 4, 128]⟩
abbrev S2x256x4x2x64 : Shape := ⟨5, ![2, 256, 4, 2, 64]⟩
abbrev S2x2304x4x2x64 : Shape := ⟨5, ![2, 2304, 4, 2, 64]⟩
abbrev S2x256x4x128 : Shape := ⟨4, ![2, 256, 4, 128]⟩
abbrev S2x2304x4x128 : Shape := ⟨4, ![2, 2304, 4, 128]⟩
abbrev S4x4x64 : Shape := ⟨3, ![4, 4, 64]⟩
abbrev S1x4x64 : Shape := ⟨3, ![1, 4, 64]⟩
abbrev S4x64 : Shape := ⟨2, ![4, 64]⟩
abbrev S_ : Shape := ⟨0, ![]⟩
abbrev S4 : Shape := ⟨1, ![4]⟩
abbrev S2x4x2x2048x2304 : Shape := ⟨5, ![2, 4, 2, 2048, 2304]⟩
abbrev S2x4x2x2048 : Shape := ⟨4, ![2, 4, 2, 2048]⟩
abbrev S2x4x2x2048x1 : Shape := ⟨5, ![2, 4, 2, 2048, 1]⟩
abbrev S2x4x1x2048x2304 : Shape := ⟨5, ![2, 4, 1, 2048, 2304]⟩
abbrev S2x4x2048x2304 : Shape := ⟨4, ![2, 4, 2048, 2304]⟩
abbrev S1x4x1x1 : Shape := ⟨4, ![1, 4, 1, 1]⟩
abbrev S2x4x128x2048 : Shape := ⟨4, ![2, 4, 128, 2048]⟩
abbrev S2x2048x4 : Shape := ⟨3, ![2, 2048, 4]⟩
abbrev S2x2048x4x1 : Shape := ⟨4, ![2, 2048, 4, 1]⟩
abbrev S128 : Shape := ⟨1, ![128]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S2x256x512, .f32⟩
  | .hbm, ⟨2, _⟩ => ⟨S2x256x512, .f32⟩
  | .hbm, ⟨3, _⟩ => ⟨S1x4x4x64, .f32⟩
  | .hbm, ⟨4, _⟩ => ⟨S1x128, .f32⟩
  | .hbm, ⟨5, _⟩ => ⟨S4096x2304, .bf16⟩
  | .hbm, ⟨6, _⟩ => ⟨S4096x2304, .f32⟩
  | .hbm, ⟨7, _⟩ => ⟨S4096x512, .f32⟩
  | .hbm, ⟨8, _⟩ => ⟨S2x2048x4x2x64, .f32⟩
  | .hbm, ⟨9, _⟩ => ⟨S4096x512, .f32⟩
  | .hbm, ⟨10, _⟩ => ⟨S2x2048x4x2x64, .f32⟩
  | .hbm, ⟨11, _⟩ => ⟨S4096x512, .f32⟩
  | .hbm, ⟨12, _⟩ => ⟨S2x2048x4x128, .f32⟩
  | .hbm, ⟨13, _⟩ => ⟨S2x256x4x2x64, .f32⟩
  | .hbm, ⟨14, _⟩ => ⟨S2x2304x4x2x64, .f32⟩
  | .hbm, ⟨15, _⟩ => ⟨S2x256x4x128, .f32⟩
  | .hbm, ⟨16, _⟩ => ⟨S2x2304x4x128, .f32⟩
  | .hbm, ⟨17, _⟩ => ⟨S4x4x64, .f32⟩
  | .hbm, ⟨18, _⟩ => ⟨S1x4x64, .f32⟩
  | .hbm, ⟨19, _⟩ => ⟨S4x64, .f32⟩
  | .hbm, ⟨20, _⟩ => ⟨S1x4x64, .f32⟩
  | .hbm, ⟨21, _⟩ => ⟨S4x64, .f32⟩
  | .hbm, ⟨22, _⟩ => ⟨S4x64, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S1x4x64, .f32⟩
  | .hbm, ⟨27, _⟩ => ⟨S4x64, .f32⟩
  | .hbm, ⟨28, _⟩ => ⟨S1x4x64, .f32⟩
  | .hbm, ⟨29, _⟩ => ⟨S4x64, .f32⟩
  | .hbm, ⟨30, _⟩ => ⟨S4x64, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S2x4x2x2048x2304, .f32⟩
  | .hbm, ⟨39, _⟩ => ⟨S_, .f32⟩
  | .hbm, ⟨40, _⟩ => ⟨S2x4x2x2048x2304, .f32⟩
  | .hbm, ⟨41, _⟩ => ⟨S2x4x2x2048x2304, .f32⟩
  | .hbm, ⟨42, _⟩ => ⟨S_, .f32⟩
  | .hbm, ⟨43, _⟩ => ⟨S2x4x2x2048, .f32⟩
  | .hbm, ⟨44, _⟩ => ⟨S_, .f32⟩
  | .hbm, ⟨45, _⟩ => ⟨S2x4x2x2048, .f32⟩
  | .hbm, ⟨46, _⟩ => ⟨S2x4x2x2048, .f32⟩
  | .hbm, ⟨47, _⟩ => ⟨S2x4x2x2048x1, .f32⟩
  | .hbm, ⟨48, _⟩ => ⟨S2x4x2x2048x2304, .f32⟩
  | .hbm, ⟨49, _⟩ => ⟨S2x4x2x2048x2304, .f32⟩
  | .hbm, ⟨50, _⟩ => ⟨S2x4x2x2048x2304, .f32⟩
  | .hbm, ⟨51, _⟩ => ⟨S_, .f32⟩
  | .hbm, ⟨52, _⟩ => ⟨S2x4x2x2048, .f32⟩
  | .hbm, ⟨53, _⟩ => ⟨S2x4x2x2048x1, .f32⟩
  | .hbm, ⟨54, _⟩ => ⟨S2x4x2x2048x2304, .f32⟩
  | .hbm, ⟨55, _⟩ => ⟨S2x4x2x2048x2304, .f32⟩
  | .hbm, ⟨56, _⟩ => ⟨S2x4x1x2048x2304, .f32⟩
  | .hbm, ⟨57, _⟩ => ⟨S2x4x2048x2304, .f32⟩
  | .hbm, ⟨58, _⟩ => ⟨S1x4x1x1, .f32⟩
  | .hbm, ⟨59, _⟩ => ⟨S2x4x1x2048x2304, .f32⟩
  | .hbm, ⟨60, _⟩ => ⟨S2x4x2048x2304, .f32⟩
  | .hbm, ⟨61, _⟩ => ⟨S2x4x2048x2304, .f32⟩
  | .hbm, ⟨62, _⟩ => ⟨S2x4x2048x2304, .f32⟩
  | .hbm, ⟨63, _⟩ => ⟨S2x4x2048x2304, .f32⟩
  | .hbm, ⟨64, _⟩ => ⟨S2x4x128x2048, .f32⟩
  | .hbm, ⟨65, _⟩ => ⟨S2x2048x4x128, .f32⟩
  | .hbm, ⟨66, _⟩ => ⟨S2x2048x4x128, .f32⟩
  | .hbm, ⟨67, _⟩ => ⟨S_, .f32⟩
  | .hbm, ⟨68, _⟩ => ⟨S2x2048x4, .f32⟩
  | .hbm, ⟨69, _⟩ => ⟨S2x2048x4x1, .f32⟩
  | .hbm, ⟨70, _⟩ => ⟨S_, .f32⟩
  | .hbm, ⟨71, _⟩ => ⟨S2x2048x4x1, .f32⟩
  | .hbm, ⟨72, _⟩ => ⟨S2x2048x4x1, .f32⟩
  | .hbm, ⟨73, _⟩ => ⟨S_, .f32⟩
  | .hbm, ⟨74, _⟩ => ⟨S2x2048x4x1, .f32⟩
  | .hbm, ⟨75, _⟩ => ⟨S2x2048x4x1, .f32⟩
  | .hbm, ⟨76, _⟩ => ⟨S2x2048x4x1, .f32⟩
  | .hbm, ⟨77, _⟩ => ⟨S2x2048x4x128, .f32⟩
  | .hbm, ⟨78, _⟩ => ⟨S2x2048x4x128, .f32⟩
  | .hbm, ⟨79, _⟩ => ⟨S128, .f32⟩
  | .hbm, ⟨80, _⟩ => ⟨S1x1x1x128, .f32⟩
  | .hbm, ⟨81, _⟩ => ⟨S2x2048x4x128, .f32⟩
  | .hbm, ⟨82, _⟩ => ⟨S2x2048x4x128, .f32⟩
  | .hbm, ⟨83, _⟩ => ⟨S_, .f32⟩
  | .hbm, ⟨84, _⟩ => ⟨S2x2048x4x128, .f32⟩
  | .hbm, ⟨85, _⟩ => ⟨S2x2048x4x128, .f32⟩
  | .hbm, ⟨86, _⟩ => ⟨S4096x512, .f32⟩
  | .hbm, ⟨87, _⟩ => ⟨S4096x512, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== CtxKernel.lean ====
abbrev S8192x2304 : Shape := ⟨2, ![8192, 2304]⟩
abbrev S1x4x4x64 : Shape := ⟨4, ![1, 4, 4, 64]⟩
abbrev S1x128 : Shape := ⟨2, ![1, 128]⟩
abbrev S4096x512 : Shape := ⟨2, ![4096, 512]⟩
abbrev S256x256 : Shape := ⟨2, ![256, 256]⟩
abbrev S1x1x4x64 : Shape := ⟨4, ![1, 1, 4, 64]⟩
abbrev S4x64 : Shape := ⟨2, ![4, 64]⟩
abbrev S4 : Shape := ⟨1, ![4]⟩
abbrev S4x1 : Shape := ⟨2, ![4, 1]⟩
abbrev S1 : Shape := ⟨1, ![1]⟩
abbrev S1x1 : Shape := ⟨2, ![1, 1]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x2304, .bf16⟩
  | .hbm, ⟨1, _⟩ => ⟨S1x4x4x64, .f32⟩
  | .hbm, ⟨2, _⟩ => ⟨S1x128, .f32⟩
  | .hbm, ⟨3, _⟩ => ⟨S4096x512, .bf16⟩
  | .local _ .vmem, ⟨0, _⟩ => ⟨S1x4x4x64, .f32⟩
  | .local _ .vmem, ⟨1, _⟩ => ⟨S1x128, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CtxReferenceIdeal.lean ====
abbrev S8192x2304 : Shape := ⟨2, ![8192, 2304]⟩
abbrev S1x4x4x64 : Shape := ⟨4, ![1, 4, 4, 64]⟩
abbrev S1x128 : Shape := ⟨2, ![1, 128]⟩
abbrev S4096x2304 : Shape := ⟨2, ![4096, 2304]⟩
abbrev S4096x512 : Shape := ⟨2, ![4096, 512]⟩
abbrev S16x256x4x2x64 : Shape := ⟨5, ![16, 256, 4, 2, 64]⟩
abbrev S16x256x4x128 : Shape := ⟨4, ![16, 256, 4, 128]⟩
abbrev S4x4x64 : Shape := ⟨3, ![4, 4, 64]⟩
abbrev S1x4x64 : Shape := ⟨3, ![1, 4, 64]⟩
abbrev S4x64 : Shape := ⟨2, ![4, 64]⟩
abbrev S_ : Shape := ⟨0, ![]⟩
abbrev S4 : Shape := ⟨1, ![4]⟩
abbrev S16x4x2x256x256 : Shape := ⟨5, ![16, 4, 2, 256, 256]⟩
abbrev S16x4x2x256 : Shape := ⟨4, ![16, 4, 2, 256]⟩
abbrev S16x4x2x256x1 : Shape := ⟨5, ![16, 4, 2, 256, 1]⟩
abbrev S16x4x1x256x256 : Shape := ⟨5, ![16, 4, 1, 256, 256]⟩
abbrev S16x4x256x256 : Shape := ⟨4, ![16, 4, 256, 256]⟩
abbrev S1x4x1x1 : Shape := ⟨4, ![1, 4, 1, 1]⟩
abbrev S16x4x128x256 : Shape := ⟨4, ![16, 4, 128, 256]⟩
abbrev S16x256x4 : Shape := ⟨3, ![16, 256, 4]⟩
abbrev S16x256x4x1 : Shape := ⟨4, ![16, 256, 4, 1]⟩
abbrev S128 : Shape := ⟨1, ![128]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1x4x4x64, .f32⟩
  | .hbm, ⟨2, _⟩ => ⟨S1x128, .f32⟩
  | .hbm, ⟨3, _⟩ => ⟨S4096x2304, .bf16⟩
  | .hbm, ⟨4, _⟩ => ⟨S4096x2304, .f32⟩
  | .hbm, ⟨5, _⟩ => ⟨S4096x512, .f32⟩
  | .hbm, ⟨6, _⟩ => ⟨S16x256x4x2x64, .f32⟩
  | .hbm, ⟨7, _⟩ => ⟨S4096x512, .f32⟩
  | .hbm, ⟨8, _⟩ => ⟨S16x256x4x2x64, .f32⟩
  | .hbm, ⟨9, _⟩ => ⟨S4096x512, .f32⟩
  | .hbm, ⟨10, _⟩ => ⟨S16x256x4x128, .f32⟩
  | .hbm, ⟨11, _⟩ => ⟨S4x4x64, .f32⟩
  | .hbm, ⟨12, _⟩ => ⟨S1x4x64, .f32⟩
  | .hbm, ⟨13, _⟩ => ⟨S4x64, .f32⟩
  | .hbm, ⟨14, _⟩ => ⟨S1x4x64, .f32⟩
  | .hbm, ⟨15, _⟩ => ⟨S4x64, .f32⟩
  | .hbm, ⟨16, _⟩ => ⟨S4x64, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S1x4x64, .f32⟩
  | .hbm, ⟨21, _⟩ => ⟨S4x64, .f32⟩
  | .hbm, ⟨22, _⟩ => ⟨S1x4x64, .f32⟩
  | .hbm, ⟨23, _⟩ => ⟨S4x64, .f32⟩
  | .hbm, ⟨24, _⟩ => ⟨S4x64, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S16x4x2x256x256, .f32⟩
  | .hbm, ⟨33, _⟩ => ⟨S_, .f32⟩
  | .hbm, ⟨34, _⟩ => ⟨S16x4x2x256x256, .f32⟩
  | .hbm, ⟨35, _⟩ => ⟨S16x4x2x256x256, .f32⟩
  | .hbm, ⟨36, _⟩ => ⟨S_, .f32⟩
  | .hbm, ⟨37, _⟩ => ⟨S16x4x2x256, .f32⟩
  | .hbm, ⟨38, _⟩ => ⟨S_, .f32⟩
  | .hbm, ⟨39, _⟩ => ⟨S16x4x2x256, .f32⟩
  | .hbm, ⟨40, _⟩ => ⟨S16x4x2x256, .f32⟩
  | .hbm, ⟨41, _⟩ => ⟨S16x4x2x256x1, .f32⟩
  | .hbm, ⟨42, _⟩ => ⟨S16x4x2x256x256, .f32⟩
  | .hbm, ⟨43, _⟩ => ⟨S16x4x2x256x256, .f32⟩
  | .hbm, ⟨44, _⟩ => ⟨S16x4x2x256x256, .f32⟩
  | .hbm, ⟨45, _⟩ => ⟨S_, .f32⟩
  | .hbm, ⟨46, _⟩ => ⟨S16x4x2x256, .f32⟩
  | .hbm, ⟨47, _⟩ => ⟨S16x4x2x256x1, .f32⟩
  | .hbm, ⟨48, _⟩ => ⟨S16x4x2x256x256, .f32⟩
  | .hbm, ⟨49, _⟩ => ⟨S16x4x2x256x256, .f32⟩
  | .hbm, ⟨50, _⟩ => ⟨S16x4x1x256x256, .f32⟩
  | .hbm, ⟨51, _⟩ => ⟨S16x4x256x256, .f32⟩
  | .hbm, ⟨52, _⟩ => ⟨S1x4x1x1, .f32⟩
  | .hbm, ⟨53, _⟩ => ⟨S16x4x1x256x256, .f32⟩
  | .hbm, ⟨54, _⟩ => ⟨S16x4x256x256, .f32⟩
  | .hbm, ⟨55, _⟩ => ⟨S16x4x256x256, .f32⟩
  | .hbm, ⟨56, _⟩ => ⟨S16x4x256x256, .f32⟩
  | .hbm, ⟨57, _⟩ => ⟨S16x4x256x256, .f32⟩
  | .hbm, ⟨58, _⟩ => ⟨S16x4x128x256, .f32⟩
  | .hbm, ⟨59, _⟩ => ⟨S16x256x4x128, .f32⟩
  | .hbm, ⟨60, _⟩ => ⟨S16x256x4x128, .f32⟩
  | .hbm, ⟨61, _⟩ => ⟨S_, .f32⟩
  | .hbm, ⟨62, _⟩ => ⟨S16x256x4, .f32⟩
  | .hbm, ⟨63, _⟩ => ⟨S16x256x4x1, .f32⟩
  | .hbm, ⟨64, _⟩ => ⟨S_, .f32⟩
  | .hbm, ⟨65, _⟩ => ⟨S16x256x4x1, .f32⟩
  | .hbm, ⟨66, _⟩ => ⟨S16x256x4x1, .f32⟩
  | .hbm, ⟨67, _⟩ => ⟨S_, .f32⟩
  | .hbm, ⟨68, _⟩ => ⟨S16x256x4x1, .f32⟩
  | .hbm, ⟨69, _⟩ => ⟨S16x256x4x1, .f32⟩
  | .hbm, ⟨70, _⟩ => ⟨S16x256x4x1, .f32⟩
  | .hbm, ⟨71, _⟩ => ⟨S16x256x4x128, .f32⟩
  | .hbm, ⟨72, _⟩ => ⟨S16x256x4x128, .f32⟩
  | .hbm, ⟨73, _⟩ => ⟨S128, .f32⟩
  | .hbm, ⟨74, _⟩ => ⟨S1x1x1x128, .f32⟩
  | .hbm, ⟨75, _⟩ => ⟨S16x256x4x128, .f32⟩
  | .hbm, ⟨76, _⟩ => ⟨S16x256x4x128, .f32⟩
  | .hbm, ⟨77, _⟩ => ⟨S_, .f32⟩
  | .hbm, ⟨78, _⟩ => ⟨S16x256x4x128, .f32⟩
  | .hbm, ⟨79, _⟩ => ⟨S16x256x4x128, .f32⟩
  | .hbm, ⟨80, _⟩ => ⟨S4096x512, .f32⟩
  | .hbm, ⟨81, _⟩ => ⟨S4096x512, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Proof.Scalars.lean ====
/-
  SCALAR FACTS of the extended reals that the calls' proofs read.
    `half_f32`  — what the word of one half denotes.
    `sigmoid_eq` — the logistic function spelt with a hyperbolic tangent, one half of `tanh (x / 2)` plus one half, is
                  the quotient `1 / (1 + exp (-x))`, at the two infinities too.
-/
module

public import Idealize.ShloMosaic.PureOps.Ideal
public import Idealize.ShloMosaic.Lib.IdealHost

@[expose] public section

noncomputable section

namespace Cert.Scalars

open Idealize.ShloMosaic

/-- The word of one half. -/
theorem half_f32 : Ideal.ofBits .f32 0x3F000000#32 = ((1 / 2 : ℝ) : EReal) := by
  simp [Ideal.ofBits, Ideal.ieee, -EReal.coe_mul]; norm_num

/-- The real identity: `tanh (x / 2) / 2 + 1 / 2` is `1 / (1 + exp (-x))`. -/
theorem real_sigmoid (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have hb : b = 1 / a := by field_simp; linarith
  subst hb
  field_simp
  ring

/-- The logistic function by a hyperbolic tangent is the quotient form, at every extended real. -/
theorem sigmoid_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) from by simp, ← EReal.coe_mul, ← EReal.coe_add]
    norm_num
  | coe r => rw [← EReal.coe_mul, Ideal.tanh_coe, ← EReal.coe_mul, ← EReal.coe_add, real_sigmoid, Ideal.logistic_coe]
  | top =>
    rw [EReal.coe_mul_top_of_pos (by norm_num), Ideal.tanh_top, Ideal.logistic_top]
    rw [show (1 : EReal) = ((1 : ℝ) : EReal) from by simp, ← EReal.coe_mul, ← EReal.coe_add]
    norm_num

end Cert.Scalars

end
-- ==== Proof.FfnPayload.lean ====
/-
  THE EXPERT FEED-FORWARD BLOCKS read at an index (extended reals): the pure values the body stores, as sums over the
  blocks it loads — `x` the expert's tokens, `w`/`u`/`d` a half of the expert's gate, up and down matrices, `g` the gates.
    `hid_apply` — the hidden block: `silu (x·w) * (x·u)`, the logistic factor spelt with a hyperbolic tangent.
    `pay2_apply` — the first half's product with the down matrix.
    `pay4_apply` — the carried block plus the second half's product, times the gate.
-/
module

public import proofs.«01_k».proof.Proof.Scalars
public import proofs.«01_k».proof.Proof.Gen.KernelIdeal.Skeleton
public import Idealize.ShloMosaic.Lib.MatmulPlain
public import Idealize.ShloMosaic.Lib.Pipeline.Value

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.ValueIdx

theorem zero_f32 : Ideal.ofBits .f32 0x00000000#32 = 0 := by simp [Ideal.ofBits, Ideal.ieee]

/-- A product of two 1024 × 1024 blocks over a zero block, at an index. -/
theorem mm_apply {φ₁ φ₂ : FTy} (a : FVec Ideal S1024x1024 φ₁) (b : FVec Ideal S1024x1024 φ₂) (r c : Fin 1024) :
    matmul (F := Ideal) dot_S1024x1024_S1024x1024_S1024x1024_1_0_0_1_n_n none a b (constant S1024x1024 .f32 0x00000000#32) (ix2 r c)
      = ∑ k : Fin 1024, a (ix2 r k) * b (ix2 k c) := by
  refine (Ideal.matmul_plain_apply (M := 1024) (K := 1024) (N := 1024) none a b _ r c).trans ?_
  rw [show (constant (F := Ideal) S1024x1024 .f32 0x00000000#32) (ix2 r c) = Ideal.ofBits .f32 0x00000000#32 from rfl, zero_f32, zero_add]

/-- A [1,1024,1024] block viewed [1024,1024]. -/
theorem cast3_apply {α : Type} (v : S1x1024x1024.Idx → α) (r k : Fin 1024) :
    shapeCast S1024x1024 v shapeCasts_S1x1024x1024_S1024x1024 (ix2 r k) = v (ix3 0 r k) :=
  shapeCast_apply v _ (ix2 r k) (ix3 0 r k) (by
    rewrite [Shape.rowMajor_val_three, Shape.rowMajor_val_two]; show (0 * 1024 + r.val) * 1024 + k.val = r.val * 1024 + k.val; omega)

/-- A [1,1,1024,1024] block viewed [1024,1024]. -/
theorem cast4_apply {α : Type} (v : S1x1x1024x1024.Idx → α) (r k : Fin 1024) :
    shapeCast S1024x1024 v shapeCasts_S1x1x1024x1024_S1024x1024 (ix2 r k) = v (ix4 0 0 r k) :=
  shapeCast_apply v _ (ix2 r k) (ix4 0 0 r k) (by
    rewrite [Shape.rowMajor_val_four, Shape.rowMajor_val_two]; show ((0 * 1 + 0) * 1024 + r.val) * 1024 + k.val = r.val * 1024 + k.val; omega)

/-- The gate and up products of token row `r` and hidden column `h`: one sum over the model width. -/
abbrev proj (x : Vec Ideal S1x1024x1024 .bf16) (w : Vec Ideal S1x1x1024x1024 .f32) (r h : Fin 1024) : EReal :=
  ∑ k : Fin 1024, x (ix3 0 r k) * w (ix4 0 0 k h)

theorem prod_apply (x : Vec Ideal S1x1024x1024 .bf16) (w : Vec Ideal S1x1x1024x1024 .f32) (r h : Fin 1024) :
    matmul (F := Ideal) dot_S1024x1024_S1024x1024_S1024x1024_1_0_0_1_n_n none
      (shapeCast S1024x1024 x shapeCasts_S1x1024x1024_S1024x1024 : FVec Ideal S1024x1024 .bf16)
      (truncf .bf16 (shapeCast S1024x1024 w shapeCasts_S1x1x1024x1024_S1024x1024 : FVec Ideal S1024x1024 .f32) bitsLt_bf16_f32 : FVec Ideal S1024x1024 .bf16)
      (constant S1024x1024 .f32 0x00000000#32) (ix2 r h) = proj x w r h := by
  rw [mm_apply]
  refine Finset.sum_congr rfl fun k _ => ?_
  rw [truncf_apply, cast3_apply, cast4_apply]

/-- The hidden block: `silu (x·w) * (x·u)`. -/
theorem hid_apply (x : Vec Ideal S1x1024x1024 .bf16) (w u : Vec Ideal S1x1x1024x1024 .f32) (r h : Fin 1024) :
    k0_pay1 (F := Ideal) x w u (ix2 r h) = proj x w r h * Ideal.logistic (proj x w r h) * proj x u r h := by
  unfold k0_pay1
  rw [truncf_apply, mulf_apply, mulf_apply, addf_apply, mulf_apply, broadcast_apply, prod_apply, prod_apply]
  rw [show ∀ v : FVec Ideal S1024x1024 .f32, tanh v (ix2 r h) = Ideal.tanh (v (ix2 r h)) from fun _ => rfl, mulf_apply, broadcast_apply, prod_apply]
  rw [show (FloatOps.ofBits (F := Ideal) .f32 0x3F000000#32 : Ideal .f32) = Ideal.ofBits .f32 0x3F000000#32 from rfl, Scalars.half_f32, Scalars.sigmoid_eq]

/-- A hidden block's product with a half of the down matrix. -/
abbrev down (x : Vec Ideal S1x1024x1024 .bf16) (w u d : Vec Ideal S1x1x1024x1024 .f32) (r c : Fin 1024) : EReal :=
  ∑ h : Fin 1024, (proj x w r h * Ideal.logistic (proj x w r h) * proj x u r h) * d (ix4 0 0 h c)

/-- What the first half leaves in the carried block. -/
theorem pay2_apply (x : Vec Ideal S1x1024x1024 .bf16) (w u d : Vec Ideal S1x1x1024x1024 .f32) (r c : Fin 1024) :
    k0_pay2 (F := Ideal) x w u d (ix2 r c) = down x w u d r c := by
  unfold k0_pay2
  rw [shapeCast_self, mm_apply]
  refine Finset.sum_congr rfl fun k _ => ?_
  rw [hid_apply, truncf_apply, cast4_apply]

/-- What the second half writes: the carried block plus its own product, times the token's gate. -/
theorem pay4_apply (x : Vec Ideal S1x1024x1024 .bf16) (w u : Vec Ideal S1x1x1024x1024 .f32) (s : Vec Ideal S1024x1024 .f32)
    (d : Vec Ideal S1x1x1024x1024 .f32) (g : Vec Ideal S1x1024x1 .f32) (r c : Fin 1024) :
    k0_pay4 (F := Ideal) x w u s d g (ix3 0 r c) = (s (ix2 r c) + down x w u d r c) * g (ix3 0 r 0) := by
  unfold k0_pay4
  rw [shapeCast_apply _ _ (ix3 0 r c) (ix2 r c) (by
    rewrite [Shape.rowMajor_val_three, Shape.rowMajor_val_two]; show r.val * 1024 + c.val = (0 * 1024 + r.val) * 1024 + c.val; omega)]
  rw [truncf_apply, mulf_apply, addf_apply, mm_apply]
  rw [broadcastTo_apply _ _ (ix2 r c) (ix2 r 0) (fun a => by
    match a with
    | ⟨0, _⟩ => show r.val = if (1024 : Nat) = 1 then 0 else r.val; rw [if_neg (by decide)]
    | ⟨1, _⟩ => show 0 = if (1 : Nat) = 1 then 0 else c.val; rw [if_pos rfl])]
  rw [shapeCast_apply g _ (ix2 r 0) (ix3 0 r 0) (by
    rewrite [Shape.rowMajor_val_three, Shape.rowMajor_val_two]; show (0 * 1024 + r.val) * 1 + 0 = r.val * 1 + 0; omega)]
  congr 2
  refine Finset.sum_congr rfl fun k _ => ?_
  rw [hid_apply, truncf_apply, cast4_apply]

end Cert.KernelIdeal.Ffn

end
-- ==== Proof.FfnBlocks.lean ====
/-
  THE EXPERT FEED-FORWARD'S BLOCKS: which entries of the arguments the body finds in its staged blocks at a grid point
  (point `2 e + j` stages expert `e`'s tokens and gates and half `j` of its three matrices), and what the two kinds of
  point leave — the even ones the first half's product in the carried block, the odd ones the result's block.
-/
module

public import proofs.«01_k».proof.Proof.FfnPayload
public import proofs.«01_k».proof.Proof.Gen.KernelIdeal.Value
public import Idealize.ShloMosaic.Lib.StableHlo.Run
public import Idealize.ShloMosaic.Lib.Tactic

@[expose] public section

set_option maxRecDepth 16384

noncomputable section

namespace Cert.KernelIdeal.Ffn

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An even point leaves the first half's product in the carried block. -/
theorem even_point (c : Dev nD) (t : Fin cfg0.N) (h0 : t.val % 2 = 0) :
    (outsAt0 m c t.val t.isLt).2 = k0_pay2 (F := Ideal) (iblk m c 0 t) (iblk m c 2 t) (iblk m c 3 t) (iblk m c 4 t) := by
  rw [outsAt0_A m c t h0 (by omega)]
  dsimp only
  unfold sout0_A_0
  rw [View.read_writes_eq_canon _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (hcond0_1 t) _ _ _ _ _ _)]
  unfold kernelRun0_A
  dsimp only
  rw [View.canon_unit_zero (S := S1024x1024) hz2]
  simp only [View.readAt_eq_ld, (hs0_0 t).read_unread, (hs0_2 t).read_unread, (hs0_3 t).read_unread, (hs0_4 t).read_unread,
    View.ld_unit_zero (S := S1x1024x1024) hz3, View.ld_unit_zero (S := S1x1x1024x1024) hz4]

/-- An odd point writes the result's block from the carried block and its own half. -/
theorem odd_point (c : Dev nD) (t : Fin cfg0.N) (h2 : t.val % 2 = 1) :
    (outsAt0 m c t.val t.isLt).1 = k0_pay4 (F := Ideal) (iblk m c 0 t) (iblk m c 2 t) (iblk m c 3 t)
      (outsAt0 m c (t.val - 1) (Nat.lt_of_le_of_lt (Nat.sub_le _ _) t.isLt)).2 (iblk m c 4 t) (iblk m c 1 t) := by
  rw [outsAt0_B m c t (by omega) h2]
  dsimp only
  generalize (outsAt0 m c (t.val - 1) (Nat.lt_of_le_of_lt (Nat.sub_le _ _) t.isLt)).2 = s
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => (by omega : ¬t.val % 2 = 0) ((hcond0_0 t).mp h)) (hcond0_1 t) ((hcond0_2 t).mpr h2) _ _ _ _ _ _)]
  unfold kernelRun0_B
  dsimp only
  rw [View.canon_unit_zero (S := S1x1024x1024) hz3]
  simp only [View.readAt_eq_ld, (hs0_0 t).read_unread, (hs0_1 t).read_unread, (hs0_2 t).read_unread, (hs0_3 t).read_unread, (hs0_4 t).read_unread,
    (Memref.isWhole_whole cc0_scratch0).read_unread,
    View.ld_unit_zero (S := S1x1024x1024) hz3, View.ld_unit_zero (S := S1x1x1024x1024) hz4, View.ld_unit_zero (S := S1024x1024) hz2, View.ld_unit_zero (S := S1x1024x1) hz3]

/-! ## The staged blocks -/

/-- The block indices of the five inputs at every grid point. -/
theorem idx_in : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 4) = 0 ∧ win0_2.index t (1 : Fin 4) = t.val / 2 ∧ win0_2.index t (2 : Fin 4) = 0 ∧ win0_2.index t (3 : Fin 4) = t.val % 2)
    ∧ (win0_3.index t (0 : Fin 4) = 0 ∧ win0_3.index t (1 : Fin 4) = t.val / 2 ∧ win0_3.index t (2 : Fin 4) = 0 ∧ win0_3.index t (3 : Fin 4) = t.val % 2)
    ∧ (win0_4.index t (0 : Fin 4) = 0 ∧ win0_4.index t (1 : Fin 4) = t.val / 2 ∧ win0_4.index t (2 : Fin 4) = t.val % 2 ∧ win0_4.index t (3 : Fin 4) = 0) :=
  (by decide +kernel : ∀ t : Fin grid0.N, _)

/-- The region finds the tokens as the launched argument reshaped. -/
theorem V_tokens (c : Dev nD) : V m c main_v0 = shapeCast S16x1024x1024 (m ((c : Thread nD τ).loc main_arg0)) shapeCasts_S16x2x512x1024_S16x1024x1024 := by
  show StableHlo.after hostOps0 _ _ = _
  simp only [hostOps0]
  after_results <;> rfl

/-- … and the gates likewise. -/
theorem V_gates (c : Dev nD) : V m c main_v1 = shapeCast S16x1024x1 (m ((c : Thread nD τ).loc main_arg1)) shapeCasts_S16x2x512x1_S16x1024x1 := by
  show StableHlo.after hostOps0 _ _ = _
  simp only [hostOps0]
  after_results <;> rfl

theorem blk0 (c : Dev nD) (t : Fin cfg0.N) (e : Fin 16) (he : t.val / 2 = e.val) (r k : Fin 1024) :
    (iblk m c 0 t : Vec Ideal S1x1024x1024 .bf16) (ix3 0 r k) = V m c main_v0 (ix3 e r k) := by
  unfold iblk
  rw [View.read_apply]
  show V m c main_v0 _ = V m c main_v0 _
  congr 1
  funext a
  apply Fin.ext
  obtain ⟨⟨h0, h1, h2⟩, -⟩ := idx_in t
  match a with
  | ⟨0, _⟩ => show win0_0.index t 0 * 1 + 1 * 0 = e.val; omega
  | ⟨1, _⟩ => show win0_0.index t 1 * 1024 + 1 * r.val = r.val; omega
  | ⟨2, _⟩ => show win0_0.index t 2 * 1024 + 1 * k.val = k.val; omega

theorem blk1 (c : Dev nD) (t : Fin cfg0.N) (e : Fin 16) (he : t.val / 2 = e.val) (r : Fin 1024) :
    (iblk m c 1 t : Vec Ideal S1x1024x1 .f32) (ix3 0 r 0) = V m c main_v1 (ix3 e r 0) := by
  unfold iblk
  rw [View.read_apply]
  show V m c main_v1 _ = V m c main_v1 _
  congr 1
  funext a
  apply Fin.ext
  obtain ⟨-, ⟨h0, h1, h2⟩, -⟩ := idx_in t
  match a with
  | ⟨0, _⟩ => show win0_1.index t 0 * 1 + 1 * 0 = e.val; omega
  | ⟨1, _⟩ => show win0_1.index t 1 * 1024 + 1 * r.val = r.val; omega
  | ⟨2, _⟩ => show win0_1.index t 2 * 1 + 1 * 0 = 0; omega

theorem blk2 (c : Dev nD) (t : Fin cfg0.N) (e : Fin 16) (he : t.val / 2 = e.val) (k h : Fin 1024) (h' : Fin 2048) (hh : h'.val = t.val % 2 * 1024 + h.val) :
    (iblk m c 2 t : Vec Ideal S1x1x1024x1024 .f32) (ix4 0 0 k h) = m ((c : Thread nD τ).loc main_arg2) (ix4 0 e k h') := by
  unfold iblk
  rw [View.read_apply]
  show V m c main_arg2 _ = _
  rw [V_main_arg2]
  congr 1
  funext a
  apply Fin.ext
  obtain ⟨-, -, ⟨h0, h1, h2, h3⟩, -⟩ := idx_in t
  match a with
  | ⟨0, _⟩ => show win0_2.index t 0 * 1 + 1 * 0 = 0; omega
  | ⟨1, _⟩ => show win0_2.index t 1 * 1 + 1 * 0 = e.val; omega
  | ⟨2, _⟩ => show win0_2.index t 2 * 1024 + 1 * k.val = k.val; omega
  | ⟨3, _⟩ => show win0_2.index t 3 * 1024 + 1 * h.val = h'.val; omega

theorem blk3 (c : Dev nD) (t : Fin cfg0.N) (e : Fin 16) (he : t.val / 2 = e.val) (k h : Fin 1024) (h' : Fin 2048) (hh : h'.val = t.val % 2 * 1024 + h.val) :
    (iblk m c 3 t : Vec Ideal S1x1x1024x1024 .f32) (ix4 0 0 k h) = m ((c : Thread nD τ).loc main_arg3) (ix4 0 e k h') := by
  unfold iblk
  rw [View.read_apply]
  show V m c main_arg3 _ = _
  rw [V_main_arg3]
  congr 1
  funext a
  apply Fin.ext
  obtain ⟨-, -, -, ⟨h0, h1, h2, h3⟩, -⟩ := idx_in t
  match a with
  | ⟨0, _⟩ => show win0_3.index t 0 * 1 + 1 * 0 = 0; omega
  | ⟨1, _⟩ => show win0_3.index t 1 * 1 + 1 * 0 = e.val; omega
  | ⟨2, _⟩ => show win0_3.index t 2 * 1024 + 1 * k.val = k.val; omega
  | ⟨3, _⟩ => show win0_3.index t 3 * 1024 + 1 * h.val = h'.val; omega

theorem blk4 (c : Dev nD) (t : Fin cfg0.N) (e : Fin 16) (he : t.val / 2 = e.val) (h k : Fin 1024) (h' : Fin 2048) (hh : h'.val = t.val % 2 * 1024 + h.val) :
    (iblk m c 4 t : Vec Ideal S1x1x1024x1024 .f32) (ix4 0 0 h k) = m ((c : Thread nD τ).loc main_arg4) (ix4 0 e h' k) := by
  unfold iblk
  rw [View.read_apply]
  show V m c main_arg4 _ = _
  rw [V_main_arg4]
  congr 1
  funext a
  apply Fin.ext
  obtain ⟨-, -, -, -, ⟨h0, h1, h2, h3⟩⟩ := idx_in t
  match a with
  | ⟨0, _⟩ => show win0_4.index t 0 * 1 + 1 * 0 = 0; omega
  | ⟨1, _⟩ => show win0_4.index t 1 * 1 + 1 * 0 = e.val; omega
  | ⟨2, _⟩ => show win0_4.index t 2 * 1024 + 1 * h.val = h'.val; omega
  | ⟨3, _⟩ => show win0_4.index t 3 * 1024 + 1 * k.val = k.val; omega

end Cert.KernelIdeal.Ffn

end
-- ==== Proof.FfnValue.lean ====
/-
  THE EXPERT FEED-FORWARD CALL IS THE GATED EXPERT OF EVERY GATHERED TOKEN.
    `result_apply` — what the call leaves at expert `e`, token row `r`, channel `c`: the two halves' sums, times the gate.
    `ffn_eq` — that is the reference's stage at the index: one sum over the 2048 hidden columns, each
                `silu (x·w_gate) * (x·w_up) * w_down`, times the gate.
-/
module

public import proofs.«01_k».proof.Proof.FfnBlocks
public import proofs.«01_k».proof.Proof.Gen.ReferenceIdeal.Read

@[expose] public section

set_option maxRecDepth 16384

noncomputable section

namespace Cert.KernelIdeal.Ffn

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-- Grid point `2 e + j`. -/
abbrev pt (e : Fin 16) (j : Fin 2) : Fin cfg0.N := ⟨2 * e.val + j.val, lt_of_lt_of_eq (by omega) N_0.symm⟩

/-- What the call leaves at an index: the second half's stored block over the first half's. -/
theorem result_apply (c : Dev nD) (e : Fin 16) (r k : Fin 1024) :
    G5 m c (ix3 e r k) = (down (iblk m c 0 (pt e 0)) (iblk m c 2 (pt e 0)) (iblk m c 3 (pt e 0)) (iblk m c 4 (pt e 0)) r k
        + down (iblk m c 0 (pt e 1)) (iblk m c 2 (pt e 1)) (iblk m c 3 (pt e 1)) (iblk m c 4 (pt e 1)) r k)
      * (iblk m c 1 (pt e 1) : Vec Ideal S1x1024x1 .f32) (ix3 0 r 0) := by
  have hp : pt5Of (ix3 e r k) = (pt e 1).val := by
    show 2 * (1 * (e.val / 1 - 0) + 1 * (r.val / 1024 - 0) + 1 * (k.val / 1024 - 0)) + 1 = 2 * e.val + 1
    omega
  have hl : loc5Of (ix3 e r k) = ix3 0 r k := by
    funext a; apply Fin.ext
    match a with
    | ⟨0, _⟩ => show e.val % 1 = 0; omega
    | ⟨1, _⟩ => show r.val % 1024 = r.val; omega
    | ⟨2, _⟩ => show k.val % 1024 = k.val; omega
  unfold G5
  rw [dif_pos (by rw [hp]; exact (pt e 1).isLt), hl, fold0_congr m c _ _ (pt e 1).val (by have := (pt e 1).isLt; omega) hp,
    ← outsAt0_sweep m c (pt e 1).val (pt e 1).isLt, odd_point m c (pt e 1) (by show (2 * e.val + 1) % 2 = 1; omega)]
  rw [show (outsAt0 m c ((pt e 1).val - 1) (Nat.lt_of_le_of_lt (Nat.sub_le _ _) (pt e 1).isLt)) = outsAt0 m c (pt e 0).val (pt e 0).isLt from rfl,
    even_point m c (pt e 0) (by show (2 * e.val + 0) % 2 = 0; omega)]
  refine (pay4_apply _ _ _ _ _ _ r k).trans ?_
  rw [pay2_apply]

/-- Hidden column `q`'s share of a result entry: `silu (x·wg) * (x·wu) * wd`. -/
def share (x : Fin 1024 → EReal) (wg wu : Fin 1024 → Fin 2048 → EReal) (wd : Fin 2048 → EReal) (q : Fin 2048) : EReal :=
  ((∑ d, x d * wg d q) * Ideal.logistic (∑ d, x d * wg d q) * (∑ d, x d * wu d q)) * wd q

/-- The sum of a half, its blocks read as entries of the arguments. -/
theorem half_apply (c : Dev nD) (e : Fin 16) (j : Fin 2) (r k : Fin 1024) :
    down (iblk m c 0 (pt e j)) (iblk m c 2 (pt e j)) (iblk m c 3 (pt e j)) (iblk m c 4 (pt e j)) r k
      = ∑ h : Fin 1024, share (fun d => V m c main_v0 (ix3 e r d)) (fun d q => m ((c : Thread nD τ).loc main_arg2) (ix4 0 e d q))
          (fun d q => m ((c : Thread nD τ).loc main_arg3) (ix4 0 e d q)) (fun q => m ((c : Thread nD τ).loc main_arg4) (ix4 0 e q k))
          ⟨j.val * 1024 + h.val, by omega⟩ := by
  have h2 : (pt e j).val / 2 = e.val := by show (2 * e.val + j.val) / 2 = e.val; omega
  have hm : (pt e j).val % 2 = j.val := by show (2 * e.val + j.val) % 2 = j.val; omega
  refine Finset.sum_congr rfl fun h _ => ?_
  have hh : (⟨j.val * 1024 + h.val, by omega⟩ : Fin 2048).val = (pt e j).val % 2 * 1024 + h.val := by rw [hm]
  unfold share
  refine congrArg₂ (· * ·) (congrArg₂ (· * ·) (congrArg₂ (· * ·) ?_ (congrArg Ideal.logistic ?_)) ?_) (blk4 m c _ e h2 h k _ hh)
  · exact Finset.sum_congr rfl fun d _ => congrArg₂ (· * ·) (blk0 m c _ e h2 r d) (blk2 m c _ e h2 d h _ hh)
  · exact Finset.sum_congr rfl fun d _ => congrArg₂ (· * ·) (blk0 m c _ e h2 r d) (blk2 m c _ e h2 d h _ hh)
  · exact Finset.sum_congr rfl fun d _ => congrArg₂ (· * ·) (blk0 m c _ e h2 r d) (blk3 m c _ e h2 d h _ hh)

/-- A sum over 2048 columns is the sum of its two halves. -/
theorem sum_halves (f : Fin 2048 → EReal) :
    ∑ q : Fin 2048, f q = (∑ h : Fin 1024, f ⟨(0 : Fin 2).val * 1024 + h.val, by have : (0 : Fin 2).val = 0 := rfl; omega⟩)
      + ∑ h : Fin 1024, f ⟨(1 : Fin 2).val * 1024 + h.val, by have : (1 : Fin 2).val = 1 := rfl; omega⟩ := by
  refine (Fin.sum_univ_add (a := 1024) (b := 1024) f).trans (congrArg₂ (· + ·) ?_ ?_)
  · refine Finset.sum_congr rfl fun h _ => congrArg f (Fin.ext ?_)
    show h.val = 0 * 1024 + h.val; omega
  · refine Finset.sum_congr rfl fun h _ => congrArg f (Fin.ext ?_)
    show 1024 + h.val = 1 * 1024 + h.val; omega

open Cert.ReferenceIdeal.Read in
/-- The call's result is the reference's last stage, on the same arguments. -/
theorem ffn_eq (c : Dev nD) :
    G5 m c = val_main_v17 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨e, r, k, rfl⟩ : ∃ (e : Fin 16) (r k : Fin 1024), i = ix3 e r k := ⟨i 0, i 1, i 2, eq_ix3 i⟩
  have hx : ∀ d : Fin 1024, V m c main_v0 (ix3 e r d) = val_main_v1 (F := Ideal) (m ((c : Thread nD τ).loc main_arg0)) (ix3 e r d) := fun d => by
    rw [V_tokens]; rfl
  have hg : V m c main_v1 (ix3 e r 0) = val_main_v2 (F := Ideal) (m ((c : Thread nD τ).loc main_arg1)) (ix2 e r) := by
    rw [V_gates]
    unfold val_main_v2
    rw [shapeCast_apply _ shapeCasts_S16x2x512x1_S16x1024x1 (ix3 e r 0) (idx_main_v2 (ix2 e r)) (by
        rewrite [Shape.rowMajor_val_four, Shape.rowMajor_val_three]
        show (((e.val * 1024 + r.val) / 1024 * 2 + (e.val * 1024 + r.val) / 512 % 2) * 512 + (e.val * 1024 + r.val) / 1 % 512) * 1 + 0 = (e.val * 1024 + r.val) * 1 + 0
        omega)]
    exact (val_main_v2_apply (F := Ideal) (m ((c : Thread nD τ).loc main_arg1)) (ix2 e r)).symm
  rw [result_apply, blk1 m c _ e (by show (2 * e.val + 1) / 2 = e.val; omega) r, hg]
  rw [val_main_v17_apply, val_main_v16_apply, val_main_v15_apply, val_main_v14_apply, val_main_v13_apply]
  rw [half_apply m c e 0 r k, half_apply m c e 1 r k, ← sum_halves]
  refine congrArg₂ (· * ·) (Finset.sum_congr rfl fun q _ => ?_) rfl
  rw [val_main_v10_apply, val_main_v12_apply, val_main_v11_apply, val_main_v6_apply, val_main_v9_apply, val_main_call0_v5_apply, val_main_call0_v4_apply,
    val_main_call0_v3_apply, val_main_call0_v2_apply, val_main_call0_v1_apply, val_main_call0_v0_apply, val_main_v5_apply]
  have one : ∀ i, val_main_call0_cst_0 (F := Ideal) i = 1 := fun _ => Ideal.ofBits_one_f32
  have one' : ∀ i, val_main_call0_cst (F := Ideal) i = 1 := fun _ => Ideal.ofBits_one_f32
  have ex : ∀ d : Fin 1024, lidx_main_v5 (lidx_main_v13 (ix3 e r k) q) d = ix3 e r d := fun d => by
    funext a; match a with | ⟨0, _⟩ => rfl | ⟨1, _⟩ => rfl | ⟨2, _⟩ => rfl
  have eg : ∀ d : Fin 1024, m ((c : Thread nD τ).loc main_arg2) (ix4 0 e d q)
      = val_main_v4 (F := Ideal) (m ((c : Thread nD τ).loc main_arg2)) (ridx_main_v5 (lidx_main_v13 (ix3 e r k) q) d) := fun d => by
    rw [val_main_v4_apply, val_main_v3_apply]
    refine congrArg _ (funext fun a => Fin.ext ?_)
    match a with
    | ⟨0, _⟩ => rfl
    | ⟨1, _⟩ => show e.val = ((e.val * 1024 + d.val) * 2048 + q.val) / 2097152 % 16; omega
    | ⟨2, _⟩ => show d.val = ((e.val * 1024 + d.val) * 2048 + q.val) / 2048 % 1024; omega
    | ⟨3, _⟩ => show q.val = ((e.val * 1024 + d.val) * 2048 + q.val) % 2048; omega
  have eu : ∀ d : Fin 1024, m ((c : Thread nD τ).loc main_arg3) (ix4 0 e d q)
      = val_main_v8 (F := Ideal) (m ((c : Thread nD τ).loc main_arg3)) (ridx_main_v9 (lidx_main_v13 (ix3 e r k) q) d) := fun d => by
    rw [val_main_v8_apply, val_main_v7_apply]
    refine congrArg _ (funext fun a => Fin.ext ?_)
    match a with
    | ⟨0, _⟩ => rfl
    | ⟨1, _⟩ => show e.val = ((e.val * 1024 + d.val) * 2048 + q.val) / 2097152 % 16; omega
    | ⟨2, _⟩ => show d.val = ((e.val * 1024 + d.val) * 2048 + q.val) / 2048 % 1024; omega
    | ⟨3, _⟩ => show q.val = ((e.val * 1024 + d.val) * 2048 + q.val) % 2048; omega
  have ed : (ix4 0 e q k : S2x16x2048x1024.Idx) = idx_main_v11 (idx_main_v12 (ridx_main_v13 (ix3 e r k) q)) := by
    funext a; apply Fin.ext
    match a with
    | ⟨0, _⟩ => rfl
    | ⟨1, _⟩ => show e.val = ((e.val * 2048 + q.val) * 1024 + k.val) / 2097152 % 16; omega
    | ⟨2, _⟩ => show q.val = ((e.val * 2048 + q.val) * 1024 + k.val) / 1024 % 2048; omega
    | ⟨3, _⟩ => show k.val = ((e.val * 2048 + q.val) * 1024 + k.val) % 1024; omega
  unfold share
  rw [one, one', ← ed]
  refine congrArg₂ (· * ·) (congrArg₂ (· * ·) (congrArg₂ (· * ·) ?_ (congrArg Ideal.logistic ?_)) ?_) rfl
  · exact Finset.sum_congr rfl fun d _ => congrArg₂ (· * ·) ((hx d).trans (congrArg _ (ex d).symm)) (eg d)
  · exact Finset.sum_congr rfl fun d _ => congrArg₂ (· * ·) ((hx d).trans (congrArg _ (ex d).symm)) (eg d)
  · exact Finset.sum_congr rfl fun d _ => congrArg₂ (· * ·) ((hx d).trans (congrArg _ (ex d).symm)) (eu d)

end Cert.KernelIdeal.Ffn

end
-- ==== Proof.FfnClaims.lean ====
/- The claims about the expert feed-forward: the runs of the program and of its reference, and the equality of their results. -/
module

public import proofs.«01_k».proof.Defs
public import proofs.«01_k».proof.Proof.FfnValue
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof.Ffn

open Idealize.ShloMosaic Idealize.SL.Sem

/-- The reference ends, leaves its arguments as they were, and every counter at zero. -/
theorem frame_ref [Cert.ReferenceIdeal.Facts] : Cert.quiescent_ReferenceIdeal := fun m g _ =>
  (θ_run _ _ _).mono (fun r h => ⟨fun c => (h c).2, sem_eq_zero_of_no_sems (by decide) r.2⟩)
    (Cert.ReferenceIdeal.Value.run m g)

/-- Program and reference end with the same result: every expert's weighted output. -/
theorem algebraic : Cert.algebraic_KernelIdeal_ReferenceIdeal := fun m g m' g' _ hargs =>
  ⟨fun c => Cert.KernelIdeal.Value.G5 m c, Cert.KernelIdeal.Value.run m g,
    (θ_run _ _ _).mono (fun r h c => ⟨(h c).1.trans (by
        refine (Cert.ReferenceIdeal.Read.val_main_v17_eq ..).trans ?_
        obtain ⟨h0, h1, h2, h3, h4⟩ := hargs c
        rw [h0, h1, h2, h3, h4]
        exact (Cert.KernelIdeal.Ffn.ffn_eq m c).symm), (h c).2⟩)
      (Cert.ReferenceIdeal.Value.run m' g')⟩

end Cert.Proof.Ffn

end
-- ==== Proof.ProjBody.lean ====
/- The body of the input projection's kernel, its pure values named: what a tile's projection, its rotation and its cache blocks are. -/
module

public import proofs.«01_k».proof.Proof.Gen.ProjKernelIdeal

@[expose] public section

set_option maxRecDepth 16384
set_option synthInstance.maxSize 4096

noncomputable section

namespace Proj

open Idealize.ShloMosaic Idealize.SL.Sem
open Cert.ProjKernelIdeal Cert.ProjKernelIdeal.Gen

variable {F : FTy → Type} [FloatOps F]

/-- The weights as the scratch keeps them. -/
def weights (w : Vec F S1x1024x2304 .f32) : FVec F S1024x2304 .bf16 :=
  shapeCast S1024x2304 (truncf .bf16 (shapeCast S1024x2304 w shapeCasts_S1x1024x2304_S1024x2304) bitsLt_bf16_f32) shapeCasts_S1024x2304_S1024x2304

/-- Row `r` of the six modulation vectors of a tile. -/
def modRows (v : Vec F S1x1x6x1024 .f32) : FVec F S6x1024 .f32 := shapeCast S6x1024 v shapeCasts_S1x1x6x1024_S6x1024

/-- A tile's tokens, scaled and shifted by the modulation. -/
def modulated (v : Vec F S1x1x6x1024 .f32) (x : Vec F S512x1024 .f32) : FVec F S512x1024 .f32 :=
  addf (mulf x (broadcastTo S512x1024 (addf (broadcast S1x1024 (Scalar.ofBits .f32 0x3F800000#32))
      (extractStridedSlice S1x1024 ![1, 0] (modRows v) slices_S6x1024_o1_0_S1x1024)) broadcasts_S1x1024_S512x1024))
    (broadcastTo S512x1024 (extractStridedSlice S1x1024 ![0, 0] (modRows v) slices_S6x1024_o0_0_S1x1024) broadcasts_S1x1024_S512x1024)

/-- A tile's projection: its modulated tokens times the weights. -/
def projected (v : Vec F S1x1x6x1024 .f32) (x : Vec F S512x1024 .f32) (w : Vec F S1024x2304 .bf16) : FVec F S512x2304 .f32 :=
  matmul dot_S512x1024_S1024x2304_S512x2304_1_0_0_1_n_n none (truncf .bf16 (modulated v x) bitsLt_bf16_f32) w (constant S512x2304 .f32 0x00000000#32)

/-- A tile in the format the projection is returned in. -/
def stored (p : FVec F S512x2304 .f32) : FVec F S512x2304 .bf16 := truncf .bf16 p bitsLt_bf16_f32

/-- 128 columns of 256 tokens, transposed: one sequence's keys or values of the cache. -/
def heads128 (p : FVec F S512x2304 .f32) (r o : ℕ) (h : S512x2304.Slices ![r, o] S256x128) : FVec F S1x128x256 .f32 :=
  shapeCast S1x128x256 (transpose S128x256 [1, 0] (extractStridedSlice S256x128 ![r, o] p h) transposes_S256x128_p1_0_S128x256) shapeCasts_S128x256_S1x128x256

/-- 512 columns of 256 tokens, transposed: one sequence's differential keys of the cache. -/
def heads512 (p : FVec F S512x2304 .f32) (r o : ℕ) (h : S512x2304.Slices ![r, o] S256x512) : FVec F S1x512x256 .f32 :=
  shapeCast S1x512x256 (transpose S512x256 [1, 0] (extractStridedSlice S256x512 ![r, o] p h) transposes_S256x512_p1_0_S512x256) shapeCasts_S512x256_S1x512x256

/-- The differential values of a tile. -/
def values512 (p : FVec F S512x2304 .f32) : FVec F S512x512 .f32 := extractStridedSlice S512x512 ![0, 1792] p slices_S512x2304_o0_1792_S512x512

/-- A block of a cosine or sine table. -/
def table (v : Vec F S512x128 .f32) : FVec F S512x128 .f32 := shapeCast S512x128 v shapeCasts_S512x128_S512x128

/-- Which lanes are the first 16 of their 32. -/
def lowLane : IVec S1x128 1 :=
  have v27 : IVec S1x128 32 := iota .tc S1x128 32 [1] iota_S1x128_d1_w32
  let v29 : BitVec 32 := Scalar.select (Scalar.cmpi .eq 32#32 0#32) 1#32 32#32
  have v31 : IVec S1x128 32 := remsi v27 (broadcast S1x128 v29)
  have v33 : IVec S1x128 1 := cmpi .ne v31 (broadcast S1x128 0#32)
  have v35 : IVec S1x128 1 := cmpi .slt v31 (broadcast S1x128 0#32)
  have v38 : IVec S1x128 1 := broadcastTo S1x128 (broadcast S1x128 (Scalar.cmpi .slt v29 0#32) : IVec S1x128 1) broadcasts_S1x128_S1x128
  have v42 : IVec S1x128 32 := addi v31 (broadcast S1x128 v29)
  cmpi .slt (select (andi (xori v35 v38) v33) v42 v31) (broadcast S1x128 16#32)

/-- The same in every row of a tile. -/
def lowRows (l : IVec S1x128 1) : IVec S512x128 1 := broadcastTo S512x128 (shapeCast S1x128 l shapeCasts_S1x128_S1x128) broadcasts_S1x128_S512x128

/-- 128 columns of a tile, from column `o` on. -/
def group (p : FVec F S512x2304 .f32) (o : ℕ) (h : S512x2304.Slices ![0, o] S512x128) : FVec F S512x128 .f32 := extractStridedSlice S512x128 ![0, o] p h

/-- Every lane's partner under the rotation: 16 lanes up in the first half of 32, 16 lanes down in the second. -/
def partner (l : IVec S1x128 1) (g : FVec F S512x128 .f32) : FVec F S512x128 .f32 :=
  select (lowRows l) (dynamicRotate 1 112#32 none g rotates_S512x128_d1) (dynamicRotate 1 16#32 none g rotates_S512x128_d1)

/-- 128 columns with their position rotation. -/
def rotated (l : IVec S1x128 1) (g cos sin : FVec F S512x128 .f32) : FVec F S512x128 .f32 := addf (mulf g cos) (mulf (partner l g) sin)

/-- The 18 groups of a sample tile side by side: 16 given, the last two as projected. -/
def joined (v16 : FVec F S512x2304 .f32) (v54 : FVec F S512x128 .f32) (v63 : FVec F S512x128 .f32) (v72 : FVec F S512x128 .f32) (v81 : FVec F S512x128 .f32) (v90 : FVec F S512x128 .f32) (v91 : FVec F S512x128 .f32) (v100 : FVec F S512x128 .f32) (v109 : FVec F S512x128 .f32) (v118 : FVec F S512x128 .f32) (v127 : FVec F S512x128 .f32) (v136 : FVec F S512x128 .f32) (v145 : FVec F S512x128 .f32) (v154 : FVec F S512x128 .f32) (v163 : FVec F S512x128 .f32) (v164 : FVec F S512x128 .f32) (v165 : FVec F S512x128 .f32) : FVec F S512x2304 .f32 :=
  concatenate S512x2304 1 [⟨S512x128, v54⟩, ⟨S512x128, v63⟩, ⟨S512x128, v72⟩, ⟨S512x128, v81⟩, ⟨S512x128, v90⟩, ⟨S512x128, v91⟩, ⟨S512x128, v100⟩, ⟨S512x128, v109⟩, ⟨S512x128, v118⟩, ⟨S512x128, v127⟩, ⟨S512x128, v136⟩, ⟨S512x128, v145⟩, ⟨S512x128, v154⟩, ⟨S512x128, v163⟩, ⟨S512x128, v164⟩, ⟨S512x128, v165⟩, ⟨S512x128, (group v16 2048 slices_S512x2304_o0_2048_S512x128)⟩, ⟨S512x128, (group v16 2176 slices_S512x2304_o0_2176_S512x128)⟩] concatenates_S512x128_S512x128_S512x128_S512x128_S512x128_S512x128_S512x128_S512x128_S512x128_S512x128_S512x128_S512x128_S512x128_S512x128_S512x128_S512x128_S512x128_S512x128_S512x2304_d1

/-- The body of the projection's kernel, its pure values named. -/
noncomputable def cc0_inproj_rope_skel (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v23 : Vec F S1x1024x2304 .f32 ← Prog.lift (.load arg3 (Rect.unit (s := S1x1024x2304) ![0, 0, 0] S1x1024x2304.size inb_S1x1024x2304_S1x1024x2304_0_0_0).toLoadRect (View.loadsAt_vmem h_S1x1024x2304))
    let v26 : Vec F S1024x2304 .bf16 ← Prog.lift (.load arg11 (Rect.unit (s := S1024x2304) ![0, 0] S1024x2304.size inb_S1024x2304_S1024x2304_0_0).toLoadRect (View.loadsAt_vmem h_S1024x2304))
    Prog.lift (.store arg11 (Rect.unit (s := S1024x2304) ![0, 0] S1024x2304.size inb_S1024x2304_S1024x2304_0_0) (weights v23) Finset.univ (View.stores_vmem h_S1024x2304 (harg11.storeExact_slice rfl _ packedbf16_S1024x2304_S1024x2304_0_0) (fun _ => rfl)) (.inl rfl))
    pure ⟨⟩
  else do
    pure ⟨⟩
  let v3 : Vec F S1x1x6x1024 .f32 ← Prog.lift (.load arg2 (Rect.unit (s := S1x1x6x1024) ![0, 0, 0, 0] S1x1x6x1024.size inb_S1x1x6x1024_S1x1x6x1024_0_0_0_0).toLoadRect (View.loadsAt_vmem h_S1x1x6x1024))
  let v5 : Vec F S512x1024 .f32 ← Prog.lift (.load arg1 (Rect.unit (s := S512x1024) ![0, 0] S512x1024.size inb_S512x1024_S512x1024_0_0).toLoadRect (View.loadsAt_vmem h_S512x1024))
  let v15 : Vec F S1024x2304 .bf16 ← Prog.lift (.load arg11 (Rect.unit (s := S1024x2304) ![0, 0] S1024x2304.size inb_S1024x2304_S1024x2304_0_0).toLoadRect (View.loadsAt_vmem h_S1024x2304))
  have v16 : FVec F S512x2304 .f32 := projected v3 v5 v15
  if k0_h2 : k0_cond2 i = 1#1 then do
    let v55 : FVec F S512x512 .f32 ← k0_part1 i arg1 harg1 arg2 harg2 arg3 harg3 arg4 harg4 arg5 harg5 arg6 harg6 arg7 harg7 arg8 harg8 arg9 harg9 arg10 harg10 arg11 harg11 v16
    let v56 : Vec F S512x512 .f32 ← Prog.lift (.load arg10 (Rect.unit (s := S512x512) ![0, 0] S512x512.size inb_S512x512_S512x512_0_0).toLoadRect (View.loadsAt_vmem h_S512x512))
    Prog.lift (.store arg10 (Rect.unit (s := S512x512) ![0, 0] S512x512.size inb_S512x512_S512x512_0_0) v55 Finset.univ (View.stores_vmem_bits_univ h_S512x512 rfl) (.inl rfl))
    pure ⟨⟩
  else do
    pure ⟨⟩
  if k0_h3 : k0_cond3 i = 1#1 then do
    let ⟨v24, v26, v45, v54, v63, v64, v65, c16_i32_24⟩ : Σ' (v24 : FVec F S512x128 .f32) (v26 : FVec F S512x128 .f32) (v45 : IVec S1x128 1) (v54 : FVec F S512x128 .f32) (v63 : FVec F S512x128 .f32) (v64 : FVec F S512x128 .f32) (v65 : FVec F S512x128 .f32), BitVec 32 ← k0_part2 i arg1 harg1 arg2 harg2 arg3 harg3 arg4 harg4 arg5 harg5 arg6 harg6 arg7 harg7 arg8 harg8 arg9 harg9 arg10 harg10 arg11 harg11 v16
    let ⟨v72, v81, v90, v91, v100, v109, v110, v115⟩ : Σ' (v72 : FVec F S512x128 .f32) (v81 : FVec F S512x128 .f32) (v90 : FVec F S512x128 .f32) (v91 : FVec F S512x128 .f32) (v100 : FVec F S512x128 .f32) (v109 : FVec F S512x128 .f32) (v110 : FVec F S512x128 .f32), FVec F S512x128 .f32 ← k0_part3 i arg1 harg1 arg2 harg2 arg3 harg3 arg4 harg4 arg5 harg5 arg6 harg6 arg7 harg7 arg8 harg8 arg9 harg9 arg10 harg10 arg11 harg11 v16 v24 v26 v45 v64 v65 c16_i32_24
    let ⟨v118, v127, v136, v145, v154, v163, v164, v165⟩ : Σ' (v118 : FVec F S512x128 .f32) (v127 : FVec F S512x128 .f32) (v136 : FVec F S512x128 .f32) (v145 : FVec F S512x128 .f32) (v154 : FVec F S512x128 .f32) (v163 : FVec F S512x128 .f32) (v164 : FVec F S512x128 .f32), FVec F S512x128 .f32 ← k0_part4 i arg1 harg1 arg2 harg2 arg3 harg3 arg4 harg4 arg5 harg5 arg6 harg6 arg7 harg7 arg8 harg8 arg9 harg9 arg10 harg10 arg11 harg11 v16 v24 v26 v45 v110 v115
    have v168 : FVec F S512x2304 .f32 := joined v16 v54 v63 v72 v81 v90 v91 v100 v109 v118 v127 v136 v145 v154 v163 v164 v165
    let v170 : Vec F S512x2304 .bf16 ← Prog.lift (.load arg6 (Rect.unit (s := S512x2304) ![0, 0] S512x2304.size inb_S512x2304_S512x2304_0_0).toLoadRect (View.loadsAt_vmem h_S512x2304))
    Prog.lift (.store arg6 (Rect.unit (s := S512x2304) ![0, 0] S512x2304.size inb_S512x2304_S512x2304_0_0) (stored v168) Finset.univ (View.stores_vmem h_S512x2304 (harg6.storeExact_slice rfl _ packedbf16_S512x2304_S512x2304_0_0) (fun _ => rfl)) (.inl rfl))
    pure ⟨⟩
  else do
    pure ⟨⟩
  pure ⟨⟩

set_option maxRecDepth 65536 in
theorem cc0_inproj_rope_eq_skeleton : cc0_inproj_rope (F := F) = cc0_inproj_rope_skel (F := F) := rfl

/-- The stores of a prompt tile, up to the last one. -/
noncomputable def k0_part1_skel (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (v16 : FVec F S512x2304 .f32) :
    Prog (TpuEff nD τ sig (Elt F) Λ₀ .tc) (FVec F S512x512 .f32) := do
  let v24 : Vec F S512x2304 .bf16 ← Prog.lift (.load arg6 (Rect.unit (s := S512x2304) ![0, 0] S512x2304.size inb_S512x2304_S512x2304_0_0).toLoadRect (View.loadsAt_vmem h_S512x2304))
  Prog.lift (.store arg6 (Rect.unit (s := S512x2304) ![0, 0] S512x2304.size inb_S512x2304_S512x2304_0_0) (stored v16) Finset.univ (View.stores_vmem h_S512x2304 (harg6.storeExact_slice rfl _ packedbf16_S512x2304_S512x2304_0_0) (fun _ => rfl)) (.inl rfl))
  let v27 : Vec F S1x128x256 .f32 ← Prog.lift (.load arg7 (Rect.unit (s := S2x128x256) ![0, 0, 0] S1x128x256.size inb_S2x128x256_S1x128x256_0_0_0).toLoadRect (View.loadsAt_vmem h_S1x128x256))
  Prog.lift (.store arg7 (Rect.unit (s := S2x128x256) ![0, 0, 0] S1x128x256.size inb_S2x128x256_S1x128x256_0_0_0) (heads128 v16 0 512 slices_S512x2304_o0_512_S256x128) Finset.univ (View.stores_vmem_bits_univ h_S1x128x256 rfl) (.inl rfl))
  let v32 : Vec F S1x128x256 .f32 ← Prog.lift (.load arg7 (Rect.unit (s := S2x128x256) ![1, 0, 0] S1x128x256.size inb_S2x128x256_S1x128x256_1_0_0).toLoadRect (View.loadsAt_vmem h_S1x128x256))
  Prog.lift (.store arg7 (Rect.unit (s := S2x128x256) ![1, 0, 0] S1x128x256.size inb_S2x128x256_S1x128x256_1_0_0) (heads128 v16 256 512 slices_S512x2304_o256_512_S256x128) Finset.univ (View.stores_vmem_bits_univ h_S1x128x256 rfl) (.inl rfl))
  let v37 : Vec F S1x128x256 .f32 ← Prog.lift (.load arg8 (Rect.unit (s := S2x128x256) ![0, 0, 0] S1x128x256.size inb_S2x128x256_S1x128x256_0_0_0).toLoadRect (View.loadsAt_vmem h_S1x128x256))
  Prog.lift (.store arg8 (Rect.unit (s := S2x128x256) ![0, 0, 0] S1x128x256.size inb_S2x128x256_S1x128x256_0_0_0) (heads128 v16 0 640 slices_S512x2304_o0_640_S256x128) Finset.univ (View.stores_vmem_bits_univ h_S1x128x256 rfl) (.inl rfl))
  let v42 : Vec F S1x128x256 .f32 ← Prog.lift (.load arg8 (Rect.unit (s := S2x128x256) ![1, 0, 0] S1x128x256.size inb_S2x128x256_S1x128x256_1_0_0).toLoadRect (View.loadsAt_vmem h_S1x128x256))
  Prog.lift (.store arg8 (Rect.unit (s := S2x128x256) ![1, 0, 0] S1x128x256.size inb_S2x128x256_S1x128x256_1_0_0) (heads128 v16 256 640 slices_S512x2304_o256_640_S256x128) Finset.univ (View.stores_vmem_bits_univ h_S1x128x256 rfl) (.inl rfl))
  let v47 : Vec F S1x512x256 .f32 ← Prog.lift (.load arg9 (Rect.unit (s := S2x512x256) ![0, 0, 0] S1x512x256.size inb_S2x512x256_S1x512x256_0_0_0).toLoadRect (View.loadsAt_vmem h_S1x512x256))
  Prog.lift (.store arg9 (Rect.unit (s := S2x512x256) ![0, 0, 0] S1x512x256.size inb_S2x512x256_S1x512x256_0_0_0) (heads512 v16 0 1280 slices_S512x2304_o0_1280_S256x512) Finset.univ (View.stores_vmem_bits_univ h_S1x512x256 rfl) (.inl rfl))
  let v52 : Vec F S1x512x256 .f32 ← Prog.lift (.load arg9 (Rect.unit (s := S2x512x256) ![1, 0, 0] S1x512x256.size inb_S2x512x256_S1x512x256_1_0_0).toLoadRect (View.loadsAt_vmem h_S1x512x256))
  Prog.lift (.store arg9 (Rect.unit (s := S2x512x256) ![1, 0, 0] S1x512x256.size inb_S2x512x256_S1x512x256_1_0_0) (heads512 v16 256 1280 slices_S512x2304_o256_1280_S256x512) Finset.univ (View.stores_vmem_bits_univ h_S1x512x256 rfl) (.inl rfl))
  pure (values512 v16)

set_option maxRecDepth 65536 in
theorem k0_part1_eq_skeleton : k0_part1 (F := F) = k0_part1_skel (F := F) := rfl

/-- The first rotated groups of a sample tile. -/
noncomputable def k0_part2_skel (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (v16 : FVec F S512x2304 .f32) :
    Prog (TpuEff nD τ sig (Elt F) Λ₀ .tc) (Σ' (v24 : FVec F S512x128 .f32) (v26 : FVec F S512x128 .f32) (v45 : IVec S1x128 1) (v54 : FVec F S512x128 .f32) (v63 : FVec F S512x128 .f32) (v64 : FVec F S512x128 .f32) (v65 : FVec F S512x128 .f32), BitVec 32) := do
  let v23 : Vec F S512x128 .f32 ← Prog.lift (.load arg4 (Rect.unit (s := S512x128) ![0, 0] S512x128.size inb_S512x128_S512x128_0_0).toLoadRect (View.loadsAt_vmem h_S512x128))
  let v25 : Vec F S512x128 .f32 ← Prog.lift (.load arg5 (Rect.unit (s := S512x128) ![0, 0] S512x128.size inb_S512x128_S512x128_0_0).toLoadRect (View.loadsAt_vmem h_S512x128))
  pure ⟨table v23, table v25, lowLane, rotated lowLane (group v16 0 slices_S512x2304_o0_0_S512x128) (table v23) (table v25), rotated lowLane (group v16 128 slices_S512x2304_o0_128_S512x128) (table v23) (table v25), group v16 256 slices_S512x2304_o0_256_S512x128, dynamicRotate 1 112#32 none (group v16 256 slices_S512x2304_o0_256_S512x128) rotates_S512x128_d1, 16#32⟩

set_option maxRecDepth 65536 in
theorem k0_part2_eq_skeleton : k0_part2 (F := F) = k0_part2_skel (F := F) := rfl

/-- The next groups. -/
noncomputable def k0_part3_skel (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (v16 : FVec F S512x2304 .f32) (v24 : FVec F S512x128 .f32) (v26 : FVec F S512x128 .f32) (v45 : IVec S1x128 1) (v64 : FVec F S512x128 .f32) (v65 : FVec F S512x128 .f32) (c16_i32_24 : BitVec 32) :
    Prog (TpuEff nD τ sig (Elt F) Λ₀ .tc) (Σ' (v72 : FVec F S512x128 .f32) (v81 : FVec F S512x128 .f32) (v90 : FVec F S512x128 .f32) (v91 : FVec F S512x128 .f32) (v100 : FVec F S512x128 .f32) (v109 : FVec F S512x128 .f32) (v110 : FVec F S512x128 .f32), FVec F S512x128 .f32) := do
  pure ⟨addf (mulf v64 v24) (mulf (select (lowRows v45) v65 (dynamicRotate 1 c16_i32_24 none v64 rotates_S512x128_d1)) v26), rotated v45 (group v16 384 slices_S512x2304_o0_384_S512x128) v24 v26, rotated v45 (group v16 512 slices_S512x2304_o0_512_S512x128) v24 v26, group v16 640 slices_S512x2304_o0_640_S512x128, rotated v45 (group v16 768 slices_S512x2304_o0_768_S512x128) v24 v26, rotated v45 (group v16 896 slices_S512x2304_o0_896_S512x128) v24 v26, group v16 1024 slices_S512x2304_o0_1024_S512x128, partner v45 (group v16 1024 slices_S512x2304_o0_1024_S512x128)⟩

set_option maxRecDepth 65536 in
theorem k0_part3_eq_skeleton : k0_part3 (F := F) = k0_part3_skel (F := F) := rfl

/-- The last groups. -/
noncomputable def k0_part4_skel (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (v16 : FVec F S512x2304 .f32) (v24 : FVec F S512x128 .f32) (v26 : FVec F S512x128 .f32) (v45 : IVec S1x128 1) (v110 : FVec F S512x128 .f32) (v115 : FVec F S512x128 .f32) :
    Prog (TpuEff nD τ sig (Elt F) Λ₀ .tc) (Σ' (v118 : FVec F S512x128 .f32) (v127 : FVec F S512x128 .f32) (v136 : FVec F S512x128 .f32) (v145 : FVec F S512x128 .f32) (v154 : FVec F S512x128 .f32) (v163 : FVec F S512x128 .f32) (v164 : FVec F S512x128 .f32), FVec F S512x128 .f32) := do
  pure ⟨addf (mulf v110 v24) (mulf v115 v26), rotated v45 (group v16 1152 slices_S512x2304_o0_1152_S512x128) v24 v26, rotated v45 (group v16 1280 slices_S512x2304_o0_1280_S512x128) v24 v26, rotated v45 (group v16 1408 slices_S512x2304_o0_1408_S512x128) v24 v26, rotated v45 (group v16 1536 slices_S512x2304_o0_1536_S512x128) v24 v26, rotated v45 (group v16 1664 slices_S512x2304_o0_1664_S512x128) v24 v26, group v16 1792 slices_S512x2304_o0_1792_S512x128, group v16 1920 slices_S512x2304_o0_1920_S512x128⟩

set_option maxRecDepth 65536 in
theorem k0_part4_eq_skeleton : k0_part4 (F := F) = k0_part4_skel (F := F) := rfl

end Proj

end
-- ==== Proof.ProjPoints.lean ====
/- The points of the projection's grid: which branch of the body each takes, where each output is stored, and the buffers the body is given. -/
module

public import proofs.«01_k».proof.Proof.ProjBody
public import proofs.«01_k».proof.Proof.Gen.ProjKernelIdeal.Frame
public import Idealize.ShloMosaic.Lib.Pipeline.TableIdle

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val < 8 :=
  (by decide +kernel : ∀ t : Fin grid0.N, cond0_1 (grid0.coords t) ↔ t.val < 8)

abbrev cond0_2 (i : grid0.Coords) : Prop := k0_cond3 i = 1#1
theorem hcond0_2 : ∀ t : Fin cfg0.N, cond0_2 (grid0.coords t) ↔ 8 ≤ t.val :=
  (by decide +kernel : ∀ t : Fin grid0.N, cond0_2 (grid0.coords t) ↔ 8 ≤ t.val)

/-! ## Where an output is left as it was, and where its buffer holds nothing yet -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5_A : ∀ t : Fin cfg0.N, cond0_0 (grid0.coords t) → cond0_1 (grid0.coords t) → ¬cond0_2 (grid0.coords t) → cfg0.idle 5 (grid0.coords t) = false := by decide +kernel
theorem liveAt0_5_B : ∀ t : Fin cfg0.N, ¬cond0_0 (grid0.coords t) → cond0_1 (grid0.coords t) → ¬cond0_2 (grid0.coords t) → cfg0.idle 5 (grid0.coords t) = false := by decide +kernel
theorem liveAt0_5_C : ∀ t : Fin cfg0.N, ¬cond0_0 (grid0.coords t) → ¬cond0_1 (grid0.coords t) → cond0_2 (grid0.coords t) → cfg0.idle 5 (grid0.coords t) = false := by decide +kernel
def freshTab0_6 : ℕ → Bool
  | 0 => true
  | n + 1 => (0x807f : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem liveAt0_6_A : ∀ t : Fin cfg0.N, cond0_0 (grid0.coords t) → cond0_1 (grid0.coords t) → ¬cond0_2 (grid0.coords t) → cfg0.idle 6 (grid0.coords t) = false := by decide +kernel
theorem liveAt0_6_B : ∀ t : Fin cfg0.N, ¬cond0_0 (grid0.coords t) → cond0_1 (grid0.coords t) → ¬cond0_2 (grid0.coords t) → cfg0.idle 6 (grid0.coords t) = false := by decide +kernel
theorem idleAt0_6_C : ∀ t : Fin cfg0.N, ¬cond0_0 (grid0.coords t) → ¬cond0_1 (grid0.coords t) → cond0_2 (grid0.coords t) → cfg0.idle 6 (grid0.coords t) = true := by decide +kernel
theorem notFresh0_6_C : ∀ t : Fin cfg0.N, ¬cond0_0 (grid0.coords t) → ¬cond0_1 (grid0.coords t) → cond0_2 (grid0.coords t) → cfg0.fresh 6 t.val = false := by
  intro t; rw [fresh0_6_eq t]; revert t; decide +kernel
def freshTab0_7 : ℕ → Bool
  | 0 => true
  | n + 1 => (0x807f : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem liveAt0_7_A : ∀ t : Fin cfg0.N, cond0_0 (grid0.coords t) → cond0_1 (grid0.coords t) → ¬cond0_2 (grid0.coords t) → cfg0.idle 7 (grid0.coords t) = false := by decide +kernel
theorem liveAt0_7_B : ∀ t : Fin cfg0.N, ¬cond0_0 (grid0.coords t) → cond0_1 (grid0.coords t) → ¬cond0_2 (grid0.coords t) → cfg0.idle 7 (grid0.coords t) = false := by decide +kernel
theorem idleAt0_7_C : ∀ t : Fin cfg0.N, ¬cond0_0 (grid0.coords t) → ¬cond0_1 (grid0.coords t) → cond0_2 (grid0.coords t) → cfg0.idle 7 (grid0.coords t) = true := by decide +kernel
theorem notFresh0_7_C : ∀ t : Fin cfg0.N, ¬cond0_0 (grid0.coords t) → ¬cond0_1 (grid0.coords t) → cond0_2 (grid0.coords t) → cfg0.fresh 7 t.val = false := by
  intro t; rw [fresh0_7_eq t]; revert t; decide +kernel
def freshTab0_8 : ℕ → Bool
  | 0 => true
  | n + 1 => (0x807f : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem liveAt0_8_A : ∀ t : Fin cfg0.N, cond0_0 (grid0.coords t) → cond0_1 (grid0.coords t) → ¬cond0_2 (grid0.coords t) → cfg0.idle 8 (grid0.coords t) = false := by decide +kernel
theorem liveAt0_8_B : ∀ t : Fin cfg0.N, ¬cond0_0 (grid0.coords t) → cond0_1 (grid0.coords t) → ¬cond0_2 (grid0.coords t) → cfg0.idle 8 (grid0.coords t) = false := by decide +kernel
theorem idleAt0_8_C : ∀ t : Fin cfg0.N, ¬cond0_0 (grid0.coords t) → ¬cond0_1 (grid0.coords t) → cond0_2 (grid0.coords t) → cfg0.idle 8 (grid0.coords t) = true := by decide +kernel
theorem notFresh0_8_C : ∀ t : Fin cfg0.N, ¬cond0_0 (grid0.coords t) → ¬cond0_1 (grid0.coords t) → cond0_2 (grid0.coords t) → cfg0.fresh 8 t.val = false := by
  intro t; rw [fresh0_8_eq t]; revert t; decide +kernel
def freshTab0_9 : ℕ → Bool
  | 0 => true
  | n + 1 => (0x807f : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → cond0_1 (grid0.coords t) → ¬cond0_2 (grid0.coords t) → cfg0.idle 9 (grid0.coords t) = false := by decide +kernel
theorem liveAt0_9_B : ∀ t : Fin cfg0.N, ¬cond0_0 (grid0.coords t) → cond0_1 (grid0.coords t) → ¬cond0_2 (grid0.coords t) → cfg0.idle 9 (grid0.coords t) = false := by decide +kernel
theorem idleAt0_9_C : ∀ t : Fin cfg0.N, ¬cond0_0 (grid0.coords t) → ¬cond0_1 (grid0.coords t) → cond0_2 (grid0.coords t) → cfg0.idle 9 (grid0.coords t) = true := by decide +kernel
theorem notFresh0_9_C : ∀ t : Fin cfg0.N, ¬cond0_0 (grid0.coords t) → ¬cond0_1 (grid0.coords t) → cond0_2 (grid0.coords t) → cfg0.fresh 9 t.val = false := by
  intro t; rw [fresh0_9_eq t]; revert t; decide +kernel

/-! ## The buffers of the body -/

abbrev VO0_5 : View sig .tc .vmem S512x2304 .bf16 := (Memref.whole cc0_stg5_0 : Memref sig .tc .vmem S512x2304 .bf16).view
abbrev VO0_6 : View sig .tc .vmem S2x128x256 .f32 := (Memref.whole cc0_stg6_0 : Memref sig .tc .vmem S2x128x256 .f32).view
abbrev VO0_7 : View sig .tc .vmem S2x128x256 .f32 := (Memref.whole cc0_stg7_0 : Memref sig .tc .vmem S2x128x256 .f32).view
abbrev VO0_8 : View sig .tc .vmem S2x512x256 .f32 := (Memref.whole cc0_stg8_0 : Memref sig .tc .vmem S2x512x256 .f32).view
abbrev VO0_9 : View sig .tc .vmem S512x512 .f32 := (Memref.whole cc0_stg9_0 : Memref sig .tc .vmem S512x512 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2304 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x512x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .f32 := win0_9.stage (cfg0.slots t 9)
abbrev hs0_9 (t : Fin cfg0.N) : (ms0_9 t).IsWhole := hstage0_9 ((cfg0.slots t 9).cast nbuf0_9)
abbrev scM0_0 : Memref sig .tc .vmem S1024x2304 .bf16 := Memref.whole cc0_scratch0
abbrev VS0_0 : View sig .tc .vmem S1024x2304 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Proj

end
-- ==== Proof.ProjRunA.lean ====
/- The run of the projection's body at the first tile, which also fills the weights' scratch. -/
module

public import proofs.«01_k».proof.Proof.ProjPoints

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output, as pieces, with the proof that the body runs to them: at the first tile, which also fills the weights' scratch. -/
noncomputable def kernelRun0_A (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) :
    Σ' (L5 : List (View.Piece (Elt F) S512x2304 .bf16)), Σ' (L6 : List (View.Piece (Elt F) S2x128x256 .f32)), Σ' (L7 : List (View.Piece (Elt F) S2x128x256 .f32)), Σ' (L8 : List (View.Piece (Elt F) S2x512x256 .f32)), Σ' (L9 : List (View.Piece (Elt F) S512x512 .f32)), { LS0 : List (View.Piece (Elt F) S1024x2304 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_inproj_rope_eq_skeleton]; unfold cc0_inproj_rope_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact HS0

end Proj

end
-- ==== Proof.ProjRunB.lean ====
/- The run of the projection's body at another tile of the prompt. -/
module

public import proofs.«01_k».proof.Proof.ProjRunA

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output, as pieces, with the proof that the body runs to them: at another tile of the prompt. -/
noncomputable def kernelRun0_B (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) :
    Σ' (L5 : List (View.Piece (Elt F) S512x2304 .bf16)), Σ' (L6 : List (View.Piece (Elt F) S2x128x256 .f32)), Σ' (L7 : List (View.Piece (Elt F) S2x128x256 .f32)), Σ' (L8 : List (View.Piece (Elt F) S2x512x256 .f32)), Σ' (L9 : List (View.Piece (Elt F) S512x512 .f32)), { LS0 : List (View.Piece (Elt F) S1024x2304 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0) -∗ K ⟨⟩))
          ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K } := by
  refine ⟨?_, ?_, ?_, ?_, ?_, [], fun E K => ?run⟩
  case run =>
    simp only [cc0_inproj_rope_eq_skeleton]; unfold cc0_inproj_rope_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; isplitr; · ipureintro; exact harg11.read_unread _
    iexact HS0

end Proj

end
-- ==== Proof.ProjRunC.lean ====
/- The run of the projection's body at a tile of the sample. -/
module

public import proofs.«01_k».proof.Proof.ProjRunB

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output, as pieces, with the proof that the body runs to them: at a tile of the sample. -/
noncomputable def kernelRun0_C (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) :
    Σ' (L5 : List (View.Piece (Elt F) S512x2304 .bf16)), Σ' (L6 : List (View.Piece (Elt F) S2x128x256 .f32)), Σ' (L7 : List (View.Piece (Elt F) S2x128x256 .f32)), Σ' (L8 : List (View.Piece (Elt F) S2x512x256 .f32)), Σ' (L9 : List (View.Piece (Elt F) S512x512 .f32)), { LS0 : List (View.Piece (Elt F) S1024x2304 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xs0) -∗ K ⟨⟩))
          ⊢ wp frame (wpE (defs₀ (F := F)) Variants.none c none) E (cc0_inproj_rope i arg1 harg1 arg2 harg2 arg3 harg3 arg4 harg4 arg5 harg5 arg6 harg6 arg7 harg7 arg8 harg8 arg9 harg9 arg10 harg10 arg11 harg11) K } := by
  refine ⟨?_, [], [], [], [], [], fun E K => ?run⟩
  case run =>
    simp only [cc0_inproj_rope_eq_skeleton]; unfold cc0_inproj_rope_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8; obtain rfl := harg10.eq_unread hf9; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; isplitr; · ipureintro; exact harg11.read_unread _
    iexact HS0

end Proj

end
-- ==== Proof.ProjOuts.lean ====
/- What the projection's body leaves in each output and in the scratch, by the kind of point. -/
module

public import proofs.«01_k».proof.Proof.ProjRunC

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S512x2304.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).1 S512x2304.size (by sl_kernel_rfl) y

/-- What the body leaves in the output at such a point. -/
def out0_A_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S512x2304 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).1)

theorem cover0_A_6 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S2x128x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.1 S1x128x256.size (by sl_kernel_rfl) y

/-- What the body leaves in the output at such a point. -/
def out0_A_6 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S2x128x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.1)

theorem cover0_A_7 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S2x128x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1 S1x128x256.size (by sl_kernel_rfl) y

/-- What the body leaves in the output at such a point. -/
def out0_A_7 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S2x128x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.1)

theorem cover0_A_8 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S2x512x256.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1 S1x512x256.size (by sl_kernel_rfl) y

/-- What the body leaves in the output at such a point. -/
def out0_A_8 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S2x512x256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.1)

theorem cover0_A_9 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.1 S512x512.size (by sl_kernel_rfl) y

/-- What the body leaves in the output at such a point. -/
def out0_A_9 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S512x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.1)

theorem scover0_A_0 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (y : S1024x2304.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.2.1 S1024x2304.size (by sl_kernel_rfl) y

def sout0_A_0 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) : Vec F S1024x2304 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 hc2 x0 x1 x2 x3 x4).2.2.2.2.2.1)

theorem cover0_B_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) (y : S512x2304.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).1 S512x2304.size (by sl_kernel_rfl) y

/-- What the body leaves in the output at such a point. -/
def out0_B_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S512x2304 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).1)

theorem cover0_B_6 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) (y : S2x128x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.1 S1x128x256.size (by sl_kernel_rfl) y

/-- What the body leaves in the output at such a point. -/
def out0_B_6 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S2x128x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.1)

theorem cover0_B_7 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) (y : S2x128x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.1 S1x128x256.size (by sl_kernel_rfl) y

/-- What the body leaves in the output at such a point. -/
def out0_B_7 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S2x128x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.1)

theorem cover0_B_8 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) (y : S2x512x256.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.1 S1x512x256.size (by sl_kernel_rfl) y

/-- What the body leaves in the output at such a point. -/
def out0_B_8 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S2x512x256 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.1)

theorem cover0_B_9 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.2.1 S512x512.size (by sl_kernel_rfl) y

/-- What the body leaves in the output at such a point. -/
def out0_B_9 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S512x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 hc2 x0 x1 x2 x3 x4 xs0).2.2.2.2.1)

def sout0_B_0 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : cond0_1 i) (hc2 : ¬cond0_2 i)
    (x0 : Vec F S512x1024 .f32) (x1 : Vec F S1x1x6x1024 .f32) (x2 : Vec F S1x1024x2304 .f32) (x3 : Vec F S512x128 .f32) (x4 : Vec F S512x128 .f32) (xs0 : Vec F S1024x2304 .bf16) : Vec F S1024x2304 .bf16 := xs0

theorem cover0_C_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) (y : S512x2304.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xo6 xo7 xo8 xo9 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xo6 xo7 xo8 xo9 xs0).1 S512x2304.size (by sl_kernel_rfl) y

/-- What the body leaves in the output at such a point. -/
def out0_C_5 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S512x2304 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 arg11 harg11 hc0 hc1 hc2 x0 x1 x2 x3 x4 xo6 xo7 xo8 xo9 xs0).1)

/-- What the body leaves in the output at such a point. -/
def out0_C_6 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S2x128x256 .f32 := xo6

/-- What the body leaves in the output at such a point. -/
def out0_C_7 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S2x128x256 .f32 := xo7

/-- What the body leaves in the output at such a point. -/
def out0_C_8 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S2x512x256 .f32 := xo8

/-- What the body leaves in the output at such a point. -/
def out0_C_9 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S512x512 .f32 := xo9

def sout0_C_0 (c : Dev nD) (i : grid0.Coords) (arg1 : Memref sig .tc .vmem S512x1024 .f32) (harg1 : arg1.IsWhole) (arg2 : Memref sig .tc .vmem S1x1x6x1024 .f32) (harg2 : arg2.IsWhole) (arg3 : Memref sig .tc .vmem S1x1024x2304 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2304 .bf16) (harg6 : arg6.IsWhole) (arg7 : Memref sig .tc .vmem S2x128x256 .f32) (harg7 : arg7.IsWhole) (arg8 : Memref sig .tc .vmem S2x128x256 .f32) (harg8 : arg8.IsWhole) (arg9 : Memref sig .tc .vmem S2x512x256 .f32) (harg9 : arg9.IsWhole) (arg10 : Memref sig .tc .vmem S512x512 .f32) (harg10 : arg10.IsWhole) (arg11 : Memref sig .tc .vmem S1024x2304 .bf16) (harg11 : arg11.IsWhole) (hc0 : ¬cond0_0 i) (hc1 : ¬cond0_1 i) (hc2 : cond0_2 i)
    (x0 : Vec F S512x1024 .f32) (x1 : Vec F S1x1x6x1024 .f32) (x2 : Vec F S1x1024x2304 .f32) (x3 : Vec F S512x128 .f32) (x4 : Vec F S512x128 .f32) (xo6 : Vec F S2x128x256 .f32) (xo7 : Vec F S2x128x256 .f32) (xo8 : Vec F S2x512x256 .f32) (xo9 : Vec F S512x512 .f32) (xs0 : Vec F S1024x2304 .bf16) : Vec F S1024x2304 .bf16 := xs0

end Proj

end
-- ==== Proof.ProjFrame.lean ====
/- The frame of the projection's kernel: what its outputs hold point by point, the body at every point, the run. -/
module

public import proofs.«01_k».proof.Proof.ProjOuts
public import Idealize.ShloMosaic.Lib.Claim

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjKernelIdeal Cert.ProjKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What they hold at the first point, which copies the weights. -/
def outA (c : Dev nD) (t : Fin cfg0.N) (h0 : t.val % 16 = 0) (h1 : t.val < 8) (h2 : ¬8 ≤ t.val) :
    Vec F S512x2304 .bf16 × Vec F S2x128x256 .f32 × Vec F S2x128x256 .f32 × Vec F S2x512x256 .f32 × Vec F S512x512 .f32 × Vec F S1024x2304 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t))

/-- What they hold at the prompt's other points, from what the point before left. -/
def outB (c : Dev nD) (t : Fin cfg0.N) (h0 : ¬t.val % 16 = 0) (h1 : t.val < 8) (h2 : ¬8 ≤ t.val) (p : Vec F S512x2304 .bf16 × Vec F S2x128x256 .f32 × Vec F S2x128x256 .f32 × Vec F S2x512x256 .f32 × Vec F S512x512 .f32 × Vec F S1024x2304 .bf16) :
    Vec F S512x2304 .bf16 × Vec F S2x128x256 .f32 × Vec F S2x128x256 .f32 × Vec F S2x512x256 .f32 × Vec F S512x512 .f32 × Vec F S1024x2304 .bf16 :=
  (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) p.2.2.2.2.2)

/-- What they hold at the samples' points, from what the point before left. -/
def outC (c : Dev nD) (t : Fin cfg0.N) (h0 : ¬t.val % 16 = 0) (h1 : ¬t.val < 8) (h2 : 8 ≤ t.val) (p : Vec F S512x2304 .bf16 × Vec F S2x128x256 .f32 × Vec F S2x128x256 .f32 × Vec F S2x512x256 .f32 × Vec F S512x512 .f32 × Vec F S1024x2304 .bf16) :
    Vec F S512x2304 .bf16 × Vec F S2x128x256 .f32 × Vec F S2x128x256 .f32 × Vec F S2x512x256 .f32 × Vec F S512x512 .f32 × Vec F S1024x2304 .bf16 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) p.2.1 p.2.2.1 p.2.2.2.1 p.2.2.2.2.1 p.2.2.2.2.2)

/-- What the outputs' buffers and the weights' scratch hold after each point. -/
def outsAt0 (c : Dev nD) : (n : ℕ) → n < cfg0.N → Vec F S512x2304 .bf16 × Vec F S2x128x256 .f32 × Vec F S2x128x256 .f32 × Vec F S2x512x256 .f32 × Vec F S512x512 .f32 × Vec F S1024x2304 .bf16
  | 0, hn => outA m c ⟨0, hn⟩ (Nat.zero_mod _) (by (try dsimp only); omega) (fun h => by (try dsimp only at h); omega)
  | n + 1, hn =>
    if h0 : (n + 1) % 16 = 0 then
      if h1 : (n + 1) < 8 then
        if h2 : 8 ≤ (n + 1) then
          False.elim (by have hN : n + 1 < 16 := lt_of_lt_of_eq hn (show cfg0.N = 16 from N_0); omega)
        else
          outA m c ⟨n + 1, hn⟩ h0 h1 h2
      else
        False.elim (by have hN : n + 1 < 16 := lt_of_lt_of_eq hn (show cfg0.N = 16 from N_0); omega)
    else
      if h1 : (n + 1) < 8 then
        if h2 : 8 ≤ (n + 1) then
          False.elim (by have hN : n + 1 < 16 := lt_of_lt_of_eq hn (show cfg0.N = 16 from N_0); omega)
        else
          outB m c ⟨n + 1, hn⟩ h0 h1 h2 (outsAt0 c n (Nat.lt_of_succ_lt hn))
      else
        if h2 : 8 ≤ (n + 1) then
          outC m c ⟨n + 1, hn⟩ h0 h1 h2 (outsAt0 c n (Nat.lt_of_succ_lt hn))
        else
          False.elim (by have hN : n + 1 < 16 := lt_of_lt_of_eq hn (show cfg0.N = 16 from N_0); omega)

theorem outsAt0_A (c : Dev nD) (t : Fin cfg0.N) (h0 : t.val % 16 = 0) (h1 : t.val < 8) (h2 : ¬8 ≤ t.val) :
    outsAt0 m c t.val t.isLt = outA m c t h0 h1 h2 := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 16 = 0) (h1 : t.val < 8) (h2 : ¬8 ≤ t.val) :
    outsAt0 m c t.val t.isLt = outB m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 16 = 0) (h1 : ¬t.val < 8) (h2 : 8 ≤ t.val) :
    outsAt0 m c t.val t.isLt = outC m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The scratch between points: at anything before the first, then at the weights. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 16 := lt_of_lt_of_eq t.isLt (show cfg0.N = 16 from N_0)
  rw [after0_6, after0_6]
  by_cases h0 : t.val % 16 = 0
  · by_cases h1 : t.val < 8
    · by_cases h2 : 8 ≤ t.val
      · exfalso; omega
      · rw [liveAt0_6_A t ((hcond0_0 t).mpr h0) ((hcond0_1 t).mpr h1) (fun h => h2 ((hcond0_2 t).mp h))] at hi
        exact absurd hi Bool.false_ne_true
    · exfalso; omega
  · by_cases h1 : t.val < 8
    · by_cases h2 : 8 ≤ t.val
      · exfalso; omega
      · rw [liveAt0_6_B t (fun h => h0 ((hcond0_0 t).mp h)) ((hcond0_1 t).mpr h1) (fun h => h2 ((hcond0_2 t).mp h))] at hi
        exact absurd hi Bool.false_ne_true
    · by_cases h2 : 8 ≤ t.val
      · rw [outsAt0_C m c t h0 h1 h2, outC]
        try rfl
      · exfalso; omega

theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 16 := lt_of_lt_of_eq t.isLt (show cfg0.N = 16 from N_0)
  rw [after0_7, after0_7]
  by_cases h0 : t.val % 16 = 0
  · by_cases h1 : t.val < 8
    · by_cases h2 : 8 ≤ t.val
      · exfalso; omega
      · rw [liveAt0_7_A t ((hcond0_0 t).mpr h0) ((hcond0_1 t).mpr h1) (fun h => h2 ((hcond0_2 t).mp h))] at hi
        exact absurd hi Bool.false_ne_true
    · exfalso; omega
  · by_cases h1 : t.val < 8
    · by_cases h2 : 8 ≤ t.val
      · exfalso; omega
      · rw [liveAt0_7_B t (fun h => h0 ((hcond0_0 t).mp h)) ((hcond0_1 t).mpr h1) (fun h => h2 ((hcond0_2 t).mp h))] at hi
        exact absurd hi Bool.false_ne_true
    · by_cases h2 : 8 ≤ t.val
      · rw [outsAt0_C m c t h0 h1 h2, outC]
        try rfl
      · exfalso; omega

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 16 := lt_of_lt_of_eq t.isLt (show cfg0.N = 16 from N_0)
  rw [after0_8, after0_8]
  by_cases h0 : t.val % 16 = 0
  · by_cases h1 : t.val < 8
    · by_cases h2 : 8 ≤ t.val
      · exfalso; omega
      · rw [liveAt0_8_A t ((hcond0_0 t).mpr h0) ((hcond0_1 t).mpr h1) (fun h => h2 ((hcond0_2 t).mp h))] at hi
        exact absurd hi Bool.false_ne_true
    · exfalso; omega
  · by_cases h1 : t.val < 8
    · by_cases h2 : 8 ≤ t.val
      · exfalso; omega
      · rw [liveAt0_8_B t (fun h => h0 ((hcond0_0 t).mp h)) ((hcond0_1 t).mpr h1) (fun h => h2 ((hcond0_2 t).mp h))] at hi
        exact absurd hi Bool.false_ne_true
    · by_cases h2 : 8 ≤ t.val
      · rw [outsAt0_C m c t h0 h1 h2, outC]
        try rfl
      · exfalso; omega

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 16 := lt_of_lt_of_eq t.isLt (show cfg0.N = 16 from N_0)
  rw [after0_9, after0_9]
  by_cases h0 : t.val % 16 = 0
  · by_cases h1 : t.val < 8
    · by_cases h2 : 8 ≤ t.val
      · exfalso; omega
      · rw [liveAt0_9_A t ((hcond0_0 t).mpr h0) ((hcond0_1 t).mpr h1) (fun h => h2 ((hcond0_2 t).mp h))] at hi
        exact absurd hi Bool.false_ne_true
    · exfalso; omega
  · by_cases h1 : t.val < 8
    · by_cases h2 : 8 ≤ t.val
      · exfalso; omega
      · rw [liveAt0_9_B t (fun h => h0 ((hcond0_0 t).mp h)) ((hcond0_1 t).mpr h1) (fun h => h2 ((hcond0_2 t).mp h))] at hi
        exact absurd hi Bool.false_ne_true
    · by_cases h2 : 8 ≤ t.val
      · rw [outsAt0_C m c t h0 h1 h2, outC]
        try rfl
      · exfalso; omega
theorem before0_6_C (c : Dev nD) (t : Fin cfg0.N) (h0 : ¬t.val % 16 = 0) (h1 : ¬t.val < 8) (h2 : 8 ≤ t.val) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_C t (fun h => h0 ((hcond0_0 t).mp h)) (fun h => h1 ((hcond0_1 t).mp h)) ((hcond0_2 t).mpr h2)]; exact Bool.false_ne_true)]
  dsimp only [dats]
theorem before0_7_C (c : Dev nD) (t : Fin cfg0.N) (h0 : ¬t.val % 16 = 0) (h1 : ¬t.val < 8) (h2 : 8 ≤ t.val) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_C t (fun h => h0 ((hcond0_0 t).mp h)) (fun h => h1 ((hcond0_1 t).mp h)) ((hcond0_2 t).mpr h2)]; exact Bool.false_ne_true)]
  dsimp only [dats]
theorem before0_8_C (c : Dev nD) (t : Fin cfg0.N) (h0 : ¬t.val % 16 = 0) (h1 : ¬t.val < 8) (h2 : 8 ≤ t.val) (d) :
    (dats m 0 c).before 8 t d = (outsAt0 m c (t.val - 1) (Nat.lt_of_le_of_lt (Nat.sub_le _ _) t.isLt)).2.2.2.1 := by
  rw [Dat.before_out_traj _ 8 rfl (fun _ _ => rfl) (hcarry0_8 m c) t.val t rfl d,
    if_neg (by rw [notFresh0_8_C t (fun h => h0 ((hcond0_0 t).mp h)) (fun h => h1 ((hcond0_1 t).mp h)) ((hcond0_2 t).mpr h2)]; exact Bool.false_ne_true)]
  dsimp only [dats]
theorem before0_9_C (c : Dev nD) (t : Fin cfg0.N) (h0 : ¬t.val % 16 = 0) (h1 : ¬t.val < 8) (h2 : 8 ≤ t.val) (d) :
    (dats m 0 c).before 9 t d = (outsAt0 m c (t.val - 1) (Nat.lt_of_le_of_lt (Nat.sub_le _ _) t.isLt)).2.2.2.2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2)]; exact Bool.false_ne_true)]
  dsimp only [dats]

/-! ## The body obligation, at a generic point -/

/-- At a sample tile output 6 is handed back as it was found: also at the last one, whose write-back then writes the last prompt tile's block. -/
theorem leaves0_6_C (c : Dev nD) (t : Fin cfg0.N) (h0 : ¬t.val % 16 = 0) (h1 : ¬t.val < 8) (h2 : 8 ≤ t.val) :
    owns (c : Thread nD τ) (ms0_6 t) fullShare ((outsAt0 m c (t.val - 1) (Nat.lt_of_le_of_lt (Nat.sub_le _ _) t.isLt)).2.1) ⊢ ((dats m 0 c).leavesExact 6 t : sProp 𝕄) := by
  unfold Dat.leavesExact
  rw [idleAt0_6_C t (fun h => h0 ((hcond0_0 t).mp h)) (fun h => h1 ((hcond0_1 t).mp h)) ((hcond0_2 t).mpr h2)]
  cases (cfg0.win 6).flush t
  · dsimp only
    iintro H; iexists (outsAt0 m c t.val t.isLt).2.1
    rw [before0_6_C m c t h0 h1 h2]; iexact H
  · dsimp only
    rw [after0_6, outsAt0_C m c t h0 h1 h2, outC]
    exact .rfl

/-- At a sample tile output 7 is handed back as it was found: also at the last one, whose write-back then writes the last prompt tile's block. -/
theorem leaves0_7_C (c : Dev nD) (t : Fin cfg0.N) (h0 : ¬t.val % 16 = 0) (h1 : ¬t.val < 8) (h2 : 8 ≤ t.val) :
    owns (c : Thread nD τ) (ms0_7 t) fullShare ((outsAt0 m c (t.val - 1) (Nat.lt_of_le_of_lt (Nat.sub_le _ _) t.isLt)).2.2.1) ⊢ ((dats m 0 c).leavesExact 7 t : sProp 𝕄) := by
  unfold Dat.leavesExact
  rw [idleAt0_7_C t (fun h => h0 ((hcond0_0 t).mp h)) (fun h => h1 ((hcond0_1 t).mp h)) ((hcond0_2 t).mpr h2)]
  cases (cfg0.win 7).flush t
  · dsimp only
    iintro H; iexists (outsAt0 m c t.val t.isLt).2.2.1
    rw [before0_7_C m c t h0 h1 h2]; iexact H
  · dsimp only
    rw [after0_7, outsAt0_C m c t h0 h1 h2, outC]
    exact .rfl

/-- At a sample tile output 8 is handed back as it was found: also at the last one, whose write-back then writes the last prompt tile's block. -/
theorem leaves0_8_C (c : Dev nD) (t : Fin cfg0.N) (h0 : ¬t.val % 16 = 0) (h1 : ¬t.val < 8) (h2 : 8 ≤ t.val) :
    owns (c : Thread nD τ) (ms0_8 t) fullShare ((outsAt0 m c (t.val - 1) (Nat.lt_of_le_of_lt (Nat.sub_le _ _) t.isLt)).2.2.2.1) ⊢ ((dats m 0 c).leavesExact 8 t : sProp 𝕄) := by
  unfold Dat.leavesExact
  rw [idleAt0_8_C t (fun h => h0 ((hcond0_0 t).mp h)) (fun h => h1 ((hcond0_1 t).mp h)) ((hcond0_2 t).mpr h2)]
  cases (cfg0.win 8).flush t
  · dsimp only
    iintro H; iexists (outsAt0 m c t.val t.isLt).2.2.2.1
    rw [before0_8_C m c t h0 h1 h2]; iexact H
  · dsimp only
    rw [after0_8, outsAt0_C m c t h0 h1 h2, outC]
    exact .rfl

/-- At a sample tile output 9 is handed back as it was found: also at the last one, whose write-back then writes the last prompt tile's block. -/
theorem leaves0_9_C (c : Dev nD) (t : Fin cfg0.N) (h0 : ¬t.val % 16 = 0) (h1 : ¬t.val < 8) (h2 : 8 ≤ t.val) :
    owns (c : Thread nD τ) (ms0_9 t) fullShare ((outsAt0 m c (t.val - 1) (Nat.lt_of_le_of_lt (Nat.sub_le _ _) t.isLt)).2.2.2.2.1) ⊢ ((dats m 0 c).leavesExact 9 t : sProp 𝕄) := by
  unfold Dat.leavesExact
  rw [idleAt0_9_C t (fun h => h0 ((hcond0_0 t).mp h)) (fun h => h1 ((hcond0_1 t).mp h)) ((hcond0_2 t).mpr h2)]
  cases (cfg0.win 9).flush t
  · dsimp only
    iintro H; iexists (outsAt0 m c t.val t.isLt).2.2.2.2.1
    rw [before0_9_C m c t h0 h1 h2]; iexact H
  · dsimp only
    rw [after0_9, outsAt0_C m c t h0 h1 h2, outC]
    exact .rfl

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val < 8
    · by_cases h2 : 8 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_A t ((hcond0_0 t).mpr h0) ((hcond0_1 t).mpr h1) (fun h => h2 ((hcond0_2 t).mp h))], after0_9]
        by_cases hz : t.val = 0
        · rw [PhiS_castSucc m c t, PhiS_zero m c _ _ hz, PhiA0_eq]
          rw [outsAt0_A m c t h0 h1 h2, outA]
          unfold out0_A_5 out0_A_6 out0_A_7 out0_A_8 out0_A_9 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [H8]; · iexists _; iexact H8
          isplitl [H9]; · iexists _; iexact H9
          isplitl [HS0]; · iexact HS0
          iintro ⟨H0, H1, H2, H3, H4, ⟨%e5, H5⟩, ⟨%e6, H6⟩, ⟨%e7, H7⟩, ⟨%e8, H8⟩, ⟨%e9, H9⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _)
        · exfalso; have hN : t.val < 16 := lt_of_lt_of_eq t.isLt (show cfg0.N = 16 from N_0); omega
    · exfalso; omega
  · by_cases h1 : t.val < 8
    · by_cases h2 : 8 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_B t (fun h => h0 ((hcond0_0 t).mp h)) ((hcond0_1 t).mpr h1) (fun h => h2 ((hcond0_2 t).mp h))], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2, outB]
          unfold out0_B_5 out0_B_6 out0_B_7 out0_B_8 out0_B_9 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [H8]; · iexists _; iexact H8
          isplitl [H9]; · iexists _; iexact H9
          isplitl [HS0]; · iexact HS0
          iintro ⟨H0, H1, H2, H3, H4, ⟨%e5, H5⟩, ⟨%e6, H6⟩, ⟨%e7, H7⟩, ⟨%e8, H8⟩, ⟨%e9, H9⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _)
    · by_cases h2 : 8 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) (fun h => h1 ((hcond0_1 t).mp h)) ((hcond0_2 t).mpr h2)], after0_5]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2, outC]
          simp only [before0_6_C m c t h0 h1 h2, before0_7_C m c t h0 h1 h2, before0_8_C m c t h0 h1 h2, before0_9_C m c t h0 h1 h2]
          unfold out0_C_5 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexact H6
          isplitl [H7]; · iexact H7
          isplitl [H8]; · iexact H8
          isplitl [H9]; · iexact H9
          isplitl [HS0]; · iexact HS0
          iintro ⟨H0, H1, H2, H3, H4, ⟨%e5, H5⟩, H6, H7, H8, H9, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _ _ _ _ _ _)
          isplitl [H6]; · iapply (leaves0_6_C m c t h0 h1 h2); iexact H6
          isplitl [H7]; · iapply (leaves0_7_C m c t h0 h1 h2); iexact H7
          isplitl [H8]; · iapply (leaves0_8_C m c t h0 h1 h2); iexact H8
          iapply (leaves0_9_C m c t h0 h1 h2); iexact H9
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every array of the pipeline ends at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- Every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Proj

end
-- ==== Proof.ProjState.lean ====
/- What the projection's outputs and the weights' scratch hold after each grid point, in the terms of the body's pure values. -/
module

public import proofs.«01_k».proof.Proof.ProjFrame
public import Idealize.ShloMosaic.Lib.Pipeline.Value
public import Idealize.ShloMosaic.Lib.ValueIdx

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weights' block is the whole argument at every point. -/
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem blk2 (c : Dev nD) (t : Fin cfg0.N) : (iblk m c 2 t : Vec F S1x1024x2304 .f32) = m ((c : Thread nD τ).loc main_arg2) := by
  funext i
  unfold iblk
  rw [View.read_apply]
  show V m c main_arg2 _ = _
  rw [V_main_arg2]
  congr 1
  funext a
  apply Fin.ext
  obtain ⟨h0, h1, h2⟩ := idx2 t
  match a with
  | ⟨0, _⟩ => show win0_2.index t 0 * 1 + 1 * (i 0).val = (i 0).val; omega
  | ⟨1, _⟩ => show win0_2.index t 1 * 1024 + 1 * (i 1).val = (i 1).val; omega
  | ⟨2, _⟩ => show win0_2.index t 2 * 2304 + 1 * (i 2).val = (i 2).val; omega

/-- The weights, as the scratch keeps them. -/
def W (c : Dev nD) : FVec F S1024x2304 .bf16 := weights (m ((c : Thread nD τ).loc main_arg2))

/-- The projection of the tile of point `t`. -/
def P (c : Dev nD) (t : Fin cfg0.N) : FVec F S512x2304 .f32 := projected (iblk m c 1 t) (iblk m c 0 t) (W m c)

/-- The scratch holds the weights after every point. -/
theorem scratch (c : Dev nD) : ∀ (n : ℕ) (hn : n < cfg0.N), (outsAt0 m c n hn).2.2.2.2.2 = W m c := by
  intro n
  induction n with
  | zero =>
    intro hn
    rw [show outsAt0 m c 0 hn = _ from outsAt0_A m c ⟨0, hn⟩ rfl (by show 0 < 8; omega) (by show ¬8 ≤ 0; omega)]
    dsimp only [outA]
    unfold sout0_A_0
    rw [View.read_writes_eq_canon _ _ _ (scover0_A_0 c _ _ _ _ _ _ _ _ _ _ _ _ _ _ _ _ _ _ _ _ _ _ _ _ _ _ _ _ _ _ _)]
    unfold kernelRun0_A kernelRun0_A.sl.HS0_1
    dsimp only
    rw [View.canon_unit_zero (S := S1024x2304) hz2]
    simp only [View.readAt_eq_ld, (hs0_2 _).read_unread, View.ld_unit_zero (S := S1x1024x2304) hz3]
    rw [blk2]
    rfl
  | succ n ih =>
    intro hn
    have hN := lt_of_lt_of_eq hn (show cfg0.N = 16 from N_0)
    by_cases h1 : n + 1 < 8
    · rw [show outsAt0 m c (n + 1) hn = _ from outsAt0_B m c ⟨n + 1, hn⟩ (by show ¬(n + 1) % 16 = 0; omega) h1 (by show ¬8 ≤ n + 1; omega), outB]
      dsimp only
      unfold sout0_B_0
      exact ih _
    · rw [show outsAt0 m c (n + 1) hn = _ from outsAt0_C m c ⟨n + 1, hn⟩ (by show ¬(n + 1) % 16 = 0; omega) h1 (by show 8 ≤ n + 1; omega), outC]
      dsimp only
      unfold sout0_C_0
      exact ih _

/-- A sample tile's groups, rotated where they are queries or keys. -/
def roped (p : FVec F S512x2304 .f32) (c s : FVec F S512x128 .f32) : FVec F S512x2304 .f32 :=
  let r := fun o h => rotated lowLane (group p o h) c s
  joined p (r 0 slices_S512x2304_o0_0_S512x128) (r 128 slices_S512x2304_o0_128_S512x128) (r 256 slices_S512x2304_o0_256_S512x128)
    (r 384 slices_S512x2304_o0_384_S512x128) (r 512 slices_S512x2304_o0_512_S512x128) (group p 640 slices_S512x2304_o0_640_S512x128)
    (r 768 slices_S512x2304_o0_768_S512x128) (r 896 slices_S512x2304_o0_896_S512x128) (r 1024 slices_S512x2304_o0_1024_S512x128)
    (r 1152 slices_S512x2304_o0_1152_S512x128) (r 1280 slices_S512x2304_o0_1280_S512x128) (r 1408 slices_S512x2304_o0_1408_S512x128)
    (r 1536 slices_S512x2304_o0_1536_S512x128) (r 1664 slices_S512x2304_o0_1664_S512x128)
    (group p 1792 slices_S512x2304_o0_1792_S512x128) (group p 1920 slices_S512x2304_o0_1920_S512x128)

/-- A sample tile's block of the result. -/
theorem sample_tile (c : Dev nD) (t : Fin cfg0.N) (h : 8 ≤ t.val) :
    (outsAt0 m c t.val t.isLt).1 = stored (roped (P m c t) (table (iblk m c 3 t)) (table (iblk m c 4 t))) := by
  have hN := lt_of_lt_of_eq t.isLt (show cfg0.N = 16 from N_0)
  rw [outsAt0_C m c t (by omega) (by omega) h, outC]
  dsimp only
  rw [scratch]
  unfold out0_C_5
  rw [View.read_writes_eq_canon _ _ _ (cover0_C_5 c _ _ _ _ _ _ _ _ _ _ _ _ _ _ _ _ _ _ _ _ _ _ _ _ _ _ _ _ _ _ _ _ _ _ _ _)]
  unfold kernelRun0_C
  dsimp only
  rw [View.canon_unit_zero (S := S512x2304) hz2]
  simp only [kernelRun0_C.sl.v3, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21,
    View.readAt_eq_ld, (hs0_0 _).read_unread, (hs0_1 _).read_unread, (hs0_3 _).read_unread, (hs0_4 _).read_unread,
    (Memref.isWhole_whole cc0_scratch0).read_unread,
    View.ld_unit_zero (S := S1024x2304) hz2, View.ld_unit_zero (S := S512x1024) hz2, View.ld_unit_zero (S := S512x128) hz2, View.ld_unit_zero (S := S1x1x6x1024) hz4]
  rfl

/-- What the first tile's body reads back of the scratch it has just filled. -/
theorem filled (c : Dev nD) (arg3 : Memref sig .tc .vmem S1x1024x2304 .f32) (harg3 : arg3.IsWhole) (arg11 : Memref sig .tc .vmem S1024x2304 .bf16) (x2 : Vec F S1x1024x2304 .f32) :
    kernelRun0_A.sl.v15 c arg3 harg3 arg11 x2 = weights x2 := by
  unfold kernelRun0_A.sl.v15 kernelRun0_A.sl.HS0_1
  rw [View.readCov_unit_zero (S := S1024x2304) _ hz2]
  simp only [View.readAt_eq_ld, harg3.read_unread, View.ld_unit_zero (S := S1x1024x2304) hz3]

/-- A tile's keys or values as the cache keeps them: two sequences of 256 tokens, each transposed. -/
def cache128 (p : FVec F S512x2304 .f32) (o : ℕ) (ho : o + 128 ≤ 2304) : Vec F S2x128x256 .f32 :=
  fun y => p (ix2 (n0 := 512) (n1 := 2304) ⟨(y 0).val * 256 + (y 2).val, by
    have := (show (y 0).val < 2 from (y 0).isLt); have := (show (y 2).val < 256 from (y 2).isLt); omega⟩ ⟨o + (y 1).val, by have := (show (y 1).val < 128 from (y 1).isLt); omega⟩)

theorem heads128_apply (p : FVec F S512x2304 .f32) {r o : ℕ} (h : S512x2304.Slices ![r, o] S256x128) (ho : o + 128 ≤ 2304) (hr : r + 256 ≤ 512) (d : Fin 128) (s : Fin 256) :
    heads128 p r o h (ix3 0 d s) = p (ix2 (n0 := 512) (n1 := 2304) ⟨r + s.val, by omega⟩ ⟨o + d.val, by omega⟩) := by
  unfold heads128
  refine (shapeCast_apply _ _ (ix3 0 d s) (ix2 d s) (by
    rewrite [Shape.rowMajor_val_three, Shape.rowMajor_val_two]; show d.val * 256 + s.val = (0 * 128 + d.val) * 256 + s.val; omega)).trans ?_
  refine (transpose_apply _ _ _ (ix2 d s) (ix2 s d) (fun a => by
    match a with
    | ⟨0, _⟩ => rfl
    | ⟨1, _⟩ => rfl)).trans ?_
  exact extractStridedSlice_apply _ _ _ (ix2 s d) _ (fun a => by
    match a with
    | ⟨0, _⟩ => rfl
    | ⟨1, _⟩ => rfl)

/-- The two stores of a tile's cache block together. -/
theorem canon128 (p : FVec F S512x2304 .f32) (o : ℕ) (ho : o + 128 ≤ 2304) (h0 : S512x2304.Slices ![0, o] S256x128) (h1 : S512x2304.Slices ![256, o] S256x128)
    (i0 : ∀ a, (![0, 0, 0] : Fin 3 → ℕ) a + S1x128x256.size a ≤ S2x128x256.size a) (i1 : ∀ a, (![1, 0, 0] : Fin 3 → ℕ) a + S1x128x256.size a ≤ S2x128x256.size a) :
    View.canon [(⟨Rect.unit ![1, 0, 0] S1x128x256.size i1, heads128 p 256 o h1⟩ : View.Piece (Elt F) S2x128x256 .f32), ⟨Rect.unit ![0, 0, 0] S1x128x256.size i0, heads128 p 0 o h0⟩]
      = cache128 p o ho := by
  funext y
  refine View.canon_apply_of_pieces (cache128 p o ho) _ ?_ y ?_
  · intro q hq
    rcases List.mem_cons.mp hq with rfl | hq
    · intro x
      have e : x = (ix3 0 (x 1) (x 2) : S1x128x256.Idx) := (eq_ix3 (x : S1x128x256.Idx)).trans (congrArg (fun z : Fin 1 => (ix3 z (x 1) (x 2) : S1x128x256.Idx)) (Subsingleton.elim _ _))
      have h0' : (x 0).val = 0 := by have := (show (x 0).val < 1 from (x 0).isLt); omega
      refine (congrArg (heads128 p 256 o h1) e).trans ((heads128_apply p h1 ho (by omega) _ _).trans ?_)
      exact congrArg p (funext fun a => Fin.ext (by
        match a with
        | ⟨0, _⟩ => show 256 + (x 2).val = (1 + 1 * (x 0).val) * 256 + (0 + 1 * (x 2).val); omega
        | ⟨1, _⟩ => show o + (x 1).val = o + (0 + 1 * (x 1).val); omega))
    · obtain rfl := List.mem_singleton.mp hq
      intro x
      have e : x = (ix3 0 (x 1) (x 2) : S1x128x256.Idx) := (eq_ix3 (x : S1x128x256.Idx)).trans (congrArg (fun z : Fin 1 => (ix3 z (x 1) (x 2) : S1x128x256.Idx)) (Subsingleton.elim _ _))
      have h0' : (x 0).val = 0 := by have := (show (x 0).val < 1 from (x 0).isLt); omega
      refine (congrArg (heads128 p 0 o h0) e).trans ((heads128_apply p h0 ho (by omega) _ _).trans ?_)
      exact congrArg p (funext fun a => Fin.ext (by
        match a with
        | ⟨0, _⟩ => show 0 + (x 2).val = (0 + 1 * (x 0).val) * 256 + (0 + 1 * (x 2).val); omega
        | ⟨1, _⟩ => show o + (x 1).val = o + (0 + 1 * (x 1).val); omega))
  · have hy := (show (y 0).val < 2 from (y 0).isLt)
    by_cases hy0 : (y 0).val = 0
    · refine ⟨_, List.mem_cons_of_mem _ (List.mem_singleton_self _), (Rect.mem_set_unit (inb := i0)).mpr fun a => ?_⟩
      match a with
      | ⟨0, _⟩ => exact ⟨Nat.zero_le _, by show (y 0).val < 0 + 1; omega⟩
      | ⟨1, _⟩ => exact ⟨Nat.zero_le _, by show (y 1).val < 0 + 128; have := (show (y 1).val < 128 from (y 1).isLt); omega⟩
      | ⟨2, _⟩ => exact ⟨Nat.zero_le _, by show (y 2).val < 0 + 256; have := (show (y 2).val < 256 from (y 2).isLt); omega⟩
    · refine ⟨_, List.mem_cons_self, (Rect.mem_set_unit (inb := i1)).mpr fun a => ?_⟩
      match a with
      | ⟨0, _⟩ => exact ⟨by show 1 ≤ (y 0).val; omega, by show (y 0).val < 1 + 1; omega⟩
      | ⟨1, _⟩ => exact ⟨Nat.zero_le _, by show (y 1).val < 0 + 128; have := (show (y 1).val < 128 from (y 1).isLt); omega⟩
      | ⟨2, _⟩ => exact ⟨Nat.zero_le _, by show (y 2).val < 0 + 256; have := (show (y 2).val < 256 from (y 2).isLt); omega⟩

/-- A tile's differential keys as the cache keeps them: two sequences of 256 tokens, each transposed. -/
def cache512 (p : FVec F S512x2304 .f32) (o : ℕ) (ho : o + 512 ≤ 2304) : Vec F S2x512x256 .f32 :=
  fun y => p (ix2 (n0 := 512) (n1 := 2304) ⟨(y 0).val * 256 + (y 2).val, by
    have := (show (y 0).val < 2 from (y 0).isLt); have := (show (y 2).val < 256 from (y 2).isLt); omega⟩ ⟨o + (y 1).val, by have := (show (y 1).val < 512 from (y 1).isLt); omega⟩)

theorem heads512_apply (p : FVec F S512x2304 .f32) {r o : ℕ} (h : S512x2304.Slices ![r, o] S256x512) (ho : o + 512 ≤ 2304) (hr : r + 256 ≤ 512) (d : Fin 512) (s : Fin 256) :
    heads512 p r o h (ix3 0 d s) = p (ix2 (n0 := 512) (n1 := 2304) ⟨r + s.val, by omega⟩ ⟨o + d.val, by omega⟩) := by
  unfold heads512
  refine (shapeCast_apply _ _ (ix3 0 d s) (ix2 d s) (by
    rewrite [Shape.rowMajor_val_three, Shape.rowMajor_val_two]; show d.val * 256 + s.val = (0 * 512 + d.val) * 256 + s.val; omega)).trans ?_
  refine (transpose_apply _ _ _ (ix2 d s) (ix2 s d) (fun a => by
    match a with
    | ⟨0, _⟩ => rfl
    | ⟨1, _⟩ => rfl)).trans ?_
  exact extractStridedSlice_apply _ _ _ (ix2 s d) _ (fun a => by
    match a with
    | ⟨0, _⟩ => rfl
    | ⟨1, _⟩ => rfl)

/-- The two stores of a tile's cache block together. -/
theorem canon512 (p : FVec F S512x2304 .f32) (o : ℕ) (ho : o + 512 ≤ 2304) (h0 : S512x2304.Slices ![0, o] S256x512) (h1 : S512x2304.Slices ![256, o] S256x512)
    (i0 : ∀ a, (![0, 0, 0] : Fin 3 → ℕ) a + S1x512x256.size a ≤ S2x512x256.size a) (i1 : ∀ a, (![1, 0, 0] : Fin 3 → ℕ) a + S1x512x256.size a ≤ S2x512x256.size a) :
    View.canon [(⟨Rect.unit ![1, 0, 0] S1x512x256.size i1, heads512 p 256 o h1⟩ : View.Piece (Elt F) S2x512x256 .f32), ⟨Rect.unit ![0, 0, 0] S1x512x256.size i0, heads512 p 0 o h0⟩]
      = cache512 p o ho := by
  funext y
  refine View.canon_apply_of_pieces (cache512 p o ho) _ ?_ y ?_
  · intro q hq
    rcases List.mem_cons.mp hq with rfl | hq
    · intro x
      have e : x = (ix3 0 (x 1) (x 2) : S1x512x256.Idx) := (eq_ix3 (x : S1x512x256.Idx)).trans (congrArg (fun z : Fin 1 => (ix3 z (x 1) (x 2) : S1x512x256.Idx)) (Subsingleton.elim _ _))
      have h0' : (x 0).val = 0 := by have := (show (x 0).val < 1 from (x 0).isLt); omega
      refine (congrArg (heads512 p 256 o h1) e).trans ((heads512_apply p h1 ho (by omega) _ _).trans ?_)
      exact congrArg p (funext fun a => Fin.ext (by
        match a with
        | ⟨0, _⟩ => show 256 + (x 2).val = (1 + 1 * (x 0).val) * 256 + (0 + 1 * (x 2).val); omega
        | ⟨1, _⟩ => show o + (x 1).val = o + (0 + 1 * (x 1).val); omega))
    · obtain rfl := List.mem_singleton.mp hq
      intro x
      have e : x = (ix3 0 (x 1) (x 2) : S1x512x256.Idx) := (eq_ix3 (x : S1x512x256.Idx)).trans (congrArg (fun z : Fin 1 => (ix3 z (x 1) (x 2) : S1x512x256.Idx)) (Subsingleton.elim _ _))
      have h0' : (x 0).val = 0 := by have := (show (x 0).val < 1 from (x 0).isLt); omega
      refine (congrArg (heads512 p 0 o h0) e).trans ((heads512_apply p h0 ho (by omega) _ _).trans ?_)
      exact congrArg p (funext fun a => Fin.ext (by
        match a with
        | ⟨0, _⟩ => show 0 + (x 2).val = (0 + 1 * (x 0).val) * 256 + (0 + 1 * (x 2).val); omega
        | ⟨1, _⟩ => show o + (x 1).val = o + (0 + 1 * (x 1).val); omega))
  · have hy := (show (y 0).val < 2 from (y 0).isLt)
    by_cases hy0 : (y 0).val = 0
    · refine ⟨_, List.mem_cons_of_mem _ (List.mem_singleton_self _), (Rect.mem_set_unit (inb := i0)).mpr fun a => ?_⟩
      match a with
      | ⟨0, _⟩ => exact ⟨Nat.zero_le _, by show (y 0).val < 0 + 1; omega⟩
      | ⟨1, _⟩ => exact ⟨Nat.zero_le _, by show (y 1).val < 0 + 512; have := (show (y 1).val < 512 from (y 1).isLt); omega⟩
      | ⟨2, _⟩ => exact ⟨Nat.zero_le _, by show (y 2).val < 0 + 256; have := (show (y 2).val < 256 from (y 2).isLt); omega⟩
    · refine ⟨_, List.mem_cons_self, (Rect.mem_set_unit (inb := i1)).mpr fun a => ?_⟩
      match a with
      | ⟨0, _⟩ => exact ⟨by show 1 ≤ (y 0).val; omega, by show (y 0).val < 1 + 1; omega⟩
      | ⟨1, _⟩ => exact ⟨Nat.zero_le _, by show (y 1).val < 0 + 512; have := (show (y 1).val < 512 from (y 1).isLt); omega⟩
      | ⟨2, _⟩ => exact ⟨Nat.zero_le _, by show (y 2).val < 0 + 256; have := (show (y 2).val < 256 from (y 2).isLt); omega⟩

/-- A prompt tile's blocks of the results. -/
theorem prompt_tile (c : Dev nD) (t : Fin cfg0.N) (h : t.val < 8) :
    (outsAt0 m c t.val t.isLt).1 = stored (P m c t)
    ∧ (outsAt0 m c t.val t.isLt).2.1 = cache128 (P m c t) 512 (by decide)
    ∧ (outsAt0 m c t.val t.isLt).2.2.1 = cache128 (P m c t) 640 (by decide)
    ∧ (outsAt0 m c t.val t.isLt).2.2.2.1 = cache512 (P m c t) 1280 (by decide)
    ∧ (outsAt0 m c t.val t.isLt).2.2.2.2.1 = values512 (P m c t) := by
  by_cases h0 : t.val = 0
  · rw [outsAt0_A m c t (by omega) h (by omega), outA]
    dsimp only
    refine ⟨?_, ?_, ?_, ?_, ?_⟩
    · unfold out0_A_5
      rw [View.read_writes_eq_canon _ _ _ (cover0_A_5 c _ _ _ _ _ _ _ _ _ _ _ _ _ _ _ _ _ _ _ _ _ _ _ _ _ _ _ _ _ _ _)]
      unfold kernelRun0_A kernelRun0_A.sl.v3
      dsimp only
      simp only [filled, blk2, View.readAt_eq_ld, (hs0_0 _).read_unread, (hs0_1 _).read_unread,
        View.ld_unit_zero (S := S1024x2304) hz2, View.ld_unit_zero (S := S512x1024) hz2, View.ld_unit_zero (S := S1x1x6x1024) hz4]
      exact View.canon_unit_zero (S := S512x2304) hz2 _ _
    · unfold out0_A_6
      rw [View.read_writes_eq_canon _ _ _ (cover0_A_6 c _ _ _ _ _ _ _ _ _ _ _ _ _ _ _ _ _ _ _ _ _ _ _ _ _ _ _ _ _ _ _)]
      unfold kernelRun0_A kernelRun0_A.sl.v3
      dsimp only
      simp only [filled, blk2, View.readAt_eq_ld, (hs0_0 _).read_unread, (hs0_1 _).read_unread,
        View.ld_unit_zero (S := S1024x2304) hz2, View.ld_unit_zero (S := S512x1024) hz2, View.ld_unit_zero (S := S1x1x6x1024) hz4]
      exact canon128 _ 512 (by decide) _ _ _ _
    · unfold out0_A_7
      rw [View.read_writes_eq_canon _ _ _ (cover0_A_7 c _ _ _ _ _ _ _ _ _ _ _ _ _ _ _ _ _ _ _ _ _ _ _ _ _ _ _ _ _ _ _)]
      unfold kernelRun0_A kernelRun0_A.sl.v3
      dsimp only
      simp only [filled, blk2, View.readAt_eq_ld, (hs0_0 _).read_unread, (hs0_1 _).read_unread,
        View.ld_unit_zero (S := S1024x2304) hz2, View.ld_unit_zero (S := S512x1024) hz2, View.ld_unit_zero (S := S1x1x6x1024) hz4]
      exact canon128 _ 640 (by decide) _ _ _ _
    · unfold out0_A_8
      rw [View.read_writes_eq_canon _ _ _ (cover0_A_8 c _ _ _ _ _ _ _ _ _ _ _ _ _ _ _ _ _ _ _ _ _ _ _ _ _ _ _ _ _ _ _)]
      unfold kernelRun0_A kernelRun0_A.sl.v3
      dsimp only
      simp only [filled, blk2, View.readAt_eq_ld, (hs0_0 _).read_unread, (hs0_1 _).read_unread,
        View.ld_unit_zero (S := S1024x2304) hz2, View.ld_unit_zero (S := S512x1024) hz2, View.ld_unit_zero (S := S1x1x6x1024) hz4]
      exact canon512 _ 1280 (by decide) _ _ _ _
    · unfold out0_A_9
      rw [View.read_writes_eq_canon _ _ _ (cover0_A_9 c _ _ _ _ _ _ _ _ _ _ _ _ _ _ _ _ _ _ _ _ _ _ _ _ _ _ _ _ _ _ _)]
      unfold kernelRun0_A kernelRun0_A.sl.r kernelRun0_A.sl.v3
      dsimp only
      simp only [filled, blk2, View.readAt_eq_ld, (hs0_0 _).read_unread, (hs0_1 _).read_unread,
        View.ld_unit_zero (S := S1024x2304) hz2, View.ld_unit_zero (S := S512x1024) hz2, View.ld_unit_zero (S := S1x1x6x1024) hz4]
      exact View.canon_unit_zero (S := S512x512) hz2 _ _
  · rw [outsAt0_B m c t (by omega) h (by omega), outB]
    dsimp only
    rw [scratch]
    refine ⟨?_, ?_, ?_, ?_, ?_⟩
    · unfold out0_B_5
      rw [View.read_writes_eq_canon _ _ _ (cover0_B_5 c _ _ _ _ _ _ _ _ _ _ _ _ _ _ _ _ _ _ _ _ _ _ _ _ _ _ _ _ _ _ _ _)]
      unfold kernelRun0_B kernelRun0_B.sl.v3
      dsimp only
      simp only [View.readAt_eq_ld, (hs0_0 _).read_unread, (hs0_1 _).read_unread, (Memref.isWhole_whole cc0_scratch0).read_unread,
        View.ld_unit_zero (S := S1024x2304) hz2, View.ld_unit_zero (S := S512x1024) hz2, View.ld_unit_zero (S := S1x1x6x1024) hz4]
      exact View.canon_unit_zero (S := S512x2304) hz2 _ _
    · unfold out0_B_6
      rw [View.read_writes_eq_canon _ _ _ (cover0_B_6 c _ _ _ _ _ _ _ _ _ _ _ _ _ _ _ _ _ _ _ _ _ _ _ _ _ _ _ _ _ _ _ _)]
      unfold kernelRun0_B kernelRun0_B.sl.v3
      dsimp only
      simp only [View.readAt_eq_ld, (hs0_0 _).read_unread, (hs0_1 _).read_unread, (Memref.isWhole_whole cc0_scratch0).read_unread,
        View.ld_unit_zero (S := S1024x2304) hz2, View.ld_unit_zero (S := S512x1024) hz2, View.ld_unit_zero (S := S1x1x6x1024) hz4]
      exact canon128 _ 512 (by decide) _ _ _ _
    · unfold out0_B_7
      rw [View.read_writes_eq_canon _ _ _ (cover0_B_7 c _ _ _ _ _ _ _ _ _ _ _ _ _ _ _ _ _ _ _ _ _ _ _ _ _ _ _ _ _ _ _ _)]
      unfold kernelRun0_B kernelRun0_B.sl.v3
      dsimp only
      simp only [View.readAt_eq_ld, (hs0_0 _).read_unread, (hs0_1 _).read_unread, (Memref.isWhole_whole cc0_scratch0).read_unread,
        View.ld_unit_zero (S := S1024x2304) hz2, View.ld_unit_zero (S := S512x1024) hz2, View.ld_unit_zero (S := S1x1x6x1024) hz4]
      exact canon128 _ 640 (by decide) _ _ _ _
    · unfold out0_B_8
      rw [View.read_writes_eq_canon _ _ _ (cover0_B_8 c _ _ _ _ _ _ _ _ _ _ _ _ _ _ _ _ _ _ _ _ _ _ _ _ _ _ _ _ _ _ _ _)]
      unfold kernelRun0_B kernelRun0_B.sl.v3
      dsimp only
      simp only [View.readAt_eq_ld, (hs0_0 _).read_unread, (hs0_1 _).read_unread, (Memref.isWhole_whole cc0_scratch0).read_unread,
        View.ld_unit_zero (S := S1024x2304) hz2, View.ld_unit_zero (S := S512x1024) hz2, View.ld_unit_zero (S := S1x1x6x1024) hz4]
      exact canon512 _ 1280 (by decide) _ _ _ _
    · unfold out0_B_9
      rw [View.read_writes_eq_canon _ _ _ (cover0_B_9 c _ _ _ _ _ _ _ _ _ _ _ _ _ _ _ _ _ _ _ _ _ _ _ _ _ _ _ _ _ _ _ _)]
      unfold kernelRun0_B kernelRun0_B.sl.r kernelRun0_B.sl.v3
      dsimp only
      simp only [View.readAt_eq_ld, (hs0_0 _).read_unread, (hs0_1 _).read_unread, (Memref.isWhole_whole cc0_scratch0).read_unread,
        View.ld_unit_zero (S := S1024x2304) hz2, View.ld_unit_zero (S := S512x1024) hz2, View.ld_unit_zero (S := S1x1x6x1024) hz4]
      exact View.canon_unit_zero (S := S512x512) hz2 _ _

/-- A sample tile leaves the caches as the last prompt tile left them. -/
theorem sample_caches (c : Dev nD) : ∀ (n : ℕ) (hn : n < cfg0.N), 8 ≤ n →
    (outsAt0 m c n hn).2.1 = cache128 (P m c ⟨7, lt_of_lt_of_eq (by decide) N_0.symm⟩) 512 (by decide)
    ∧ (outsAt0 m c n hn).2.2.1 = cache128 (P m c ⟨7, lt_of_lt_of_eq (by decide) N_0.symm⟩) 640 (by decide)
    ∧ (outsAt0 m c n hn).2.2.2.1 = cache512 (P m c ⟨7, lt_of_lt_of_eq (by decide) N_0.symm⟩) 1280 (by decide)
    ∧ (outsAt0 m c n hn).2.2.2.2.1 = values512 (P m c ⟨7, lt_of_lt_of_eq (by decide) N_0.symm⟩) := by
  intro n
  induction n with
  | zero => intro hn h; omega
  | succ n ih =>
    intro hn h
    have hN := lt_of_lt_of_eq hn (show cfg0.N = 16 from N_0)
    rw [show outsAt0 m c (n + 1) hn = _ from outsAt0_C m c ⟨n + 1, hn⟩ (by show ¬(n + 1) % 16 = 0; omega) (by show ¬n + 1 < 8; omega) h, outC]
    dsimp only
    unfold out0_C_6 out0_C_7 out0_C_8 out0_C_9
    simp only [Nat.add_sub_cancel]
    by_cases h7 : n = 7
    · have e : outsAt0 m c n (Nat.lt_of_succ_lt hn) = outsAt0 m c (⟨7, lt_of_lt_of_eq (by decide) N_0.symm⟩ : Fin cfg0.N).val (Fin.isLt _) := by
        subst h7; rfl
      rw [e]
      exact (prompt_tile m c ⟨7, lt_of_lt_of_eq (by decide) N_0.symm⟩ (by show 7 < 8; omega)).2
    · exact ih _ (by omega)

end Proj

end
-- ==== Proof.ProjArrays.lean ====
/- The projection call's five results after the run, at an index: each is what the tile of its row, or of its sequences, wrote. -/
module

public import proofs.«01_k».proof.Proof.ProjState

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Grid point `t`. -/
abbrev pt (t : Fin 16) : Fin cfg0.N := ⟨t.val, lt_of_lt_of_eq t.isLt N_0.symm⟩

/-- The point that writes prompt tile `t`'s cache blocks back: the tile's own, but the last tile's blocks stay until the end. -/
abbrev wb (t : Fin 8) : Fin cfg0.N := ⟨if t.val = 7 then 15 else t.val, lt_of_lt_of_eq (by split <;> omega) N_0.symm⟩

theorem idx5 : ∀ t : Fin 16, win0_5.index (pt t) (0 : Fin 2) = t.val ∧ win0_5.index (pt t) (1 : Fin 2) = 0 ∧ (cfg0.win 5).flush (pt t) = true := by
  decide +kernel
theorem idx6 : ∀ t : Fin 8, win0_6.index (wb t) (0 : Fin 3) = t.val ∧ win0_6.index (wb t) (1 : Fin 3) = 0 ∧ win0_6.index (wb t) (2 : Fin 3) = 0 ∧ (cfg0.win 6).flush (wb t) = true := by
  decide +kernel
theorem idx7 : ∀ t : Fin 8, win0_7.index (wb t) (0 : Fin 3) = t.val ∧ win0_7.index (wb t) (1 : Fin 3) = 0 ∧ win0_7.index (wb t) (2 : Fin 3) = 0 ∧ (cfg0.win 7).flush (wb t) = true := by
  decide +kernel
theorem idx8 : ∀ t : Fin 8, win0_8.index (wb t) (0 : Fin 3) = t.val ∧ win0_8.index (wb t) (1 : Fin 3) = 0 ∧ win0_8.index (wb t) (2 : Fin 3) = 0 ∧ (cfg0.win 8).flush (wb t) = true := by
  decide +kernel
theorem idx9 : ∀ t : Fin 8, win0_9.index (wb t) (0 : Fin 2) = t.val ∧ win0_9.index (wb t) (1 : Fin 2) = 0 ∧ (cfg0.win 9).flush (wb t) = true := by
  decide +kernel

/-- Two points that write the same block back are one point. -/
theorem inj5 : ∀ t t' : Fin cfg0.N, (cfg0.win 5).flush t = true → (cfg0.win 5).flush t' = true → win0_5.index t = win0_5.index t' → t = t' :=
  (by decide +kernel : ∀ t t' : Fin grid0.N, (cfg0.win 5).flush t = true → (cfg0.win 5).flush t' = true → win0_5.index t = win0_5.index t' → t = t')
theorem inj6 : ∀ t t' : Fin cfg0.N, (cfg0.win 6).flush t = true → (cfg0.win 6).flush t' = true → win0_6.index t = win0_6.index t' → t = t' :=
  (by decide +kernel : ∀ t t' : Fin grid0.N, (cfg0.win 6).flush t = true → (cfg0.win 6).flush t' = true → win0_6.index t = win0_6.index t' → t = t')
theorem inj7 : ∀ t t' : Fin cfg0.N, (cfg0.win 7).flush t = true → (cfg0.win 7).flush t' = true → win0_7.index t = win0_7.index t' → t = t' :=
  (by decide +kernel : ∀ t t' : Fin grid0.N, (cfg0.win 7).flush t = true → (cfg0.win 7).flush t' = true → win0_7.index t = win0_7.index t' → t = t')
theorem inj8 : ∀ t t' : Fin cfg0.N, (cfg0.win 8).flush t = true → (cfg0.win 8).flush t' = true → win0_8.index t = win0_8.index t' → t = t' :=
  (by decide +kernel : ∀ t t' : Fin grid0.N, (cfg0.win 8).flush t = true → (cfg0.win 8).flush t' = true → win0_8.index t = win0_8.index t' → t = t')
theorem inj9 : ∀ t t' : Fin cfg0.N, (cfg0.win 9).flush t = true → (cfg0.win 9).flush t' = true → win0_9.index t = win0_9.index t' → t = t' :=
  (by decide +kernel : ∀ t t' : Fin grid0.N, (cfg0.win 9).flush t = true → (cfg0.win 9).flush t' = true → win0_9.index t = win0_9.index t' → t = t')

/-- A block of a final array is what the point that wrote it back held. -/
theorem blocks5 (c : Dev nD) (t : Fin cfg0.N) (hf : (cfg0.win 5).flush t = true) :
    ((cfg0.win 5).blk t).view.read (Elt F) ((dats m 0 c).arrAt 5 cfg0.N) = (cfg0.win 5).cut (grid0.coords t) ((outsAt0 m c t.val t.isLt).1) := by
  refine ((dats m 0 c).read_blk_arrAt_eq_flushed 5 (fun t t' hf hf' hne => (cfg0.win 5).disjoint_blk fun h => hne (inj5 t t' hf hf' h)) cfg0.N t t.isLt hf).trans ?_
  show (cfg0.win 5).cut (grid0.coords t) ((dats m 0 c).after 5 t) = _
  rw [after0_5]
theorem blocks6 (c : Dev nD) (t : Fin cfg0.N) (hf : (cfg0.win 6).flush t = true) :
    ((cfg0.win 6).blk t).view.read (Elt F) ((dats m 0 c).arrAt 6 cfg0.N) = (cfg0.win 6).cut (grid0.coords t) ((outsAt0 m c t.val t.isLt).2.1) := by
  refine ((dats m 0 c).read_blk_arrAt_eq_flushed 6 (fun t t' hf hf' hne => (cfg0.win 6).disjoint_blk fun h => hne (inj6 t t' hf hf' h)) cfg0.N t t.isLt hf).trans ?_
  show (cfg0.win 6).cut (grid0.coords t) ((dats m 0 c).after 6 t) = _
  rw [after0_6]
theorem blocks7 (c : Dev nD) (t : Fin cfg0.N) (hf : (cfg0.win 7).flush t = true) :
    ((cfg0.win 7).blk t).view.read (Elt F) ((dats m 0 c).arrAt 7 cfg0.N) = (cfg0.win 7).cut (grid0.coords t) ((outsAt0 m c t.val t.isLt).2.2.1) := by
  refine ((dats m 0 c).read_blk_arrAt_eq_flushed 7 (fun t t' hf hf' hne => (cfg0.win 7).disjoint_blk fun h => hne (inj7 t t' hf hf' h)) cfg0.N t t.isLt hf).trans ?_
  show (cfg0.win 7).cut (grid0.coords t) ((dats m 0 c).after 7 t) = _
  rw [after0_7]
theorem blocks8 (c : Dev nD) (t : Fin cfg0.N) (hf : (cfg0.win 8).flush t = true) :
    ((cfg0.win 8).blk t).view.read (Elt F) ((dats m 0 c).arrAt 8 cfg0.N) = (cfg0.win 8).cut (grid0.coords t) ((outsAt0 m c t.val t.isLt).2.2.2.1) := by
  refine ((dats m 0 c).read_blk_arrAt_eq_flushed 8 (fun t t' hf hf' hne => (cfg0.win 8).disjoint_blk fun h => hne (inj8 t t' hf hf' h)) cfg0.N t t.isLt hf).trans ?_
  show (cfg0.win 8).cut (grid0.coords t) ((dats m 0 c).after 8 t) = _
  rw [after0_8]
theorem blocks9 (c : Dev nD) (t : Fin cfg0.N) (hf : (cfg0.win 9).flush t = true) :
    ((cfg0.win 9).blk t).view.read (Elt F) ((dats m 0 c).arrAt 9 cfg0.N) = (cfg0.win 9).cut (grid0.coords t) ((outsAt0 m c t.val t.isLt).2.2.2.2.1) := by
  refine ((dats m 0 c).read_blk_arrAt_eq_flushed 9 (fun t t' hf hf' hne => (cfg0.win 9).disjoint_blk fun h => hne (inj9 t t' hf hf' h)) cfg0.N t t.isLt hf).trans ?_
  show (cfg0.win 9).cut (grid0.coords t) ((dats m 0 c).after 9 t) = _
  rw [after0_9]

/-- What the caches hold at the point that writes prompt tile `t`'s blocks back. -/
theorem held (c : Dev nD) (t : Fin 8) :
    (outsAt0 m c (wb t).val (wb t).isLt).2.1 = cache128 (P m c (pt ⟨t.val, by omega⟩)) 512 (by decide)
    ∧ (outsAt0 m c (wb t).val (wb t).isLt).2.2.1 = cache128 (P m c (pt ⟨t.val, by omega⟩)) 640 (by decide)
    ∧ (outsAt0 m c (wb t).val (wb t).isLt).2.2.2.1 = cache512 (P m c (pt ⟨t.val, by omega⟩)) 1280 (by decide)
    ∧ (outsAt0 m c (wb t).val (wb t).isLt).2.2.2.2.1 = values512 (P m c (pt ⟨t.val, by omega⟩)) := by
  by_cases h : t.val = 7
  · obtain rfl : t = 7 := Fin.ext h
    exact sample_caches m c 15 _ (by decide)
  · have e : wb t = pt ⟨t.val, by omega⟩ := Fin.ext (if_neg h)
    rw [e]
    exact (prompt_tile m c (pt ⟨t.val, by omega⟩) (by show t.val < 8; omega)).2

/-- The projection at a row of a prompt tile. -/
theorem prompt_apply (c : Dev nD) (t : Fin 16) (ht : t.val < 8) (r : Fin 512) (n : Fin 2304) (R : Fin 8192) (hR : R.val = t.val * 512 + r.val) :
    ((dats m 0 c).arrAt 5 cfg0.N : Vec F S8192x2304 .bf16) (ix2 R n) = stored (P m c (pt t)) (ix2 r n) := by
  obtain ⟨h0, h1, hf⟩ := idx5 t
  have e1 := congrFun (blocks5 m c (pt t) hf) (ix2 r n)
  rw [(prompt_tile m c (pt t) ht).1] at e1
  refine Eq.trans ?_ e1
  rw [View.read_apply]
  show ((dats m 0 c).arrAt 5 cfg0.N : Vec F S8192x2304 .bf16) (ix2 R n) = ((dats m 0 c).arrAt 5 cfg0.N : Vec F S8192x2304 .bf16) _
  congr 1
  funext a
  apply Fin.ext
  match a with
  | ⟨0, _⟩ => show R.val = win0_5.index (pt t) 0 * 512 + 1 * r.val; omega
  | ⟨1, _⟩ => show n.val = win0_5.index (pt t) 1 * 2304 + 1 * n.val; omega

/-- The projection at a row of a sample tile. -/
theorem sample_apply (c : Dev nD) (t : Fin 16) (ht : 8 ≤ t.val) (r : Fin 512) (n : Fin 2304) (R : Fin 8192) (hR : R.val = t.val * 512 + r.val) :
    ((dats m 0 c).arrAt 5 cfg0.N : Vec F S8192x2304 .bf16) (ix2 R n)
      = stored (roped (P m c (pt t)) (table (iblk m c 3 (pt t))) (table (iblk m c 4 (pt t)))) (ix2 r n) := by
  obtain ⟨h0, h1, hf⟩ := idx5 t
  have e1 := congrFun (blocks5 m c (pt t) hf) (ix2 r n)
  rw [sample_tile m c (pt t) ht] at e1
  refine Eq.trans ?_ e1
  rw [View.read_apply]
  show ((dats m 0 c).arrAt 5 cfg0.N : Vec F S8192x2304 .bf16) (ix2 R n) = ((dats m 0 c).arrAt 5 cfg0.N : Vec F S8192x2304 .bf16) _
  congr 1
  funext a
  apply Fin.ext
  match a with
  | ⟨0, _⟩ => show R.val = win0_5.index (pt t) 0 * 512 + 1 * r.val; omega
  | ⟨1, _⟩ => show n.val = win0_5.index (pt t) 1 * 2304 + 1 * n.val; omega

/-- The keys of the cache. -/
theorem keys_apply (c : Dev nD) (t : Fin 8) (b : Fin 2) (d : Fin 128) (s : Fin 256) (q : Fin 16) (hq : q.val = t.val * 2 + b.val) :
    ((dats m 0 c).arrAt 6 cfg0.N : Vec F S16x128x256 .f32) (ix3 q d s) = P m c (pt ⟨t.val, by omega⟩) (ix2 (n0 := 512) (n1 := 2304) ⟨b.val * 256 + s.val, by omega⟩ ⟨512 + d.val, by omega⟩) := by
  obtain ⟨h0, h1, h2, hf⟩ := idx6 t
  have e1 := congrFun (blocks6 m c (wb t) hf) (ix3 b d s)
  rw [(held m c t).1] at e1
  refine Eq.trans ?_ e1
  rw [View.read_apply]
  show ((dats m 0 c).arrAt 6 cfg0.N : Vec F S16x128x256 .f32) (ix3 q d s) = ((dats m 0 c).arrAt 6 cfg0.N : Vec F S16x128x256 .f32) _
  congr 1
  funext a
  apply Fin.ext
  match a with
  | ⟨0, _⟩ => show q.val = win0_6.index (wb t) 0 * 2 + 1 * b.val; omega
  | ⟨1, _⟩ => show d.val = win0_6.index (wb t) 1 * 128 + 1 * d.val; omega
  | ⟨2, _⟩ => show s.val = win0_6.index (wb t) 2 * 256 + 1 * s.val; omega

/-- The values of the cache. -/
theorem values_apply (c : Dev nD) (t : Fin 8) (b : Fin 2) (d : Fin 128) (s : Fin 256) (q : Fin 16) (hq : q.val = t.val * 2 + b.val) :
    ((dats m 0 c).arrAt 7 cfg0.N : Vec F S16x128x256 .f32) (ix3 q d s) = P m c (pt ⟨t.val, by omega⟩) (ix2 (n0 := 512) (n1 := 2304) ⟨b.val * 256 + s.val, by omega⟩ ⟨640 + d.val, by omega⟩) := by
  obtain ⟨h0, h1, h2, hf⟩ := idx7 t
  have e1 := congrFun (blocks7 m c (wb t) hf) (ix3 b d s)
  rw [(held m c t).2.1] at e1
  refine Eq.trans ?_ e1
  rw [View.read_apply]
  show ((dats m 0 c).arrAt 7 cfg0.N : Vec F S16x128x256 .f32) (ix3 q d s) = ((dats m 0 c).arrAt 7 cfg0.N : Vec F S16x128x256 .f32) _
  congr 1
  funext a
  apply Fin.ext
  match a with
  | ⟨0, _⟩ => show q.val = win0_7.index (wb t) 0 * 2 + 1 * b.val; omega
  | ⟨1, _⟩ => show d.val = win0_7.index (wb t) 1 * 128 + 1 * d.val; omega
  | ⟨2, _⟩ => show s.val = win0_7.index (wb t) 2 * 256 + 1 * s.val; omega

/-- The differential keys of the cache. -/
theorem diffKeys_apply (c : Dev nD) (t : Fin 8) (b : Fin 2) (d : Fin 512) (s : Fin 256) (q : Fin 16) (hq : q.val = t.val * 2 + b.val) :
    ((dats m 0 c).arrAt 8 cfg0.N : Vec F S16x512x256 .f32) (ix3 q d s) = P m c (pt ⟨t.val, by omega⟩) (ix2 (n0 := 512) (n1 := 2304) ⟨b.val * 256 + s.val, by omega⟩ ⟨1280 + d.val, by omega⟩) := by
  obtain ⟨h0, h1, h2, hf⟩ := idx8 t
  have e1 := congrFun (blocks8 m c (wb t) hf) (ix3 b d s)
  rw [(held m c t).2.2.1] at e1
  refine Eq.trans ?_ e1
  rw [View.read_apply]
  show ((dats m 0 c).arrAt 8 cfg0.N : Vec F S16x512x256 .f32) (ix3 q d s) = ((dats m 0 c).arrAt 8 cfg0.N : Vec F S16x512x256 .f32) _
  congr 1
  funext a
  apply Fin.ext
  match a with
  | ⟨0, _⟩ => show q.val = win0_8.index (wb t) 0 * 2 + 1 * b.val; omega
  | ⟨1, _⟩ => show d.val = win0_8.index (wb t) 1 * 512 + 1 * d.val; omega
  | ⟨2, _⟩ => show s.val = win0_8.index (wb t) 2 * 256 + 1 * s.val; omega

/-- The differential values of the cache. -/
theorem diffValues_apply (c : Dev nD) (t : Fin 8) (r : Fin 512) (d : Fin 512) (R : Fin 4096) (hR : R.val = t.val * 512 + r.val) :
    ((dats m 0 c).arrAt 9 cfg0.N : Vec F S4096x512 .f32) (ix2 R d) = P m c (pt ⟨t.val, by omega⟩) (ix2 (n0 := 512) (n1 := 2304) r ⟨1792 + d.val, by omega⟩) := by
  obtain ⟨h0, h1, hf⟩ := idx9 t
  have e1 := congrFun (blocks9 m c (wb t) hf) (ix2 r d)
  rw [(held m c t).2.2.2] at e1
  refine Eq.trans ?_ (e1.trans ?_)
  · rw [View.read_apply]
    show ((dats m 0 c).arrAt 9 cfg0.N : Vec F S4096x512 .f32) (ix2 R d) = ((dats m 0 c).arrAt 9 cfg0.N : Vec F S4096x512 .f32) _
    congr 1
    funext a
    apply Fin.ext
    match a with
    | ⟨0, _⟩ => show R.val = win0_9.index (wb t) 0 * 512 + 1 * r.val; omega
    | ⟨1, _⟩ => show d.val = win0_9.index (wb t) 1 * 512 + 1 * d.val; omega
  · exact extractStridedSlice_apply ![0, 1792] (P m c (pt ⟨t.val, by omega⟩)) slices_S512x2304_o0_1792_S512x512 (ix2 r d) (ix2 r ⟨1792 + d.val, by omega⟩) (fun a => by
      match a with
      | ⟨0, _⟩ => show r.val = 0 + r.val; omega
      | ⟨1, _⟩ => rfl)

/-- The run with the five results named; the arguments are unchanged. -/
theorem run_blocks (ρ : Dev nD → PrngReg) : θ_run defs (onTc (τ := τ) (main (F := F))) ⟨m, fun _ => 0, ρ⟩ fun r => ∀ c : Dev nD,
      r.2.mem ((c : Thread nD τ).loc main_v55_0) = (dats m 0 c).arrAt 5 cfg0.N
      ∧ r.2.mem ((c : Thread nD τ).loc main_v55_1) = (dats m 0 c).arrAt 6 cfg0.N
      ∧ r.2.mem ((c : Thread nD τ).loc main_v55_2) = (dats m 0 c).arrAt 7 cfg0.N
      ∧ r.2.mem ((c : Thread nD τ).loc main_v55_3) = (dats m 0 c).arrAt 8 cfg0.N
      ∧ r.2.mem ((c : Thread nD τ).loc main_v55_4) = (dats m 0 c).arrAt 9 cfg0.N :=
  (θ_run defs _ _).mono (fun r h c => ⟨(h c).1 5, (h c).1 6, (h c).1 7, (h c).1 8, (h c).1 9⟩) (run_main m ρ)

end Proj

end
-- ==== Proof.ProjValue.lean ====
/- A tile's projection over the extended reals: its entries as sums over the model width, in terms of the call's arguments. -/
module

public import proofs.«01_k».proof.Proof.ProjArrays
public import Idealize.ShloMosaic.Lib.MatmulPlain
public import Idealize.ShloMosaic.PureOps.Ideal.Laws

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx

variable (m : (ℓ : Loc nD τ sig) → Buf (Elt Ideal) ℓ)

theorem zero_f32 : Ideal.ofBits .f32 0x00000000#32 = 0 := by simp [Ideal.ofBits, Ideal.ieee]

/-- Row `R`, column `n` of the projection under the modulation of segment `g`. -/
def lin (x : Vec Ideal S8192x1024 .f32) (v : Vec Ideal S2x8x6x1024 .f32) (w : Vec Ideal S1x1024x2304 .f32) (g : Fin 8) (R : Fin 8192) (n : Fin 2304) : EReal :=
  ∑ k : Fin 1024, (x (ix2 R k) * (Ideal.ofBits .f32 0x3F800000#32 + v (ix4 1 g 1 k)) + v (ix4 1 g 0 k)) * w (ix3 0 k n)

/-- The segment of tile `t`: the prompt's, then one for each sample. -/
def seg (t : Fin 16) : Fin 8 := ⟨if t.val < 8 then 0 else 1 + (t.val - 8) / 4, by split <;> omega⟩

theorem idxIn : ∀ t : Fin 16, (win0_0.index (pt t) (0 : Fin 2) = t.val ∧ win0_0.index (pt t) (1 : Fin 2) = 0)
    ∧ (win0_1.index (pt t) (0 : Fin 4) = 1 ∧ win0_1.index (pt t) (1 : Fin 4) = (seg t).val ∧ win0_1.index (pt t) (2 : Fin 4) = 0 ∧ win0_1.index (pt t) (3 : Fin 4) = 0) := by
  decide +kernel

/-- The tables' block of a sample tile: its 512 positions. -/
theorem idxTab : ∀ t : Fin 16, 8 ≤ t.val → (win0_3.index (pt t) (0 : Fin 2) = (t.val - 8) % 4 ∧ win0_3.index (pt t) (1 : Fin 2) = 0)
    ∧ (win0_4.index (pt t) (0 : Fin 2) = (t.val - 8) % 4 ∧ win0_4.index (pt t) (1 : Fin 2) = 0) := by
  decide +kernel

theorem blk0 (c : Dev nD) (t : Fin 16) (r : Fin 512) (k : Fin 1024) (R : Fin 8192) (hR : R.val = t.val * 512 + r.val) :
    (iblk m c 0 (pt t) : Vec Ideal S512x1024 .f32) (ix2 r k) = m ((c : Thread nD τ).loc main_arg0) (ix2 R k) := by
  unfold iblk
  rw [View.read_apply]
  show V m c main_arg0 _ = _
  rw [V_main_arg0]
  congr 1
  funext a
  apply Fin.ext
  obtain ⟨⟨h0, h1⟩, -⟩ := idxIn t
  match a with
  | ⟨0, _⟩ => show win0_0.index (pt t) 0 * 512 + 1 * r.val = R.val; omega
  | ⟨1, _⟩ => show win0_0.index (pt t) 1 * 1024 + 1 * k.val = k.val; omega

theorem blk1 (c : Dev nD) (t : Fin 16) (j : Fin 6) (k : Fin 1024) :
    (iblk m c 1 (pt t) : Vec Ideal S1x1x6x1024 .f32) (ix4 0 0 j k) = m ((c : Thread nD τ).loc main_arg1) (ix4 1 (seg t) j k) := by
  unfold iblk
  rw [View.read_apply]
  show V m c main_arg1 _ = _
  rw [V_main_arg1]
  congr 1
  funext a
  apply Fin.ext
  obtain ⟨-, h0, h1, h2, h3⟩ := idxIn t
  match a with
  | ⟨0, _⟩ => show win0_1.index (pt t) 0 * 1 + 1 * 0 = 1; omega
  | ⟨1, _⟩ => show win0_1.index (pt t) 1 * 1 + 1 * 0 = (seg t).val; omega
  | ⟨2, _⟩ => show win0_1.index (pt t) 2 * 6 + 1 * j.val = j.val; omega
  | ⟨3, _⟩ => show win0_1.index (pt t) 3 * 1024 + 1 * k.val = k.val; omega

theorem blk3 (c : Dev nD) (t : Fin 16) (ht : 8 ≤ t.val) (r : Fin 512) (l : Fin 128) (s : Fin 2048) (hs : s.val = (t.val - 8) % 4 * 512 + r.val) :
    (iblk m c 3 (pt t) : Vec Ideal S512x128 .f32) (ix2 r l) = (V m c main_v47 : Vec Ideal S2048x128 .f32) (ix2 s l) := by
  unfold iblk
  rw [View.read_apply]
  show V m c main_v47 _ = V m c main_v47 _
  congr 1
  funext a
  apply Fin.ext
  obtain ⟨⟨h0, h1⟩, -⟩ := idxTab t ht
  match a with
  | ⟨0, _⟩ => show win0_3.index (pt t) 0 * 512 + 1 * r.val = s.val; omega
  | ⟨1, _⟩ => show win0_3.index (pt t) 1 * 128 + 1 * l.val = l.val; omega

theorem blk4 (c : Dev nD) (t : Fin 16) (ht : 8 ≤ t.val) (r : Fin 512) (l : Fin 128) (s : Fin 2048) (hs : s.val = (t.val - 8) % 4 * 512 + r.val) :
    (iblk m c 4 (pt t) : Vec Ideal S512x128 .f32) (ix2 r l) = (V m c main_v54 : Vec Ideal S2048x128 .f32) (ix2 s l) := by
  unfold iblk
  rw [View.read_apply]
  show V m c main_v54 _ = V m c main_v54 _
  congr 1
  funext a
  apply Fin.ext
  obtain ⟨-, h0, h1⟩ := idxTab t ht
  match a with
  | ⟨0, _⟩ => show win0_4.index (pt t) 0 * 512 + 1 * r.val = s.val; omega
  | ⟨1, _⟩ => show win0_4.index (pt t) 1 * 128 + 1 * l.val = l.val; omega

/-- One row of six, as a row of its own. -/
theorem rowOf_apply (y : FVec Ideal S6x1024 .f32) (k : Fin 1024) (j : ℕ) (j' : Fin 6) (hj : j'.val = j) (h : S6x1024.Slices ![j, 0] S1x1024) :
    extractStridedSlice S1x1024 ![j, 0] y h (ix2 (n0 := 1) (n1 := 1024) 0 k) = y (ix2 (n0 := 6) (n1 := 1024) j' k) :=
  extractStridedSlice_apply _ y h (ix2 (n0 := 1) (n1 := 1024) 0 k) (ix2 (n0 := 6) (n1 := 1024) j' k) (fun a => by
    match a with
    | ⟨0, _⟩ => exact hj
    | ⟨1, _⟩ => exact (Nat.zero_add _).symm)

/-- One of the six modulation vectors of a tile. -/
theorem modRow_apply (v : Vec Ideal S1x1x6x1024 .f32) (k : Fin 1024) (j : Fin 6) :
    modRows v (ix2 (n0 := 6) (n1 := 1024) j k) = v (ix4 0 0 j k) :=
  shapeCast_apply v shapeCasts_S1x1x6x1024_S6x1024 (ix2 (n0 := 6) (n1 := 1024) j k) (ix4 0 0 j k) (by
    rewrite [Shape.rowMajor_val_four, Shape.rowMajor_val_two]; show ((0 * 1 + 0) * 6 + j.val) * 1024 + k.val = j.val * 1024 + k.val; omega)

theorem row_apply (y : FVec Ideal S1x1024 .f32) (r : Fin 512) (k : Fin 1024) :
    broadcastTo S512x1024 y broadcasts_S1x1024_S512x1024 (ix2 r k) = y (ix2 0 k) :=
  broadcastTo_apply y _ (ix2 r k) (ix2 0 k) (fun a => by
    match a with
    | ⟨0, _⟩ => show 0 = if (1 : Nat) = 1 then 0 else r.val; rw [if_pos rfl]
    | ⟨1, _⟩ => show k.val = if (1024 : Nat) = 1 then 0 else k.val; rw [if_neg (by decide)])

theorem modulated_apply (v : Vec Ideal S1x1x6x1024 .f32) (x : Vec Ideal S512x1024 .f32) (r : Fin 512) (k : Fin 1024) :
    modulated v x (ix2 r k) = x (ix2 r k) * (Ideal.ofBits .f32 0x3F800000#32 + v (ix4 0 0 1 k)) + v (ix4 0 0 0 k) := by
  unfold modulated
  rw [addf_apply, mulf_apply, row_apply, row_apply, addf_apply, broadcast_apply,
    rowOf_apply _ k 1 1 rfl, rowOf_apply _ k 0 0 rfl, modRow_apply, modRow_apply]
  rfl

theorem weights_apply (w : Vec Ideal S1x1024x2304 .f32) (k : Fin 1024) (n : Fin 2304) : weights w (ix2 k n) = w (ix3 0 k n) := by
  unfold weights
  rw [shapeCast_self, truncf_apply]
  exact shapeCast_apply w _ (ix2 k n) (ix3 0 k n) (by
    rewrite [Shape.rowMajor_val_three, Shape.rowMajor_val_two]; show (0 * 1024 + k.val) * 2304 + n.val = k.val * 2304 + n.val; omega)

/-- The projection of tile `t`, entry by entry. -/
theorem P_apply (c : Dev nD) (t : Fin 16) (r : Fin 512) (n : Fin 2304) (R : Fin 8192) (hR : R.val = t.val * 512 + r.val) :
    P m c (pt t) (ix2 r n)
      = lin (m ((c : Thread nD τ).loc main_arg0)) (m ((c : Thread nD τ).loc main_arg1)) (m ((c : Thread nD τ).loc main_arg2)) (seg t) R n := by
  unfold P projected
  refine (Ideal.matmul_plain_apply (M := 512) (K := 1024) (N := 2304) none _ _ _ r n).trans ?_
  rw [show (constant (F := Ideal) S512x2304 .f32 0x00000000#32) (ix2 r n) = Ideal.ofBits .f32 0x00000000#32 from rfl, zero_f32, zero_add]
  unfold lin
  refine Finset.sum_congr rfl fun k _ => ?_
  rw [truncf_apply, modulated_apply]
  unfold W
  rw [weights_apply, blk0 m c t r k R hR, blk1 m c t 1 k, blk1 m c t 0 k]

end Proj

end
-- ==== Proof.ProjTables.lean ====
/- The projection's rotation tables: the program's cosine and sine arrays at an index, over the angles the reference computes. -/
module

public import proofs.«01_k».proof.Proof.Gen.ProjKernelIdeal.Frame
public import proofs.«01_k».proof.Proof.Gen.ProjReferenceIdeal.Read
public import Idealize.ShloMosaic.Lib.StableHlo.Run
public import Idealize.ShloMosaic.Lib.Pipeline.Value
public import Idealize.ShloMosaic.Lib.ValueIdx
public import Idealize.ShloMosaic.Lib.Tactic

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx

/-- The angles of the grid rows, and of the grid columns: position times frequency. -/
def rowAng : FVec Ideal S2048x16 .f32 := Cert.ProjReferenceIdeal.Read.val_main_v54 (F := Ideal)
def colAng : FVec Ideal S2048x16 .f32 := Cert.ProjReferenceIdeal.Read.val_main_v74 (F := Ideal)

/-- The angles of a head's 64 columns. -/
def ang : FVec Ideal S2048x64 .f32 :=
  concatenate S2048x64 1 [⟨S2048x16, rowAng⟩, ⟨S2048x16, rowAng⟩, ⟨S2048x16, colAng⟩, ⟨S2048x16, colAng⟩] concatenates_S2048x16_S2048x16_S2048x16_S2048x16_S2048x64_d1

/-- Minus one and one, 16 lanes each. -/
def ones : FVec Ideal S16 .f32 := broadcastInDim S16 ![] bcast_S_S16 (constant (F := Ideal) S_ .f32 0x3F800000#32)

/-- The sign of a head's 64 columns. -/
def sign : FVec Ideal S64 .f32 :=
  concatenate S64 0 [⟨S16, Host.negf ones⟩, ⟨S16, ones⟩, ⟨S16, Host.negf ones⟩, ⟨S16, ones⟩] concatenates_S16_S16_S16_S16_S64_d0

/-- 64 columns twice. -/
def tile2 (v : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 v shapeCasts_S2048x64_S1x2048x1x64)) shapeCasts_S1x2048x2x64_S2048x128

section
variable {F : FTy → Type} [FloatOps F]

/-- The two concatenations, named, so that their operands are plain arguments. -/
def fnAng : (main_v20 : Ref sig .tc).ty.Contents (Elt F) → (main_v25 : Ref sig .tc).ty.Contents (Elt F) → (main_v30 : Ref sig .tc).ty.Contents (Elt F) → (main_v35 : Ref sig .tc).ty.Contents (Elt F) → (main_v36 : Ref sig .tc).ty.Contents (Elt F) :=
  fun a b c d => concatenate S2048x64 1 [⟨S2048x16, a⟩, ⟨S2048x16, b⟩, ⟨S2048x16, c⟩, ⟨S2048x16, d⟩] concatenates_S2048x16_S2048x16_S2048x16_S2048x16_S2048x64_d1
def fnSign : (main_v38 : Ref sig .tc).ty.Contents (Elt F) → (main_v39 : Ref sig .tc).ty.Contents (Elt F) → (main_v41 : Ref sig .tc).ty.Contents (Elt F) → (main_v42 : Ref sig .tc).ty.Contents (Elt F) → (main_v43 : Ref sig .tc).ty.Contents (Elt F) :=
  fun a b c d => concatenate S64 0 [⟨S16, a⟩, ⟨S16, b⟩, ⟨S16, c⟩, ⟨S16, d⟩] concatenates_S16_S16_S16_S16_S64_d0

/-- The operations before the call, with the two concatenations by name. -/
def tableOps : List (HloOp τ sig (Elt F)) :=
  ( StableHlo.nullary main_v0 (iotaInDim S32 32 0)
  :: StableHlo.unary main_v0 main_v1 (broadcastInDim S32x1 ![0] bcast_S32_S32x1_0 : (⟨S32, .i32⟩ : BufTy).Contents (Elt F) → (⟨S32x1, .i32⟩ : BufTy).Contents (Elt F))
  :: StableHlo.unary main_v1 main_v2 (broadcastInDim S32x64 ![0, 1] bcast_S32x1_S32x64_0_1 : (⟨S32x1, .i32⟩ : BufTy).Contents (Elt F) → (⟨S32x64, .i32⟩ : BufTy).Contents (Elt F))
  :: StableHlo.reshape main_v2 main_v3 (rfl : (.i32 : EltTy) = .i32) shapeCasts_S32x64_S2048
  :: StableHlo.unary main_v3 main_v4 (sitofp .f32 : (⟨S2048, .i32⟩ : BufTy).Contents (Elt F) → (⟨S2048, .f32⟩ : BufTy).Contents (Elt F))
  :: StableHlo.nullary main_v5 (iotaInDim S64 32 0)
  :: StableHlo.unary main_v5 main_v6 (broadcastInDim S1x64 ![1] bcast_S64_S1x64_1 : (⟨S64, .i32⟩ : BufTy).Contents (Elt F) → (⟨S1x64, .i32⟩ : BufTy).Contents (Elt F))
  :: StableHlo.unary main_v6 main_v7 (broadcastInDim S32x64 ![0, 1] bcast_S1x64_S32x64_0_1 : (⟨S1x64, .i32⟩ : BufTy).Contents (Elt F) → (⟨S32x64, .i32⟩ : BufTy).Contents (Elt F))
  :: StableHlo.reshape main_v7 main_v8 (rfl : (.i32 : EltTy) = .i32) shapeCasts_S32x64_S2048
  :: StableHlo.unary main_v8 main_v9 (sitofp .f32 : (⟨S2048, .i32⟩ : BufTy).Contents (Elt F) → (⟨S2048, .f32⟩ : BufTy).Contents (Elt F))
  :: StableHlo.nullary main_v10 (sitofp .f32 (iotaInDim S16 32 0))
  :: StableHlo.unary main_v10 main_v11 (Host.negf : (⟨S16, .f32⟩ : BufTy).Contents (Elt F) → (⟨S16, .f32⟩ : BufTy).Contents (Elt F))
  :: StableHlo.nullary main_cst (constant S_ .f32 0x41800000#32)
  :: StableHlo.unary main_cst main_v12 (broadcastInDim S16 ![] bcast_S_S16 : (⟨S_, .f32⟩ : BufTy).Contents (Elt F) → (⟨S16, .f32⟩ : BufTy).Contents (Elt F))
  :: StableHlo.binary main_v11 main_v12 main_v13 (Host.divf : (⟨S16, .f32⟩ : BufTy).Contents (Elt F) → (⟨S16, .f32⟩ : BufTy).Contents (Elt F) → (⟨S16, .f32⟩ : BufTy).Contents (Elt F))
  :: StableHlo.nullary main_cst_0 (constant S_ .f32 0x461C4000#32)
  :: StableHlo.unary main_cst_0 main_v14 (broadcastInDim S16 ![] bcast_S_S16 : (⟨S_, .f32⟩ : BufTy).Contents (Elt F) → (⟨S16, .f32⟩ : BufTy).Contents (Elt F))
  :: StableHlo.binary main_v14 main_v13 main_v15 (Host.powf : (⟨S16, .f32⟩ : BufTy).Contents (Elt F) → (⟨S16, .f32⟩ : BufTy).Contents (Elt F) → (⟨S16, .f32⟩ : BufTy).Contents (Elt F))
  :: StableHlo.unary main_v4 main_v16 (broadcastInDim S2048x1 ![0] bcast_S2048_S2048x1_0 : (⟨S2048, .f32⟩ : BufTy).Contents (Elt F) → (⟨S2048x1, .f32⟩ : BufTy).Contents (Elt F))
  :: StableHlo.unary main_v15 main_v17 (broadcastInDim S1x16 ![1] bcast_S16_S1x16_1 : (⟨S16, .f32⟩ : BufTy).Contents (Elt F) → (⟨S1x16, .f32⟩ : BufTy).Contents (Elt F))
  :: StableHlo.unary main_v16 main_v18 (broadcastInDim S2048x16 ![0, 1] bcast_S2048x1_S2048x16_0_1 : (⟨S2048x1, .f32⟩ : BufTy).Contents (Elt F) → (⟨S2048x16, .f32⟩ : BufTy).Contents (Elt F))
  :: StableHlo.unary main_v17 main_v19 (broadcastInDim S2048x16 ![0, 1] bcast_S1x16_S2048x16_0_1 : (⟨S1x16, .f32⟩ : BufTy).Contents (Elt F) → (⟨S2048x16, .f32⟩ : BufTy).Contents (Elt F))
  :: StableHlo.binary main_v18 main_v19 main_v20 (mulf : (⟨S2048x16, .f32⟩ : BufTy).Contents (Elt F) → (⟨S2048x16, .f32⟩ : BufTy).Contents (Elt F) → (⟨S2048x16, .f32⟩ : BufTy).Contents (Elt F))
  :: StableHlo.unary main_v4 main_v21 (broadcastInDim S2048x1 ![0] bcast_S2048_S2048x1_0 : (⟨S2048, .f32⟩ : BufTy).Contents (Elt F) → (⟨S2048x1, .f32⟩ : BufTy).Contents (Elt F))
  :: StableHlo.unary main_v15 main_v22 (broadcastInDim S1x16 ![1] bcast_S16_S1x16_1 : (⟨S16, .f32⟩ : BufTy).Contents (Elt F) → (⟨S1x16, .f32⟩ : BufTy).Contents (Elt F))
  :: StableHlo.unary main_v21 main_v23 (broadcastInDim S2048x16 ![0, 1] bcast_S2048x1_S2048x16_0_1 : (⟨S2048x1, .f32⟩ : BufTy).Contents (Elt F) → (⟨S2048x16, .f32⟩ : BufTy).Contents (Elt F))
  :: StableHlo.unary main_v22 main_v24 (broadcastInDim S2048x16 ![0, 1] bcast_S1x16_S2048x16_0_1 : (⟨S1x16, .f32⟩ : BufTy).Contents (Elt F) → (⟨S2048x16, .f32⟩ : BufTy).Contents (Elt F))
  :: StableHlo.binary main_v23 main_v24 main_v25 (mulf : (⟨S2048x16, .f32⟩ : BufTy).Contents (Elt F) → (⟨S2048x16, .f32⟩ : BufTy).Contents (Elt F) → (⟨S2048x16, .f32⟩ : BufTy).Contents (Elt F))
  :: StableHlo.unary main_v9 main_v26 (broadcastInDim S2048x1 ![0] bcast_S2048_S2048x1_0 : (⟨S2048, .f32⟩ : BufTy).Contents (Elt F) → (⟨S2048x1, .f32⟩ : BufTy).Contents (Elt F))
  :: StableHlo.unary main_v15 main_v27 (broadcastInDim S1x16 ![1] bcast_S16_S1x16_1 : (⟨S16, .f32⟩ : BufTy).Contents (Elt F) → (⟨S1x16, .f32⟩ : BufTy).Contents (Elt F))
  :: StableHlo.unary main_v26 main_v28 (broadcastInDim S2048x16 ![0, 1] bcast_S2048x1_S2048x16_0_1 : (⟨S2048x1, .f32⟩ : BufTy).Contents (Elt F) → (⟨S2048x16, .f32⟩ : BufTy).Contents (Elt F))
  :: StableHlo.unary main_v27 main_v29 (broadcastInDim S2048x16 ![0, 1] bcast_S1x16_S2048x16_0_1 : (⟨S1x16, .f32⟩ : BufTy).Contents (Elt F) → (⟨S2048x16, .f32⟩ : BufTy).Contents (Elt F))
  :: StableHlo.binary main_v28 main_v29 main_v30 (mulf : (⟨S2048x16, .f32⟩ : BufTy).Contents (Elt F) → (⟨S2048x16, .f32⟩ : BufTy).Contents (Elt F) → (⟨S2048x16, .f32⟩ : BufTy).Contents (Elt F))
  :: StableHlo.unary main_v9 main_v31 (broadcastInDim S2048x1 ![0] bcast_S2048_S2048x1_0 : (⟨S2048, .f32⟩ : BufTy).Contents (Elt F) → (⟨S2048x1, .f32⟩ : BufTy).Contents (Elt F))
  :: StableHlo.unary main_v15 main_v32 (broadcastInDim S1x16 ![1] bcast_S16_S1x16_1 : (⟨S16, .f32⟩ : BufTy).Contents (Elt F) → (⟨S1x16, .f32⟩ : BufTy).Contents (Elt F))
  :: StableHlo.unary main_v31 main_v33 (broadcastInDim S2048x16 ![0, 1] bcast_S2048x1_S2048x16_0_1 : (⟨S2048x1, .f32⟩ : BufTy).Contents (Elt F) → (⟨S2048x16, .f32⟩ : BufTy).Contents (Elt F))
  :: StableHlo.unary main_v32 main_v34 (broadcastInDim S2048x16 ![0, 1] bcast_S1x16_S2048x16_0_1 : (⟨S1x16, .f32⟩ : BufTy).Contents (Elt F) → (⟨S2048x16, .f32⟩ : BufTy).Contents (Elt F))
  :: StableHlo.binary main_v33 main_v34 main_v35 (mulf : (⟨S2048x16, .f32⟩ : BufTy).Contents (Elt F) → (⟨S2048x16, .f32⟩ : BufTy).Contents (Elt F) → (⟨S2048x16, .f32⟩ : BufTy).Contents (Elt F))
  :: StableHlo.nary ![main_v20, main_v25, main_v30, main_v35] main_v36 (fun u => fnAng (u 0) (u 1) (u 2) (u 3))
  :: StableHlo.nullary main_cst_1 (constant S_ .f32 0x3F800000#32)
  :: StableHlo.unary main_cst_1 main_v37 (broadcastInDim S16 ![] bcast_S_S16 : (⟨S_, .f32⟩ : BufTy).Contents (Elt F) → (⟨S16, .f32⟩ : BufTy).Contents (Elt F))
  :: StableHlo.unary main_v37 main_v38 (Host.negf : (⟨S16, .f32⟩ : BufTy).Contents (Elt F) → (⟨S16, .f32⟩ : BufTy).Contents (Elt F))
  :: StableHlo.nullary main_cst_2 (constant S_ .f32 0x3F800000#32)
  :: StableHlo.unary main_cst_2 main_v39 (broadcastInDim S16 ![] bcast_S_S16 : (⟨S_, .f32⟩ : BufTy).Contents (Elt F) → (⟨S16, .f32⟩ : BufTy).Contents (Elt F))
  :: StableHlo.nullary main_cst_3 (constant S_ .f32 0x3F800000#32)
  :: StableHlo.unary main_cst_3 main_v40 (broadcastInDim S16 ![] bcast_S_S16 : (⟨S_, .f32⟩ : BufTy).Contents (Elt F) → (⟨S16, .f32⟩ : BufTy).Contents (Elt F))
  :: StableHlo.unary main_v40 main_v41 (Host.negf : (⟨S16, .f32⟩ : BufTy).Contents (Elt F) → (⟨S16, .f32⟩ : BufTy).Contents (Elt F))
  :: StableHlo.nullary main_cst_4 (constant S_ .f32 0x3F800000#32)
  :: StableHlo.unary main_cst_4 main_v42 (broadcastInDim S16 ![] bcast_S_S16 : (⟨S_, .f32⟩ : BufTy).Contents (Elt F) → (⟨S16, .f32⟩ : BufTy).Contents (Elt F))
  :: StableHlo.nary ![main_v38, main_v39, main_v41, main_v42] main_v43 (fun u => fnSign (u 0) (u 1) (u 2) (u 3))
  :: StableHlo.unary main_v36 main_v44 (Host.cos : (⟨S2048x64, .f32⟩ : BufTy).Contents (Elt F) → (⟨S2048x64, .f32⟩ : BufTy).Contents (Elt F))
  :: StableHlo.reshape main_v44 main_v45 (rfl : (.f32 : EltTy) = .f32) shapeCasts_S2048x64_S1x2048x1x64
  :: StableHlo.unary main_v45 main_v46 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v46 main_v47 (rfl : (.f32 : EltTy) = .f32) shapeCasts_S1x2048x2x64_S2048x128
  :: StableHlo.unary main_v36 main_v48 (Host.sin : (⟨S2048x64, .f32⟩ : BufTy).Contents (Elt F) → (⟨S2048x64, .f32⟩ : BufTy).Contents (Elt F))
  :: StableHlo.unary main_v43 main_v49 (broadcastInDim S1x64 ![1] bcast_S64_S1x64_1 : (⟨S64, .f32⟩ : BufTy).Contents (Elt F) → (⟨S1x64, .f32⟩ : BufTy).Contents (Elt F))
  :: StableHlo.unary main_v49 main_v50 (broadcastInDim S2048x64 ![0, 1] bcast_S1x64_S2048x64_0_1 : (⟨S1x64, .f32⟩ : BufTy).Contents (Elt F) → (⟨S2048x64, .f32⟩ : BufTy).Contents (Elt F))
  :: StableHlo.binary main_v48 main_v50 main_v51 (mulf : (⟨S2048x64, .f32⟩ : BufTy).Contents (Elt F) → (⟨S2048x64, .f32⟩ : BufTy).Contents (Elt F) → (⟨S2048x64, .f32⟩ : BufTy).Contents (Elt F))
  :: StableHlo.reshape main_v51 main_v52 (rfl : (.f32 : EltTy) = .f32) shapeCasts_S2048x64_S1x2048x1x64
  :: StableHlo.unary main_v52 main_v53 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v53 main_v54 (rfl : (.f32 : EltTy) = .f32) shapeCasts_S1x2048x2x64_S2048x128
  :: [] )

end

theorem hostOps0_eq : (hostOps0 (F := Ideal) : List (HloOp τ sig (Elt Ideal))) = tableOps (F := Ideal) := rfl

variable (m : (ℓ : Loc nD τ sig) → Buf (Elt Ideal) ℓ)

theorem V_cos (c : Dev nD) : V m c main_v47 = tile2 (Host.cos ang) := by
  show StableHlo.after (hostOps0 (F := Ideal)) _ _ = _
  rw [hostOps0_eq]
  simp only [tableOps]
  after_results
  all_goals rfl

theorem V_sin (c : Dev nD) : V m c main_v54 = tile2 (mulf (Host.sin ang) (broadcastInDim S2048x64 ![0, 1] bcast_S1x64_S2048x64_0_1 (broadcastInDim S1x64 ![1] bcast_S64_S1x64_1 sign))) := by
  show StableHlo.after (hostOps0 (F := Ideal)) _ _ = _
  rw [hostOps0_eq]
  simp only [tableOps]
  after_results
  all_goals rfl

/-- The angle of position `s` at place `i` of a head's quarter `q`. -/
def angle (q : Fin 4) (s : Fin 2048) (i : Fin 16) : EReal := if q.val < 2 then rowAng (ix2 s i) else colAng (ix2 s i)

theorem ang_apply (s : Fin 2048) (q : Fin 4) (i : Fin 16) (j : Fin 64) (hj : j.val = q.val * 16 + i.val) : ang (ix2 s j) = angle q s i := by
  unfold ang angle
  match q, hj with
  | ⟨0, _⟩, hj =>
    rw [if_pos (by show (0 : Nat) < 2; decide)]
    exact concatenate_apply_piece (t := S2048x64) 1 _ _ (ix2 s j) 0 (by decide) S2048x16 rowAng rfl rfl 0 rfl (ix2 s i)
      (fun b hb => by
        match b with
        | ⟨0, _⟩ => rfl
        | ⟨1, _⟩ => exact absurd rfl hb)
      (by show 0 + i.val = j.val; have : j.val = 0 * 16 + i.val := hj; omega)
  | ⟨1, _⟩, hj =>
    rw [if_pos (by show (1 : Nat) < 2; decide)]
    exact concatenate_apply_piece (t := S2048x64) 1 _ _ (ix2 s j) 1 (by decide) S2048x16 rowAng rfl rfl 16 rfl (ix2 s i)
      (fun b hb => by
        match b with
        | ⟨0, _⟩ => rfl
        | ⟨1, _⟩ => exact absurd rfl hb)
      (by show 16 + i.val = j.val; have : j.val = 1 * 16 + i.val := hj; omega)
  | ⟨2, _⟩, hj =>
    rw [if_neg (by show ¬((2 : Nat) < 2); decide)]
    exact concatenate_apply_piece (t := S2048x64) 1 _ _ (ix2 s j) 2 (by decide) S2048x16 colAng rfl rfl 32 rfl (ix2 s i)
      (fun b hb => by
        match b with
        | ⟨0, _⟩ => rfl
        | ⟨1, _⟩ => exact absurd rfl hb)
      (by show 32 + i.val = j.val; have : j.val = 2 * 16 + i.val := hj; omega)
  | ⟨3, _⟩, hj =>
    rw [if_neg (by show ¬((3 : Nat) < 2); decide)]
    exact concatenate_apply_piece (t := S2048x64) 1 _ _ (ix2 s j) 3 (by decide) S2048x16 colAng rfl rfl 48 rfl (ix2 s i)
      (fun b hb => by
        match b with
        | ⟨0, _⟩ => rfl
        | ⟨1, _⟩ => exact absurd rfl hb)
      (by show 48 + i.val = j.val; have : j.val = 3 * 16 + i.val := hj; omega)

theorem one_f32 : Ideal.ofBits .f32 0x3F800000#32 = 1 := by
  simp [Ideal.ofBits, Ideal.ieee, -EReal.coe_mul]; norm_num

theorem ones_apply (i : S16.Idx) : ones i = 1 := one_f32

/-- Minus one in a head's first and third quarter, one in the others. -/
def sgn (q : Fin 4) : EReal := if q.val % 2 = 0 then -1 else 1

theorem sign_apply (q : Fin 4) (i : Fin 16) (j : Fin 64) (hj : j.val = q.val * 16 + i.val) : sign (ix1 j) = sgn q := by
  unfold sign sgn
  match q, hj with
  | ⟨0, _⟩, hj =>
    rw [if_pos (by show (0 : Nat) % 2 = 0; decide)]
    refine (concatenate_apply_piece (t := S64) 0 _ _ (ix1 j) 0 (by decide) S16 (Host.negf ones) rfl rfl 0 rfl (ix1 i)
      (fun b hb => by
        match b with
        | ⟨0, _⟩ => exact absurd rfl hb)
      (by show 0 + i.val = j.val; have : j.val = 0 * 16 + i.val := hj; omega)).trans ?_
    exact congrArg Neg.neg (ones_apply _)
  | ⟨1, _⟩, hj =>
    rw [if_neg (by show ¬((1 : Nat) % 2 = 0); decide)]
    refine (concatenate_apply_piece (t := S64) 0 _ _ (ix1 j) 1 (by decide) S16 (ones) rfl rfl 16 rfl (ix1 i)
      (fun b hb => by
        match b with
        | ⟨0, _⟩ => exact absurd rfl hb)
      (by show 16 + i.val = j.val; have : j.val = 1 * 16 + i.val := hj; omega)).trans ?_
    exact ones_apply _
  | ⟨2, _⟩, hj =>
    rw [if_pos (by show (2 : Nat) % 2 = 0; decide)]
    refine (concatenate_apply_piece (t := S64) 0 _ _ (ix1 j) 2 (by decide) S16 (Host.negf ones) rfl rfl 32 rfl (ix1 i)
      (fun b hb => by
        match b with
        | ⟨0, _⟩ => exact absurd rfl hb)
      (by show 32 + i.val = j.val; have : j.val = 2 * 16 + i.val := hj; omega)).trans ?_
    exact congrArg Neg.neg (ones_apply _)
  | ⟨3, _⟩, hj =>
    rw [if_neg (by show ¬((3 : Nat) % 2 = 0); decide)]
    refine (concatenate_apply_piece (t := S64) 0 _ _ (ix1 j) 3 (by decide) S16 (ones) rfl rfl 48 rfl (ix1 i)
      (fun b hb => by
        match b with
        | ⟨0, _⟩ => exact absurd rfl hb)
      (by show 48 + i.val = j.val; have : j.val = 3 * 16 + i.val := hj; omega)).trans ?_
    exact ones_apply _

theorem tile2_apply (v : FVec Ideal S2048x64 .f32) (s : Fin 2048) (l : Fin 128) (j : Fin 64) (hj : j.val = l.val % 64) : tile2 v (ix2 s l) = v (ix2 s j) := by
  unfold tile2
  refine (shapeCast_apply _ _ (ix2 s l) (ix4 (n0 := 1) (n1 := 2048) (n2 := 2) (n3 := 64) 0 s ⟨l.val / 64, by omega⟩ j) (by
    rewrite [Shape.rowMajor_val_four, Shape.rowMajor_val_two]; show ((0 * 2048 + s.val) * 2 + l.val / 64) * 64 + j.val = s.val * 128 + l.val; omega)).trans ?_
  refine (broadcastInDim_apply _ _ _ (ix4 (n0 := 1) (n1 := 2048) (n2 := 2) (n3 := 64) 0 s ⟨l.val / 64, by omega⟩ j) (ix4 (n0 := 1) (n1 := 2048) (n2 := 1) (n3 := 64) 0 s 0 j) (fun a => by
    match a with
    | ⟨0, _⟩ => show 0 = if (1 : Nat) = 1 then 0 else 0; rw [if_pos rfl]
    | ⟨1, _⟩ => show s.val = if (2048 : Nat) = 1 then 0 else s.val; rw [if_neg (by decide)]
    | ⟨2, _⟩ => show 0 = if (1 : Nat) = 1 then 0 else l.val / 64; rw [if_pos rfl]
    | ⟨3, _⟩ => show j.val = if (64 : Nat) = 1 then 0 else j.val; rw [if_neg (by decide)])).trans ?_
  exact shapeCast_apply v _ (ix4 (n0 := 1) (n1 := 2048) (n2 := 1) (n3 := 64) 0 s 0 j) (ix2 s j) (by
    rewrite [Shape.rowMajor_val_four, Shape.rowMajor_val_two]; show s.val * 64 + j.val = ((0 * 2048 + s.val) * 1 + 0) * 64 + j.val; omega)

/-- The host's cosine and sine of one number. -/
def hcos (x : EReal) : EReal := FloatOps.hostUnary (F := Ideal) (φ := .f32) .cos x
def hsin (x : EReal) : EReal := FloatOps.hostUnary (F := Ideal) (φ := .f32) .sin x

/-- The cosine table at position `s`, lane `l` of a head's quarter `q`. -/
theorem cos_apply (c : Dev nD) (s : Fin 2048) (q : Fin 4) (i : Fin 16) (l : Fin 128) (hl : l.val % 64 = q.val * 16 + i.val) :
    (V m c main_v47 : Vec Ideal S2048x128 .f32) (ix2 s l) = hcos (angle q s i) := by
  rw [V_cos, tile2_apply _ s l ⟨l.val % 64, Nat.mod_lt _ (by decide)⟩ rfl]
  exact congrArg hcos (ang_apply s q i _ hl)

/-- The sine table, with the sign of the quarter. -/
theorem sin_apply (c : Dev nD) (s : Fin 2048) (q : Fin 4) (i : Fin 16) (l : Fin 128) (hl : l.val % 64 = q.val * 16 + i.val) :
    (V m c main_v54 : Vec Ideal S2048x128 .f32) (ix2 s l) = hsin (angle q s i) * sgn q := by
  rw [V_sin, tile2_apply _ s l ⟨l.val % 64, Nat.mod_lt _ (by decide)⟩ rfl, mulf_apply]
  refine congrArg₂ (fun a b : EReal => a * b) (congrArg hsin (ang_apply s q i _ hl)) ?_
  refine (broadcastInDim_apply _ _ _ (ix2 (n0 := 2048) (n1 := 64) s ⟨l.val % 64, Nat.mod_lt _ (by decide)⟩) (ix2 (n0 := 1) (n1 := 64) 0 ⟨l.val % 64, Nat.mod_lt _ (by decide)⟩) (fun a => by
    match a with
    | ⟨0, _⟩ => show 0 = if (1 : Nat) = 1 then 0 else s.val; rw [if_pos rfl]
    | ⟨1, _⟩ => show l.val % 64 = if (64 : Nat) = 1 then 0 else l.val % 64; rw [if_neg (by decide)])).trans ?_
  refine (broadcastInDim_apply _ _ _ (ix2 (n0 := 1) (n1 := 64) 0 ⟨l.val % 64, Nat.mod_lt _ (by decide)⟩) (ix1 ⟨l.val % 64, Nat.mod_lt _ (by decide)⟩) (fun a => by
    match a with
    | ⟨0, _⟩ => show l.val % 64 = if (64 : Nat) = 1 then 0 else l.val % 64; rw [if_neg (by decide)])).trans ?_
  exact sign_apply q i _ hl

end Proj

end
-- ==== Proof.ProjRope.lean ====
/- The position rotation of a sample tile, over the extended reals: every entry as the rotation of a pair of columns. -/
module

public import proofs.«01_k».proof.Proof.ProjValue
public import proofs.«01_k».proof.Proof.ProjTables
public import Idealize.ShloMosaic.Lib.KernelVsHost

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx

variable (m : (ℓ : Loc nD τ sig) → Buf (Elt Ideal) ℓ)

theorem group_apply (p : FVec Ideal S512x2304 .f32) (o : ℕ) (h : S512x2304.Slices ![0, o] S512x128) (r : Fin 512) (l : Fin 128) (n : Fin 2304) (hn : n.val = o + l.val) :
    group p o h (ix2 r l) = p (ix2 r n) :=
  extractStridedSlice_apply _ p h (ix2 r l) (ix2 r n) (fun a => by
    match a with
    | ⟨0, _⟩ => exact (Nat.zero_add _).symm
    | ⟨1, _⟩ => exact hn)

theorem lowLane_apply : ∀ l : Fin 128, lowLane (ix2 (n0 := 1) (n1 := 128) 0 l) = if l.val % 32 < 16 then 1#1 else 0#1 := by
  decide +kernel

theorem lowRows_apply (r : Fin 512) (l : Fin 128) : lowRows lowLane (ix2 r l) = if l.val % 32 < 16 then 1#1 else 0#1 := by
  unfold lowRows
  rw [shapeCast_self]
  exact (broadcastTo_apply lowLane _ (ix2 r l) (ix2 (n0 := 1) (n1 := 128) 0 l) (fun a => by
    match a with
    | ⟨0, _⟩ => show 0 = if (1 : Nat) = 1 then 0 else r.val; rw [if_pos rfl]
    | ⟨1, _⟩ => show l.val = if (128 : Nat) = 1 then 0 else l.val; rw [if_neg (by decide)])).trans (lowLane_apply l)

theorem partner_low (g : FVec Ideal S512x128 .f32) (r : Fin 512) (l l' : Fin 128) (hl : l.val % 32 < 16) (hl' : l'.val = l.val + 16) :
    partner lowLane g (ix2 r l) = g (ix2 r l') := by
  unfold partner
  rw [select_apply, lowRows_apply, if_pos hl]
  exact dynamicRotate_apply 1 112#32 g rotates_S512x128_d1 (ix2 r l) (ix2 r l') (fun b => by
    match b with
    | ⟨0, _⟩ => rfl
    | ⟨1, _⟩ => show l'.val = (l.val + 128 - 112) % 128; omega)

theorem partner_high (g : FVec Ideal S512x128 .f32) (r : Fin 512) (l l' : Fin 128) (hl : ¬l.val % 32 < 16) (hl' : l'.val + 16 = l.val) :
    partner lowLane g (ix2 r l) = g (ix2 r l') := by
  unfold partner
  rw [select_apply, lowRows_apply, if_neg hl]
  exact dynamicRotate_apply 1 16#32 g rotates_S512x128_d1 (ix2 r l) (ix2 r l') (fun b => by
    match b with
    | ⟨0, _⟩ => rfl
    | ⟨1, _⟩ => show l'.val = (l.val + 128 - 16) % 128; omega)

/-- A rotated entry is its own column times the cosine plus the partner column times the signed sine. -/
theorem rotated_apply (p : FVec Ideal S512x2304 .f32) (o : ℕ) (h : S512x2304.Slices ![0, o] S512x128) (c s : FVec Ideal S512x128 .f32) (r : Fin 512)
    (l : Fin 128) (n n' : Fin 2304) (hn : n.val = o + l.val)
    (hn' : (l.val % 32 < 16 ∧ n'.val = n.val + 16) ∨ (¬l.val % 32 < 16 ∧ n'.val + 16 = n.val)) :
    rotated lowLane (group p o h) c s (ix2 r l) = p (ix2 r n) * c (ix2 r l) + p (ix2 r n') * s (ix2 r l) := by
  unfold rotated
  rw [addf_apply, mulf_apply, mulf_apply, group_apply p o h r l n hn]
  rcases hn' with ⟨hl, e⟩ | ⟨hl, e⟩
  · rw [partner_low _ r l ⟨l.val + 16, by omega⟩ hl rfl, group_apply p o h r _ n' (by show n'.val = o + (l.val + 16); omega)]
  · rw [partner_high _ r l ⟨l.val - 16, by omega⟩ hl (by show l.val - 16 + 16 = l.val; omega), group_apply p o h r _ n' (by show n'.val = o + (l.val - 16); omega)]

/-- Eighteen groups of 128 columns side by side, at an index. -/
theorem cat18_apply (a : Fin 18 → FVec Ideal S512x128 .f32) (h) (r : Fin 512) (l : Fin 128) (n : Fin 2304) (G : Fin 18) (hn : n.val = 128 * G.val + l.val) :
    concatenate S512x2304 1 [⟨S512x128, a 0⟩, ⟨S512x128, a 1⟩, ⟨S512x128, a 2⟩, ⟨S512x128, a 3⟩, ⟨S512x128, a 4⟩, ⟨S512x128, a 5⟩, ⟨S512x128, a 6⟩, ⟨S512x128, a 7⟩, ⟨S512x128, a 8⟩, ⟨S512x128, a 9⟩, ⟨S512x128, a 10⟩, ⟨S512x128, a 11⟩, ⟨S512x128, a 12⟩, ⟨S512x128, a 13⟩, ⟨S512x128, a 14⟩, ⟨S512x128, a 15⟩, ⟨S512x128, a 16⟩, ⟨S512x128, a 17⟩] h (ix2 r n) = a G (ix2 r l) :=
  concatenate_ofFn_apply (t := S512x2304) (s₁ := S512x128) 1 a h rfl 128 rfl (ix2 r n) G (by show n.val / 128 = G.val; omega) (ix2 r l)
    (by show l.val = n.val % 128; omega) (fun b hb => by
      match b with
      | ⟨0, _⟩ => rfl
      | ⟨1, _⟩ => exact absurd rfl hb)

/-- The groups of a sample tile. -/
def piece (p : FVec Ideal S512x2304 .f32) (c s : FVec Ideal S512x128 .f32) : Fin 18 → FVec Ideal S512x128 .f32 :=
  ![rotated lowLane (group p 0 slices_S512x2304_o0_0_S512x128) c s,
    rotated lowLane (group p 128 slices_S512x2304_o0_128_S512x128) c s,
    rotated lowLane (group p 256 slices_S512x2304_o0_256_S512x128) c s,
    rotated lowLane (group p 384 slices_S512x2304_o0_384_S512x128) c s,
    rotated lowLane (group p 512 slices_S512x2304_o0_512_S512x128) c s,
    group p 640 slices_S512x2304_o0_640_S512x128,
    rotated lowLane (group p 768 slices_S512x2304_o0_768_S512x128) c s,
    rotated lowLane (group p 896 slices_S512x2304_o0_896_S512x128) c s,
    rotated lowLane (group p 1024 slices_S512x2304_o0_1024_S512x128) c s,
    rotated lowLane (group p 1152 slices_S512x2304_o0_1152_S512x128) c s,
    rotated lowLane (group p 1280 slices_S512x2304_o0_1280_S512x128) c s,
    rotated lowLane (group p 1408 slices_S512x2304_o0_1408_S512x128) c s,
    rotated lowLane (group p 1536 slices_S512x2304_o0_1536_S512x128) c s,
    rotated lowLane (group p 1664 slices_S512x2304_o0_1664_S512x128) c s,
    group p 1792 slices_S512x2304_o0_1792_S512x128,
    group p 1920 slices_S512x2304_o0_1920_S512x128,
    group p 2048 slices_S512x2304_o0_2048_S512x128,
    group p 2176 slices_S512x2304_o0_2176_S512x128]

theorem roped_apply (p : FVec Ideal S512x2304 .f32) (c s : FVec Ideal S512x128 .f32) (r : Fin 512) (l : Fin 128) (n : Fin 2304) (G : Fin 18)
    (hn : n.val = 128 * G.val + l.val) : roped p c s (ix2 r n) = piece p c s G (ix2 r l) :=
  cat18_apply (piece p c s) concatenates_S512x128_S512x128_S512x128_S512x128_S512x128_S512x128_S512x128_S512x128_S512x128_S512x128_S512x128_S512x128_S512x128_S512x128_S512x128_S512x128_S512x128_S512x128_S512x2304_d1 r l n G hn

/-- An entry of a rotated group of 128 columns. -/
theorem roped_rot (p : FVec Ideal S512x2304 .f32) (c s : FVec Ideal S512x128 .f32) (r : Fin 512) (l : Fin 128) (n : Fin 2304) (G : Fin 18)
    (hn : n.val = 128 * G.val + l.val) (hG : G.val < 5 ∨ (6 ≤ G.val ∧ G.val < 14)) (X : EReal)
    (hX : ∀ (o : ℕ) (h : S512x2304.Slices ![0, o] S512x128), o = 128 * G.val → rotated lowLane (group p o h) c s (ix2 r l) = X) :
    roped p c s (ix2 r n) = X := by
  rw [roped_apply p c s r l n G hn]
  clear hn
  match G, hG, hX with
  | ⟨0, _⟩, hG, hX => exact hX 0 slices_S512x2304_o0_0_S512x128 rfl
  | ⟨1, _⟩, hG, hX => exact hX 128 slices_S512x2304_o0_128_S512x128 rfl
  | ⟨2, _⟩, hG, hX => exact hX 256 slices_S512x2304_o0_256_S512x128 rfl
  | ⟨3, _⟩, hG, hX => exact hX 384 slices_S512x2304_o0_384_S512x128 rfl
  | ⟨4, _⟩, hG, hX => exact hX 512 slices_S512x2304_o0_512_S512x128 rfl
  | ⟨5, _⟩, hG, hX => exact absurd hG (by simp)
  | ⟨6, _⟩, hG, hX => exact hX 768 slices_S512x2304_o0_768_S512x128 rfl
  | ⟨7, _⟩, hG, hX => exact hX 896 slices_S512x2304_o0_896_S512x128 rfl
  | ⟨8, _⟩, hG, hX => exact hX 1024 slices_S512x2304_o0_1024_S512x128 rfl
  | ⟨9, _⟩, hG, hX => exact hX 1152 slices_S512x2304_o0_1152_S512x128 rfl
  | ⟨10, _⟩, hG, hX => exact hX 1280 slices_S512x2304_o0_1280_S512x128 rfl
  | ⟨11, _⟩, hG, hX => exact hX 1408 slices_S512x2304_o0_1408_S512x128 rfl
  | ⟨12, _⟩, hG, hX => exact hX 1536 slices_S512x2304_o0_1536_S512x128 rfl
  | ⟨13, _⟩, hG, hX => exact hX 1664 slices_S512x2304_o0_1664_S512x128 rfl
  | ⟨14, _⟩, hG, hX => exact absurd hG (by simp)
  | ⟨15, _⟩, hG, hX => exact absurd hG (by simp)
  | ⟨16, _⟩, hG, hX => exact absurd hG (by simp)
  | ⟨17, _⟩, hG, hX => exact absurd hG (by simp)
  | ⟨k + 18, hk⟩, hG, hX => exact absurd hk (by omega)

/-- An entry of a group that is kept as projected. -/
theorem roped_kept (p : FVec Ideal S512x2304 .f32) (c s : FVec Ideal S512x128 .f32) (r : Fin 512) (l : Fin 128) (n : Fin 2304) (G : Fin 18)
    (hn : n.val = 128 * G.val + l.val) (hG : G.val = 5 ∨ 14 ≤ G.val) : roped p c s (ix2 r n) = p (ix2 r n) := by
  rw [roped_apply p c s r l n G hn]
  have hX : ∀ (o : ℕ) (h : S512x2304.Slices ![0, o] S512x128), o = 128 * G.val → group p o h (ix2 r l) = p (ix2 r n) := fun o h e =>
    group_apply p o h r l n (by omega)
  clear hn
  match G, hG, hX with
  | ⟨0, _⟩, hG, hX => exact absurd hG (by simp)
  | ⟨1, _⟩, hG, hX => exact absurd hG (by simp)
  | ⟨2, _⟩, hG, hX => exact absurd hG (by simp)
  | ⟨3, _⟩, hG, hX => exact absurd hG (by simp)
  | ⟨4, _⟩, hG, hX => exact absurd hG (by simp)
  | ⟨5, _⟩, hG, hX => exact hX 640 slices_S512x2304_o0_640_S512x128 rfl
  | ⟨6, _⟩, hG, hX => exact absurd hG (by simp)
  | ⟨7, _⟩, hG, hX => exact absurd hG (by simp)
  | ⟨8, _⟩, hG, hX => exact absurd hG (by simp)
  | ⟨9, _⟩, hG, hX => exact absurd hG (by simp)
  | ⟨10, _⟩, hG, hX => exact absurd hG (by simp)
  | ⟨11, _⟩, hG, hX => exact absurd hG (by simp)
  | ⟨12, _⟩, hG, hX => exact absurd hG (by simp)
  | ⟨13, _⟩, hG, hX => exact absurd hG (by simp)
  | ⟨14, _⟩, hG, hX => exact hX 1792 slices_S512x2304_o0_1792_S512x128 rfl
  | ⟨15, _⟩, hG, hX => exact hX 1920 slices_S512x2304_o0_1920_S512x128 rfl
  | ⟨16, _⟩, hG, hX => exact hX 2048 slices_S512x2304_o0_2048_S512x128 rfl
  | ⟨17, _⟩, hG, hX => exact hX 2176 slices_S512x2304_o0_2176_S512x128 rfl
  | ⟨k + 18, hk⟩, hG, hX => exact absurd hk (by omega)

/-- The rotation of a head's column in quarter `q`, over its four columns `y` at one place of the quarters and their angles `a`. -/
def rot (y a : Fin 4 → EReal) (q : Fin 4) : EReal :=
  match q with
  | 0 => y 0 * hcos (a 0) - y 1 * hsin (a 0)
  | 1 => y 1 * hcos (a 1) + y 0 * hsin (a 1)
  | 2 => y 2 * hcos (a 2) - y 3 * hsin (a 2)
  | 3 => y 3 * hcos (a 3) + y 2 * hsin (a 3)

/-- Column `16 q + i` of head `h`. -/
def colOf (h : Fin 36) (q : Fin 4) (i : Fin 16) : Fin 2304 := ⟨64 * h.val + 16 * q.val + i.val, by omega⟩

/-- A rotated group's entry, when its tables hold the cosine and the signed sine. -/
theorem rot_of (p : FVec Ideal S512x2304 .f32) (o : ℕ) (ho : S512x2304.Slices ![0, o] S512x128) (c s : FVec Ideal S512x128 .f32) (r : Fin 512) (l : Fin 128)
    (h : Fin 36) (q : Fin 4) (i : Fin 16) (a : Fin 4 → EReal) (hn : (colOf h q i).val = o + l.val) (hl : l.val % 64 = 16 * q.val + i.val)
    (hc : c (ix2 r l) = hcos (a q)) (hs : s (ix2 r l) = hsin (a q) * sgn q) :
    rotated lowLane (group p o ho) c s (ix2 r l) = rot (fun q => p (ix2 r (colOf h q i))) a q := by
  match q, hn, hl, hc, hs with
  | 0, hn, hl, hc, hs =>
    have e : l.val % 64 = 16 * 0 + i.val := hl
    rw [rotated_apply p o ho c s r l (colOf h 0 i) (colOf h 1 i) hn (Or.inl ⟨by omega, by show 64 * h.val + 16 * 1 + i.val = 64 * h.val + 16 * 0 + i.val + 16; omega⟩), hc, hs, show sgn 0 = -1 from if_pos rfl]
    rw [mul_neg, mul_one, mul_neg, ← sub_eq_add_neg]
    rfl
  | 1, hn, hl, hc, hs =>
    have e : l.val % 64 = 16 * 1 + i.val := hl
    rw [rotated_apply p o ho c s r l (colOf h 1 i) (colOf h 0 i) hn (Or.inr ⟨by omega, by show 64 * h.val + 16 * 0 + i.val + 16 = 64 * h.val + 16 * 1 + i.val; omega⟩), hc, hs, show sgn 1 = 1 from if_neg (by decide)]
    rw [mul_one]
    rfl
  | 2, hn, hl, hc, hs =>
    have e : l.val % 64 = 16 * 2 + i.val := hl
    rw [rotated_apply p o ho c s r l (colOf h 2 i) (colOf h 3 i) hn (Or.inl ⟨by omega, by show 64 * h.val + 16 * 3 + i.val = 64 * h.val + 16 * 2 + i.val + 16; omega⟩), hc, hs, show sgn 2 = -1 from if_pos rfl]
    rw [mul_neg, mul_one, mul_neg, ← sub_eq_add_neg]
    rfl
  | 3, hn, hl, hc, hs =>
    have e : l.val % 64 = 16 * 3 + i.val := hl
    rw [rotated_apply p o ho c s r l (colOf h 3 i) (colOf h 2 i) hn (Or.inr ⟨by omega, by show 64 * h.val + 16 * 2 + i.val + 16 = 64 * h.val + 16 * 3 + i.val; omega⟩), hc, hs, show sgn 3 = 1 from if_neg (by decide)]
    rw [mul_one]
    rfl

theorem tabCos (c : Dev nD) (t : Fin 16) (ht : 8 ≤ t.val) (r : Fin 512) (l : Fin 128) (q : Fin 4) (i : Fin 16) (s : Fin 2048)
    (hs : s.val = (t.val - 8) % 4 * 512 + r.val) (hl : l.val % 64 = 16 * q.val + i.val) :
    table (iblk m c 3 (pt t)) (ix2 r l) = hcos (angle q s i) := by
  unfold table
  rw [shapeCast_self]
  exact (blk3 m c t ht r l s hs).trans (cos_apply m c s q i l (by omega))

theorem tabSin (c : Dev nD) (t : Fin 16) (ht : 8 ≤ t.val) (r : Fin 512) (l : Fin 128) (q : Fin 4) (i : Fin 16) (s : Fin 2048)
    (hs : s.val = (t.val - 8) % 4 * 512 + r.val) (hl : l.val % 64 = 16 * q.val + i.val) :
    table (iblk m c 4 (pt t)) (ix2 r l) = hsin (angle q s i) * sgn q := by
  unfold table
  rw [shapeCast_self]
  exact (blk4 m c t ht r l s hs).trans (sin_apply m c s q i l (by omega))

/-- A rotated entry of a sample tile. -/
theorem sample_rot (c : Dev nD) (t : Fin 16) (ht : 8 ≤ t.val) (r : Fin 512) (h : Fin 36) (q : Fin 4) (i : Fin 16)
    (s : Fin 2048) (hs : s.val = (t.val - 8) % 4 * 512 + r.val) (hh : h.val < 10 ∨ (12 ≤ h.val ∧ h.val < 28)) :
    roped (P m c (pt t)) (table (iblk m c 3 (pt t))) (table (iblk m c 4 (pt t))) (ix2 r (colOf h q i))
      = rot (fun q => P m c (pt t) (ix2 r (colOf h q i))) (fun q => angle q s i) q := by
  have hl : 64 * (h.val % 2) + 16 * q.val + i.val < 128 := by omega
  have hl2 : (64 * (h.val % 2) + 16 * q.val + i.val) % 64 = 16 * q.val + i.val := by omega
  have hn : (colOf h q i).val = 128 * (h.val / 2) + (64 * (h.val % 2) + 16 * q.val + i.val) := by
    show 64 * h.val + 16 * q.val + i.val = _; omega
  have e3 := tabCos m c t ht r ⟨64 * (h.val % 2) + 16 * q.val + i.val, hl⟩ q i s hs hl2
  have e4 := tabSin m c t ht r ⟨64 * (h.val % 2) + 16 * q.val + i.val, hl⟩ q i s hs hl2
  generalize table (iblk m c 3 (pt t)) = T3 at e3 ⊢
  generalize table (iblk m c 4 (pt t)) = T4 at e4 ⊢
  generalize P m c (pt t) = p
  have hG : (⟨h.val / 2, by omega⟩ : Fin 18).val = h.val / 2 := rfl
  refine roped_rot p T3 T4 r ⟨64 * (h.val % 2) + 16 * q.val + i.val, hl⟩ (colOf h q i) ⟨h.val / 2, by omega⟩ hn (by rw [hG]; omega) _ (fun o ho e => ?_)
  exact rot_of p o ho T3 T4 r _ h q i (fun q => angle q s i) (by rw [e]; exact hn) hl2 e3 e4

/-- An entry of a sample tile that is not rotated. -/
theorem sample_kept (c : Dev nD) (t : Fin 16) (r : Fin 512) (h : Fin 36) (q : Fin 4) (i : Fin 16) (cs sn : FVec Ideal S512x128 .f32)
    (hh : ¬(h.val < 10 ∨ (12 ≤ h.val ∧ h.val < 28))) :
    roped (P m c (pt t)) cs sn (ix2 r (colOf h q i)) = P m c (pt t) (ix2 r (colOf h q i)) :=
  roped_kept _ _ _ r ⟨64 * (h.val % 2) + 16 * q.val + i.val, by omega⟩ (colOf h q i) ⟨h.val / 2, by omega⟩
    (by show 64 * h.val + 16 * q.val + i.val = 128 * (h.val / 2) + (64 * (h.val % 2) + 16 * q.val + i.val); omega) (by show h.val / 2 = 5 ∨ 14 ≤ h.val / 2; omega)

end Proj

end
-- ==== Proof.ProjRef.lean ====
/- The reference of the projection over the extended reals, read at an index: the modulated projection as a sum, the rotated heads, and the five results. -/
module

public import proofs.«01_k».proof.Proof.ProjRope
public import proofs.«01_k».proof.Proof.Gen.ProjReferenceIdeal.Read

@[expose] public section

set_option maxRecDepth 16384

noncomputable section

namespace Proj.Ref

open Cert.ProjReferenceIdeal Cert.ProjReferenceIdeal.Read Idealize.ShloMosaic Idealize.ShloMosaic.TcCoe Idealize.SL.Sem
open Idealize.ShloMosaic.ValueIdx

variable (x0 : Vec Ideal S8192x1024 .f32) (x1 : Vec Ideal S2x8x6x1024 .f32) (x2 : Vec Ideal S1x1024x2304 .f32)

theorem scale_prompt (R : Fin 4096) (k : Fin 1024) :
    val_main_v6 (F := Ideal) x1 (ix2 R k) = Ideal.ofBits .f32 0x3F800000#32 + x1 (ix4 1 0 1 k) := by
  rw [val_main_v6_apply, val_main_v5_apply, val_main_v4_apply, val_main_v3_apply, val_main_cst_apply, val_main_v2_apply, val_main_v1_apply]
  refine congrArg (fun o => Ideal.ofBits .f32 0x3F800000#32 + x1 o) ?_
  funext a
  apply Fin.ext
  match a with
  | ⟨0, _⟩ => rfl
  | ⟨1, _⟩ => rfl
  | ⟨2, _⟩ => rfl
  | ⟨3, _⟩ => exact Nat.mod_eq_of_lt k.isLt

theorem shift_prompt (R : Fin 4096) (k : Fin 1024) : val_main_v11 (F := Ideal) x1 (ix2 R k) = x1 (ix4 1 0 0 k) := by
  rw [val_main_v11_apply, val_main_v10_apply, val_main_v9_apply, val_main_v8_apply]
  refine congrArg x1 ?_
  funext a
  apply Fin.ext
  match a with
  | ⟨0, _⟩ => rfl
  | ⟨1, _⟩ => rfl
  | ⟨2, _⟩ => rfl
  | ⟨3, _⟩ => exact Nat.mod_eq_of_lt k.isLt

theorem weight_prompt (k : Fin 1024) (n : Fin 2304) : val_main_v13 (F := Ideal) x2 (ix2 k n) = x2 (ix3 0 k n) := by
  rw [val_main_v13_apply]
  refine congrArg x2 ?_
  funext a
  apply Fin.ext
  match a with
  | ⟨0, _⟩ => rfl
  | ⟨1, _⟩ => show (k.val * 2304 + n.val) / 2304 % 1024 = k.val; omega
  | ⟨2, _⟩ => show (k.val * 2304 + n.val) % 2304 = n.val; omega

theorem weight_sample (k : Fin 1024) (n : Fin 2304) : val_main_v29 (F := Ideal) x2 (ix2 k n) = x2 (ix3 0 k n) := by
  rw [val_main_v29_apply]
  refine congrArg x2 ?_
  funext a
  apply Fin.ext
  match a with
  | ⟨0, _⟩ => rfl
  | ⟨1, _⟩ => show (k.val * 2304 + n.val) / 2304 % 1024 = k.val; omega
  | ⟨2, _⟩ => show (k.val * 2304 + n.val) % 2304 = n.val; omega

/-- The prompt's projection. -/
theorem prompt_proj (R : Fin 4096) (n : Fin 2304) (R' : Fin 8192) (hR : R'.val = R.val) :
    val_main_v14 (F := Ideal) x0 x1 x2 (ix2 R n) = lin x0 x1 x2 0 R' n := by
  rw [val_main_v14_apply]
  unfold lin
  refine Finset.sum_congr rfl fun k _ => ?_
  have el : lidx_main_v14 (ix2 R n) k = ix2 R k := by
    funext a
    match a with
    | ⟨0, _⟩ => rfl
    | ⟨1, _⟩ => rfl
  have er : ridx_main_v14 (ix2 R n) k = ix2 k n := by
    funext a
    match a with
    | ⟨0, _⟩ => rfl
    | ⟨1, _⟩ => rfl
  have e0 : val_main_v0 (F := Ideal) x0 (ix2 R k) = x0 (ix2 R' k) := by
    rw [val_main_v0_apply]
    refine congrArg x0 ?_
    funext a
    apply Fin.ext
    match a with
    | ⟨0, _⟩ => exact hR.symm
    | ⟨1, _⟩ => rfl
  rw [el, er, weight_prompt, val_main_v12_apply, val_main_v7_apply, e0, scale_prompt, shift_prompt]
  rfl

theorem scale_sample (b : Fin 2) (s : Fin 2048) (k : Fin 1024) (g : Fin 8) (hg : g.val = 1 + b.val) :
    val_main_v22 (F := Ideal) x1 (ix3 b s k) = Ideal.ofBits .f32 0x3F800000#32 + x1 (ix4 1 g 1 k) := by
  rw [val_main_v22_apply, val_main_v21_apply, val_main_v20_apply, val_main_cst_0_apply, val_main_v19_apply, val_main_v18_apply, val_main_v17_apply]
  refine congrArg (fun o => Ideal.ofBits .f32 0x3F800000#32 + x1 o) ?_
  funext a
  apply Fin.ext
  match a with
  | ⟨0, _⟩ => rfl
  | ⟨1, _⟩ => show 1 + (b.val * 1024 + k.val) / 1024 % 2 = g.val; omega
  | ⟨2, _⟩ => rfl
  | ⟨3, _⟩ => show (b.val * 1024 + k.val) % 1024 = k.val; omega

theorem shift_sample (b : Fin 2) (s : Fin 2048) (k : Fin 1024) (g : Fin 8) (hg : g.val = 1 + b.val) :
    val_main_v27 (F := Ideal) x1 (ix3 b s k) = x1 (ix4 1 g 0 k) := by
  rw [val_main_v27_apply, val_main_v26_apply, val_main_v25_apply, val_main_v24_apply]
  refine congrArg x1 ?_
  funext a
  apply Fin.ext
  match a with
  | ⟨0, _⟩ => rfl
  | ⟨1, _⟩ => show 1 + (b.val * 1024 + k.val) / 1024 % 2 = g.val; omega
  | ⟨2, _⟩ => rfl
  | ⟨3, _⟩ => show (b.val * 1024 + k.val) % 1024 = k.val; omega

theorem rows_sample (b : Fin 2) (s : Fin 2048) (k : Fin 1024) (R : Fin 8192) (hR : R.val = 4096 + b.val * 2048 + s.val) :
    val_main_v16 (F := Ideal) x0 (ix3 b s k) = x0 (ix2 R k) := by
  rw [val_main_v16_apply, val_main_v15_apply]
  refine congrArg x0 ?_
  funext a
  apply Fin.ext
  match a with
  | ⟨0, _⟩ => show 4096 + ((b.val * 2048 + s.val) * 1024 + k.val) / 1024 = R.val; omega
  | ⟨1, _⟩ => show ((b.val * 2048 + s.val) * 1024 + k.val) % 1024 = k.val; omega

/-- A sample's projection. -/
theorem sample_proj (b : Fin 2) (s : Fin 2048) (n : Fin 2304) (g : Fin 8) (hg : g.val = 1 + b.val) (R : Fin 8192) (hR : R.val = 4096 + b.val * 2048 + s.val) :
    val_main_v30 (F := Ideal) x0 x1 x2 (ix3 b s n) = lin x0 x1 x2 g R n := by
  rw [val_main_v30_apply]
  unfold lin
  refine Finset.sum_congr rfl fun k _ => ?_
  have el : lidx_main_v30 (ix3 b s n) k = ix3 b s k := by
    funext a
    match a with
    | ⟨0, _⟩ => rfl
    | ⟨1, _⟩ => rfl
    | ⟨2, _⟩ => rfl
  have er : ridx_main_v30 (ix3 b s n) k = ix2 k n := by
    funext a
    match a with
    | ⟨0, _⟩ => rfl
    | ⟨1, _⟩ => rfl
  rw [el, er, weight_sample, val_main_v28_apply, val_main_v23_apply, rows_sample x0 b s k R hR, scale_sample x1 b s k g hg, shift_sample x1 b s k g hg]
  rfl

/-- A head's column of a sample's projection. -/
theorem head_apply (b : Fin 2) (s : Fin 2048) (h : Fin 36) (d : Fin 64) (n : Fin 2304) (hn : n.val = 64 * h.val + d.val) :
    val_main_v31 (F := Ideal) x0 x1 x2 (ix4 b s h d) = val_main_v30 (F := Ideal) x0 x1 x2 (ix3 b s n) := by
  rw [val_main_v31_apply]
  refine congrArg (val_main_v30 (F := Ideal) x0 x1 x2) ?_
  funext a
  apply Fin.ext
  match a with
  | ⟨0, _⟩ => show (((b.val * 2048 + s.val) * 36 + h.val) * 64 + d.val) / 4718592 = b.val; omega
  | ⟨1, _⟩ => show (((b.val * 2048 + s.val) * 36 + h.val) * 64 + d.val) / 2304 % 2048 = s.val; omega
  | ⟨2, _⟩ => show (((b.val * 2048 + s.val) * 36 + h.val) * 64 + d.val) % 2304 = n.val; omega

theorem first_apply (b : Fin 2) (s : Fin 2048) (h : Fin 36) (i : Fin 16) :
    val_main_v58 (F := Ideal) x0 x1 x2 (ix4 b s h i) = val_main_v30 (F := Ideal) x0 x1 x2 (ix3 b s (colOf h 0 i)) := by
  rw [val_main_v58_apply, val_main_v48_apply]
  refine Eq.trans (congrArg (val_main_v31 (F := Ideal) x0 x1 x2) ?_) (head_apply x0 x1 x2 b s h ⟨0 + i.val, by omega⟩ (colOf h 0 i) (by show 64 * h.val + 16 * 0 + i.val = 64 * h.val + (0 + i.val); omega))
  funext a
  apply Fin.ext
  match a with
  | ⟨0, _⟩ => rfl
  | ⟨1, _⟩ => rfl
  | ⟨2, _⟩ => rfl
  | ⟨3, _⟩ => show i.val = 0 + i.val; omega

theorem second_apply (b : Fin 2) (s : Fin 2048) (h : Fin 36) (i : Fin 16) :
    val_main_v59 (F := Ideal) x0 x1 x2 (ix4 b s h i) = val_main_v30 (F := Ideal) x0 x1 x2 (ix3 b s (colOf h 1 i)) := by
  rw [val_main_v59_apply, val_main_v48_apply]
  refine Eq.trans (congrArg (val_main_v31 (F := Ideal) x0 x1 x2) ?_) (head_apply x0 x1 x2 b s h ⟨16 + i.val, by omega⟩ (colOf h 1 i) (by show 64 * h.val + 16 * 1 + i.val = 64 * h.val + (16 + i.val); omega))
  funext a
  apply Fin.ext
  match a with
  | ⟨0, _⟩ => rfl
  | ⟨1, _⟩ => rfl
  | ⟨2, _⟩ => rfl
  | ⟨3, _⟩ => rfl

theorem third_apply (b : Fin 2) (s : Fin 2048) (h : Fin 36) (i : Fin 16) :
    val_main_v78 (F := Ideal) x0 x1 x2 (ix4 b s h i) = val_main_v30 (F := Ideal) x0 x1 x2 (ix3 b s (colOf h 2 i)) := by
  rw [val_main_v78_apply, val_main_v49_apply]
  refine Eq.trans (congrArg (val_main_v31 (F := Ideal) x0 x1 x2) ?_) (head_apply x0 x1 x2 b s h ⟨32 + i.val, by omega⟩ (colOf h 2 i) (by show 64 * h.val + 16 * 2 + i.val = 64 * h.val + (32 + i.val); omega))
  funext a
  apply Fin.ext
  match a with
  | ⟨0, _⟩ => rfl
  | ⟨1, _⟩ => rfl
  | ⟨2, _⟩ => rfl
  | ⟨3, _⟩ => rfl

theorem fourth_apply (b : Fin 2) (s : Fin 2048) (h : Fin 36) (i : Fin 16) :
    val_main_v79 (F := Ideal) x0 x1 x2 (ix4 b s h i) = val_main_v30 (F := Ideal) x0 x1 x2 (ix3 b s (colOf h 3 i)) := by
  rw [val_main_v79_apply, val_main_v49_apply]
  refine Eq.trans (congrArg (val_main_v31 (F := Ideal) x0 x1 x2) ?_) (head_apply x0 x1 x2 b s h ⟨48 + i.val, by omega⟩ (colOf h 3 i) (by show 64 * h.val + 16 * 3 + i.val = 64 * h.val + (48 + i.val); omega))
  funext a
  apply Fin.ext
  match a with
  | ⟨0, _⟩ => rfl
  | ⟨1, _⟩ => rfl
  | ⟨2, _⟩ => rfl
  | ⟨3, _⟩ => show 32 + (16 + i.val) = 48 + i.val; omega

theorem row_angle (s : Fin 2048) (i : Fin 16) : val_main_v55 (F := Ideal) (ix4 (n0 := 1) (n1 := 2048) (n2 := 1) (n3 := 16) 0 s 0 i) = rowAng (ix2 s i) := by
  rw [val_main_v55_apply]
  show val_main_v54 (F := Ideal) _ = val_main_v54 (F := Ideal) _
  refine congrArg (val_main_v54 (F := Ideal)) ?_
  funext a
  apply Fin.ext
  match a with
  | ⟨0, _⟩ => show (((0 * 2048 + s.val) * 1 + 0) * 16 + i.val) / 16 = s.val; omega
  | ⟨1, _⟩ => show (((0 * 2048 + s.val) * 1 + 0) * 16 + i.val) % 16 = i.val; omega

theorem v60_at (b : Fin 2) (s : Fin 2048) (h : Fin 36) (i : Fin 16) : val_main_v60 (F := Ideal) (ix4 b s h i) = hcos (rowAng (ix2 s i)) := by
  rw [val_main_v60_apply, val_main_v56_apply]
  refine congrArg hcos (Eq.trans (congrArg (val_main_v55 (F := Ideal)) ?_) (row_angle s i))
  funext a
  match a with
  | ⟨0, _⟩ => rfl
  | ⟨1, _⟩ => rfl
  | ⟨2, _⟩ => rfl
  | ⟨3, _⟩ => rfl

theorem v62_at (b : Fin 2) (s : Fin 2048) (h : Fin 36) (i : Fin 16) : val_main_v62 (F := Ideal) (ix4 b s h i) = hsin (rowAng (ix2 s i)) := by
  rw [val_main_v62_apply, val_main_v57_apply]
  refine congrArg hsin (Eq.trans (congrArg (val_main_v55 (F := Ideal)) ?_) (row_angle s i))
  funext a
  match a with
  | ⟨0, _⟩ => rfl
  | ⟨1, _⟩ => rfl
  | ⟨2, _⟩ => rfl
  | ⟨3, _⟩ => rfl

theorem v65_at (b : Fin 2) (s : Fin 2048) (h : Fin 36) (i : Fin 16) : val_main_v65 (F := Ideal) (ix4 b s h i) = hcos (rowAng (ix2 s i)) := by
  rw [val_main_v65_apply, val_main_v56_apply]
  refine congrArg hcos (Eq.trans (congrArg (val_main_v55 (F := Ideal)) ?_) (row_angle s i))
  funext a
  match a with
  | ⟨0, _⟩ => rfl
  | ⟨1, _⟩ => rfl
  | ⟨2, _⟩ => rfl
  | ⟨3, _⟩ => rfl

theorem v67_at (b : Fin 2) (s : Fin 2048) (h : Fin 36) (i : Fin 16) : val_main_v67 (F := Ideal) (ix4 b s h i) = hsin (rowAng (ix2 s i)) := by
  rw [val_main_v67_apply, val_main_v57_apply]
  refine congrArg hsin (Eq.trans (congrArg (val_main_v55 (F := Ideal)) ?_) (row_angle s i))
  funext a
  match a with
  | ⟨0, _⟩ => rfl
  | ⟨1, _⟩ => rfl
  | ⟨2, _⟩ => rfl
  | ⟨3, _⟩ => rfl

theorem col_angle (s : Fin 2048) (i : Fin 16) : val_main_v75 (F := Ideal) (ix4 (n0 := 1) (n1 := 2048) (n2 := 1) (n3 := 16) 0 s 0 i) = colAng (ix2 s i) := by
  rw [val_main_v75_apply]
  show val_main_v74 (F := Ideal) _ = val_main_v74 (F := Ideal) _
  refine congrArg (val_main_v74 (F := Ideal)) ?_
  funext a
  apply Fin.ext
  match a with
  | ⟨0, _⟩ => show (((0 * 2048 + s.val) * 1 + 0) * 16 + i.val) / 16 = s.val; omega
  | ⟨1, _⟩ => show (((0 * 2048 + s.val) * 1 + 0) * 16 + i.val) % 16 = i.val; omega

theorem v80_at (b : Fin 2) (s : Fin 2048) (h : Fin 36) (i : Fin 16) : val_main_v80 (F := Ideal) (ix4 b s h i) = hcos (colAng (ix2 s i)) := by
  rw [val_main_v80_apply, val_main_v76_apply]
  refine congrArg hcos (Eq.trans (congrArg (val_main_v75 (F := Ideal)) ?_) (col_angle s i))
  funext a
  match a with
  | ⟨0, _⟩ => rfl
  | ⟨1, _⟩ => rfl
  | ⟨2, _⟩ => rfl
  | ⟨3, _⟩ => rfl

theorem v82_at (b : Fin 2) (s : Fin 2048) (h : Fin 36) (i : Fin 16) : val_main_v82 (F := Ideal) (ix4 b s h i) = hsin (colAng (ix2 s i)) := by
  rw [val_main_v82_apply, val_main_v77_apply]
  refine congrArg hsin (Eq.trans (congrArg (val_main_v75 (F := Ideal)) ?_) (col_angle s i))
  funext a
  match a with
  | ⟨0, _⟩ => rfl
  | ⟨1, _⟩ => rfl
  | ⟨2, _⟩ => rfl
  | ⟨3, _⟩ => rfl

theorem v85_at (b : Fin 2) (s : Fin 2048) (h : Fin 36) (i : Fin 16) : val_main_v85 (F := Ideal) (ix4 b s h i) = hcos (colAng (ix2 s i)) := by
  rw [val_main_v85_apply, val_main_v76_apply]
  refine congrArg hcos (Eq.trans (congrArg (val_main_v75 (F := Ideal)) ?_) (col_angle s i))
  funext a
  match a with
  | ⟨0, _⟩ => rfl
  | ⟨1, _⟩ => rfl
  | ⟨2, _⟩ => rfl
  | ⟨3, _⟩ => rfl

theorem v87_at (b : Fin 2) (s : Fin 2048) (h : Fin 36) (i : Fin 16) : val_main_v87 (F := Ideal) (ix4 b s h i) = hsin (colAng (ix2 s i)) := by
  rw [val_main_v87_apply, val_main_v77_apply]
  refine congrArg hsin (Eq.trans (congrArg (val_main_v75 (F := Ideal)) ?_) (col_angle s i))
  funext a
  match a with
  | ⟨0, _⟩ => rfl
  | ⟨1, _⟩ => rfl
  | ⟨2, _⟩ => rfl
  | ⟨3, _⟩ => rfl

/-- The four columns of head `h` at place `i` of its quarters. -/
def four (b : Fin 2) (s : Fin 2048) (h : Fin 36) (i : Fin 16) (q : Fin 4) : EReal := val_main_v30 (F := Ideal) x0 x1 x2 (ix3 b s (colOf h q i))

theorem row_is (q : Fin 4) (hq : q.val < 2) (s : Fin 2048) (i : Fin 16) : rowAng (ix2 s i) = angle q s i := by
  unfold angle
  rw [if_pos hq]

theorem col_is (q : Fin 4) (hq : ¬ q.val < 2) (s : Fin 2048) (i : Fin 16) : colAng (ix2 s i) = angle q s i := by
  unfold angle
  rw [if_neg hq]

theorem out0_apply (b : Fin 2) (s : Fin 2048) (h : Fin 36) (i : Fin 16) :
    val_main_v64 (F := Ideal) x0 x1 x2 (ix4 b s h i) = rot (four x0 x1 x2 b s h i) (fun q => angle q s i) 0 := by
  rw [val_main_v64_apply, val_main_v61_apply, val_main_v63_apply, first_apply, second_apply, v60_at, v62_at, row_is 0 (by decide)]
  rfl

theorem out1_apply (b : Fin 2) (s : Fin 2048) (h : Fin 36) (i : Fin 16) :
    val_main_v69 (F := Ideal) x0 x1 x2 (ix4 b s h i) = rot (four x0 x1 x2 b s h i) (fun q => angle q s i) 1 := by
  rw [val_main_v69_apply, val_main_v66_apply, val_main_v68_apply, second_apply, first_apply, v65_at, v67_at, row_is 1 (by decide)]
  rfl

theorem out2_apply (b : Fin 2) (s : Fin 2048) (h : Fin 36) (i : Fin 16) :
    val_main_v84 (F := Ideal) x0 x1 x2 (ix4 b s h i) = rot (four x0 x1 x2 b s h i) (fun q => angle q s i) 2 := by
  rw [val_main_v84_apply, val_main_v81_apply, val_main_v83_apply, third_apply, fourth_apply, v80_at, v82_at, col_is 2 (by decide)]
  rfl

theorem out3_apply (b : Fin 2) (s : Fin 2048) (h : Fin 36) (i : Fin 16) :
    val_main_v89 (F := Ideal) x0 x1 x2 (ix4 b s h i) = rot (four x0 x1 x2 b s h i) (fun q => angle q s i) 3 := by
  rw [val_main_v89_apply, val_main_v86_apply, val_main_v88_apply, fourth_apply, third_apply, v85_at, v87_at, col_is 3 (by decide)]
  rfl

/-- An entry of the rotated heads. -/
theorem rotated_head (b : Fin 2) (s : Fin 2048) (h : Fin 36) (q : Fin 4) (i : Fin 16) (d : Fin 64) (hd : d.val = q.val * 16 + i.val) :
    val_main_v90 (F := Ideal) x0 x1 x2 (ix4 b s h d) = rot (four x0 x1 x2 b s h i) (fun q => angle q s i) q := by
  have h0 := out0_apply x0 x1 x2 b s h i
  have h1 := out1_apply x0 x1 x2 b s h i
  have h2 := out2_apply x0 x1 x2 b s h i
  have h3 := out3_apply x0 x1 x2 b s h i
  unfold val_main_v90
  generalize rot (four x0 x1 x2 b s h i) (fun q => angle q s i) = X at *
  generalize val_main_v64 (F := Ideal) x0 x1 x2 = y0 at *
  generalize val_main_v69 (F := Ideal) x0 x1 x2 = y1 at *
  generalize val_main_v84 (F := Ideal) x0 x1 x2 = y2 at *
  generalize val_main_v89 (F := Ideal) x0 x1 x2 = y3 at *
  match q, hd with
  | ⟨0, _⟩, hd =>
    exact (concatenate_apply_piece (t := S2x2048x36x64) 3 _ _ (ix4 b s h d) 0 (by simp) S2x2048x36x16 y0 rfl rfl 0 rfl (ix4 b s h i)
      (fun b hb => by
        match b with
        | ⟨0, _⟩ => rfl
        | ⟨1, _⟩ => rfl
        | ⟨2, _⟩ => rfl
        | ⟨3, _⟩ => exact absurd rfl hb)
      (by show 0 + i.val = d.val; have : d.val = 0 * 16 + i.val := hd; omega)).trans h0
  | ⟨1, _⟩, hd =>
    exact (concatenate_apply_piece (t := S2x2048x36x64) 3 _ _ (ix4 b s h d) 1 (by simp) S2x2048x36x16 y1 rfl rfl 16 rfl (ix4 b s h i)
      (fun b hb => by
        match b with
        | ⟨0, _⟩ => rfl
        | ⟨1, _⟩ => rfl
        | ⟨2, _⟩ => rfl
        | ⟨3, _⟩ => exact absurd rfl hb)
      (by show 16 + i.val = d.val; have : d.val = 1 * 16 + i.val := hd; omega)).trans h1
  | ⟨2, _⟩, hd =>
    exact (concatenate_apply_piece (t := S2x2048x36x64) 3 _ _ (ix4 b s h d) 2 (by simp) S2x2048x36x16 y2 rfl rfl 32 rfl (ix4 b s h i)
      (fun b hb => by
        match b with
        | ⟨0, _⟩ => rfl
        | ⟨1, _⟩ => rfl
        | ⟨2, _⟩ => rfl
        | ⟨3, _⟩ => exact absurd rfl hb)
      (by show 32 + i.val = d.val; have : d.val = 2 * 16 + i.val := hd; omega)).trans h2
  | ⟨3, _⟩, hd =>
    exact (concatenate_apply_piece (t := S2x2048x36x64) 3 _ _ (ix4 b s h d) 3 (by simp) S2x2048x36x16 y3 rfl rfl 48 rfl (ix4 b s h i)
      (fun b hb => by
        match b with
        | ⟨0, _⟩ => rfl
        | ⟨1, _⟩ => rfl
        | ⟨2, _⟩ => rfl
        | ⟨3, _⟩ => exact absurd rfl hb)
      (by show 48 + i.val = d.val; have : d.val = 3 * 16 + i.val := hd; omega)).trans h3

theorem heads91_apply (b : Fin 2) (s : Fin 2048) (j : Fin 10) (d : Fin 64) (h : Fin 36) (hh : h.val = 0 + j.val) :
    val_main_v91 (F := Ideal) x0 x1 x2 (ix4 b s j d) = val_main_v90 (F := Ideal) x0 x1 x2 (ix4 b s h d) := by
  rw [val_main_v91_apply]
  refine congrArg (val_main_v90 (F := Ideal) x0 x1 x2) ?_
  funext a
  apply Fin.ext
  match a with
  | ⟨0, _⟩ => rfl
  | ⟨1, _⟩ => rfl
  | ⟨2, _⟩ => show j.val = h.val; omega
  | ⟨3, _⟩ => rfl

theorem heads92_apply (b : Fin 2) (s : Fin 2048) (j : Fin 2) (d : Fin 64) (h : Fin 36) (hh : h.val = 10 + j.val) :
    val_main_v92 (F := Ideal) x0 x1 x2 (ix4 b s j d) = val_main_v31 (F := Ideal) x0 x1 x2 (ix4 b s h d) := by
  rw [val_main_v92_apply]
  refine congrArg (val_main_v31 (F := Ideal) x0 x1 x2) ?_
  funext a
  apply Fin.ext
  match a with
  | ⟨0, _⟩ => rfl
  | ⟨1, _⟩ => rfl
  | ⟨2, _⟩ => exact hh.symm
  | ⟨3, _⟩ => rfl

theorem heads93_apply (b : Fin 2) (s : Fin 2048) (j : Fin 16) (d : Fin 64) (h : Fin 36) (hh : h.val = 12 + j.val) :
    val_main_v93 (F := Ideal) x0 x1 x2 (ix4 b s j d) = val_main_v90 (F := Ideal) x0 x1 x2 (ix4 b s h d) := by
  rw [val_main_v93_apply]
  refine congrArg (val_main_v90 (F := Ideal) x0 x1 x2) ?_
  funext a
  apply Fin.ext
  match a with
  | ⟨0, _⟩ => rfl
  | ⟨1, _⟩ => rfl
  | ⟨2, _⟩ => exact hh.symm
  | ⟨3, _⟩ => rfl

theorem heads94_apply (b : Fin 2) (s : Fin 2048) (j : Fin 8) (d : Fin 64) (h : Fin 36) (hh : h.val = 28 + j.val) :
    val_main_v94 (F := Ideal) x0 x1 x2 (ix4 b s j d) = val_main_v31 (F := Ideal) x0 x1 x2 (ix4 b s h d) := by
  rw [val_main_v94_apply]
  refine congrArg (val_main_v31 (F := Ideal) x0 x1 x2) ?_
  funext a
  apply Fin.ext
  match a with
  | ⟨0, _⟩ => rfl
  | ⟨1, _⟩ => rfl
  | ⟨2, _⟩ => exact hh.symm
  | ⟨3, _⟩ => rfl

/-- A head after the rotation: the rotated heads and those kept as projected, side by side. -/
theorem heads_apply (b : Fin 2) (s : Fin 2048) (h : Fin 36) (d : Fin 64) :
    val_main_v95 (F := Ideal) x0 x1 x2 (ix4 b s h d)
      = if h.val < 10 ∨ (12 ≤ h.val ∧ h.val < 28) then val_main_v90 (F := Ideal) x0 x1 x2 (ix4 b s h d) else val_main_v31 (F := Ideal) x0 x1 x2 (ix4 b s h d) := by
  have a0 := heads91_apply x0 x1 x2 b s
  have a1 := heads92_apply x0 x1 x2 b s
  have a2 := heads93_apply x0 x1 x2 b s
  have a3 := heads94_apply x0 x1 x2 b s
  unfold val_main_v95
  generalize val_main_v91 (F := Ideal) x0 x1 x2 = y0 at *
  generalize val_main_v92 (F := Ideal) x0 x1 x2 = y1 at *
  generalize val_main_v93 (F := Ideal) x0 x1 x2 = y2 at *
  generalize val_main_v94 (F := Ideal) x0 x1 x2 = y3 at *
  generalize val_main_v90 (F := Ideal) x0 x1 x2 = z0 at *
  generalize val_main_v31 (F := Ideal) x0 x1 x2 = z1 at *
  by_cases c0 : h.val < 10
  · rw [if_pos (Or.inl c0)]
    exact (concatenate_apply_piece (t := S2x2048x36x64) 2 _ _ (ix4 b s h d) 0 (by simp) S2x2048x10x64 y0 rfl rfl 0 rfl (ix4 b s ⟨h.val - 0, by omega⟩ d)
      (fun b hb => by
        match b with
        | ⟨0, _⟩ => rfl
        | ⟨1, _⟩ => rfl
        | ⟨2, _⟩ => exact absurd rfl hb
        | ⟨3, _⟩ => rfl)
      (by show 0 + (h.val - 0) = h.val; omega)).trans (a0 _ d h (by show h.val = 0 + (h.val - 0); omega))
  by_cases c1 : h.val < 12
  · rw [if_neg (by omega)]
    exact (concatenate_apply_piece (t := S2x2048x36x64) 2 _ _ (ix4 b s h d) 1 (by simp) S2x2048x2x64 y1 rfl rfl 10 rfl (ix4 b s ⟨h.val - 10, by omega⟩ d)
      (fun b hb => by
        match b with
        | ⟨0, _⟩ => rfl
        | ⟨1, _⟩ => rfl
        | ⟨2, _⟩ => exact absurd rfl hb
        | ⟨3, _⟩ => rfl)
      (by show 10 + (h.val - 10) = h.val; omega)).trans (a1 _ d h (by show h.val = 10 + (h.val - 10); omega))
  by_cases c2 : h.val < 28
  · rw [if_pos (Or.inr ⟨by omega, c2⟩)]
    exact (concatenate_apply_piece (t := S2x2048x36x64) 2 _ _ (ix4 b s h d) 2 (by simp) S2x2048x16x64 y2 rfl rfl 12 rfl (ix4 b s ⟨h.val - 12, by omega⟩ d)
      (fun b hb => by
        match b with
        | ⟨0, _⟩ => rfl
        | ⟨1, _⟩ => rfl
        | ⟨2, _⟩ => exact absurd rfl hb
        | ⟨3, _⟩ => rfl)
      (by show 12 + (h.val - 12) = h.val; omega)).trans (a2 _ d h (by show h.val = 12 + (h.val - 12); omega))
  rw [if_neg (by omega)]
  exact (concatenate_apply_piece (t := S2x2048x36x64) 2 _ _ (ix4 b s h d) 3 (by simp) S2x2048x8x64 y3 rfl rfl 28 rfl (ix4 b s ⟨h.val - 28, by omega⟩ d)
      (fun b hb => by
        match b with
        | ⟨0, _⟩ => rfl
        | ⟨1, _⟩ => rfl
        | ⟨2, _⟩ => exact absurd rfl hb
        | ⟨3, _⟩ => rfl)
      (by show 28 + (h.val - 28) = h.val; omega)).trans (a3 _ d h (by show h.val = 28 + (h.val - 28); omega))

/-- A prompt row of the projection result. -/
theorem proj_prompt (R : Fin 8192) (n : Fin 2304) (hR : R.val < 4096) :
    val_main_v98 (F := Ideal) x0 x1 x2 (ix2 R n) = lin x0 x1 x2 0 R n := by
  rw [val_main_v98_apply]
  show val_main_v97 (F := Ideal) x0 x1 x2 (ix2 R n) = _
  have e := prompt_proj x0 x1 x2 ⟨R.val, hR⟩ n R rfl
  unfold val_main_v97
  generalize val_main_v14 (F := Ideal) x0 x1 x2 = y0 at *
  generalize val_main_v96 (F := Ideal) x0 x1 x2 = y1
  exact (concatenate_apply_piece (t := S8192x2304) 0 _ _ (ix2 R n) 0 (by simp) S4096x2304 y0 rfl rfl 0 rfl (ix2 ⟨R.val, hR⟩ n)
      (fun b hb => by
        match b with
        | ⟨0, _⟩ => exact absurd rfl hb
        | ⟨1, _⟩ => rfl)
      (by show 0 + R.val = R.val; omega)).trans e

/-- A sample row of the projection result. -/
theorem proj_sample (R : Fin 8192) (b : Fin 2) (s : Fin 2048) (h : Fin 36) (d : Fin 64) (n : Fin 2304) (hR : R.val = 4096 + b.val * 2048 + s.val) (hn : n.val = 64 * h.val + d.val) :
    val_main_v98 (F := Ideal) x0 x1 x2 (ix2 R n) = val_main_v95 (F := Ideal) x0 x1 x2 (ix4 b s h d) := by
  rw [val_main_v98_apply]
  show val_main_v97 (F := Ideal) x0 x1 x2 (ix2 R n) = _
  have e : val_main_v96 (F := Ideal) x0 x1 x2 (ix2 ⟨R.val - 4096, by omega⟩ n) = val_main_v95 (F := Ideal) x0 x1 x2 (ix4 b s h d) := by
    rw [val_main_v96_apply]
    refine congrArg (val_main_v95 (F := Ideal) x0 x1 x2) ?_
    funext a
    apply Fin.ext
    match a with
    | ⟨0, _⟩ => show ((R.val - 4096) * 2304 + n.val) / 4718592 = b.val; omega
    | ⟨1, _⟩ => show ((R.val - 4096) * 2304 + n.val) / 2304 % 2048 = s.val; omega
    | ⟨2, _⟩ => show ((R.val - 4096) * 2304 + n.val) / 64 % 36 = h.val; omega
    | ⟨3, _⟩ => show ((R.val - 4096) * 2304 + n.val) % 64 = d.val; omega
  generalize val_main_v95 (F := Ideal) x0 x1 x2 (ix4 b s h d) = X at *
  unfold val_main_v97
  generalize val_main_v14 (F := Ideal) x0 x1 x2 = y0
  generalize val_main_v96 (F := Ideal) x0 x1 x2 = y1 at *
  exact (concatenate_apply_piece (t := S8192x2304) 0 _ _ (ix2 R n) 1 (by simp) S4096x2304 y1 rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans e

theorem keys_ref (g : Fin 16) (d : Fin 128) (s : Fin 256) (R : Fin 8192) (n : Fin 2304) (hR : R.val = g.val * 256 + s.val) (hn : n.val = 512 + d.val) :
    val_main_v101 (F := Ideal) x0 x1 x2 (ix3 g d s) = lin x0 x1 x2 0 R n := by
  rw [val_main_v101_apply, val_main_v100_apply, val_main_v99_apply]
  refine Eq.trans (congrArg (val_main_v14 (F := Ideal) x0 x1 x2) ?_) (prompt_proj x0 x1 x2 ⟨R.val, by omega⟩ n R rfl)
  funext a
  apply Fin.ext
  match a with
  | ⟨0, _⟩ => show ((g.val * 256 + s.val) * 2304 + (512 + d.val)) / 2304 = R.val; omega
  | ⟨1, _⟩ => show ((g.val * 256 + s.val) * 2304 + (512 + d.val)) % 2304 = n.val; omega

theorem values_ref (g : Fin 16) (d : Fin 128) (s : Fin 256) (R : Fin 8192) (n : Fin 2304) (hR : R.val = g.val * 256 + s.val) (hn : n.val = 640 + d.val) :
    val_main_v103 (F := Ideal) x0 x1 x2 (ix3 g d s) = lin x0 x1 x2 0 R n := by
  rw [val_main_v103_apply, val_main_v102_apply, val_main_v99_apply]
  refine Eq.trans (congrArg (val_main_v14 (F := Ideal) x0 x1 x2) ?_) (prompt_proj x0 x1 x2 ⟨R.val, by omega⟩ n R rfl)
  funext a
  apply Fin.ext
  match a with
  | ⟨0, _⟩ => show ((g.val * 256 + s.val) * 2304 + (640 + d.val)) / 2304 = R.val; omega
  | ⟨1, _⟩ => show ((g.val * 256 + s.val) * 2304 + (640 + d.val)) % 2304 = n.val; omega

theorem diffKeys_ref (g : Fin 16) (d : Fin 512) (s : Fin 256) (R : Fin 8192) (n : Fin 2304) (hR : R.val = g.val * 256 + s.val) (hn : n.val = 1280 + d.val) :
    val_main_v105 (F := Ideal) x0 x1 x2 (ix3 g d s) = lin x0 x1 x2 0 R n := by
  rw [val_main_v105_apply, val_main_v104_apply, val_main_v99_apply]
  refine Eq.trans (congrArg (val_main_v14 (F := Ideal) x0 x1 x2) ?_) (prompt_proj x0 x1 x2 ⟨R.val, by omega⟩ n R rfl)
  funext a
  apply Fin.ext
  match a with
  | ⟨0, _⟩ => show ((g.val * 256 + s.val) * 2304 + (1280 + d.val)) / 2304 = R.val; omega
  | ⟨1, _⟩ => show ((g.val * 256 + s.val) * 2304 + (1280 + d.val)) % 2304 = n.val; omega

theorem diffValues_ref (R' : Fin 4096) (d : Fin 512) (R : Fin 8192) (n : Fin 2304) (hR : R.val = R'.val) (hn : n.val = 1792 + d.val) :
    val_main_v106 (F := Ideal) x0 x1 x2 (ix2 R' d) = lin x0 x1 x2 0 R n := by
  rw [val_main_v106_apply]
  refine Eq.trans (congrArg (val_main_v14 (F := Ideal) x0 x1 x2) ?_) (prompt_proj x0 x1 x2 R' n R hR)
  funext a
  apply Fin.ext
  match a with
  | ⟨0, _⟩ => rfl
  | ⟨1, _⟩ => exact hn.symm

end Proj.Ref

end
-- ==== Proof.ProjEq.lean ====
/- The projection's five results, entry by entry, as those of the reference. -/
module

public import proofs.«01_k».proof.Proof.ProjRef

@[expose] public section

set_option maxRecDepth 16384

noncomputable section

namespace Proj

open Cert.ProjKernelIdeal Cert.ProjKernelIdeal.Gen Idealize.ShloMosaic Idealize.ShloMosaic.TcCoe Idealize.SL.Sem
open Idealize.ShloMosaic.ValueIdx
open Cert.ProjReferenceIdeal.Read (val_main_v98 val_main_v101 val_main_v103 val_main_v105 val_main_v106)

variable (m : (ℓ : Loc nD τ sig) → Buf (Elt Ideal) ℓ)

theorem seg_prompt (t : Fin 16) (ht : t.val < 8) : seg t = 0 := Fin.ext (if_pos ht)

theorem seg_sample (t : Fin 16) (ht : 8 ≤ t.val) : (seg t).val = 1 + (t.val - 8) / 4 := if_neg (by omega)

/-- A prompt tile's entry as the sum the reference takes. -/
theorem P_prompt (c : Dev nD) (t : Fin 16) (ht : t.val < 8) (r : Fin 512) (n : Fin 2304) (R : Fin 8192) (hR : R.val = t.val * 512 + r.val) :
    P m c (pt t) (ix2 r n) = lin (m ((c : Thread nD τ).loc main_arg0)) (m ((c : Thread nD τ).loc main_arg1)) (m ((c : Thread nD τ).loc main_arg2)) 0 R n := by
  rw [P_apply m c t r n R hR, seg_prompt t ht]

/-- A sample tile's entry as the reference's. -/
theorem P_sample (c : Dev nD) (t : Fin 16) (ht : 8 ≤ t.val) (r : Fin 512) (n : Fin 2304) (b : Fin 2) (s : Fin 2048)
    (hb : b.val = (t.val - 8) / 4) (hs : s.val = (t.val - 8) % 4 * 512 + r.val) :
    P m c (pt t) (ix2 r n)
      = Cert.ProjReferenceIdeal.Read.val_main_v30 (F := Ideal) (m ((c : Thread nD τ).loc main_arg0)) (m ((c : Thread nD τ).loc main_arg1)) (m ((c : Thread nD τ).loc main_arg2)) (ix3 b s n) :=
  (P_apply m c t r n ⟨t.val * 512 + r.val, by omega⟩ rfl).trans
    (Ref.sample_proj _ _ _ b s n (seg t) (by rw [seg_sample t ht]; omega) ⟨t.val * 512 + r.val, by omega⟩ (by show t.val * 512 + r.val = _; omega)).symm

theorem proj_at_prompt (c : Dev nD) (R : Fin 8192) (n : Fin 2304) (hR : R.val < 4096) :
    ((dats m 0 c).arrAt 5 cfg0.N : Vec Ideal S8192x2304 .bf16) (ix2 R n)
      = val_main_v98 (F := Ideal) (m ((c : Thread nD τ).loc main_arg0)) (m ((c : Thread nD τ).loc main_arg1)) (m ((c : Thread nD τ).loc main_arg2)) (ix2 R n) :=
  (prompt_apply m c ⟨R.val / 512, by omega⟩ (by show R.val / 512 < 8; omega) ⟨R.val % 512, by omega⟩ n R (by show R.val = R.val / 512 * 512 + R.val % 512; omega)).trans
    ((P_prompt m c ⟨R.val / 512, by omega⟩ (by show R.val / 512 < 8; omega) ⟨R.val % 512, by omega⟩ n R (by show R.val = R.val / 512 * 512 + R.val % 512; omega)).trans
      (Ref.proj_prompt _ _ _ R n hR).symm)

theorem proj_at_sample (c : Dev nD) (t : Fin 16) (ht : 8 ≤ t.val) (r : Fin 512) (h : Fin 36) (q : Fin 4) (i : Fin 16) (R : Fin 8192) (hR : R.val = t.val * 512 + r.val) :
    ((dats m 0 c).arrAt 5 cfg0.N : Vec Ideal S8192x2304 .bf16) (ix2 R (colOf h q i))
      = val_main_v98 (F := Ideal) (m ((c : Thread nD τ).loc main_arg0)) (m ((c : Thread nD τ).loc main_arg1)) (m ((c : Thread nD τ).loc main_arg2)) (ix2 R (colOf h q i)) := by
  refine (sample_apply m c t ht r (colOf h q i) R hR).trans ?_
  obtain ⟨s, hs⟩ : ∃ s : Fin 2048, s.val = (t.val - 8) % 4 * 512 + r.val := ⟨⟨(t.val - 8) % 4 * 512 + r.val, by omega⟩, rfl⟩
  obtain ⟨b, hb⟩ : ∃ b : Fin 2, b.val = (t.val - 8) / 4 := ⟨⟨(t.val - 8) / 4, by omega⟩, rfl⟩
  have e := Ref.proj_sample (m ((c : Thread nD τ).loc main_arg0)) (m ((c : Thread nD τ).loc main_arg1)) (m ((c : Thread nD τ).loc main_arg2)) R b s h ⟨16 * q.val + i.val, by omega⟩ (colOf h q i)
    (by omega) (by show 64 * h.val + 16 * q.val + i.val = 64 * h.val + (16 * q.val + i.val); omega)
  refine Eq.trans ?_ (e.trans (Ref.heads_apply _ _ _ b s h _)).symm
  by_cases hh : h.val < 10 ∨ (12 ≤ h.val ∧ h.val < 28)
  · rw [if_pos hh]
    refine (sample_rot m c t ht r h q i s hs hh).trans (Eq.trans ?_ (Ref.rotated_head _ _ _ b s h q i _ (by show 16 * q.val + i.val = q.val * 16 + i.val; omega)).symm)
    exact congrArg (fun y => rot y (fun q => angle q s i) q) (funext fun q' => P_sample m c t ht r (colOf h q' i) b s hb hs)
  · rw [if_neg hh]
    refine (sample_kept m c t r h q i _ _ hh).trans ((P_sample m c t ht r (colOf h q i) b s hb hs).trans ?_)
    exact (Ref.head_apply _ _ _ b s h _ (colOf h q i) (by show 64 * h.val + 16 * q.val + i.val = 64 * h.val + (16 * q.val + i.val); omega)).symm

/-- The projection, rotated in the samples' rows. -/
theorem proj_eq (c : Dev nD) : ((dats m 0 c).arrAt 5 cfg0.N : Vec Ideal S8192x2304 .bf16)
    = val_main_v98 (F := Ideal) (m ((c : Thread nD τ).loc main_arg0)) (m ((c : Thread nD τ).loc main_arg1)) (m ((c : Thread nD τ).loc main_arg2)) := by
  funext j
  rw [eq_ix2 j]
  by_cases hR : (j 0).val < 4096
  · exact proj_at_prompt m c (j 0) (j 1) hR
  · have hn : (j 1).val < 2304 := (j 1).isLt
    have hr : (j 0).val < 8192 := (j 0).isLt
    have en : j 1 = colOf ⟨(j 1).val / 64, by omega⟩ ⟨(j 1).val % 64 / 16, by omega⟩ ⟨(j 1).val % 16, by omega⟩ := Fin.ext (by
      show (j 1).val = 64 * ((j 1).val / 64) + 16 * ((j 1).val % 64 / 16) + (j 1).val % 16; omega)
    have key := proj_at_sample m c ⟨(j 0).val / 512, by omega⟩ (by show 8 ≤ (j 0).val / 512; omega) ⟨(j 0).val % 512, by omega⟩
      ⟨(j 1).val / 64, by omega⟩ ⟨(j 1).val % 64 / 16, by omega⟩ ⟨(j 1).val % 16, by omega⟩ (j 0) (by show (j 0).val = (j 0).val / 512 * 512 + (j 0).val % 512; omega)
    rw [← en] at key
    exact key

/-- The prompt's keys. -/
theorem keys_eq (c : Dev nD) : ((dats m 0 c).arrAt 6 cfg0.N : Vec Ideal S16x128x256 .f32)
    = val_main_v101 (F := Ideal) (m ((c : Thread nD τ).loc main_arg0)) (m ((c : Thread nD τ).loc main_arg1)) (m ((c : Thread nD τ).loc main_arg2)) := by
  funext j
  rw [eq_ix3 j]
  have h0 : (j 0).val < 16 := (j 0).isLt
  have h1 : (j 1).val < 128 := (j 1).isLt
  have h2 : (j 2).val < 256 := (j 2).isLt
  refine (keys_apply m c ⟨(j 0).val / 2, by omega⟩ ⟨(j 0).val % 2, by omega⟩ (j 1) (j 2) (j 0) (by show (j 0).val = (j 0).val / 2 * 2 + (j 0).val % 2; omega)).trans ?_
  refine (P_prompt m c ⟨(j 0).val / 2, by omega⟩ (by show (j 0).val / 2 < 8; omega) _ _ ⟨(j 0).val * 256 + (j 2).val, by omega⟩
    (by show (j 0).val * 256 + (j 2).val = (j 0).val / 2 * 512 + ((j 0).val % 2 * 256 + (j 2).val); omega)).trans ?_
  exact (Ref.keys_ref _ _ _ (j 0) (j 1) (j 2) _ _ rfl rfl).symm

/-- The prompt's values. -/
theorem values_eq (c : Dev nD) : ((dats m 0 c).arrAt 7 cfg0.N : Vec Ideal S16x128x256 .f32)
    = val_main_v103 (F := Ideal) (m ((c : Thread nD τ).loc main_arg0)) (m ((c : Thread nD τ).loc main_arg1)) (m ((c : Thread nD τ).loc main_arg2)) := by
  funext j
  rw [eq_ix3 j]
  have h0 : (j 0).val < 16 := (j 0).isLt
  have h1 : (j 1).val < 128 := (j 1).isLt
  have h2 : (j 2).val < 256 := (j 2).isLt
  refine (values_apply m c ⟨(j 0).val / 2, by omega⟩ ⟨(j 0).val % 2, by omega⟩ (j 1) (j 2) (j 0) (by show (j 0).val = (j 0).val / 2 * 2 + (j 0).val % 2; omega)).trans ?_
  refine (P_prompt m c ⟨(j 0).val / 2, by omega⟩ (by show (j 0).val / 2 < 8; omega) _ _ ⟨(j 0).val * 256 + (j 2).val, by omega⟩
    (by show (j 0).val * 256 + (j 2).val = (j 0).val / 2 * 512 + ((j 0).val % 2 * 256 + (j 2).val); omega)).trans ?_
  exact (Ref.values_ref _ _ _ (j 0) (j 1) (j 2) _ _ rfl rfl).symm

/-- The prompt's keys for the differential attention. -/
theorem diffKeys_eq (c : Dev nD) : ((dats m 0 c).arrAt 8 cfg0.N : Vec Ideal S16x512x256 .f32)
    = val_main_v105 (F := Ideal) (m ((c : Thread nD τ).loc main_arg0)) (m ((c : Thread nD τ).loc main_arg1)) (m ((c : Thread nD τ).loc main_arg2)) := by
  funext j
  rw [eq_ix3 j]
  have h0 : (j 0).val < 16 := (j 0).isLt
  have h1 : (j 1).val < 512 := (j 1).isLt
  have h2 : (j 2).val < 256 := (j 2).isLt
  refine (diffKeys_apply m c ⟨(j 0).val / 2, by omega⟩ ⟨(j 0).val % 2, by omega⟩ (j 1) (j 2) (j 0) (by show (j 0).val = (j 0).val / 2 * 2 + (j 0).val % 2; omega)).trans ?_
  refine (P_prompt m c ⟨(j 0).val / 2, by omega⟩ (by show (j 0).val / 2 < 8; omega) _ _ ⟨(j 0).val * 256 + (j 2).val, by omega⟩
    (by show (j 0).val * 256 + (j 2).val = (j 0).val / 2 * 512 + ((j 0).val % 2 * 256 + (j 2).val); omega)).trans ?_
  exact (Ref.diffKeys_ref _ _ _ (j 0) (j 1) (j 2) _ _ rfl rfl).symm

/-- The prompt's values for the differential attention. -/
theorem diffValues_eq (c : Dev nD) : ((dats m 0 c).arrAt 9 cfg0.N : Vec Ideal S4096x512 .f32)
    = val_main_v106 (F := Ideal) (m ((c : Thread nD τ).loc main_arg0)) (m ((c : Thread nD τ).loc main_arg1)) (m ((c : Thread nD τ).loc main_arg2)) := by
  funext j
  rw [eq_ix2 j]
  have h0 : (j 0).val < 4096 := (j 0).isLt
  have h1 : (j 1).val < 512 := (j 1).isLt
  refine (diffValues_apply m c ⟨(j 0).val / 512, by omega⟩ ⟨(j 0).val % 512, by omega⟩ (j 1) (j 0) (by show (j 0).val = (j 0).val / 512 * 512 + (j 0).val % 512; omega)).trans ?_
  refine (P_prompt m c ⟨(j 0).val / 512, by omega⟩ (by show (j 0).val / 512 < 8; omega) _ _ ⟨(j 0).val, by omega⟩
    (by show (j 0).val = (j 0).val / 512 * 512 + (j 0).val % 512; omega)).trans ?_
  exact (Ref.diffValues_ref _ _ _ (j 0) (j 1) _ _ rfl rfl).symm

/-- The run of the program: its five results as the reference's, its arguments unchanged. -/
theorem run_eq (ρ : Dev nD → PrngReg) : θ_run defs (onTc (τ := τ) (main (F := Ideal))) ⟨m, fun _ => 0, ρ⟩ fun r => ∀ c : Dev nD,
      r.2.mem ((c.tc : Thread nD τ).loc main_v55_0) = val_main_v98 (F := Ideal) (m ((c : Thread nD τ).loc main_arg0)) (m ((c : Thread nD τ).loc main_arg1)) (m ((c : Thread nD τ).loc main_arg2))
      ∧ r.2.mem ((c.tc : Thread nD τ).loc main_v55_1) = val_main_v101 (F := Ideal) (m ((c : Thread nD τ).loc main_arg0)) (m ((c : Thread nD τ).loc main_arg1)) (m ((c : Thread nD τ).loc main_arg2))
      ∧ r.2.mem ((c.tc : Thread nD τ).loc main_v55_2) = val_main_v103 (F := Ideal) (m ((c : Thread nD τ).loc main_arg0)) (m ((c : Thread nD τ).loc main_arg1)) (m ((c : Thread nD τ).loc main_arg2))
      ∧ r.2.mem ((c.tc : Thread nD τ).loc main_v55_3) = val_main_v105 (F := Ideal) (m ((c : Thread nD τ).loc main_arg0)) (m ((c : Thread nD τ).loc main_arg1)) (m ((c : Thread nD τ).loc main_arg2))
      ∧ r.2.mem ((c.tc : Thread nD τ).loc main_v55_4) = val_main_v106 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1.trans (proj_eq m c), (h.1 c).2.1.trans (keys_eq m c), (h.1 c).2.2.1.trans (values_eq m c),
    (h.1 c).2.2.2.1.trans (diffKeys_eq m c), (h.1 c).2.2.2.2.trans (diffValues_eq m c), h.2 c⟩) (θ_run_and (run_blocks m ρ) (unchanged m ρ))

end Proj

end
-- ==== Proof.ProjClaims.lean ====
/- The claims about the projection with its position rotation: the runs of the programs and of the reference, and the equality of their results. -/
module

public import proofs.«01_k».proof.Defs
public import proofs.«01_k».proof.Proof.ProjEq
public import proofs.«01_k».proof.Proof.Gen.ProjKernel
public import proofs.«01_k».proof.Proof.Gen.ProjReferenceIdeal.Run
public import Idealize.ShloMosaic.Lib.Quiescent

@[expose] public section

set_option maxRecDepth 16384

noncomputable section

namespace Cert.Proof.Proj

open Idealize.ShloMosaic Idealize.SL.Sem

/-- The program over the extended reals ends, leaves its arguments as they were, and every counter at zero. -/
theorem frame_ideal : Cert.quiescent_ProjKernelIdeal := fun m g _ => _root_.Proj.frame m g

section
set_option smartUnfolding false
set_option maxHeartbeats 4000000
local instance : Cert.ProjKernel.Facts := Cert.ProjKernel.Gen.facts

/-- The program over its own formats is the same text, so it ends in the same way. -/
theorem frame_kernel : Cert.quiescent_ProjKernel := fun m g _ => by
  with_unfolding_all exact _root_.Proj.frame m g

end

/-- The reference ends, leaves its arguments as they were, and every counter at zero. -/
theorem frame_ref [Cert.ProjReferenceIdeal.Facts] : Cert.quiescent_ProjReferenceIdeal := fun m g _ =>
  (θ_run _ _ _).mono (fun r h => ⟨fun c => (h c).2.2.2.2.2, sem_eq_zero_of_no_sems (by decide) r.2⟩)
    (Cert.ProjReferenceIdeal.Value.run m g)

/-- Program and reference end with the same five results: the projection, rotated in the samples' rows, and the prompt's keys and values for both attentions. -/
theorem algebraic : Cert.algebraic_ProjKernelIdeal_ProjReferenceIdeal := fun m g m' g' _ hargs =>
  ⟨_, _, _, _, _, _root_.Proj.run_eq m g,
    (θ_run _ _ _).mono (fun r h c => by
      obtain ⟨e0, e1, e2, e3, e4, ha⟩ := h c
      obtain ⟨h0, h1, h2⟩ := hargs c
      refine ⟨e0.trans ((Cert.ProjReferenceIdeal.Read.val_main_v98_eq ..).trans ?_), e1.trans ((Cert.ProjReferenceIdeal.Read.val_main_v101_eq ..).trans ?_),
        e2.trans ((Cert.ProjReferenceIdeal.Read.val_main_v103_eq ..).trans ?_), e3.trans ((Cert.ProjReferenceIdeal.Read.val_main_v105_eq ..).trans ?_),
        e4.trans ((Cert.ProjReferenceIdeal.Read.val_main_v106_eq ..).trans ?_), ha⟩ <;> rw [h0, h1, h2])
      (Cert.ProjReferenceIdeal.Value.run m' g')⟩

end Cert.Proof.Proj

end
-- ==== Proof.InState.lean ====
/- What the input projection's two outputs and the weights' scratch hold after each grid point, in the terms of the body's pure values. -/
module

public import proofs.«01_k».proof.Proof.Gen.InKernelIdeal.Frame
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace InProj

open Cert.InKernelIdeal Cert.InKernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weights' block is the whole argument at every point. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk3 (c : Dev nD) (t : Fin cfg0.N) : (iblk m c 3 t : Vec F S1x1024x1792 .f32) = m ((c : Thread nD τ).loc main_arg3) := by
  funext i
  unfold iblk
  rw [View.read_apply]
  show V m c main_arg3 _ = _
  rw [V_main_arg3]
  congr 1
  funext a
  apply Fin.ext
  obtain ⟨h0, h1, h2⟩ := idx3 t
  match a with
  | ⟨0, _⟩ => show win0_3.index t 0 * 1 + 1 * (i 0).val = (i 0).val; omega
  | ⟨1, _⟩ => show win0_3.index t 1 * 1024 + 1 * (i 1).val = (i 1).val; omega
  | ⟨2, _⟩ => show win0_3.index t 2 * 1792 + 1 * (i 2).val = (i 2).val; omega

/-- The weights, as the scratch keeps them. -/
def W (c : Dev nD) : FVec F S1024x1792 .bf16 := k0_pay1 (m ((c : Thread nD τ).loc main_arg3))

/-- The scratch holds the weights after every point. -/
theorem scratch (c : Dev nD) : ∀ (n : ℕ) (hn : n < cfg0.N), (outsAt0 m c n hn).2.2 = W m c := by
  intro n
  induction n with
  | zero =>
    intro hn
    rw [show outsAt0 m c 0 hn = _ from outsAt0_A m c ⟨0, hn⟩ rfl]
    dsimp only
    unfold sout0_A_0
    rw [View.read_writes_eq_canon _ _ _ (scover0_A_0 c _ _ _ _ _ _ _ _ _ _ _ _ _ _ _ _ _ _ _ _)]
    unfold kernelRun0_A kernelRun0_A.sl.HS0_1
    dsimp only
    rw [View.canon_unit_zero (S := S1024x1792) hz2]
    simp only [View.readAt_eq_ld, (hs0_3 _).read_unread, View.ld_unit_zero (S := S1x1024x1792) hz3]
    rw [blk3]
    rfl
  | succ n ih =>
    intro hn
    have hN := lt_of_lt_of_eq hn (show cfg0.N = 16 from N_0)
    rw [show outsAt0 m c (n + 1) hn = _ from outsAt0_B m c ⟨n + 1, hn⟩ (by show ¬(n + 1) % 16 = 0; omega)]
    dsimp only
    unfold sout0_B_0
    exact ih _

/-- What the first tile's body reads back of the scratch it has just filled. -/
theorem filled (c : Dev nD) (arg4 : Memref sig .tc .vmem S1x1024x1792 .f32) (harg4 : arg4.IsWhole) (arg7 : Memref sig .tc .vmem S1024x1792 .bf16) (x3 : Vec F S1x1024x1792 .f32) :
    kernelRun0_A.sl.v18 c arg4 harg4 arg7 x3 = k0_pay1 x3 := by
  unfold kernelRun0_A.sl.v18 kernelRun0_A.sl.HS0_1
  rw [View.readCov_unit_zero (S := S1024x1792) _ hz2]
  simp only [View.readAt_eq_ld, harg4.read_unread, View.ld_unit_zero (S := S1x1024x1792) hz3]

/-- What every point leaves in the first output's block: its tile's first 768 columns. -/
theorem first_tile (c : Dev nD) (t : Fin cfg0.N) :
    (outsAt0 m c t.val t.isLt).1 = k0_pay3 (grid0.coords t) (iblk m c 2 t) (iblk m c 0 t) (iblk m c 1 t) (W m c) := by
  by_cases h : t.val % 16 = 0
  · rw [outsAt0_A m c t h]
    dsimp only
    unfold out0_A_4
    rw [View.read_writes_eq_canon _ _ _ (cover0_A_4 c _ _ _ _ _ _ _ _ _ _ _ _ _ _ _ _ _ _ _ _)]
    unfold kernelRun0_A
    dsimp only
    rw [View.canon_unit_zero (S := S512x768) hz2]
    simp only [filled, blk3, View.readAt_eq_ld, (hs0_0 _).read_unread, (hs0_1 _).read_unread, (hs0_2 _).read_unread,
      View.ld_unit_zero (S := S512x1024) hz2, View.ld_unit_zero (S := S1x1x6x1024) hz4]
    rfl
  · rw [outsAt0_B m c t h]
    dsimp only
    rw [scratch]
    unfold out0_B_4
    rw [View.read_writes_eq_canon _ _ _ (cover0_B_4 c _ _ _ _ _ _ _ _ _ _ _ _ _ _ _ _ _ _ _ _ _)]
    unfold kernelRun0_B
    dsimp only
    rw [View.canon_unit_zero (S := S512x768) hz2]
    simp only [View.readAt_eq_ld, (hs0_0 _).read_unread, (hs0_1 _).read_unread, (hs0_2 _).read_unread, (Memref.isWhole_whole cc0_scratch0).read_unread,
      View.ld_unit_zero (S := S1024x1792) hz2, View.ld_unit_zero (S := S512x1024) hz2, View.ld_unit_zero (S := S1x1x6x1024) hz4]

/-- … and in the second output's block: the remaining 1024 columns. -/
theorem second_tile (c : Dev nD) (t : Fin cfg0.N) :
    (outsAt0 m c t.val t.isLt).2.1 = k0_pay4 (grid0.coords t) (iblk m c 2 t) (iblk m c 0 t) (iblk m c 1 t) (W m c) := by
  by_cases h : t.val % 16 = 0
  · rw [outsAt0_A m c t h]
    dsimp only
    unfold out0_A_5
    rw [View.read_writes_eq_canon _ _ _ (cover0_A_5 c _ _ _ _ _ _ _ _ _ _ _ _ _ _ _ _ _ _ _ _)]
    unfold kernelRun0_A
    dsimp only
    rw [View.canon_unit_zero (S := S512x1024) hz2]
    simp only [filled, blk3, View.readAt_eq_ld, (hs0_0 _).read_unread, (hs0_1 _).read_unread, (hs0_2 _).read_unread,
      View.ld_unit_zero (S := S512x1024) hz2, View.ld_unit_zero (S := S1x1x6x1024) hz4]
    rfl
  · rw [outsAt0_B m c t h]
    dsimp only
    rw [scratch]
    unfold out0_B_5
    rw [View.read_writes_eq_canon _ _ _ (cover0_B_5 c _ _ _ _ _ _ _ _ _ _ _ _ _ _ _ _ _ _ _ _ _)]
    unfold kernelRun0_B
    dsimp only
    rw [View.canon_unit_zero (S := S512x1024) hz2]
    simp only [View.readAt_eq_ld, (hs0_0 _).read_unread, (hs0_1 _).read_unread, (hs0_2 _).read_unread, (Memref.isWhole_whole cc0_scratch0).read_unread,
      View.ld_unit_zero (S := S1024x1792) hz2, View.ld_unit_zero (S := S512x1024) hz2, View.ld_unit_zero (S := S1x1x6x1024) hz4]

end InProj

end
-- ==== Proof.InValue.lean ====
/- The input projection over the extended reals: the entries of its two results as sums over the model width, in terms of the call's arguments. -/
module

public import proofs.«01_k».proof.Proof.InState

@[expose] public section

set_option maxRecDepth 16384

noncomputable section

namespace InProj

open Cert.InKernelIdeal Cert.InKernelIdeal.Gen Idealize.ShloMosaic Idealize.ShloMosaic.TcCoe Idealize.SL.Sem
open Idealize.ShloMosaic.ValueIdx

variable (m : (ℓ : Loc nD τ sig) → Buf (Elt Ideal) ℓ)

/-- Grid point `t`. -/
abbrev pt (t : Fin 16) : Fin cfg0.N := ⟨t.val, lt_of_lt_of_eq t.isLt N_0.symm⟩

theorem zero_f32 : Ideal.ofBits .f32 0x00000000#32 = 0 := by simp [Ideal.ofBits, Ideal.ieee]

/-- Column `n` of the projection of a row under the modulation of segment `g`. -/
def lin (x : Fin 1024 → EReal) (v : Vec Ideal S2x8x6x1024 .f32) (w : Vec Ideal S1x1024x1792 .f32) (g : Fin 8) (n : Fin 1792) : EReal :=
  ∑ k : Fin 1024, (x k * (Ideal.ofBits .f32 0x3F800000#32 + v (ix4 0 g 1 k)) + v (ix4 0 g 0 k)) * w (ix3 0 k n)

/-- The segment of tile `t`: the prompt's, then one for each sample. -/
def seg (t : Fin 16) : Fin 8 := ⟨if t.val < 8 then 0 else 1 + (t.val - 8) / 4, by split <;> omega⟩

/-- The block indices of the two row arguments and of the modulation at every grid point. -/
theorem idxIn : ∀ t : Fin 16, (t.val < 8 → win0_0.index (pt t) (0 : Fin 2) = t.val ∧ win0_0.index (pt t) (1 : Fin 2) = 0)
    ∧ (8 ≤ t.val → win0_1.index (pt t) (0 : Fin 2) = t.val - 8 ∧ win0_1.index (pt t) (1 : Fin 2) = 0)
    ∧ (win0_2.index (pt t) (0 : Fin 4) = 0 ∧ win0_2.index (pt t) (1 : Fin 4) = (seg t).val ∧ win0_2.index (pt t) (2 : Fin 4) = 0 ∧ win0_2.index (pt t) (3 : Fin 4) = 0) := by
  decide +kernel

/-- The body takes the prompt's rows at the first eight points, the samples' at the others. -/
theorem picks : ∀ t : Fin 16, Scalar.cmpi .slt (BitVec.ofNat 32 (grid0.coords (pt t) 0).val) 8#32 = if t.val < 8 then 1#1 else 0#1 := by
  decide +kernel

theorem blk0 (c : Dev nD) (t : Fin 16) (ht : t.val < 8) (r : Fin 512) (k : Fin 1024) (R : Fin 4096) (hR : R.val = t.val * 512 + r.val) :
    (iblk m c 0 (pt t) : Vec Ideal S512x1024 .f32) (ix2 r k) = m ((c : Thread nD τ).loc main_arg0) (ix2 R k) := by
  unfold iblk
  rw [View.read_apply]
  show V m c main_arg0 _ = _
  rw [V_main_arg0]
  congr 1
  funext a
  apply Fin.ext
  obtain ⟨h0, h1⟩ := (idxIn t).1 ht
  match a with
  | ⟨0, _⟩ => show win0_0.index (pt t) 0 * 512 + 1 * r.val = R.val; omega
  | ⟨1, _⟩ => show win0_0.index (pt t) 1 * 1024 + 1 * k.val = k.val; omega

theorem blk1 (c : Dev nD) (t : Fin 16) (ht : 8 ≤ t.val) (r : Fin 512) (k : Fin 1024) (R : Fin 4096) (hR : R.val = (t.val - 8) * 512 + r.val) :
    (iblk m c 1 (pt t) : Vec Ideal S512x1024 .f32) (ix2 r k) = m ((c : Thread nD τ).loc main_arg1) (ix2 R k) := by
  unfold iblk
  rw [View.read_apply]
  show V m c main_arg1 _ = _
  rw [V_main_arg1]
  congr 1
  funext a
  apply Fin.ext
  obtain ⟨h0, h1⟩ := (idxIn t).2.1 ht
  match a with
  | ⟨0, _⟩ => show win0_1.index (pt t) 0 * 512 + 1 * r.val = R.val; omega
  | ⟨1, _⟩ => show win0_1.index (pt t) 1 * 1024 + 1 * k.val = k.val; omega

theorem blk2 (c : Dev nD) (t : Fin 16) (j : Fin 6) (k : Fin 1024) :
    (iblk m c 2 (pt t) : Vec Ideal S1x1x6x1024 .f32) (ix4 0 0 j k) = m ((c : Thread nD τ).loc main_arg2) (ix4 0 (seg t) j k) := by
  unfold iblk
  rw [View.read_apply]
  show V m c main_arg2 _ = _
  rw [V_main_arg2]
  congr 1
  funext a
  apply Fin.ext
  obtain ⟨h0, h1, h2, h3⟩ := (idxIn t).2.2
  match a with
  | ⟨0, _⟩ => show win0_2.index (pt t) 0 * 1 + 1 * 0 = 0; omega
  | ⟨1, _⟩ => show win0_2.index (pt t) 1 * 1 + 1 * 0 = (seg t).val; omega
  | ⟨2, _⟩ => show win0_2.index (pt t) 2 * 6 + 1 * j.val = j.val; omega
  | ⟨3, _⟩ => show win0_2.index (pt t) 3 * 1024 + 1 * k.val = k.val; omega

/-- One row of six, as a row of its own. -/
theorem rowOf_apply (y : FVec Ideal S6x1024 .f32) (k : Fin 1024) (j : ℕ) (j' : Fin 6) (hj : j'.val = j) (h : S6x1024.Slices ![j, 0] S1x1024) :
    extractStridedSlice S1x1024 ![j, 0] y h (ix2 (n0 := 1) (n1 := 1024) 0 k) = y (ix2 (n0 := 6) (n1 := 1024) j' k) :=
  extractStridedSlice_apply _ y h (ix2 (n0 := 1) (n1 := 1024) 0 k) (ix2 (n0 := 6) (n1 := 1024) j' k) (fun a => by
    match a with
    | ⟨0, _⟩ => exact hj
    | ⟨1, _⟩ => exact (Nat.zero_add _).symm)

/-- One of the six modulation vectors of a tile. -/
theorem modRow_apply (v : Vec Ideal S1x1x6x1024 .f32) (k : Fin 1024) (j : Fin 6) :
    shapeCast S6x1024 v shapeCasts_S1x1x6x1024_S6x1024 (ix2 (n0 := 6) (n1 := 1024) j k) = v (ix4 0 0 j k) :=
  shapeCast_apply v shapeCasts_S1x1x6x1024_S6x1024 (ix2 (n0 := 6) (n1 := 1024) j k) (ix4 0 0 j k) (by
    rewrite [Shape.rowMajor_val_four, Shape.rowMajor_val_two]; show ((0 * 1 + 0) * 6 + j.val) * 1024 + k.val = j.val * 1024 + k.val; omega)

theorem row_apply (y : FVec Ideal S1x1024 .f32) (r : Fin 512) (k : Fin 1024) :
    broadcastTo S512x1024 y broadcasts_S1x1024_S512x1024 (ix2 r k) = y (ix2 0 k) :=
  broadcastTo_apply y _ (ix2 r k) (ix2 0 k) (fun a => by
    match a with
    | ⟨0, _⟩ => show 0 = if (1 : Nat) = 1 then 0 else r.val; rw [if_pos rfl]
    | ⟨1, _⟩ => show k.val = if (1024 : Nat) = 1 then 0 else k.val; rw [if_neg (by decide)])

theorem weights_apply (w : Vec Ideal S1x1024x1792 .f32) (k : Fin 1024) (n : Fin 1792) : k0_pay1 w (ix2 k n) = w (ix3 0 k n) := by
  unfold k0_pay1
  rw [shapeCast_self, truncf_apply]
  exact shapeCast_apply w _ (ix2 k n) (ix3 0 k n) (by
    rewrite [Shape.rowMajor_val_three, Shape.rowMajor_val_two]; show (0 * 1024 + k.val) * 1792 + n.val = k.val * 1792 + n.val; omega)

/-- The product a tile's body forms, entry by entry, from the rows it takes. -/
theorem pay2_apply (t : Fin 16) (v : Vec Ideal S1x1x6x1024 .f32) (xc xl : Vec Ideal S512x1024 .f32) (w : Vec Ideal S1024x1792 .bf16) (r : Fin 512) (n : Fin 1792) :
    k0_pay2 (grid0.coords (pt t)) v xc xl w (ix2 r n)
      = ∑ k : Fin 1024, ((if t.val < 8 then xc (ix2 r k) else xl (ix2 r k)) * (Ideal.ofBits .f32 0x3F800000#32 + v (ix4 0 0 1 k)) + v (ix4 0 0 0 k)) * w (ix2 k n) := by
  unfold k0_pay2
  dsimp only
  rw [picks t]
  refine (Ideal.matmul_plain_apply (M := 512) (K := 1024) (N := 1792) none _ _ _ r n).trans ?_
  rw [show (constant (F := Ideal) S512x1792 .f32 0x00000000#32) (ix2 r n) = Ideal.ofBits .f32 0x00000000#32 from rfl, zero_f32, zero_add]
  refine Finset.sum_congr rfl fun k _ => ?_
  rw [truncf_apply, addf_apply, mulf_apply, row_apply, row_apply, addf_apply, broadcast_apply,
    rowOf_apply _ k 1 1 rfl, rowOf_apply _ k 0 0 rfl, modRow_apply, modRow_apply]
  by_cases h : t.val < 8
  · rw [if_pos h, if_pos h]; rfl
  · rw [if_neg h, if_neg h]; rfl

/-- The first output's block is the product's first 768 columns. -/
theorem pay3_apply (i : grid0.Coords) (v : Vec Ideal S1x1x6x1024 .f32) (xc xl : Vec Ideal S512x1024 .f32) (w : Vec Ideal S1024x1792 .bf16) (r : Fin 512) (n : Fin 768) :
    k0_pay3 i v xc xl w (ix2 r n) = k0_pay2 i v xc xl w (ix2 r ⟨n.val, by omega⟩) := by
  unfold k0_pay3
  generalize k0_pay2 i v xc xl w = p
  exact extractStridedSlice_apply ![0, 0] p slices_S512x1792_o0_0_S512x768 (ix2 r n) (ix2 r ⟨n.val, by omega⟩) (fun a => by
      match a with
      | ⟨0, _⟩ => show r.val = 0 + r.val; omega
      | ⟨1, _⟩ => show n.val = 0 + n.val; omega)

/-- The second output's block is the product's remaining columns. -/
theorem pay4_apply (i : grid0.Coords) (v : Vec Ideal S1x1x6x1024 .f32) (xc xl : Vec Ideal S512x1024 .f32) (w : Vec Ideal S1024x1792 .bf16) (r : Fin 512) (n : Fin 1024) :
    k0_pay4 i v xc xl w (ix2 r n) = k0_pay2 i v xc xl w (ix2 r ⟨768 + n.val, by omega⟩) := by
  unfold k0_pay4
  generalize k0_pay2 i v xc xl w = p
  rw [truncf_apply]
  exact extractStridedSlice_apply ![0, 768] p slices_S512x1792_o0_768_S512x1024 (ix2 r n) (ix2 r ⟨768 + n.val, by omega⟩) (fun a => by
      match a with
      | ⟨0, _⟩ => show r.val = 0 + r.val; omega
      | ⟨1, _⟩ => rfl)

/-- A row of the prompt followed by the samples. -/
def row (xc xl : Vec Ideal S4096x1024 .f32) (R : Fin 8192) (k : Fin 1024) : EReal :=
  if h : R.val < 4096 then xc (ix2 ⟨R.val, h⟩ k) else xl (ix2 ⟨R.val - 4096, by omega⟩ k)

/-- The segment of a row. -/
def segOf (R : Fin 8192) : Fin 8 := seg ⟨R.val / 512, by omega⟩

/-- The projection at row `R`, column `n`. -/
def P (c : Dev nD) (R : Fin 8192) (n : Fin 1792) : EReal :=
  lin (row (m ((c : Thread nD τ).loc main_arg0)) (m ((c : Thread nD τ).loc main_arg1)) R) (m ((c : Thread nD τ).loc main_arg2)) (m ((c : Thread nD τ).loc main_arg3)) (segOf R) n

/-- The product of tile `t`'s body, entry by entry. -/
theorem tile_apply (c : Dev nD) (t : Fin 16) (r : Fin 512) (n : Fin 1792) (R : Fin 8192) (hR : R.val = t.val * 512 + r.val) :
    k0_pay2 (grid0.coords (pt t)) (iblk m c 2 (pt t)) (iblk m c 0 (pt t)) (iblk m c 1 (pt t)) (W m c) (ix2 r n) = P m c R n := by
  rw [pay2_apply]
  have hs : segOf R = seg t := congrArg seg (Fin.ext (by show R.val / 512 = t.val; omega))
  unfold P lin
  rw [hs]
  refine Finset.sum_congr rfl fun k _ => ?_
  unfold W row
  rw [weights_apply, blk2 m c t 1 k, blk2 m c t 0 k]
  by_cases h : t.val < 8
  · rw [if_pos h, dif_pos (by omega), blk0 m c t h r k ⟨R.val, by omega⟩ hR]
  · rw [if_neg h, dif_neg (by omega), blk1 m c t (by omega) r k ⟨R.val - 4096, by omega⟩ (by show R.val - 4096 = _; omega)]

theorem idx4 : ∀ t : Fin 16, win0_4.index (pt t) (0 : Fin 2) = t.val ∧ win0_4.index (pt t) (1 : Fin 2) = 0 ∧ (cfg0.win 4).flush (pt t) = true := by
  decide +kernel
theorem idx5 : ∀ t : Fin 16, win0_5.index (pt t) (0 : Fin 2) = t.val ∧ win0_5.index (pt t) (1 : Fin 2) = 0 ∧ (cfg0.win 5).flush (pt t) = true := by
  decide +kernel

/-- Two points that write the same block back are one point. -/
theorem inj4 : ∀ t t' : Fin cfg0.N, (cfg0.win 4).flush t = true → (cfg0.win 4).flush t' = true → win0_4.index t = win0_4.index t' → t = t' :=
  (by decide +kernel : ∀ t t' : Fin grid0.N, (cfg0.win 4).flush t = true → (cfg0.win 4).flush t' = true → win0_4.index t = win0_4.index t' → t = t')
theorem inj5 : ∀ t t' : Fin cfg0.N, (cfg0.win 5).flush t = true → (cfg0.win 5).flush t' = true → win0_5.index t = win0_5.index t' → t = t' :=
  (by decide +kernel : ∀ t t' : Fin grid0.N, (cfg0.win 5).flush t = true → (cfg0.win 5).flush t' = true → win0_5.index t = win0_5.index t' → t = t')

/-- A block of a final array is what the point that wrote it back held. -/
theorem blocks4 (c : Dev nD) (t : Fin cfg0.N) (hf : (cfg0.win 4).flush t = true) :
    ((cfg0.win 4).blk t).view.read (Elt Ideal) ((dats m 0 c).arrAt 4 cfg0.N) = (cfg0.win 4).cut (grid0.coords t) ((outsAt0 m c t.val t.isLt).1) := by
  refine ((dats m 0 c).read_blk_arrAt_eq_flushed 4 (fun t t' hf hf' hne => (cfg0.win 4).disjoint_blk fun h => hne (inj4 t t' hf hf' h)) cfg0.N t t.isLt hf).trans ?_
  show (cfg0.win 4).cut (grid0.coords t) ((dats m 0 c).after 4 t) = _
  rw [after0_4]
theorem blocks5 (c : Dev nD) (t : Fin cfg0.N) (hf : (cfg0.win 5).flush t = true) :
    ((cfg0.win 5).blk t).view.read (Elt Ideal) ((dats m 0 c).arrAt 5 cfg0.N) = (cfg0.win 5).cut (grid0.coords t) ((outsAt0 m c t.val t.isLt).2.1) := by
  refine ((dats m 0 c).read_blk_arrAt_eq_flushed 5 (fun t t' hf hf' hne => (cfg0.win 5).disjoint_blk fun h => hne (inj5 t t' hf hf' h)) cfg0.N t t.isLt hf).trans ?_
  show (cfg0.win 5).cut (grid0.coords t) ((dats m 0 c).after 5 t) = _
  rw [after0_5]

/-- The first result: the projection's first 768 columns. -/
theorem first_apply (c : Dev nD) (R : Fin 8192) (n : Fin 768) :
    ((dats m 0 c).arrAt 4 cfg0.N : Vec Ideal S8192x768 .f32) (ix2 R n) = P m c R ⟨n.val, by omega⟩ := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  obtain ⟨h0, h1, hf⟩ := idx4 t
  have e1 := congrFun (blocks4 m c (pt t) hf) (ix2 r n)
  rw [first_tile m c (pt t)] at e1
  refine Eq.trans ?_ (e1.trans ?_)
  · rw [View.read_apply]
    show ((dats m 0 c).arrAt 4 cfg0.N : Vec Ideal S8192x768 .f32) (ix2 R n) = ((dats m 0 c).arrAt 4 cfg0.N : Vec Ideal S8192x768 .f32) _
    congr 1
    funext a
    apply Fin.ext
    match a with
    | ⟨0, _⟩ => show R.val = win0_4.index (pt t) 0 * 512 + 1 * r.val; omega
    | ⟨1, _⟩ => show n.val = win0_4.index (pt t) 1 * 768 + 1 * n.val; omega
  · refine Eq.trans ?_ (tile_apply m c t r ⟨n.val, by omega⟩ R (by omega))
    exact pay3_apply _ _ _ _ _ r n

/-- The second result: the remaining 1024 columns. -/
theorem second_apply (c : Dev nD) (R : Fin 8192) (n : Fin 1024) :
    ((dats m 0 c).arrAt 5 cfg0.N : Vec Ideal S8192x1024 .bf16) (ix2 R n) = P m c R ⟨768 + n.val, by omega⟩ := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  obtain ⟨h0, h1, hf⟩ := idx5 t
  have e1 := congrFun (blocks5 m c (pt t) hf) (ix2 r n)
  rw [second_tile m c (pt t)] at e1
  refine Eq.trans ?_ (e1.trans ?_)
  · rw [View.read_apply]
    show ((dats m 0 c).arrAt 5 cfg0.N : Vec Ideal S8192x1024 .bf16) (ix2 R n) = ((dats m 0 c).arrAt 5 cfg0.N : Vec Ideal S8192x1024 .bf16) _
    congr 1
    funext a
    apply Fin.ext
    match a with
    | ⟨0, _⟩ => show R.val = win0_5.index (pt t) 0 * 512 + 1 * r.val; omega
    | ⟨1, _⟩ => show n.val = win0_5.index (pt t) 1 * 1024 + 1 * n.val; omega
  · refine Eq.trans ?_ (tile_apply m c t r ⟨768 + n.val, by omega⟩ R (by omega))
    exact pay4_apply _ _ _ _ _ r n

end InProj

end
-- ==== Proof.InRef.lean ====
/- The reference of the input projection over the extended reals, read at an index: the prompt's and the samples' modulated projections as sums. -/
module

public import proofs.«01_k».proof.Proof.InValue
public import proofs.«01_k».proof.Proof.Gen.InReferenceIdeal.Read

@[expose] public section

set_option maxRecDepth 16384

noncomputable section

namespace InProj.Ref

open Cert.InReferenceIdeal Cert.InReferenceIdeal.Read Idealize.ShloMosaic Idealize.ShloMosaic.TcCoe Idealize.SL.Sem
open Idealize.ShloMosaic.ValueIdx

variable (x0 x1 : Vec Ideal S4096x1024 .f32) (x2 : Vec Ideal S2x8x6x1024 .f32) (x3 : Vec Ideal S1x1024x1792 .f32)

theorem scale_prompt (R : Fin 4096) (k : Fin 1024) :
    val_main_v5 (F := Ideal) x2 (ix2 R k) = Ideal.ofBits .f32 0x3F800000#32 + x2 (ix4 0 0 1 k) := by
  rw [val_main_v5_apply, val_main_v4_apply, val_main_v3_apply, val_main_v2_apply, val_main_cst_apply, val_main_v1_apply, val_main_v0_apply]
  refine congrArg (fun o => Ideal.ofBits .f32 0x3F800000#32 + x2 o) ?_
  funext a
  apply Fin.ext
  match a with
  | ⟨0, _⟩ => rfl
  | ⟨1, _⟩ => rfl
  | ⟨2, _⟩ => rfl
  | ⟨3, _⟩ => exact Nat.mod_eq_of_lt k.isLt

theorem shift_prompt (R : Fin 4096) (k : Fin 1024) : val_main_v10 (F := Ideal) x2 (ix2 R k) = x2 (ix4 0 0 0 k) := by
  rw [val_main_v10_apply, val_main_v9_apply, val_main_v8_apply, val_main_v7_apply]
  refine congrArg x2 ?_
  funext a
  apply Fin.ext
  match a with
  | ⟨0, _⟩ => rfl
  | ⟨1, _⟩ => rfl
  | ⟨2, _⟩ => rfl
  | ⟨3, _⟩ => exact Nat.mod_eq_of_lt k.isLt

theorem weight_prompt (k : Fin 1024) (n : Fin 1792) : val_main_v25 (F := Ideal) x3 (ix2 k n) = x3 (ix3 0 k n) := by
  rw [val_main_v25_apply]
  refine congrArg x3 ?_
  funext a
  apply Fin.ext
  match a with
  | ⟨0, _⟩ => rfl
  | ⟨1, _⟩ => show (k.val * 1792 + n.val) / 1792 % 1024 = k.val; omega
  | ⟨2, _⟩ => show (k.val * 1792 + n.val) % 1792 = n.val; omega

theorem weight_sample (k : Fin 1024) (n : Fin 1792) : val_main_v27 (F := Ideal) x3 (ix2 k n) = x3 (ix3 0 k n) := by
  rw [val_main_v27_apply]
  refine congrArg x3 ?_
  funext a
  apply Fin.ext
  match a with
  | ⟨0, _⟩ => rfl
  | ⟨1, _⟩ => show (k.val * 1792 + n.val) / 1792 % 1024 = k.val; omega
  | ⟨2, _⟩ => show (k.val * 1792 + n.val) % 1792 = n.val; omega

/-- The prompt's projection. -/
theorem prompt_proj (R : Fin 4096) (n : Fin 1792) :
    val_main_v26 (F := Ideal) x0 x2 x3 (ix2 R n) = lin (fun k => x0 (ix2 R k)) x2 x3 0 n := by
  rw [val_main_v26_apply]
  unfold lin
  refine Finset.sum_congr rfl fun k _ => ?_
  have el : lidx_main_v26 (ix2 R n) k = ix2 R k := by
    funext a
    match a with
    | ⟨0, _⟩ => rfl
    | ⟨1, _⟩ => rfl
  have er : ridx_main_v26 (ix2 R n) k = ix2 k n := by
    funext a
    match a with
    | ⟨0, _⟩ => rfl
    | ⟨1, _⟩ => rfl
  rw [el, er, weight_prompt, val_main_v11_apply, val_main_v6_apply, scale_prompt, shift_prompt]
  rfl

theorem scale_sample (b : Fin 2) (s : Fin 2048) (k : Fin 1024) (g : Fin 8) (hg : g.val = 1 + b.val) :
    val_main_v18 (F := Ideal) x2 (ix3 b s k) = Ideal.ofBits .f32 0x3F800000#32 + x2 (ix4 0 g 1 k) := by
  rw [val_main_v18_apply, val_main_v17_apply, val_main_v16_apply, val_main_cst_0_apply, val_main_v15_apply, val_main_v14_apply, val_main_v13_apply]
  refine congrArg (fun o => Ideal.ofBits .f32 0x3F800000#32 + x2 o) ?_
  funext a
  apply Fin.ext
  match a with
  | ⟨0, _⟩ => rfl
  | ⟨1, _⟩ => show 1 + (b.val * 1024 + k.val) / 1024 % 2 = g.val; omega
  | ⟨2, _⟩ => rfl
  | ⟨3, _⟩ => show (b.val * 1024 + k.val) % 1024 = k.val; omega

theorem shift_sample (b : Fin 2) (s : Fin 2048) (k : Fin 1024) (g : Fin 8) (hg : g.val = 1 + b.val) :
    val_main_v23 (F := Ideal) x2 (ix3 b s k) = x2 (ix4 0 g 0 k) := by
  rw [val_main_v23_apply, val_main_v22_apply, val_main_v21_apply, val_main_v20_apply]
  refine congrArg x2 ?_
  funext a
  apply Fin.ext
  match a with
  | ⟨0, _⟩ => rfl
  | ⟨1, _⟩ => show 1 + (b.val * 1024 + k.val) / 1024 % 2 = g.val; omega
  | ⟨2, _⟩ => rfl
  | ⟨3, _⟩ => show (b.val * 1024 + k.val) % 1024 = k.val; omega

theorem rows_sample (b : Fin 2) (s : Fin 2048) (k : Fin 1024) (R : Fin 4096) (hR : R.val = b.val * 2048 + s.val) :
    val_main_v12 (F := Ideal) x1 (ix3 b s k) = x1 (ix2 R k) := by
  rw [val_main_v12_apply]
  refine congrArg x1 ?_
  funext a
  apply Fin.ext
  match a with
  | ⟨0, _⟩ => show ((b.val * 2048 + s.val) * 1024 + k.val) / 1024 = R.val; omega
  | ⟨1, _⟩ => show ((b.val * 2048 + s.val) * 1024 + k.val) % 1024 = k.val; omega

/-- A sample's projection. -/
theorem sample_proj (b : Fin 2) (s : Fin 2048) (n : Fin 1792) (g : Fin 8) (hg : g.val = 1 + b.val) (R : Fin 4096) (hR : R.val = b.val * 2048 + s.val) :
    val_main_v28 (F := Ideal) x1 x2 x3 (ix3 b s n) = lin (fun k => x1 (ix2 R k)) x2 x3 g n := by
  rw [val_main_v28_apply]
  unfold lin
  refine Finset.sum_congr rfl fun k _ => ?_
  have el : lidx_main_v28 (ix3 b s n) k = ix3 b s k := by
    funext a
    match a with
    | ⟨0, _⟩ => rfl
    | ⟨1, _⟩ => rfl
    | ⟨2, _⟩ => rfl
  have er : ridx_main_v28 (ix3 b s n) k = ix2 k n := by
    funext a
    match a with
    | ⟨0, _⟩ => rfl
    | ⟨1, _⟩ => rfl
  rw [el, er, weight_sample, val_main_v24_apply, val_main_v19_apply, rows_sample x1 b s k R hR, scale_sample x2 b s k g hg, shift_sample x2 b s k g hg]
  rfl

/-- A row of the prompt in the reference's projection. -/
theorem proj_prompt (R : Fin 8192) (n : Fin 1792) (hR : R.val < 4096) :
    val_main_v30 (F := Ideal) x0 x1 x2 x3 (ix2 R n) = lin (row x0 x1 R) x2 x3 (segOf R) n := by
  have e := prompt_proj x0 x2 x3 ⟨R.val, hR⟩ n
  have er : row x0 x1 R = fun k => x0 (ix2 ⟨R.val, hR⟩ k) := funext fun k => dif_pos hR
  have eg : segOf R = 0 := Fin.ext (if_pos (by show R.val / 512 < 8; omega))
  rw [er, eg, ← e]
  unfold val_main_v30
  generalize val_main_v26 (F := Ideal) x0 x2 x3 = y0
  generalize val_main_v29 (F := Ideal) x1 x2 x3 = y1
  exact concatenate_apply_piece (t := S8192x1792) 0 _ _ (ix2 R n) 0 (by simp) S4096x1792 y0 rfl rfl 0 rfl (ix2 ⟨R.val, hR⟩ n)
      (fun b hb => by
        match b with
        | ⟨0, _⟩ => exact absurd rfl hb
        | ⟨1, _⟩ => rfl)
      (by show 0 + R.val = R.val; omega)

/-- A row of a sample in the reference's projection. -/
theorem proj_sample (R : Fin 8192) (n : Fin 1792) (hR : ¬R.val < 4096) :
    val_main_v30 (F := Ideal) x0 x1 x2 x3 (ix2 R n) = lin (row x0 x1 R) x2 x3 (segOf R) n := by
  have hR' : R.val < 8192 := R.isLt
  have eg : (segOf R).val = 1 + (R.val - 4096) / 2048 := (if_neg (by show ¬R.val / 512 < 8; omega) : (segOf R).val = 1 + (R.val / 512 - 8) / 4).trans (by show 1 + (R.val / 512 - 8) / 4 = 1 + (R.val - 4096) / 2048; omega)
  have e0 := sample_proj x1 x2 x3 ⟨(R.val - 4096) / 2048, by omega⟩ ⟨(R.val - 4096) % 2048, by omega⟩ n (segOf R) eg ⟨R.val - 4096, by omega⟩
    (by show R.val - 4096 = (R.val - 4096) / 2048 * 2048 + (R.val - 4096) % 2048; omega)
  have er : row x0 x1 R = fun k => x1 (ix2 ⟨R.val - 4096, by omega⟩ k) := funext fun k => dif_neg hR
  rw [er, ← e0]
  have e : val_main_v29 (F := Ideal) x1 x2 x3 (ix2 ⟨R.val - 4096, by omega⟩ n)
      = val_main_v28 (F := Ideal) x1 x2 x3 (ix3 ⟨(R.val - 4096) / 2048, by omega⟩ ⟨(R.val - 4096) % 2048, by omega⟩ n) := by
    rw [val_main_v29_apply]
    refine congrArg (val_main_v28 (F := Ideal) x1 x2 x3) ?_
    funext a
    apply Fin.ext
    match a with
    | ⟨0, _⟩ => show ((R.val - 4096) * 1792 + n.val) / 3670016 = (R.val - 4096) / 2048; omega
    | ⟨1, _⟩ => show ((R.val - 4096) * 1792 + n.val) / 1792 % 2048 = (R.val - 4096) % 2048; omega
    | ⟨2, _⟩ => show ((R.val - 4096) * 1792 + n.val) % 1792 = n.val; omega
  rw [← e]
  unfold val_main_v30
  generalize val_main_v26 (F := Ideal) x0 x2 x3 = y0
  generalize val_main_v29 (F := Ideal) x1 x2 x3 = y1
  exact concatenate_apply_piece (t := S8192x1792) 0 _ _ (ix2 R n) 1 (by simp) S4096x1792 y1 rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)

/-- The reference's projection at an index. -/
theorem proj_apply (R : Fin 8192) (n : Fin 1792) :
    val_main_v30 (F := Ideal) x0 x1 x2 x3 (ix2 R n) = lin (row x0 x1 R) x2 x3 (segOf R) n := by
  by_cases h : R.val < 4096
  · exact proj_prompt x0 x1 x2 x3 R n h
  · exact proj_sample x0 x1 x2 x3 R n h

/-- The reference's first result. -/
theorem first_ref (R : Fin 8192) (n : Fin 768) :
    val_main_v31 (F := Ideal) x0 x1 x2 x3 (ix2 R n) = lin (row x0 x1 R) x2 x3 (segOf R) ⟨n.val, by omega⟩ := by
  rw [val_main_v31_apply]
  refine (congrArg (val_main_v30 (F := Ideal) x0 x1 x2 x3) ?_).trans (proj_apply x0 x1 x2 x3 R ⟨n.val, by omega⟩)
  funext a
  match a with
  | ⟨0, _⟩ => rfl
  | ⟨1, _⟩ => rfl

/-- The reference's second result. -/
theorem second_ref (R : Fin 8192) (n : Fin 1024) :
    val_main_v33 (F := Ideal) x0 x1 x2 x3 (ix2 R n) = lin (row x0 x1 R) x2 x3 (segOf R) ⟨768 + n.val, by omega⟩ := by
  rw [val_main_v33_apply]
  show val_main_v32 (F := Ideal) x0 x1 x2 x3 (ix2 R n) = _
  rw [val_main_v32_apply]
  refine (congrArg (val_main_v30 (F := Ideal) x0 x1 x2 x3) ?_).trans (proj_apply x0 x1 x2 x3 R ⟨768 + n.val, by omega⟩)
  funext a
  match a with
  | ⟨0, _⟩ => rfl
  | ⟨1, _⟩ => rfl

end InProj.Ref

end
-- ==== Proof.InClaims.lean ====
/- The claims about the input projection: the runs of the programs and of the reference, and the equality of their two results. -/
module

public import proofs.«01_k».proof.Defs
public import proofs.«01_k».proof.Proof.InRef
public import proofs.«01_k».proof.Proof.Gen.InReferenceIdeal.Run
public import Idealize.ShloMosaic.Lib.Quiescent

@[expose] public section

set_option maxRecDepth 16384

noncomputable section

namespace InProj

open Cert.InKernelIdeal Cert.InKernelIdeal.Gen Idealize.ShloMosaic Idealize.ShloMosaic.TcCoe Idealize.SL.Sem
open Idealize.ShloMosaic.ValueIdx
open Cert.InReferenceIdeal.Read (val_main_v31 val_main_v33)

variable (m : (ℓ : Loc nD τ sig) → Buf (Elt Ideal) ℓ)

/-- The first 768 columns, the input of the recurrence. -/
theorem first_eq (c : Dev nD) : ((dats m 0 c).arrAt 4 cfg0.N : Vec Ideal S8192x768 .f32)
    = val_main_v31 (F := Ideal) (m ((c : Thread nD τ).loc main_arg0)) (m ((c : Thread nD τ).loc main_arg1)) (m ((c : Thread nD τ).loc main_arg2)) (m ((c : Thread nD τ).loc main_arg3)) := by
  funext j
  rw [eq_ix2 j]
  exact (first_apply m c (j 0) (j 1)).trans (Ref.first_ref _ _ _ _ (j 0) (j 1)).symm

/-- The remaining 1024 columns, the gate and the input of the Fourier mix. -/
theorem second_eq (c : Dev nD) : ((dats m 0 c).arrAt 5 cfg0.N : Vec Ideal S8192x1024 .bf16)
    = val_main_v33 (F := Ideal) (m ((c : Thread nD τ).loc main_arg0)) (m ((c : Thread nD τ).loc main_arg1)) (m ((c : Thread nD τ).loc main_arg2)) (m ((c : Thread nD τ).loc main_arg3)) := by
  funext j
  rw [eq_ix2 j]
  exact (second_apply m c (j 0) (j 1)).trans (Ref.second_ref _ _ _ _ (j 0) (j 1)).symm

/-- The run of the program: its two results as the reference's, its arguments unchanged. -/
theorem run_eq (ρ : Dev nD → PrngReg) : θ_run defs (onTc (τ := τ) (main (F := Ideal))) ⟨m, fun _ => 0, ρ⟩ fun r => ∀ c : Dev nD,
      r.2.mem ((c.tc : Thread nD τ).loc main_v0_0) = val_main_v31 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = val_main_v33 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (first_eq m c), ((h c).1 5).trans (second_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩) (run_main m ρ)

end InProj

namespace Cert.Proof.In

open Idealize.ShloMosaic Idealize.SL.Sem

/-- The reference ends, leaves its arguments as they were, and every counter at zero. -/
theorem frame_ref [Cert.InReferenceIdeal.Facts] : Cert.quiescent_InReferenceIdeal := fun m g _ =>
  (θ_run _ _ _).mono (fun r h => ⟨fun c => (h c).2.2, sem_eq_zero_of_no_sems (by decide) r.2⟩)
    (Cert.InReferenceIdeal.Value.run m g)

/-- Program and reference end with the same two results: the two column groups of the modulated projection. -/
theorem algebraic : Cert.algebraic_InKernelIdeal_InReferenceIdeal := fun m g m' g' _ hargs =>
  ⟨_, _, InProj.run_eq m g,
    (θ_run _ _ _).mono (fun r h c => by
      obtain ⟨e0, e1, ha⟩ := h c
      obtain ⟨h0, h1, h2, h3⟩ := hargs c
      refine ⟨e0.trans ((Cert.InReferenceIdeal.Read.val_main_v31_eq ..).trans ?_), e1.trans ((Cert.InReferenceIdeal.Read.val_main_v33_eq ..).trans ?_), ha⟩
        <;> rw [h0, h1, h2, h3])
      (Cert.InReferenceIdeal.Value.run m' g')⟩

end Cert.Proof.In

end
-- ==== Proof.AttnMath.lean ====
/-
  SOFTMAX ATTENTION OVER THE EXTENDED REALS, as both programs spell it, for one query row.
    `rowMax`, `num`  — a row's greatest score and the exponentials of the scores less it.
    `attnK`          — the weighted values summed first, the sum of the exponentials divided out afterwards.
    `attnR`          — the difference of two normalized rows, taken before the values are weighted and summed.
    `attn_eq`        — at finite scores, values and scale the first form's difference is the second form.
-/
module

public import Idealize.ShloMosaic.PureOps.Ideal
public import Idealize.ShloMosaic.Lib.IdealHost

@[expose] public section

noncomputable section

namespace Cert.AttnMath

open Idealize.ShloMosaic

variable {n : Nat}

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest score of a row. -/
def rowMax (s : Fin n → EReal) : EReal := Finset.univ.fold max ⊥ s
/-- The exponential of a score less the row's greatest. -/
def num (s : Fin n → EReal) (k : Fin n) : EReal := Ideal.exp (s k - rowMax s)
/-- Values weighted by the exponentials, over the sum of the exponentials. -/
def attnK (s v : Fin n → EReal) : EReal := Ideal.div (∑ k, num s k * v k) (∑ k, num s k)
/-- Values weighted by the difference of two normalized rows. -/
def attnR (s₀ s₁ : Fin n → EReal) (lam : EReal) (v : Fin n → EReal) : EReal :=
  ∑ k, v k * (Ideal.div (num s₀ k) (∑ j, num s₀ j) - lam * Ideal.div (num s₁ k) (∑ j, num s₁ j))

/-- The greatest of finitely many reals, at least one, is a real. -/
theorem rowMax_real (hn : 0 < n) (s : Fin n → ℝ) : ∃ M : ℝ, rowMax (fun k => (s k : EReal)) = (M : EReal) := by
  classical
  have key : ∀ t : Finset (Fin n), t.fold max (⊥ : EReal) (fun k => (s k : EReal)) = ⊥ ∧ t = ∅
      ∨ ∃ M : ℝ, t.fold max (⊥ : EReal) (fun k => (s k : EReal)) = (M : EReal) := by
    intro t
    induction t using Finset.induction_on with
    | empty => exact .inl ⟨by simp, rfl⟩
    | insert a t ha ih =>
      refine .inr ?_
      rw [Finset.fold_insert ha]
      rcases ih with ⟨h, -⟩ | ⟨M, h⟩
      · exact ⟨s a, by rw [h]; simp⟩
      · exact ⟨max (s a) M, by rw [h]; exact (EReal.coe_strictMono.monotone.map_max (a := s a) (b := M)).symm⟩
  rcases key Finset.univ with ⟨-, h⟩ | h
  · exact absurd (Finset.mem_univ (⟨0, hn⟩ : Fin n)) (by rw [h]; simp)
  · exact h

/-- Both forms at one row of finite scores. -/
theorem num_real (hn : 0 < n) (s : Fin n → ℝ) : ∃ e : Fin n → ℝ, (∀ k, num (fun k => (s k : EReal)) k = (e k : EReal)) ∧ ∑ k, e k ≠ 0 := by
  obtain ⟨M, hM⟩ := rowMax_real hn s
  refine ⟨fun k => Real.exp (s k - M), fun k => ?_, ?_⟩
  · unfold num; rw [hM, ← EReal.coe_sub, Ideal.exp_coe]
  · exact (Finset.sum_pos (fun k _ => Real.exp_pos _) ⟨⟨0, hn⟩, Finset.mem_univ _⟩).ne'

theorem div_real (x y : ℝ) (h : y ≠ 0) : Ideal.div (x : EReal) (y : EReal) = ((x / y : ℝ) : EReal) := by
  rw [Ideal.div_coe h, ← EReal.coe_mul]; congr 1; ring

/-- At finite scores, values and scale: the difference of the two weighted means is the weighting by the difference. -/
theorem attn_eq (hn : 0 < n) (s₀ s₁ v : Fin n → ℝ) (lam : ℝ) :
    attnK (fun k => (s₀ k : EReal)) (fun k => (v k : EReal)) - (lam : EReal) * attnK (fun k => (s₁ k : EReal)) (fun k => (v k : EReal))
      = attnR (fun k => (s₀ k : EReal)) (fun k => (s₁ k : EReal)) (lam : EReal) (fun k => (v k : EReal)) := by
  obtain ⟨e₀, h₀, d₀⟩ := num_real hn s₀
  obtain ⟨e₁, h₁, d₁⟩ := num_real hn s₁
  unfold attnK attnR
  simp only [h₀, h₁, ← coe_sum, ← EReal.coe_mul, div_real _ _ d₀, div_real _ _ d₁, ← EReal.coe_sub]
  congr 1
  rw [Finset.sum_div, Finset.sum_div, Finset.mul_sum, ← Finset.sum_sub_distrib]
  exact Finset.sum_congr rfl fun k _ => by ring

/-- One eighth, in both formats. -/
theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num
/-- The word of minus infinity. -/
theorem bot_f32 : Ideal.ofBits .f32 0xFF800000#32 = ⊥ := by simp [Ideal.ofBits, Ideal.ieee]
/-- The layer's constant part of the scale is a real. -/
theorem lamInit_f32 : ∃ r : ℝ, Ideal.ofBits .f32 0x3EB60549#32 = (r : EReal) :=
  ⟨_, by simp only [Ideal.ofBits, Ideal.ieee]; simp [-EReal.coe_mul]; rfl⟩

end Cert.AttnMath

end
-- ==== Proof.OutMath.lean ====
/-
  THE OUTPUT PROJECTION'S ROWS OVER THE EXTENDED REALS.
    `lnRow`, `tokRow`, `aff` — a row normalized with gain and offset, the same modulated, and the shares of a row of logits.
    `IsReal`                 — an entry is a real number; kept by the steps of a row (`lnRow_real`, `tokRow_real`).
    `logits_split`           — a product formed from parts and their remainders is the product itself when the entries are real:
                               every remainder is then zero.
-/
module

public import proofs.«01_k».proof.Proof.AttnMath

@[expose] public section

noncomputable section

namespace Cert.OutMath

open Idealize.ShloMosaic Cert.AttnMath

/-- The mean of a row. -/
def mean (y : Fin 1024 → EReal) : EReal := Ideal.div (∑ k, y k) (Ideal.ofBits .f32 0x44800000#32)

/-- A row less its mean, over its deviation, with gain and offset. -/
def lnRow (y g b : Fin 1024 → EReal) (n : Fin 1024) : EReal :=
  (y n - mean y) * Ideal.rsqrt (Ideal.div (∑ k, (y k - mean y) * (y k - mean y)) (Ideal.ofBits .f32 0x44800000#32) + Ideal.ofBits .f32 0x3727C5AC#32) * g n + b n

/-- A normalized row with scale and shift. -/
def tokRow (l s h : Fin 1024 → EReal) (n : Fin 1024) : EReal := l n * (Ideal.ofBits .f32 0x3F800000#32 + s n) + h n

/-- The residual row: a multiple of the input plus the gated update. -/
def resRow (x g u : Fin 1024 → EReal) (n : Fin 1024) : EReal := Ideal.ofBits .f32 0x3FB504F3#32 * x n + g n * u n

/-- The share of an entry in a row's exponentials. -/
def aff {n : Nat} (l : Fin n → EReal) (e : Fin n) : EReal := Ideal.div (num l e) (∑ k, num l k)

/-- A real number among the extended reals. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩
theorem IsReal.sub_self {x : EReal} : IsReal x → x - x = 0 := by
  rintro ⟨a, rfl⟩; rw [← EReal.coe_sub, _root_.sub_self, EReal.coe_zero]

/-- The format's constants in use, as reals. -/
theorem width_f32 : Ideal.ofBits .f32 0x44800000#32 = ((1024 : ℝ) : EReal) := by
  simp [Ideal.ofBits, Ideal.ieee]; rw [← EReal.coe_mul]; norm_num
theorem eps_f32 : ∃ r : ℝ, 0 < r ∧ Ideal.ofBits .f32 0x3727C5AC#32 = (r : EReal) := by
  refine ⟨_, ?_, by simp [Ideal.ofBits, Ideal.ieee]; rw [← EReal.coe_mul]⟩; positivity
theorem one_f32 : IsReal (Ideal.ofBits .f32 0x3F800000#32) := ⟨_, by simp [Ideal.ofBits, Ideal.ieee]; rw [← EReal.coe_mul]⟩
theorem alpha_f32 : IsReal (Ideal.ofBits .f32 0x3FB504F3#32) := ⟨_, by simp [Ideal.ofBits, Ideal.ieee]; rw [← EReal.coe_mul]⟩

theorem div_width {x : EReal} : IsReal x → IsReal (Ideal.div x (Ideal.ofBits .f32 0x44800000#32)) := by
  rintro ⟨a, rfl⟩; rw [width_f32, div_real _ _ (by norm_num)]; exact ⟨_, rfl⟩

theorem mean_real {y : Fin 1024 → EReal} (h : ∀ k, IsReal (y k)) : IsReal (mean y) := div_width (.sum _ _ h)

/-- The variance plus its constant is positive, so its inverse root is a real. -/
theorem lnRow_real {y g b : Fin 1024 → EReal} (hy : ∀ k, IsReal (y k)) (hg : ∀ k, IsReal (g k)) (hb : ∀ k, IsReal (b k)) (n : Fin 1024) :
    IsReal (lnRow y g b n) := by
  unfold lnRow
  refine (((hy n).sub (mean_real hy)).mul ?_ |>.mul (hg n)).add (hb n)
  have hd : ∀ k, IsReal (y k - mean y) := fun k => (hy k).sub (mean_real hy)
  choose d hd using hd
  obtain ⟨e, he, hE⟩ := eps_f32
  have hs : ∑ k, (y k - mean y) * (y k - mean y) = ((∑ k, d k * d k : ℝ) : EReal) := by
    rw [coe_sum]; exact Finset.sum_congr rfl fun k _ => by rw [hd k, EReal.coe_mul]
  rw [hs, width_f32, div_real _ _ (by norm_num), hE, ← EReal.coe_add, Ideal.rsqrt_coe]
  have hp : 0 < (∑ k, d k * d k) / 1024 + e := by
    have : 0 ≤ ∑ k, d k * d k := Finset.sum_nonneg fun k _ => mul_self_nonneg _
    positivity
  rw [if_neg hp.not_gt, if_neg hp.ne']
  exact ⟨_, rfl⟩

theorem tokRow_real {l s h : Fin 1024 → EReal} (hl : ∀ k, IsReal (l k)) (hs : ∀ k, IsReal (s k)) (hh : ∀ k, IsReal (h k)) (n : Fin 1024) :
    IsReal (tokRow l s h n) := ((hl n).mul (one_f32.add (hs n))).add (hh n)

theorem resRow_real {x g u : Fin 1024 → EReal} (hx : ∀ k, IsReal (x k)) (hg : ∀ k, IsReal (g k)) (hu : ∀ k, IsReal (u k)) (n : Fin 1024) :
    IsReal (resRow x g u n) := (alpha_f32.mul (hx n)).add ((hg n).mul (hu n))

/-- The four products of two entries' parts and remainders. -/
def split (t w : Fin 1024 → EReal) : EReal :=
  (∑ k, t k * w k + ∑ k, t k * (w k - w k)) + (∑ k, (t k - t k) * w k + ∑ k, (t k - t k) * (w k - w k))

theorem logits_split {t w : Fin 1024 → EReal} (ht : ∀ k, IsReal (t k)) (hw : ∀ k, IsReal (w k)) : split t w = ∑ k, t k * w k := by
  unfold split
  simp only [(ht _).sub_self, (hw _).sub_self, mul_zero, zero_mul, Finset.sum_const_zero, add_zero]

end Cert.OutMath

end
-- ==== Proof.OutState.lean ====
/- What the output projection's three outputs and the weights' scratch hold after each grid point, in the terms of the body's pure values. -/
module

public import proofs.«01_k».proof.Proof.Gen.OutKernelIdeal.Frame
public import Idealize.ShloMosaic.Lib.Pipeline.Value
public import Idealize.ShloMosaic.Lib.Pipeline.ValueKit.Tiles
public import Idealize.ShloMosaic.Lib.ValueIdx
public import Idealize.ShloMosaic.Lib.MatmulPlain
public import Idealize.ShloMosaic.PureOps.Ideal.Laws

@[expose] public section

set_option maxRecDepth 16384

noncomputable section

namespace OutProj

open Cert.OutKernelIdeal Cert.OutKernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weights' block is the whole argument at every point. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem blk4 (c : Dev nD) (t : Fin cfg0.N) : (iblk m c 4 t : Vec F S1x1024x1024 .f32) = m ((c : Thread nD τ).loc main_arg4) := by
  funext i
  unfold iblk
  rw [View.read_apply]
  show V m c main_arg4 _ = _
  rw [V_main_arg4]
  congr 1
  funext a
  apply Fin.ext
  obtain ⟨h0, h1, h2⟩ := idx4 t
  match a with
  | ⟨0, _⟩ => show win0_4.index t 0 * 1 + 1 * (i 0).val = (i 0).val; omega
  | ⟨1, _⟩ => show win0_4.index t 1 * 1024 + 1 * (i 1).val = (i 1).val; omega
  | ⟨2, _⟩ => show win0_4.index t 2 * 1024 + 1 * (i 2).val = (i 2).val; omega

/-- The weights, as the scratch keeps them. -/
def W (c : Dev nD) : FVec F S1024x1024 .bf16 := k0_pay2 (m ((c : Thread nD τ).loc main_arg4))

/-- The upper and the lower half of the weights, and the row of the normalization's parameters that the body loads. -/
def top (w : Vec F S1024x1024 .bf16) : Vec F S512x1024 .bf16 := View.ld w (Rect.unit ![0, 0] S512x1024.size inb_S1024x1024_S512x1024_0_0)
def bot (w : Vec F S1024x1024 .bf16) : Vec F S512x1024 .bf16 := View.ld w (Rect.unit ![512, 0] S512x1024.size inb_S1024x1024_S512x1024_512_0)
def row (g : Vec F S1x2x1024 .f32) : Vec F S1x1x1024 .f32 := View.ld g (Rect.unit ![0, 0, 0] S1x1x1024.size inb_S1x2x1024_S1x1x1024_0_0_0)

/-- The scratch holds the weights after every point. -/
theorem scratch (c : Dev nD) : ∀ (n : ℕ) (hn : n < cfg0.N), (outsAt0 m c n hn).2.2.2 = W m c := by
  intro n
  induction n with
  | zero =>
    intro hn
    rw [show outsAt0 m c 0 hn = _ from outsAt0_A m c ⟨0, hn⟩ rfl]
    dsimp only
    unfold sout0_A_0
    rw [View.read_writes_eq_canon _ _ _ (scover0_A_0 c _ _ _ _ _ _ _ _ _ _ _ _ _ _ _ _ _ _ _ _ _ _ _ _ _ _ _ _ _ _ _ _ _ _ _ _ _ _ _ _)]
    unfold kernelRun0_A kernelRun0_A.sl.HS0_1
    dsimp only
    rw [View.canon_unit_zero (S := S1024x1024) hz2]
    simp only [View.readAt_eq_ld, (hs0_4 _).read_unread, View.ld_unit_zero (S := S1x1024x1024) hz3]
    rw [blk4]
    rfl
  | succ n ih =>
    intro hn
    have hN := lt_of_lt_of_eq hn (show cfg0.N = 16 from N_0)
    rw [show outsAt0 m c (n + 1) hn = _ from outsAt0_B m c ⟨n + 1, hn⟩ (by show ¬(n + 1) % 16 = 0; omega)]
    dsimp only
    unfold sout0_B_0
    exact ih _

/-- What the first tile's body reads back of the scratch it has just filled: the two halves of the weights. -/
theorem filled_top (c : Dev nD) (arg5 : Memref sig .tc .vmem S1x1024x1024 .f32) (harg5 : arg5.IsWhole) (arg14 : Memref sig .tc .vmem S1024x1024 .bf16) (x4 : Vec F S1x1024x1024 .f32) :
    kernelRun0_A.sl.v7 c arg5 harg5 arg14 x4 = top (k0_pay2 x4) := by
  unfold kernelRun0_A.sl.v7 kernelRun0_A.sl.HS0_1 top
  refine (View.readCov_eq_canon_ld _ _ _ (View.cover_of_tiledL _ S1024x1024.size (by sl_kernel_rfl))).trans ?_
  rw [View.canon_unit_zero (S := S1024x1024) hz2]
  simp only [View.readAt_eq_ld, harg5.read_unread, View.ld_unit_zero (S := S1x1024x1024) hz3]

theorem filled_bot (c : Dev nD) (arg5 : Memref sig .tc .vmem S1x1024x1024 .f32) (harg5 : arg5.IsWhole) (arg14 : Memref sig .tc .vmem S1024x1024 .bf16) (x4 : Vec F S1x1024x1024 .f32) :
    kernelRun0_A.sl.v13 c arg5 harg5 arg14 x4 = bot (k0_pay2 x4) := by
  unfold kernelRun0_A.sl.v13 kernelRun0_A.sl.HS0_1 bot
  refine (View.readCov_eq_canon_ld _ _ _ (View.cover_of_tiledL _ S1024x1024.size (by sl_kernel_rfl))).trans ?_
  rw [View.canon_unit_zero (S := S1024x1024) hz2]
  simp only [View.readAt_eq_ld, harg5.read_unread, View.ld_unit_zero (S := S1x1024x1024) hz3]

/-- The six modulation vectors of a tile, the residual sum before its normalization, and the normalization's gain. -/
def M6 (c : Dev nD) (t : Fin cfg0.N) : FVec F S6x1024 .f32 := k0_pay3 (iblk m c 6 t)
def Y (c : Dev nD) (t : Fin cfg0.N) : FVec F S512x1024 .f32 :=
  k0_pay4 (grid0.coords t) (iblk m c 0 t) (iblk m c 1 t) (top (W m c)) (iblk m c 2 t) (iblk m c 3 t) (bot (W m c)) (iblk m c 6 t) (iblk m c 5 t)
def G (c : Dev nD) (t : Fin cfg0.N) : FVec F S1x1024 .f32 := k0_pay5 (row (iblk m c 7 t))

/-- What every point leaves in the first output's block: the normalized residual sum. -/
theorem x1_tile (c : Dev nD) (t : Fin cfg0.N) :
    (outsAt0 m c t.val t.isLt).1 = k0_pay6 (Y m c t) (G m c t) (row (iblk m c 8 t)) := by
  by_cases h : t.val % 16 = 0
  · rw [outsAt0_A m c t h]
    dsimp only
    unfold out0_A_10
    rw [View.read_writes_eq_canon _ _ _ (cover0_A_10 c _ _ _ _ _ _ _ _ _ _ _ _ _ _ _ _ _ _ _ _ _ _ _ _ _ _ _ _ _ _ _ _ _ _ _ _ _ _ _ _)]
    unfold kernelRun0_A kernelRun0_A.sl.r_1 kernelRun0_A.sl.r_2
    dsimp only
    rw [View.canon_unit_zero (S := S512x1024) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread,
      View.ld_unit_zero (S := S512x512) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_10
    rw [View.read_writes_eq_canon _ _ _ (cover0_B_10 c _ _ _ _ _ _ _ _ _ _ _ _ _ _ _ _ _ _ _ _ _ _ _ _ _ _ _ _ _ _ _ _ _ _ _ _ _ _ _ _ _)]
    unfold kernelRun0_B kernelRun0_B.sl.r_1 kernelRun0_B.sl.r_2
    dsimp only
    rw [View.canon_unit_zero (S := S512x1024) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (Memref.isWhole_whole cc0_scratch0).read_unread,
      View.ld_unit_zero (S := S512x512) hz2, View.ld_unit_zero (S := S512x1024) hz2, View.ld_unit_zero (S := S1x1x6x1024) hz4, View.ld_unit_zero (S := S1x1024x16) hz3]
    rfl

/-- … in the second output's block: the same modulated. -/
theorem u2_tile (c : Dev nD) (t : Fin cfg0.N) :
    (outsAt0 m c t.val t.isLt).2.1 = k0_pay8 (M6 m c t) (Y m c t) (G m c t) (row (iblk m c 8 t)) := by
  by_cases h : t.val % 16 = 0
  · rw [outsAt0_A m c t h]
    dsimp only
    unfold out0_A_11
    rw [View.read_writes_eq_canon _ _ _ (cover0_A_11 c _ _ _ _ _ _ _ _ _ _ _ _ _ _ _ _ _ _ _ _ _ _ _ _ _ _ _ _ _ _ _ _ _ _ _ _ _ _ _ _)]
    unfold kernelRun0_A kernelRun0_A.sl.r kernelRun0_A.sl.r_1 kernelRun0_A.sl.r_2
    dsimp only
    rw [View.canon_unit_zero (S := S512x1024) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread,
      View.ld_unit_zero (S := S512x512) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_11
    rw [View.read_writes_eq_canon _ _ _ (cover0_B_11 c _ _ _ _ _ _ _ _ _ _ _ _ _ _ _ _ _ _ _ _ _ _ _ _ _ _ _ _ _ _ _ _ _ _ _ _ _ _ _ _ _)]
    unfold kernelRun0_B kernelRun0_B.sl.r kernelRun0_B.sl.r_1 kernelRun0_B.sl.r_2
    dsimp only
    rw [View.canon_unit_zero (S := S512x1024) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (Memref.isWhole_whole cc0_scratch0).read_unread,
      View.ld_unit_zero (S := S512x512) hz2, View.ld_unit_zero (S := S512x1024) hz2, View.ld_unit_zero (S := S1x1x6x1024) hz4, View.ld_unit_zero (S := S1x1024x16) hz3]
    rfl

/-- … and in the third output's block: the router's affinities. -/
theorem aff_tile (c : Dev nD) (t : Fin cfg0.N) :
    (outsAt0 m c t.val t.isLt).2.2.1 = k0_pay1 (k0_pay9 (M6 m c t) (Y m c t) (G m c t) (row (iblk m c 8 t))) (k0_pay10 (iblk m c 9 t)) := by
  by_cases h : t.val % 16 = 0
  · rw [outsAt0_A m c t h]
    dsimp only
    unfold out0_A_12
    rw [View.read_writes_eq_canon _ _ _ (cover0_A_12 c _ _ _ _ _ _ _ _ _ _ _ _ _ _ _ _ _ _ _ _ _ _ _ _ _ _ _ _ _ _ _ _ _ _ _ _ _ _ _ _)]
    unfold kernelRun0_A kernelRun0_A.sl.r_3 kernelRun0_A.sl.r_4 kernelRun0_A.sl.r kernelRun0_A.sl.r_1 kernelRun0_A.sl.r_2
    dsimp only
    rw [View.canon_unit_zero (S := S16x512) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread,
      View.ld_unit_zero (S := S512x512) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_12
    rw [View.read_writes_eq_canon _ _ _ (cover0_B_12 c _ _ _ _ _ _ _ _ _ _ _ _ _ _ _ _ _ _ _ _ _ _ _ _ _ _ _ _ _ _ _ _ _ _ _ _ _ _ _ _ _)]
    unfold kernelRun0_B kernelRun0_B.sl.r_3 kernelRun0_B.sl.r_4 kernelRun0_B.sl.r kernelRun0_B.sl.r_1 kernelRun0_B.sl.r_2
    dsimp only
    rw [View.canon_unit_zero (S := S16x512) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (Memref.isWhole_whole cc0_scratch0).read_unread,
      View.ld_unit_zero (S := S512x512) hz2, View.ld_unit_zero (S := S512x1024) hz2, View.ld_unit_zero (S := S1x1x6x1024) hz4, View.ld_unit_zero (S := S1x1024x16) hz3]
    rfl

end OutProj

end
-- ==== Proof.OutPayload.lean ====
/- The output projection over the extended reals: what its body stores at a grid point, entry by entry, as rows of the blocks it loads. -/
module

public import proofs.«01_k».proof.Proof.OutMath
public import proofs.«01_k».proof.Proof.OutState

@[expose] public section

set_option maxRecDepth 16384

noncomputable section

namespace OutProj

open Cert.OutKernelIdeal Cert.OutKernelIdeal.Gen Cert.AttnMath Cert.OutMath Idealize.ShloMosaic Idealize.ShloMosaic.TcCoe Idealize.SL.Sem
open Idealize.ShloMosaic.ValueIdx

/-- Grid point `t`. -/
abbrev pt (t : Fin 16) : Fin cfg0.N := ⟨t.val, lt_of_lt_of_eq t.isLt N_0.symm⟩

theorem zero_f32 : Ideal.ofBits .f32 0x00000000#32 = 0 := by simp [Ideal.ofBits, Ideal.ieee]

/-- The body takes the prompt's rows at the first eight points, the samples' at the others. -/
theorem picks : ∀ t : Fin 16, Scalar.cmpi .slt (BitVec.ofNat 32 (grid0.coords (pt t) 0).val) 8#32 = if t.val < 8 then 1#1 else 0#1 := by
  decide +kernel

/-! ## Steps of the body on arbitrary blocks -/

theorem rowOf_apply (y : FVec Ideal S6x1024 .f32) (k : Fin 1024) (j : ℕ) (j' : Fin 6) (hj : j'.val = j) (h : S6x1024.Slices ![j, 0] S1x1024) :
    extractStridedSlice S1x1024 ![j, 0] y h (ix2 (n0 := 1) (n1 := 1024) 0 k) = y (ix2 (n0 := 6) (n1 := 1024) j' k) :=
  extractStridedSlice_apply _ y h (ix2 (n0 := 1) (n1 := 1024) 0 k) (ix2 (n0 := 6) (n1 := 1024) j' k) (fun a => by
    match a with
    | ⟨0, _⟩ => exact hj
    | ⟨1, _⟩ => exact (Nat.zero_add _).symm)

theorem pay3_apply (v : Vec Ideal S1x1x6x1024 .f32) (k : Fin 1024) (j : Fin 6) :
    k0_pay3 (F := Ideal) v (ix2 (n0 := 6) (n1 := 1024) j k) = v (ix4 0 0 j k) := by
  unfold k0_pay3
  exact shapeCast_apply v shapeCasts_S1x1x6x1024_S6x1024 (ix2 (n0 := 6) (n1 := 1024) j k) (ix4 0 0 j k) (by
    rewrite [Shape.rowMajor_val_four, Shape.rowMajor_val_two]; show ((0 * 1 + 0) * 6 + j.val) * 1024 + k.val = j.val * 1024 + k.val; omega)

theorem row_apply (y : FVec Ideal S1x1024 .f32) (r : Fin 512) (k : Fin 1024) :
    broadcastTo S512x1024 y broadcasts_S1x1024_S512x1024 (ix2 r k) = y (ix2 0 k) :=
  broadcastTo_apply y _ (ix2 r k) (ix2 0 k) (fun a => by
    match a with
    | ⟨0, _⟩ => show 0 = if (1 : Nat) = 1 then 0 else r.val; rw [if_pos rfl]
    | ⟨1, _⟩ => show k.val = if (1024 : Nat) = 1 then 0 else k.val; rw [if_neg (by decide)])

theorem vec_apply (v : Vec Ideal S1x1x1024 .f32) (k : Fin 1024) :
    shapeCast S1x1024 v shapeCasts_S1x1x1024_S1x1024 (ix2 (n0 := 1) (n1 := 1024) 0 k) = v (ix3 0 0 k) :=
  shapeCast_apply v _ (ix2 (n0 := 1) (n1 := 1024) 0 k) (ix3 0 0 k) (by
    rewrite [Shape.rowMajor_val_three, Shape.rowMajor_val_two]; show (0 * 1 + 0) * 1024 + k.val = 0 * 1024 + k.val; omega)

theorem pay5_apply (v : Vec Ideal S1x1x1024 .f32) (k : Fin 1024) : k0_pay5 (F := Ideal) v (ix2 (n0 := 1) (n1 := 1024) 0 k) = v (ix3 0 0 k) := by
  unfold k0_pay5
  exact vec_apply v k

/-- A column of row values spread over the rows. -/
theorem spread_apply {N : Nat} (hN : 1 < N) (v : FVec Ideal S512x1 .f32) (h) (r : Fin 512) (c : Fin N) :
    broadcastTo (⟨2, ![512, N]⟩ : Shape) v h (ix2 r c) = v (ix2 r 0) :=
  broadcastTo_apply _ _ (ix2 r c) (ix2 r 0) (fun a => by
    match a with
    | ⟨0, _⟩ => show r.val = if (512 : Nat) = 1 then 0 else r.val; rw [if_neg (by decide)]
    | ⟨1, _⟩ => show 0 = if (1 : Nat) = 1 then 0 else c.val; rw [if_pos rfl])

theorem col_apply (v : FVec Ideal S512 .f32) (r : Fin 512) : shapeCast S512x1 v shapeCasts_S512_S512x1 (ix2 r 0) = v (ix1 r) :=
  shapeCast_apply v _ (ix2 r 0) (ix1 r) (by
    rewrite [Shape.rowMajor_val_one, Shape.rowMajor_val_two]; show r.val = r.val * 1 + 0; omega)

theorem rowsum_apply (o : FVec Ideal S512x1024 .f32) (r : Fin 512) :
    (multiReduction .add [1] S512 o 0x00000000#32 reduces_S512x1024_S512 (.inl rfl) rfl : FVec Ideal S512 .f32) (ix1 r) = ∑ c : Fin 1024, o (ix2 r c) := by
  refine (Ideal.multiReduction_add_single _ _ _ _ _ _).trans ?_
  refine Finset.sum_congr rfl fun k _ => ?_
  exact congrArg o (by funext a; apply Fin.ext; match a with | ⟨0, _⟩ => rfl | ⟨1, _⟩ => rfl)

theorem rowsum16_apply (o : FVec Ideal S512x16 .f32) (r : Fin 512) :
    (multiReduction .add [1] S512 o 0x00000000#32 reduces_S512x16_S512 (.inl rfl) rfl : FVec Ideal S512 .f32) (ix1 r) = ∑ c : Fin 16, o (ix2 r c) := by
  refine (Ideal.multiReduction_add_single _ _ _ _ _ _).trans ?_
  refine Finset.sum_congr rfl fun k _ => ?_
  exact congrArg o (by funext a; apply Fin.ext; match a with | ⟨0, _⟩ => rfl | ⟨1, _⟩ => rfl)

theorem rowmax16_apply (x : FVec Ideal S512x16 .f32) (r : Fin 512) :
    (multiReduction .maximumf [1] S512 x 0xFF800000#32 reduces_S512x16_S512 (.inl rfl) rfl : FVec Ideal S512 .f32) (ix1 r) = rowMax (fun k : Fin 16 => x (ix2 r k)) := by
  refine (Ideal.multiReduction_maximumf_single _ _ _ _ _ _).trans ?_
  rw [show (FloatOps.ofBits (F := Ideal) .f32 0xFF800000#32 : Ideal .f32) = Ideal.ofBits .f32 0xFF800000#32 from rfl, bot_f32]
  have e : (x ∘ reduces_S512x16_S512.lift (ix1 r)) = fun k : Fin 16 => x (ix2 r k) := by
    funext c'
    exact congrArg x (by funext a; apply Fin.ext; match a with | ⟨0, _⟩ => rfl | ⟨1, _⟩ => rfl)
  rw [e]
  rfl

/-! ## The body's values -/

theorem weights_apply (w : Vec Ideal S1x1024x1024 .f32) (k : Fin 1024) (n : Fin 1024) : k0_pay2 w (ix2 k n) = w (ix3 0 k n) := by
  unfold k0_pay2
  rw [shapeCast_self, truncf_apply]
  exact shapeCast_apply w _ (ix2 k n) (ix3 0 k n) (by
    rewrite [Shape.rowMajor_val_three, Shape.rowMajor_val_two]; show (0 * 1024 + k.val) * 1024 + n.val = k.val * 1024 + n.val; omega)

/-- The residual row of a tile. -/
theorem pay4_apply (t : Fin 16) (a a' b b' : Vec Ideal S512x512 .bf16) (wt wb : Vec Ideal S512x1024 .bf16) (v : Vec Ideal S1x1x6x1024 .f32) (x : Vec Ideal S512x1024 .f32) (r : Fin 512) (n : Fin 1024) :
    k0_pay4 (F := Ideal) (grid0.coords (pt t)) a a' wt b b' wb v x (ix2 r n)
      = resRow (fun n => x (ix2 r n)) (fun n => v (ix4 0 0 2 n))
          (fun n => ∑ k : Fin 512, (if t.val < 8 then a (ix2 r k) else a' (ix2 r k)) * wt (ix2 k n) + ∑ k : Fin 512, (if t.val < 8 then b (ix2 r k) else b' (ix2 r k)) * wb (ix2 k n)) n := by
  unfold k0_pay4 resRow
  dsimp only
  rw [picks t, addf_apply, mulf_apply, mulf_apply, broadcast_apply, row_apply, rowOf_apply _ n 2 2 rfl, pay3_apply, addf_apply]
  have e : ∀ (p q : FVec Ideal S512x512 .bf16) (w : FVec Ideal S512x1024 .bf16),
      (matmul (φ₁ := .bf16) (φ₂ := .bf16) dot_S512x512_S512x1024_S512x1024_1_0_0_1_n_n none (Scalar.select (α := FVec Ideal S512x512 .bf16) (if t.val < 8 then 1#1 else 0#1) p q) w (constant (F := Ideal) S512x1024 .f32 0x00000000#32) : FVec Ideal S512x1024 .f32) (ix2 r n)
        = ∑ k : Fin 512, (if t.val < 8 then p (ix2 r k) else q (ix2 r k)) * w (ix2 k n) := by
    intro p q w
    refine (Ideal.matmul_plain_apply (M := 512) (K := 512) (N := 1024) none _ _ _ r n).trans ?_
    rw [show (constant (F := Ideal) S512x1024 .f32 0x00000000#32) (ix2 r n) = Ideal.ofBits .f32 0x00000000#32 from rfl, zero_f32, zero_add]
    refine Finset.sum_congr rfl fun k _ => ?_
    by_cases h : t.val < 8
    · rw [if_pos h, if_pos h]; rfl
    · rw [if_neg h, if_neg h]; rfl
  rw [e, e]
  rfl

/-- The normalized row. -/
theorem pay6_apply (y : FVec Ideal S512x1024 .f32) (g : FVec Ideal S1x1024 .f32) (b : Vec Ideal S1x1x1024 .f32) (r : Fin 512) (n : Fin 1024) :
    k0_pay6 y g b (ix2 r n) = lnRow (fun k => y (ix2 r k)) (fun k => g (ix2 0 k)) (fun k => b (ix3 0 0 k)) n := by
  unfold k0_pay6
  dsimp only
  have hm : ∀ k : Fin 1024, (subf y (broadcastTo S512x1024 (divf (shapeCast S512x1 (multiReduction .add [1] S512 y 0x00000000#32 reduces_S512x1024_S512 (.inl rfl) rfl) shapeCasts_S512_S512x1)
      (broadcast S512x1 (Scalar.ofBits (F := Ideal) .f32 0x44800000#32))) broadcasts_S512x1_S512x1024)) (ix2 r k) = y (ix2 r k) - mean (fun k => y (ix2 r k)) := by
    intro k
    rw [subf_apply, spread_apply (by decide), divf_apply, col_apply, rowsum_apply, broadcast_apply]
    rfl
  rw [addf_apply, mulf_apply, mulf_apply, hm, row_apply, row_apply, vec_apply, spread_apply (by decide),
    show ∀ v : FVec Ideal S512x1 .f32, rsqrt v (ix2 r 0) = Ideal.rsqrt (v (ix2 r 0)) from fun _ => rfl, addf_apply, divf_apply, broadcast_apply, broadcast_apply, col_apply, rowsum_apply]
  simp only [mulf_apply, hm]
  rfl

/-- The modulated row. -/
theorem pay7_apply (v : FVec Ideal S6x1024 .f32) (y : FVec Ideal S512x1024 .f32) (g : FVec Ideal S1x1024 .f32) (b : Vec Ideal S1x1x1024 .f32) (r : Fin 512) (n : Fin 1024) :
    k0_pay7 v y g b (ix2 r n) = tokRow (lnRow (fun k => y (ix2 r k)) (fun k => g (ix2 0 k)) (fun k => b (ix3 0 0 k))) (fun k => v (ix2 4 k)) (fun k => v (ix2 3 k)) n := by
  unfold k0_pay7
  rw [addf_apply, mulf_apply, pay6_apply, row_apply, row_apply, addf_apply, broadcast_apply, rowOf_apply _ n 4 4 rfl, rowOf_apply _ n 3 3 rfl]
  rfl

theorem pay8_apply (v : FVec Ideal S6x1024 .f32) (y : FVec Ideal S512x1024 .f32) (g : FVec Ideal S1x1024 .f32) (b : Vec Ideal S1x1x1024 .f32) (r : Fin 512) (n : Fin 1024) :
    k0_pay8 v y g b (ix2 r n) = k0_pay7 v y g b (ix2 r n) := by
  unfold k0_pay8
  rw [truncf_apply]

/-- The rows the router's product takes: the modulated rows, and below them their remainders. -/
theorem pay9_top (v : FVec Ideal S6x1024 .f32) (y : FVec Ideal S512x1024 .f32) (g : FVec Ideal S1x1024 .f32) (b : Vec Ideal S1x1x1024 .f32) (r : Fin 512) (R : Fin 1024) (hR : R.val = r.val) (n : Fin 1024) :
    k0_pay9 v y g b (ix2 R n) = k0_pay7 v y g b (ix2 r n) := by
  unfold k0_pay9
  generalize k0_pay7 v y g b = p
  refine (concatenate_pair_apply_left (t := S1024x1024) (s₁ := S512x1024) (s₂ := S512x1024) 0 _ _ _ (ix2 R n) rfl (ix2 r n) (fun b => by match b with | ⟨0, _⟩ => exact hR.symm | ⟨1, _⟩ => rfl)).trans ?_
  rw [truncf_apply]

theorem pay9_bot (v : FVec Ideal S6x1024 .f32) (y : FVec Ideal S512x1024 .f32) (g : FVec Ideal S1x1024 .f32) (b : Vec Ideal S1x1x1024 .f32) (r : Fin 512) (R : Fin 1024) (hR : R.val = 512 + r.val) (n : Fin 1024) :
    k0_pay9 v y g b (ix2 R n) = k0_pay7 v y g b (ix2 r n) - k0_pay7 v y g b (ix2 r n) := by
  unfold k0_pay9
  generalize k0_pay7 v y g b = p
  refine (concatenate_pair_apply_right (t := S1024x1024) (s₁ := S512x1024) (s₂ := S512x1024) 0 _ _ _ (ix2 R n) rfl rfl (ix2 r n)
    (fun b hb => by match b with | ⟨0, _⟩ => exact absurd rfl hb | ⟨1, _⟩ => rfl) (by show r.val + 512 = R.val; omega)).trans ?_
  rw [truncf_apply, subf_apply]
  rfl

/-- The router's weights, and beside them their remainders. -/
theorem router_apply (w : Vec Ideal S1x1024x16 .f32) (k : Fin 1024) (e : Fin 16) :
    shapeCast S1024x16 w shapeCasts_S1x1024x16_S1024x16 (ix2 (n0 := 1024) (n1 := 16) k e) = w (ix3 0 k e) :=
  shapeCast_apply w _ (ix2 (n0 := 1024) (n1 := 16) k e) (ix3 0 k e) (by
    rewrite [Shape.rowMajor_val_three, Shape.rowMajor_val_two]; show (0 * 1024 + k.val) * 16 + e.val = k.val * 16 + e.val; omega)

theorem pay10_left (w : Vec Ideal S1x1024x16 .f32) (k : Fin 1024) (e : Fin 16) (E : Fin 32) (hE : E.val = e.val) :
    k0_pay10 (F := Ideal) w (ix2 k E) = w (ix3 0 k e) := by
  unfold k0_pay10
  refine (concatenate_pair_apply_left (t := S1024x32) (s₁ := S1024x16) (s₂ := S1024x16) 1 _ _ _ (ix2 k E) rfl (ix2 k e) (fun b => by match b with | ⟨0, _⟩ => rfl | ⟨1, _⟩ => exact hE.symm)).trans ?_
  rw [truncf_apply]
  exact router_apply w k e

theorem pay10_right (w : Vec Ideal S1x1024x16 .f32) (k : Fin 1024) (e : Fin 16) (E : Fin 32) (hE : E.val = 16 + e.val) :
    k0_pay10 (F := Ideal) w (ix2 k E) = w (ix3 0 k e) - w (ix3 0 k e) := by
  unfold k0_pay10
  refine (concatenate_pair_apply_right (t := S1024x32) (s₁ := S1024x16) (s₂ := S1024x16) 1 _ _ _ (ix2 k E) rfl rfl (ix2 k e)
    (fun b hb => by match b with | ⟨0, _⟩ => rfl | ⟨1, _⟩ => exact absurd rfl hb) (by show e.val + 16 = E.val; omega)).trans ?_
  rw [truncf_apply, subf_apply, router_apply]
  exact congrArg (fun z => w (ix3 0 k e) - z) (router_apply w k e)

/-- The router's product, before its four quarters are added. -/
def prod (a : FVec Ideal S1024x1024 .bf16) (w : FVec Ideal S1024x32 .bf16) : FVec Ideal S1024x32 .f32 :=
  matmul dot_S1024x1024_S1024x32_S1024x32_1_0_0_1_n_n none a w (constant S1024x32 .f32 0x00000000#32)

theorem prod_apply (a : FVec Ideal S1024x1024 .bf16) (w : FVec Ideal S1024x32 .bf16) (R : Fin 1024) (E : Fin 32) :
    prod a w (ix2 R E) = ∑ k : Fin 1024, a (ix2 R k) * w (ix2 k E) := by
  unfold prod
  refine (Ideal.matmul_plain_apply (M := 1024) (K := 1024) (N := 32) none _ _ _ R E).trans ?_
  rw [show (constant (F := Ideal) S1024x32 .f32 0x00000000#32) (ix2 R E) = Ideal.ofBits .f32 0x00000000#32 from rfl, zero_f32, zero_add]

/-- The logits: the product's four quarters added. -/
def quarters (p : FVec Ideal S1024x32 .f32) : FVec Ideal S512x16 .f32 :=
  addf (addf (extractStridedSlice S512x16 ![0, 0] p slices_S1024x32_o0_0_S512x16) (extractStridedSlice S512x16 ![0, 16] p slices_S1024x32_o0_16_S512x16))
    (addf (extractStridedSlice S512x16 ![512, 0] p slices_S1024x32_o512_0_S512x16) (extractStridedSlice S512x16 ![512, 16] p slices_S1024x32_o512_16_S512x16))

theorem quarter_apply (p : FVec Ideal S1024x32 .f32) (i j : ℕ) (h : S1024x32.Slices ![i, j] S512x16) (r : Fin 512) (e : Fin 16) (R : Fin 1024) (E : Fin 32) (hR : R.val = i + r.val) (hE : E.val = j + e.val) :
    extractStridedSlice S512x16 ![i, j] p h (ix2 r e) = p (ix2 R E) :=
  extractStridedSlice_apply ![i, j] p h (ix2 r e) (ix2 R E) (fun a => by
    match a with
    | ⟨0, _⟩ => exact hR
    | ⟨1, _⟩ => exact hE)

theorem quarters_apply (p : FVec Ideal S1024x32 .f32) (r : Fin 512) (e : Fin 16) :
    quarters p (ix2 r e) = (p (ix2 ⟨r.val, by omega⟩ ⟨e.val, by omega⟩) + p (ix2 ⟨r.val, by omega⟩ ⟨16 + e.val, by omega⟩))
      + (p (ix2 ⟨512 + r.val, by omega⟩ ⟨e.val, by omega⟩) + p (ix2 ⟨512 + r.val, by omega⟩ ⟨16 + e.val, by omega⟩)) := by
  unfold quarters
  rw [addf_apply, addf_apply, addf_apply,
    quarter_apply p 0 0 _ r e ⟨r.val, by omega⟩ ⟨e.val, by omega⟩ (Nat.zero_add _).symm (Nat.zero_add _).symm,
    quarter_apply p 0 16 _ r e ⟨r.val, by omega⟩ ⟨16 + e.val, by omega⟩ (Nat.zero_add _).symm rfl,
    quarter_apply p 512 0 _ r e ⟨512 + r.val, by omega⟩ ⟨e.val, by omega⟩ rfl (Nat.zero_add _).symm,
    quarter_apply p 512 16 _ r e ⟨512 + r.val, by omega⟩ ⟨16 + e.val, by omega⟩ rfl rfl]

/-- The exponentials of a row's logits less the greatest. -/
def expo (l : FVec Ideal S512x16 .f32) : FVec Ideal S512x16 .f32 :=
  exp (subf l (broadcastTo S512x16 (shapeCast S512x1 (multiReduction .maximumf [1] S512 l 0xFF800000#32 reduces_S512x16_S512 (.inl rfl) rfl) shapeCasts_S512_S512x1) broadcasts_S512x1_S512x16))

theorem expo_apply (l : FVec Ideal S512x16 .f32) (r : Fin 512) (e : Fin 16) : expo l (ix2 r e) = num (fun k : Fin 16 => l (ix2 r k)) e := by
  unfold expo num
  rw [show ∀ v : FVec Ideal S512x16 .f32, exp v (ix2 r e) = Ideal.exp (v (ix2 r e)) from fun _ => rfl, subf_apply, spread_apply (by decide), col_apply, rowmax16_apply]

/-- The shares of the exponentials. -/
def shares (x : FVec Ideal S512x16 .f32) : FVec Ideal S512x16 .f32 :=
  divf x (broadcastTo S512x16 (shapeCast S512x1 (multiReduction .add [1] S512 x 0x00000000#32 reduces_S512x16_S512 (.inl rfl) rfl) shapeCasts_S512_S512x1) broadcasts_S512x1_S512x16)

theorem shares_apply (x : FVec Ideal S512x16 .f32) (r : Fin 512) (e : Fin 16) : shares x (ix2 r e) = Ideal.div (x (ix2 r e)) (∑ k : Fin 16, x (ix2 r k)) := by
  unfold shares
  rw [divf_apply, spread_apply (by decide), col_apply, rowsum16_apply]

/-- The shares widened, turned, and their first sixteen rows. -/
def turned (s : FVec Ideal S512x16 .f32) : FVec Ideal S16x512 .f32 :=
  extractStridedSlice S16x512 ![0, 0] (transpose S128x512 [1, 0] (concatenate S512x128 1 [⟨S512x16, s⟩, ⟨S512x112, broadcast S512x112 (Scalar.ofBits (F := Ideal) .f32 0x00000000#32)⟩] concatenates_S512x16_S512x112_S512x128_d1)
    transposes_S512x128_p1_0_S128x512) slices_S128x512_o0_0_S16x512

theorem turned_apply (s : FVec Ideal S512x16 .f32) (e : Fin 16) (r : Fin 512) : turned s (ix2 e r) = s (ix2 r e) := by
  unfold turned
  refine (extractStridedSlice_apply ![0, 0] _ slices_S128x512_o0_0_S16x512 (ix2 e r) (ix2 ⟨e.val, by omega⟩ r) (fun a => by
    match a with
    | ⟨0, _⟩ => exact (Nat.zero_add _).symm
    | ⟨1, _⟩ => exact (Nat.zero_add _).symm)).trans ?_
  refine (transpose_apply [1, 0] _ transposes_S512x128_p1_0_S128x512 (ix2 ⟨e.val, by omega⟩ r) (ix2 r ⟨e.val, by omega⟩) (fun a => by
    match a with
    | ⟨0, _⟩ => rfl
    | ⟨1, _⟩ => rfl)).trans ?_
  exact concatenate_pair_apply_left (t := S512x128) (s₁ := S512x16) (s₂ := S512x112) 1 _ _ _ (ix2 r ⟨e.val, by omega⟩) rfl (ix2 r e) (fun b => by match b with | ⟨0, _⟩ => rfl | ⟨1, _⟩ => rfl)

theorem pay1_eq (a : FVec Ideal S1024x1024 .bf16) (w : FVec Ideal S1024x32 .bf16) : k0_pay1 a w = turned (shares (expo (quarters (prod a w)))) := rfl

/-- The affinities of a tile's row. -/
theorem pay1_apply (v : FVec Ideal S6x1024 .f32) (y : FVec Ideal S512x1024 .f32) (g : FVec Ideal S1x1024 .f32) (b : Vec Ideal S1x1x1024 .f32) (w : Vec Ideal S1x1024x16 .f32) (e : Fin 16) (r : Fin 512) :
    k0_pay1 (k0_pay9 v y g b) (k0_pay10 w) (ix2 e r) = aff (fun e : Fin 16 => split (fun k => k0_pay7 v y g b (ix2 r k)) (fun k => w (ix3 0 k e))) e := by
  rw [pay1_eq, turned_apply, shares_apply]
  simp only [expo_apply]
  unfold aff
  have h : (fun k : Fin 16 => quarters (prod (k0_pay9 v y g b) (k0_pay10 w)) (ix2 r k))
      = fun e : Fin 16 => split (fun k => k0_pay7 v y g b (ix2 r k)) (fun k => w (ix3 0 k e)) := by
    funext e
    rw [quarters_apply]
    simp only [prod_apply]
    unfold split
    congr 1
    · congr 1
      · exact Finset.sum_congr rfl fun k _ => by rw [pay9_top v y g b r _ rfl k, pay10_left w k e _ rfl]
      · exact Finset.sum_congr rfl fun k _ => by rw [pay9_top v y g b r _ rfl k, pay10_right w k e _ rfl]
    · congr 1
      · exact Finset.sum_congr rfl fun k _ => by rw [pay9_bot v y g b r _ rfl k, pay10_left w k e _ rfl]
      · exact Finset.sum_congr rfl fun k _ => by rw [pay9_bot v y g b r _ rfl k, pay10_right w k e _ rfl]
  rw [h]

end OutProj

end
-- ==== Proof.OutValue.lean ====
/- The output projection's three results over the extended reals, entry by entry, in terms of the call's arguments. -/
module

public import proofs.«01_k».proof.Proof.OutPayload

@[expose] public section

set_option maxRecDepth 16384

noncomputable section

namespace OutProj

open Cert.OutKernelIdeal Cert.OutKernelIdeal.Gen Cert.AttnMath Cert.OutMath Idealize.ShloMosaic Idealize.ShloMosaic.TcCoe Idealize.SL.Sem
open Idealize.ShloMosaic.ValueIdx

/-! ## The results, row by row -/

section Rows

variable (a0 a1 a2 a3 : Vec Ideal S4096x512 .bf16) (a4 : Vec Ideal S1x1024x1024 .f32) (a5 : Vec Ideal S8192x1024 .f32) (a6 : Vec Ideal S2x8x6x1024 .f32)
  (a7 a8 : Vec Ideal S2x2x1024 .f32) (a9 : Vec Ideal S2x1024x16 .f32)

/-- The prompt's rows followed by the samples'. -/
def both (p q : Vec Ideal S4096x512 .bf16) (R : Fin 8192) (k : Fin 512) : EReal :=
  if h : R.val < 4096 then p (ix2 ⟨R.val, h⟩ k) else q (ix2 ⟨R.val - 4096, by omega⟩ k)

/-- The modulation's segment of a row: the prompt's, then one for each sample. -/
def rowSeg (R : Fin 8192) : Fin 8 := ⟨if R.val < 4096 then 0 else 1 + (R.val - 4096) / 2048, by split <;> omega⟩

/-- The projection of a row: its first half by the upper weights, its second half by the lower ones. -/
def upd (R : Fin 8192) (n : Fin 1024) : EReal :=
  ∑ k : Fin 512, both a0 a1 R k * a4 (ix3 0 ⟨k.val, by omega⟩ n) + ∑ k : Fin 512, both a2 a3 R k * a4 (ix3 0 ⟨512 + k.val, by omega⟩ n)

/-- A row of the residual sum. -/
def res (R : Fin 8192) : Fin 1024 → EReal := resRow (fun n => a5 (ix2 R n)) (fun n => a6 (ix4 1 (rowSeg R) 2 n)) (upd a0 a1 a2 a3 a4 R)

/-- The first result. -/
def one (R : Fin 8192) : Fin 1024 → EReal := lnRow (res a0 a1 a2 a3 a4 a5 a6 R) (fun n => a7 (ix3 1 0 n)) (fun n => a8 (ix3 1 0 n))

/-- The second result. -/
def two (R : Fin 8192) : Fin 1024 → EReal := tokRow (one a0 a1 a2 a3 a4 a5 a6 a7 a8 R) (fun n => a6 (ix4 1 (rowSeg R) 4 n)) (fun n => a6 (ix4 1 (rowSeg R) 3 n))

/-- The third result, as the program forms the logits. -/
def three (R : Fin 8192) : Fin 16 → EReal := aff fun e => split (two a0 a1 a2 a3 a4 a5 a6 a7 a8 R) (fun k => a9 (ix3 1 k e))

/-- At real arguments the second result is real, and the logits are the product itself. -/
theorem two_real (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (R : Fin 8192) (n : Fin 1024) :
    IsReal (two a0 a1 a2 a3 a4 a5 a6 a7 a8 R n) := by
  have hb : ∀ (p q : Vec Ideal S4096x512 .bf16), (∀ i, IsReal (p i)) → (∀ i, IsReal (q i)) → ∀ k, IsReal (both p q R k) := by
    intro p q hp hq k
    unfold both
    split
    · exact hp _
    · exact hq _
  refine tokRow_real (fun k => lnRow_real (fun k => resRow_real (fun _ => h5 _) (fun _ => h6 _) (fun n => ?_) k) (fun _ => h7 _) (fun _ => h8 _) k) (fun _ => h6 _) (fun _ => h6 _) n
  exact (IsReal.sum _ _ fun k => (hb a0 a1 h0 h1 k).mul (h4 _)).add (IsReal.sum _ _ fun k => (hb a2 a3 h2 h3 k).mul (h4 _))

end Rows

/-! ## The blocks -/

variable (m : (ℓ : Loc nD τ sig) → Buf (Elt Ideal) ℓ)

/-- The segment of tile `t`. -/
def seg (t : Fin 16) : Fin 8 := ⟨if t.val < 8 then 0 else 1 + (t.val - 8) / 4, by split <;> omega⟩

theorem seg_eq (t : Fin 16) (r : Fin 512) (R : Fin 8192) (hR : R.val = t.val * 512 + r.val) : rowSeg R = seg t := by
  unfold rowSeg seg
  apply Fin.ext
  show (if R.val < 4096 then 0 else 1 + (R.val - 4096) / 2048) = if t.val < 8 then 0 else 1 + (t.val - 8) / 4
  split <;> split <;> omega

/-- The block indices at every grid point. -/
theorem idxIn : ∀ t : Fin 16, (t.val < 8 → (win0_0.index (pt t) (0 : Fin 2) = t.val ∧ win0_0.index (pt t) (1 : Fin 2) = 0) ∧ (win0_2.index (pt t) (0 : Fin 2) = t.val ∧ win0_2.index (pt t) (1 : Fin 2) = 0))
    ∧ (8 ≤ t.val → (win0_1.index (pt t) (0 : Fin 2) = t.val - 8 ∧ win0_1.index (pt t) (1 : Fin 2) = 0) ∧ (win0_3.index (pt t) (0 : Fin 2) = t.val - 8 ∧ win0_3.index (pt t) (1 : Fin 2) = 0))
    ∧ (win0_5.index (pt t) (0 : Fin 2) = t.val ∧ win0_5.index (pt t) (1 : Fin 2) = 0) := by
  decide +kernel

theorem idx6 : ∀ t : Fin 16, win0_6.index (pt t) (0 : Fin 4) = 1 ∧ win0_6.index (pt t) (1 : Fin 4) = (seg t).val ∧ win0_6.index (pt t) (2 : Fin 4) = 0 ∧ win0_6.index (pt t) (3 : Fin 4) = 0 := by
  decide +kernel

theorem idx7 : ∀ t : Fin 16, (win0_7.index (pt t) (0 : Fin 3) = 1 ∧ win0_7.index (pt t) (1 : Fin 3) = 0 ∧ win0_7.index (pt t) (2 : Fin 3) = 0)
    ∧ (win0_8.index (pt t) (0 : Fin 3) = 1 ∧ win0_8.index (pt t) (1 : Fin 3) = 0 ∧ win0_8.index (pt t) (2 : Fin 3) = 0)
    ∧ (win0_9.index (pt t) (0 : Fin 3) = 1 ∧ win0_9.index (pt t) (1 : Fin 3) = 0 ∧ win0_9.index (pt t) (2 : Fin 3) = 0) := by
  decide +kernel

theorem blk0 (c : Dev nD) (t : Fin 16) (ht : t.val < 8) (r : Fin 512) (k : Fin 512) (R : Fin 4096) (hR : R.val = t.val * 512 + r.val) :
    (iblk m c 0 (pt t) : Vec Ideal S512x512 .bf16) (ix2 r k) = m ((c : Thread nD τ).loc main_arg0) (ix2 R k) := by
  unfold iblk
  rw [View.read_apply]
  show V m c main_arg0 _ = _
  rw [V_main_arg0]
  congr 1
  funext a
  apply Fin.ext
  obtain ⟨h0, h1⟩ := ((idxIn t).1 ht).1
  match a with
  | ⟨0, _⟩ => show win0_0.index (pt t) 0 * 512 + 1 * r.val = R.val; omega
  | ⟨1, _⟩ => show win0_0.index (pt t) 1 * 512 + 1 * k.val = k.val; omega

theorem blk1 (c : Dev nD) (t : Fin 16) (ht : 8 ≤ t.val) (r : Fin 512) (k : Fin 512) (R : Fin 4096) (hR : R.val = (t.val - 8) * 512 + r.val) :
    (iblk m c 1 (pt t) : Vec Ideal S512x512 .bf16) (ix2 r k) = m ((c : Thread nD τ).loc main_arg1) (ix2 R k) := by
  unfold iblk
  rw [View.read_apply]
  show V m c main_arg1 _ = _
  rw [V_main_arg1]
  congr 1
  funext a
  apply Fin.ext
  obtain ⟨h0, h1⟩ := ((idxIn t).2.1 ht).1
  match a with
  | ⟨0, _⟩ => show win0_1.index (pt t) 0 * 512 + 1 * r.val = R.val; omega
  | ⟨1, _⟩ => show win0_1.index (pt t) 1 * 512 + 1 * k.val = k.val; omega

theorem blk2 (c : Dev nD) (t : Fin 16) (ht : t.val < 8) (r : Fin 512) (k : Fin 512) (R : Fin 4096) (hR : R.val = t.val * 512 + r.val) :
    (iblk m c 2 (pt t) : Vec Ideal S512x512 .bf16) (ix2 r k) = m ((c : Thread nD τ).loc main_arg2) (ix2 R k) := by
  unfold iblk
  rw [View.read_apply]
  show V m c main_arg2 _ = _
  rw [V_main_arg2]
  congr 1
  funext a
  apply Fin.ext
  obtain ⟨h0, h1⟩ := ((idxIn t).1 ht).2
  match a with
  | ⟨0, _⟩ => show win0_2.index (pt t) 0 * 512 + 1 * r.val = R.val; omega
  | ⟨1, _⟩ => show win0_2.index (pt t) 1 * 512 + 1 * k.val = k.val; omega

theorem blk3 (c : Dev nD) (t : Fin 16) (ht : 8 ≤ t.val) (r : Fin 512) (k : Fin 512) (R : Fin 4096) (hR : R.val = (t.val - 8) * 512 + r.val) :
    (iblk m c 3 (pt t) : Vec Ideal S512x512 .bf16) (ix2 r k) = m ((c : Thread nD τ).loc main_arg3) (ix2 R k) := by
  unfold iblk
  rw [View.read_apply]
  show V m c main_arg3 _ = _
  rw [V_main_arg3]
  congr 1
  funext a
  apply Fin.ext
  obtain ⟨h0, h1⟩ := ((idxIn t).2.1 ht).2
  match a with
  | ⟨0, _⟩ => show win0_3.index (pt t) 0 * 512 + 1 * r.val = R.val; omega
  | ⟨1, _⟩ => show win0_3.index (pt t) 1 * 512 + 1 * k.val = k.val; omega

theorem blk5 (c : Dev nD) (t : Fin 16) (r : Fin 512) (k : Fin 1024) (R : Fin 8192) (hR : R.val = t.val * 512 + r.val) :
    (iblk m c 5 (pt t) : Vec Ideal S512x1024 .f32) (ix2 r k) = m ((c : Thread nD τ).loc main_arg5) (ix2 R k) := by
  unfold iblk
  rw [View.read_apply]
  show V m c main_arg5 _ = _
  rw [V_main_arg5]
  congr 1
  funext a
  apply Fin.ext
  obtain ⟨h0, h1⟩ := (idxIn t).2.2
  match a with
  | ⟨0, _⟩ => show win0_5.index (pt t) 0 * 512 + 1 * r.val = R.val; omega
  | ⟨1, _⟩ => show win0_5.index (pt t) 1 * 1024 + 1 * k.val = k.val; omega

theorem blk6 (c : Dev nD) (t : Fin 16) (j : Fin 6) (k : Fin 1024) :
    (iblk m c 6 (pt t) : Vec Ideal S1x1x6x1024 .f32) (ix4 0 0 j k) = m ((c : Thread nD τ).loc main_arg6) (ix4 1 (seg t) j k) := by
  unfold iblk
  rw [View.read_apply]
  show V m c main_arg6 _ = _
  rw [V_main_arg6]
  congr 1
  funext a
  apply Fin.ext
  obtain ⟨h0, h1, h2, h3⟩ := idx6 t
  match a with
  | ⟨0, _⟩ => show win0_6.index (pt t) 0 * 1 + 1 * 0 = 1; omega
  | ⟨1, _⟩ => show win0_6.index (pt t) 1 * 1 + 1 * 0 = (seg t).val; omega
  | ⟨2, _⟩ => show win0_6.index (pt t) 2 * 6 + 1 * j.val = j.val; omega
  | ⟨3, _⟩ => show win0_6.index (pt t) 3 * 1024 + 1 * k.val = k.val; omega

theorem blk7 (c : Dev nD) (t : Fin 16) (k : Fin 1024) :
    row (iblk m c 7 (pt t) : Vec Ideal S1x2x1024 .f32) (ix3 0 0 k) = m ((c : Thread nD τ).loc main_arg7) (ix3 1 0 k) := by
  unfold row
  refine (View.ld_unit_apply_of (iblk m c 7 (pt t) : Vec Ideal S1x2x1024 .f32) _ _ _ (ix3 0 0 k) (ix3 0 0 k) (fun a => by
    match a with
    | ⟨0, _⟩ => rfl
    | ⟨1, _⟩ => rfl
    | ⟨2, _⟩ => exact (Nat.zero_add _).symm)).trans ?_
  unfold iblk
  rw [View.read_apply]
  show V m c main_arg7 _ = _
  rw [V_main_arg7]
  congr 1
  funext a
  apply Fin.ext
  obtain ⟨h0, h1, h2⟩ := (idx7 t).1
  match a with
  | ⟨0, _⟩ => show win0_7.index (pt t) 0 * 1 + 1 * 0 = 1; omega
  | ⟨1, _⟩ => show win0_7.index (pt t) 1 * 2 + 1 * 0 = 0; omega
  | ⟨2, _⟩ => show win0_7.index (pt t) 2 * 1024 + 1 * k.val = k.val; omega

theorem blk8 (c : Dev nD) (t : Fin 16) (k : Fin 1024) :
    row (iblk m c 8 (pt t) : Vec Ideal S1x2x1024 .f32) (ix3 0 0 k) = m ((c : Thread nD τ).loc main_arg8) (ix3 1 0 k) := by
  unfold row
  refine (View.ld_unit_apply_of (iblk m c 8 (pt t) : Vec Ideal S1x2x1024 .f32) _ _ _ (ix3 0 0 k) (ix3 0 0 k) (fun a => by
    match a with
    | ⟨0, _⟩ => rfl
    | ⟨1, _⟩ => rfl
    | ⟨2, _⟩ => exact (Nat.zero_add _).symm)).trans ?_
  unfold iblk
  rw [View.read_apply]
  show V m c main_arg8 _ = _
  rw [V_main_arg8]
  congr 1
  funext a
  apply Fin.ext
  obtain ⟨h0, h1, h2⟩ := (idx7 t).2.1
  match a with
  | ⟨0, _⟩ => show win0_8.index (pt t) 0 * 1 + 1 * 0 = 1; omega
  | ⟨1, _⟩ => show win0_8.index (pt t) 1 * 2 + 1 * 0 = 0; omega
  | ⟨2, _⟩ => show win0_8.index (pt t) 2 * 1024 + 1 * k.val = k.val; omega

theorem blk9 (c : Dev nD) (t : Fin 16) (k : Fin 1024) (e : Fin 16) :
    (iblk m c 9 (pt t) : Vec Ideal S1x1024x16 .f32) (ix3 0 k e) = m ((c : Thread nD τ).loc main_arg9) (ix3 1 k e) := by
  unfold iblk
  rw [View.read_apply]
  show V m c main_arg9 _ = _
  rw [V_main_arg9]
  congr 1
  funext a
  apply Fin.ext
  obtain ⟨h0, h1, h2⟩ := (idx7 t).2.2
  match a with
  | ⟨0, _⟩ => show win0_9.index (pt t) 0 * 1 + 1 * 0 = 1; omega
  | ⟨1, _⟩ => show win0_9.index (pt t) 1 * 1024 + 1 * k.val = k.val; omega
  | ⟨2, _⟩ => show win0_9.index (pt t) 2 * 16 + 1 * e.val = e.val; omega

theorem top_apply (c : Dev nD) (k : Fin 512) (n : Fin 1024) : top (W m c) (ix2 k n) = m ((c : Thread nD τ).loc main_arg4) (ix3 0 ⟨k.val, by omega⟩ n) := by
  unfold top
  refine (View.ld_unit_apply_of (Val := Elt Ideal) (S := S1024x1024) (e := .bf16) (W m c) _ _ _ (ix2 k n) (ix2 (⟨k.val, by omega⟩ : Fin 1024) n) (fun a => by
    match a with
    | ⟨0, _⟩ => exact (Nat.zero_add _).symm
    | ⟨1, _⟩ => exact (Nat.zero_add _).symm)).trans ?_
  exact weights_apply _ _ _

theorem bot_apply (c : Dev nD) (k : Fin 512) (n : Fin 1024) : bot (W m c) (ix2 k n) = m ((c : Thread nD τ).loc main_arg4) (ix3 0 ⟨512 + k.val, by omega⟩ n) := by
  unfold bot
  refine (View.ld_unit_apply_of (Val := Elt Ideal) (S := S1024x1024) (e := .bf16) (W m c) _ _ _ (ix2 k n) (ix2 (⟨512 + k.val, by omega⟩ : Fin 1024) n) (fun a => by
    match a with
    | ⟨0, _⟩ => rfl
    | ⟨1, _⟩ => exact (Nat.zero_add _).symm)).trans ?_
  exact weights_apply _ _ _

/-- The call's arguments. -/
abbrev A0 (c : Dev nD) : Vec Ideal S4096x512 .bf16 := m ((c : Thread nD τ).loc main_arg0)
abbrev A1 (c : Dev nD) : Vec Ideal S4096x512 .bf16 := m ((c : Thread nD τ).loc main_arg1)
abbrev A2 (c : Dev nD) : Vec Ideal S4096x512 .bf16 := m ((c : Thread nD τ).loc main_arg2)
abbrev A3 (c : Dev nD) : Vec Ideal S4096x512 .bf16 := m ((c : Thread nD τ).loc main_arg3)
abbrev A4 (c : Dev nD) : Vec Ideal S1x1024x1024 .f32 := m ((c : Thread nD τ).loc main_arg4)
abbrev A5 (c : Dev nD) : Vec Ideal S8192x1024 .f32 := m ((c : Thread nD τ).loc main_arg5)
abbrev A6 (c : Dev nD) : Vec Ideal S2x8x6x1024 .f32 := m ((c : Thread nD τ).loc main_arg6)
abbrev A7 (c : Dev nD) : Vec Ideal S2x2x1024 .f32 := m ((c : Thread nD τ).loc main_arg7)
abbrev A8 (c : Dev nD) : Vec Ideal S2x2x1024 .f32 := m ((c : Thread nD τ).loc main_arg8)
abbrev A9 (c : Dev nD) : Vec Ideal S2x1024x16 .f32 := m ((c : Thread nD τ).loc main_arg9)

/-! ## A tile's rows -/

theorem Y_apply (c : Dev nD) (t : Fin 16) (r : Fin 512) (R : Fin 8192) (hR : R.val = t.val * 512 + r.val) (n : Fin 1024) :
    Y m c (pt t) (ix2 r n) = res (A0 m c) (A1 m c) (A2 m c) (A3 m c) (A4 m c) (A5 m c) (A6 m c) R n := by
  unfold Y
  refine (pay4_apply t _ _ _ _ _ _ _ _ r n).trans ?_
  unfold res
  rw [seg_eq t r R hR]
  unfold resRow upd
  dsimp only
  rw [blk5 m c t r n R hR, blk6 m c t 2 n]
  congr 2
  congr 1
  · refine Finset.sum_congr rfl fun k _ => ?_
    rw [top_apply m c k n]
    congr 1
    unfold both
    by_cases h : t.val < 8
    · rw [if_pos h, dif_pos (by omega)]
      exact blk0 m c t h r k _ hR
    · rw [if_neg h, dif_neg (by omega)]
      exact blk1 m c t (by omega) r k _ (by show R.val - 4096 = _; omega)
  · refine Finset.sum_congr rfl fun k _ => ?_
    rw [bot_apply m c k n]
    congr 1
    unfold both
    by_cases h : t.val < 8
    · rw [if_pos h, dif_pos (by omega)]
      exact blk2 m c t h r k _ hR
    · rw [if_neg h, dif_neg (by omega)]
      exact blk3 m c t (by omega) r k _ (by show R.val - 4096 = _; omega)

theorem G_apply (c : Dev nD) (t : Fin 16) (n : Fin 1024) : G m c (pt t) (ix2 0 n) = A7 m c (ix3 1 0 n) := by
  unfold G
  exact (pay5_apply _ n).trans (blk7 m c t n)

theorem M6_apply (c : Dev nD) (t : Fin 16) (j : Fin 6) (n : Fin 1024) : M6 m c (pt t) (ix2 j n) = A6 m c (ix4 1 (seg t) j n) := by
  unfold M6
  exact (pay3_apply _ n j).trans (blk6 m c t j n)

theorem one_tile (c : Dev nD) (t : Fin 16) (r : Fin 512) (R : Fin 8192) (hR : R.val = t.val * 512 + r.val) :
    lnRow (fun k => Y m c (pt t) (ix2 r k)) (fun k => G m c (pt t) (ix2 0 k)) (fun k => row (iblk m c 8 (pt t)) (ix3 0 0 k))
      = one (A0 m c) (A1 m c) (A2 m c) (A3 m c) (A4 m c) (A5 m c) (A6 m c) (A7 m c) (A8 m c) R := by
  unfold one
  rw [funext (Y_apply m c t r R hR), funext (G_apply m c t), funext (blk8 m c t)]

theorem two_tile (c : Dev nD) (t : Fin 16) (r : Fin 512) (R : Fin 8192) (hR : R.val = t.val * 512 + r.val) (n : Fin 1024) :
    k0_pay7 (M6 m c (pt t)) (Y m c (pt t)) (G m c (pt t)) (row (iblk m c 8 (pt t))) (ix2 r n)
      = two (A0 m c) (A1 m c) (A2 m c) (A3 m c) (A4 m c) (A5 m c) (A6 m c) (A7 m c) (A8 m c) R n := by
  refine (pay7_apply _ _ _ _ r n).trans ?_
  rw [one_tile m c t r R hR, funext (M6_apply m c t 4), funext (M6_apply m c t 3)]
  unfold two
  rw [seg_eq t r R hR]

theorem three_tile (c : Dev nD) (t : Fin 16) (r : Fin 512) (R : Fin 8192) (hR : R.val = t.val * 512 + r.val) (e : Fin 16) :
    k0_pay1 (k0_pay9 (M6 m c (pt t)) (Y m c (pt t)) (G m c (pt t)) (row (iblk m c 8 (pt t)))) (k0_pay10 (iblk m c 9 (pt t))) (ix2 e r)
      = three (A0 m c) (A1 m c) (A2 m c) (A3 m c) (A4 m c) (A5 m c) (A6 m c) (A7 m c) (A8 m c) (A9 m c) R e := by
  refine (pay1_apply _ _ _ _ _ e r).trans ?_
  unfold three
  refine congrFun (congrArg aff (funext fun e => ?_)) e
  rw [funext (two_tile m c t r R hR)]
  exact congrArg (split _) (funext fun k => blk9 m c t k e)

/-! ## The final arrays -/

theorem idx10 : ∀ t : Fin 16, win0_10.index (pt t) (0 : Fin 2) = t.val ∧ win0_10.index (pt t) (1 : Fin 2) = 0 ∧ (cfg0.win 10).flush (pt t) = true := by
  decide +kernel
theorem inj10 : ∀ t t' : Fin cfg0.N, (cfg0.win 10).flush t = true → (cfg0.win 10).flush t' = true → win0_10.index t = win0_10.index t' → t = t' :=
  (by decide +kernel : ∀ t t' : Fin grid0.N, (cfg0.win 10).flush t = true → (cfg0.win 10).flush t' = true → win0_10.index t = win0_10.index t' → t = t')
/-- A block of a final array is what the point that wrote it back held. -/
theorem blocks10 (c : Dev nD) (t : Fin cfg0.N) (hf : (cfg0.win 10).flush t = true) :
    ((cfg0.win 10).blk t).view.read (Elt Ideal) ((dats m 0 c).arrAt 10 cfg0.N) = (cfg0.win 10).cut (grid0.coords t) ((outsAt0 m c t.val t.isLt).1) := by
  refine ((dats m 0 c).read_blk_arrAt_eq_flushed 10 (fun t t' hf hf' hne => (cfg0.win 10).disjoint_blk fun h => hne (inj10 t t' hf hf' h)) cfg0.N t t.isLt hf).trans ?_
  show (cfg0.win 10).cut (grid0.coords t) ((dats m 0 c).after 10 t) = _
  rw [after0_10]

theorem idx11 : ∀ t : Fin 16, win0_11.index (pt t) (0 : Fin 2) = t.val ∧ win0_11.index (pt t) (1 : Fin 2) = 0 ∧ (cfg0.win 11).flush (pt t) = true := by
  decide +kernel
theorem inj11 : ∀ t t' : Fin cfg0.N, (cfg0.win 11).flush t = true → (cfg0.win 11).flush t' = true → win0_11.index t = win0_11.index t' → t = t' :=
  (by decide +kernel : ∀ t t' : Fin grid0.N, (cfg0.win 11).flush t = true → (cfg0.win 11).flush t' = true → win0_11.index t = win0_11.index t' → t = t')
/-- A block of a final array is what the point that wrote it back held. -/
theorem blocks11 (c : Dev nD) (t : Fin cfg0.N) (hf : (cfg0.win 11).flush t = true) :
    ((cfg0.win 11).blk t).view.read (Elt Ideal) ((dats m 0 c).arrAt 11 cfg0.N) = (cfg0.win 11).cut (grid0.coords t) ((outsAt0 m c t.val t.isLt).2.1) := by
  refine ((dats m 0 c).read_blk_arrAt_eq_flushed 11 (fun t t' hf hf' hne => (cfg0.win 11).disjoint_blk fun h => hne (inj11 t t' hf hf' h)) cfg0.N t t.isLt hf).trans ?_
  show (cfg0.win 11).cut (grid0.coords t) ((dats m 0 c).after 11 t) = _
  rw [after0_11]

theorem idx12 : ∀ t : Fin 16, win0_12.index (pt t) (0 : Fin 2) = 0 ∧ win0_12.index (pt t) (1 : Fin 2) = t.val ∧ (cfg0.win 12).flush (pt t) = true := by
  decide +kernel
theorem inj12 : ∀ t t' : Fin cfg0.N, (cfg0.win 12).flush t = true → (cfg0.win 12).flush t' = true → win0_12.index t = win0_12.index t' → t = t' :=
  (by decide +kernel : ∀ t t' : Fin grid0.N, (cfg0.win 12).flush t = true → (cfg0.win 12).flush t' = true → win0_12.index t = win0_12.index t' → t = t')
/-- A block of a final array is what the point that wrote it back held. -/
theorem blocks12 (c : Dev nD) (t : Fin cfg0.N) (hf : (cfg0.win 12).flush t = true) :
    ((cfg0.win 12).blk t).view.read (Elt Ideal) ((dats m 0 c).arrAt 12 cfg0.N) = (cfg0.win 12).cut (grid0.coords t) ((outsAt0 m c t.val t.isLt).2.2.1) := by
  refine ((dats m 0 c).read_blk_arrAt_eq_flushed 12 (fun t t' hf hf' hne => (cfg0.win 12).disjoint_blk fun h => hne (inj12 t t' hf hf' h)) cfg0.N t t.isLt hf).trans ?_
  show (cfg0.win 12).cut (grid0.coords t) ((dats m 0 c).after 12 t) = _
  rw [after0_12]

/-- The first result: the normalized rows. -/
theorem one_apply (c : Dev nD) (R : Fin 8192) (n : Fin 1024) :
    ((dats m 0 c).arrAt 10 cfg0.N : Vec Ideal S8192x1024 .f32) (ix2 R n) = one (A0 m c) (A1 m c) (A2 m c) (A3 m c) (A4 m c) (A5 m c) (A6 m c) (A7 m c) (A8 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx10 t
  have e1 := congrFun (blocks10 m c (pt t) hf) (ix2 r n)
  rw [x1_tile m c (pt t)] at e1
  refine Eq.trans ?_ (e1.trans ?_)
  · rw [View.read_apply]
    show ((dats m 0 c).arrAt 10 cfg0.N : Vec Ideal S8192x1024 .f32) (ix2 R n) = ((dats m 0 c).arrAt 10 cfg0.N : Vec Ideal S8192x1024 .f32) _
    congr 1
    funext a
    apply Fin.ext
    match a with
    | ⟨0, _⟩ => show R.val = win0_10.index (pt t) 0 * 512 + 1 * r.val; omega
    | ⟨1, _⟩ => show n.val = win0_10.index (pt t) 1 * 1024 + 1 * n.val; omega
  · exact (pay6_apply _ _ _ r n).trans (congrFun (one_tile m c t r R hR) n)

/-- The second result: the modulated rows. -/
theorem two_apply (c : Dev nD) (R : Fin 8192) (n : Fin 1024) :
    ((dats m 0 c).arrAt 11 cfg0.N : Vec Ideal S8192x1024 .bf16) (ix2 R n) = two (A0 m c) (A1 m c) (A2 m c) (A3 m c) (A4 m c) (A5 m c) (A6 m c) (A7 m c) (A8 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx11 t
  have e1 := congrFun (blocks11 m c (pt t) hf) (ix2 r n)
  rw [u2_tile m c (pt t)] at e1
  refine Eq.trans ?_ (e1.trans ?_)
  · rw [View.read_apply]
    show ((dats m 0 c).arrAt 11 cfg0.N : Vec Ideal S8192x1024 .bf16) (ix2 R n) = ((dats m 0 c).arrAt 11 cfg0.N : Vec Ideal S8192x1024 .bf16) _
    congr 1
    funext a
    apply Fin.ext
    match a with
    | ⟨0, _⟩ => show R.val = win0_11.index (pt t) 0 * 512 + 1 * r.val; omega
    | ⟨1, _⟩ => show n.val = win0_11.index (pt t) 1 * 1024 + 1 * n.val; omega
  · exact (pay8_apply _ _ _ _ r n).trans (two_tile m c t r R hR n)

/-- The third result: the affinities, one column for each row. -/
theorem three_apply (c : Dev nD) (n : Fin 16) (R : Fin 8192) :
    ((dats m 0 c).arrAt 12 cfg0.N : Vec Ideal S16x8192 .f32) (ix2 n R) = three (A0 m c) (A1 m c) (A2 m c) (A3 m c) (A4 m c) (A5 m c) (A6 m c) (A7 m c) (A8 m c) (A9 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx12 t
  have e1 := congrFun (blocks12 m c (pt t) hf) (ix2 n r)
  rw [aff_tile m c (pt t)] at e1
  refine Eq.trans ?_ (e1.trans ?_)
  · rw [View.read_apply]
    show ((dats m 0 c).arrAt 12 cfg0.N : Vec Ideal S16x8192 .f32) (ix2 n R) = ((dats m 0 c).arrAt 12 cfg0.N : Vec Ideal S16x8192 .f32) _
    congr 1
    funext a
    apply Fin.ext
    match a with
    | ⟨0, _⟩ => show n.val = win0_12.index (pt t) 0 * 16 + 1 * n.val; omega
    | ⟨1, _⟩ => show R.val = win0_12.index (pt t) 1 * 512 + 1 * r.val; omega
  · exact three_tile m c t r R hR n

end OutProj

end
-- ==== Proof.OutRef.lean ====
/-
  THE REFERENCE OF THE OUTPUT PROJECTION over the extended reals, read at an index, stage by stage: the joined halves and their product
  with the weights, the residual sum, its normalization, the modulated rows, and the shares of the router's logits.
-/
module

public import proofs.«01_k».proof.Proof.OutValue
public import proofs.«01_k».proof.Proof.Gen.OutReferenceIdeal.Read
public import Idealize.ShloMosaic.Lib.KernelVsHost

@[expose] public section

set_option maxRecDepth 16384

noncomputable section

namespace OutProj.Ref

open Cert.OutReferenceIdeal Cert.OutReferenceIdeal.Gen Cert.OutReferenceIdeal.Read Cert.AttnMath Cert.OutMath Idealize.ShloMosaic Idealize.ShloMosaic.TcCoe Idealize.SL.Sem
open Idealize.ShloMosaic.ValueIdx

variable (x0 x1 x2 x3 : Vec Ideal S4096x512 .bf16) (x4 : Vec Ideal S1x1024x1024 .f32) (x5 : Vec Ideal S8192x1024 .f32) (x6 : Vec Ideal S2x8x6x1024 .f32)
  (x7 x8 : Vec Ideal S2x2x1024 .f32) (x9 : Vec Ideal S2x1024x16 .f32)

/-! ## The joined halves and their product -/

theorem rows0 (R : Fin 8192) (k : Fin 512) : val_main_v0 (F := Ideal) x0 x1 (ix2 R k) = both x0 x1 R k := by
  unfold val_main_v0 both
  by_cases h : R.val < 4096
  · rw [dif_pos h]
    exact concatenate_apply_piece (t := S8192x512) 0 _ _ (ix2 R k) 0 (by simp) S4096x512 x0 rfl rfl 0 rfl (ix2 ⟨R.val, h⟩ k)
      (fun b hb => by
        match b with
        | ⟨0, _⟩ => exact absurd rfl hb
        | ⟨1, _⟩ => rfl)
      (by show 0 + R.val = R.val; omega)
  · rw [dif_neg h]
    exact concatenate_apply_piece (t := S8192x512) 0 _ _ (ix2 R k) 1 (by simp) S4096x512 x1 rfl rfl 4096 rfl (ix2 ⟨R.val - 4096, by omega⟩ k)
      (fun b hb => by
        match b with
        | ⟨0, _⟩ => exact absurd rfl hb
        | ⟨1, _⟩ => rfl)
      (by show 4096 + (R.val - 4096) = R.val; omega)

theorem rows1 (R : Fin 8192) (k : Fin 512) : val_main_v1 (F := Ideal) x2 x3 (ix2 R k) = both x2 x3 R k := by
  unfold val_main_v1 both
  by_cases h : R.val < 4096
  · rw [dif_pos h]
    exact concatenate_apply_piece (t := S8192x512) 0 _ _ (ix2 R k) 0 (by simp) S4096x512 x2 rfl rfl 0 rfl (ix2 ⟨R.val, h⟩ k)
      (fun b hb => by
        match b with
        | ⟨0, _⟩ => exact absurd rfl hb
        | ⟨1, _⟩ => rfl)
      (by show 0 + R.val = R.val; omega)
  · rw [dif_neg h]
    exact concatenate_apply_piece (t := S8192x512) 0 _ _ (ix2 R k) 1 (by simp) S4096x512 x3 rfl rfl 4096 rfl (ix2 ⟨R.val - 4096, by omega⟩ k)
      (fun b hb => by
        match b with
        | ⟨0, _⟩ => exact absurd rfl hb
        | ⟨1, _⟩ => rfl)
      (by show 4096 + (R.val - 4096) = R.val; omega)

theorem left_half (R : Fin 8192) (k : Fin 512) (K : Fin 1024) (hK : K.val = k.val) : val_main_v3 (F := Ideal) x0 x1 x2 x3 (ix2 R K) = both x0 x1 R k := by
  rw [val_main_v3_apply, ← rows0]
  unfold val_main_v2
  generalize val_main_v0 (F := Ideal) x0 x1 = y0
  generalize val_main_v1 (F := Ideal) x2 x3 = y1
  exact concatenate_apply_piece (t := S8192x1024) 1 _ _ (ix2 R K) 0 (by simp) S8192x512 y0 rfl rfl 0 rfl (ix2 R k)
      (fun b hb => by
        match b with
        | ⟨0, _⟩ => rfl
        | ⟨1, _⟩ => exact absurd rfl hb)
      (by show 0 + k.val = K.val; omega)

theorem right_half (R : Fin 8192) (k : Fin 512) (K : Fin 1024) (hK : K.val = 512 + k.val) : val_main_v3 (F := Ideal) x0 x1 x2 x3 (ix2 R K) = both x2 x3 R k := by
  rw [val_main_v3_apply, ← rows1]
  unfold val_main_v2
  generalize val_main_v0 (F := Ideal) x0 x1 = y0
  generalize val_main_v1 (F := Ideal) x2 x3 = y1
  exact concatenate_apply_piece (t := S8192x1024) 1 _ _ (ix2 R K) 1 (by simp) S8192x512 y1 rfl rfl 512 rfl (ix2 R k)
      (fun b hb => by
        match b with
        | ⟨0, _⟩ => rfl
        | ⟨1, _⟩ => exact absurd rfl hb)
      (by show 512 + k.val = K.val; omega)

theorem weights (k n : Fin 1024) : val_main_v4 (F := Ideal) x4 (ix2 k n) = x4 (ix3 0 k n) := by
  rw [val_main_v4_apply]
  refine congrArg x4 ?_
  funext a
  apply Fin.ext
  match a with
  | ⟨0, _⟩ => rfl
  | ⟨1, _⟩ => show (k.val * 1024 + n.val) / 1024 % 1024 = k.val; omega
  | ⟨2, _⟩ => show (k.val * 1024 + n.val) % 1024 = n.val; omega

/-- The product of the joined halves is the sum of the halves' products. -/
theorem product (R : Fin 8192) (n : Fin 1024) : val_main_v5 (F := Ideal) x0 x1 x2 x3 x4 (ix2 R n) = upd x0 x1 x2 x3 x4 R n := by
  rw [val_main_v5_apply]
  have e : ∀ k : Fin 1024, val_main_v3 (F := Ideal) x0 x1 x2 x3 (lidx_main_v5 (ix2 R n) k) * val_main_v4 (F := Ideal) x4 (ridx_main_v5 (ix2 R n) k)
      = val_main_v3 (F := Ideal) x0 x1 x2 x3 (ix2 R k) * x4 (ix3 0 k n) := by
    intro k
    have el : lidx_main_v5 (ix2 R n) k = ix2 R k := by
      funext a
      match a with
      | ⟨0, _⟩ => rfl
      | ⟨1, _⟩ => rfl
    have er : ridx_main_v5 (ix2 R n) k = ix2 k n := by
      funext a
      match a with
      | ⟨0, _⟩ => rfl
      | ⟨1, _⟩ => rfl
    rw [el, er, weights]
  rw [Finset.sum_congr rfl fun k _ => e k]
  refine (Fin.sum_univ_add (a := 512) (b := 512) (fun k : Fin 1024 => val_main_v3 (F := Ideal) x0 x1 x2 x3 (ix2 R k) * x4 (ix3 0 k n))).trans ?_
  unfold upd
  congr 1
  · refine Finset.sum_congr rfl fun k _ => ?_
    rw [left_half x0 x1 x2 x3 R k _ rfl]
    rfl
  · refine Finset.sum_congr rfl fun k _ => ?_
    rw [right_half x0 x1 x2 x3 R k _ rfl]
    rfl

/-! ## The modulation's vectors, one for each row -/

theorem vec2 (R : Fin 8192) (n : Fin 1024) : val_main_v16 (F := Ideal) x6 (ix2 R n) = x6 (ix4 1 (rowSeg R) 2 n) := by
  unfold val_main_v16
  by_cases h : R.val < 4096
  · refine (concatenate_apply_piece (t := S8192x1024) 0 _ _ (ix2 R n) 0 (by simp) S4096x1024 (val_main_v10 (F := Ideal) x6) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v10_apply, val_main_v9_apply, val_main_v8_apply]
    refine congrArg x6 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v15 (F := Ideal) x6) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v15_apply, val_main_v14_apply, val_main_v13_apply, val_main_v12_apply, val_main_v11_apply]
    refine congrArg x6 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem vec4 (R : Fin 8192) (n : Fin 1024) : val_main_v55 (F := Ideal) x6 (ix2 R n) = x6 (ix4 1 (rowSeg R) 4 n) := by
  unfold val_main_v55
  by_cases h : R.val < 4096
  · refine (concatenate_apply_piece (t := S8192x1024) 0 _ _ (ix2 R n) 0 (by simp) S4096x1024 (val_main_v49 (F := Ideal) x6) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v49_apply, val_main_v48_apply, val_main_v47_apply]
    refine congrArg x6 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v54 (F := Ideal) x6) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v54_apply, val_main_v53_apply, val_main_v52_apply, val_main_v51_apply, val_main_v50_apply]
    refine congrArg x6 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem vec3 (R : Fin 8192) (n : Fin 1024) : val_main_v67 (F := Ideal) x6 (ix2 R n) = x6 (ix4 1 (rowSeg R) 3 n) := by
  unfold val_main_v67
  by_cases h : R.val < 4096
  · refine (concatenate_apply_piece (t := S8192x1024) 0 _ _ (ix2 R n) 0 (by simp) S4096x1024 (val_main_v61 (F := Ideal) x6) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v61_apply, val_main_v60_apply, val_main_v59_apply]
    refine congrArg x6 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v66 (F := Ideal) x6) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v66_apply, val_main_v65_apply, val_main_v64_apply, val_main_v63_apply, val_main_v62_apply]
    refine congrArg x6 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem par7 (R : Fin 8192) (n : Fin 1024) : val_main_v40 (F := Ideal) x7 (ix2 R n) = x7 (ix3 1 0 n) := by
  rw [val_main_v40_apply, val_main_v39_apply, val_main_v38_apply, val_main_v37_apply]
  refine congrArg x7 ?_
  funext a
  apply Fin.ext
  match a with
  | ⟨0, _⟩ => rfl
  | ⟨1, _⟩ => rfl
  | ⟨2, _⟩ => exact Nat.mod_eq_of_lt n.isLt

theorem par8 (R : Fin 8192) (n : Fin 1024) : val_main_v45 (F := Ideal) x8 (ix2 R n) = x8 (ix3 1 0 n) := by
  rw [val_main_v45_apply, val_main_v44_apply, val_main_v43_apply, val_main_v42_apply]
  refine congrArg x8 ?_
  funext a
  apply Fin.ext
  match a with
  | ⟨0, _⟩ => rfl
  | ⟨1, _⟩ => rfl
  | ⟨2, _⟩ => exact Nat.mod_eq_of_lt n.isLt

/-! ## The residual sum and its normalization -/

theorem residual (R : Fin 8192) (n : Fin 1024) : val_main_v18 (F := Ideal) x0 x1 x2 x3 x4 x5 x6 (ix2 R n) = res x0 x1 x2 x3 x4 x5 x6 R n := by
  rw [val_main_v18_apply, val_main_v7_apply, val_main_v6_apply, val_main_cst_apply, val_main_v17_apply, vec2, product]
  rfl

theorem idx1 (i : S8192.Idx) : i = ix1 (i 0) := by
  funext a
  match a with
  | ⟨0, _⟩ => rfl

theorem ref_mean (R : Fin 8192) (n : Fin 1) : val_main_v22 (F := Ideal) x0 x1 x2 x3 x4 x5 x6 (ix2 R n) = mean (res x0 x1 x2 x3 x4 x5 x6 R) := by
  rw [val_main_v22_apply, val_main_v20_apply, val_main_v19_apply, val_main_v21_apply, val_main_cst_1_apply, val_main_cst_0_apply]
  have e : ∀ k : Fin 1024, val_main_v18 (F := Ideal) x0 x1 x2 x3 x4 x5 x6 (idx_main_v19 (idx_main_v20 (ix2 R n)) k) = res x0 x1 x2 x3 x4 x5 x6 R k := fun k =>
    (congrArg (val_main_v18 (F := Ideal) x0 x1 x2 x3 x4 x5 x6) (by
      funext a
      match a with
      | ⟨0, _⟩ => rfl
      | ⟨1, _⟩ => rfl)).trans (residual x0 x1 x2 x3 x4 x5 x6 R k)
  rw [Finset.sum_congr rfl fun k _ => e k]
  show Ideal.div (Ideal.ofBits .f32 0x00000000#32 + ∑ k, res x0 x1 x2 x3 x4 x5 x6 R k) (Ideal.ofBits .f32 0x44800000#32) = _
  rw [zero_f32, zero_add]
  rfl

theorem centred (R : Fin 8192) (n : Fin 1024) : val_main_v24 (F := Ideal) x0 x1 x2 x3 x4 x5 x6 (ix2 R n) = res x0 x1 x2 x3 x4 x5 x6 R n - mean (res x0 x1 x2 x3 x4 x5 x6 R) := by
  rw [val_main_v24_apply, val_main_v23_apply, residual, show idx_main_v23 (ix2 R n) = ix2 R 0 from by
    funext a
    match a with
    | ⟨0, _⟩ => rfl
    | ⟨1, _⟩ => rfl]
  exact congrArg (fun z => res x0 x1 x2 x3 x4 x5 x6 R n - z) (ref_mean x0 x1 x2 x3 x4 x5 x6 R 0)

theorem centred' (R : Fin 8192) (n : Fin 1024) : val_main_v31 (F := Ideal) x0 x1 x2 x3 x4 x5 x6 (ix2 R n) = res x0 x1 x2 x3 x4 x5 x6 R n - mean (res x0 x1 x2 x3 x4 x5 x6 R) := by
  rw [val_main_v31_apply, val_main_v30_apply, residual, show idx_main_v30 (ix2 R n) = ix2 R 0 from by
    funext a
    match a with
    | ⟨0, _⟩ => rfl
    | ⟨1, _⟩ => rfl]
  exact congrArg (fun z => res x0 x1 x2 x3 x4 x5 x6 R n - z) (ref_mean x0 x1 x2 x3 x4 x5 x6 R 0)

theorem deviation (R : Fin 8192) (n : Fin 1) :
    val_main_v34 (F := Ideal) x0 x1 x2 x3 x4 x5 x6 (ix2 R n)
      = Ideal.rsqrt (Ideal.div (∑ k, (res x0 x1 x2 x3 x4 x5 x6 R k - mean (res x0 x1 x2 x3 x4 x5 x6 R)) * (res x0 x1 x2 x3 x4 x5 x6 R k - mean (res x0 x1 x2 x3 x4 x5 x6 R))) (Ideal.ofBits .f32 0x44800000#32) + Ideal.ofBits .f32 0x3727C5AC#32) := by
  rw [val_main_v34_apply, val_main_v33_apply, val_main_v29_apply, val_main_v27_apply, val_main_v26_apply, val_main_v28_apply, val_main_v32_apply, val_main_cst_2_apply, val_main_cst_3_apply, val_main_cst_4_apply]
  have e : ∀ k : Fin 1024, val_main_v25 (F := Ideal) x0 x1 x2 x3 x4 x5 x6 (idx_main_v26 (idx_main_v27 (ix2 R n)) k)
      = (res x0 x1 x2 x3 x4 x5 x6 R k - mean (res x0 x1 x2 x3 x4 x5 x6 R)) * (res x0 x1 x2 x3 x4 x5 x6 R k - mean (res x0 x1 x2 x3 x4 x5 x6 R)) := fun k =>
    (congrArg (val_main_v25 (F := Ideal) x0 x1 x2 x3 x4 x5 x6) (a₂ := ix2 R k) (by
      funext a
      match a with
      | ⟨0, _⟩ => rfl
      | ⟨1, _⟩ => rfl)).trans (by rw [val_main_v25_apply, centred x0 x1 x2 x3 x4 x5 x6 R k]; rfl)
  rw [Finset.sum_congr rfl fun k _ => e k]
  show Ideal.rsqrt (Ideal.div (Ideal.ofBits .f32 0x00000000#32 + _) (Ideal.ofBits .f32 0x44800000#32) + Ideal.ofBits .f32 0x3727C5AC#32) = _
  rw [zero_f32, zero_add]

/-- The reference's first result. -/
theorem one_ref (R : Fin 8192) (n : Fin 1024) : val_main_v46 (F := Ideal) x0 x1 x2 x3 x4 x5 x6 x7 x8 (ix2 R n) = one x0 x1 x2 x3 x4 x5 x6 x7 x8 R n := by
  rw [val_main_v46_apply, val_main_v41_apply, val_main_v36_apply, val_main_v35_apply, centred', par7, par8]
  have e := deviation x0 x1 x2 x3 x4 x5 x6 R 0
  rw [show idx_main_v35 (ix2 R n) = ix2 R 0 from by
    funext a
    match a with
    | ⟨0, _⟩ => rfl
    | ⟨1, _⟩ => rfl, e]
  rfl

/-! ## The modulated rows -/

theorem tok_ref (R : Fin 8192) (n : Fin 1024) : val_main_v68 (F := Ideal) x0 x1 x2 x3 x4 x5 x6 x7 x8 (ix2 R n) = two x0 x1 x2 x3 x4 x5 x6 x7 x8 R n := by
  rw [val_main_v68_apply, val_main_v58_apply, val_main_v57_apply, val_main_v56_apply, val_main_cst_5_apply, vec4, vec3, one_ref]
  rfl

/-- The reference's second result. -/
theorem two_ref (R : Fin 8192) (n : Fin 1024) : val_main_v83 (F := Ideal) x0 x1 x2 x3 x4 x5 x6 x7 x8 (ix2 R n) = two x0 x1 x2 x3 x4 x5 x6 x7 x8 R n := by
  rw [val_main_v83_apply, tok_ref]
  rfl

/-! ## The router's affinities -/

theorem router (k : Fin 1024) (e : Fin 16) : val_main_v70 (F := Ideal) x9 (ix2 k e) = x9 (ix3 1 k e) := by
  rw [val_main_v70_apply, val_main_v69_apply]
  refine congrArg x9 ?_
  funext a
  apply Fin.ext
  match a with
  | ⟨0, _⟩ => rfl
  | ⟨1, _⟩ => show (k.val * 16 + e.val) / 16 % 1024 = k.val; omega
  | ⟨2, _⟩ => show (k.val * 16 + e.val) % 16 = e.val; omega

/-- The reference's logits of a row. -/
def lg (R : Fin 8192) (e : Fin 16) : EReal := ∑ k : Fin 1024, two x0 x1 x2 x3 x4 x5 x6 x7 x8 R k * x9 (ix3 1 k e)

theorem logits (R : Fin 8192) (e : Fin 16) : val_main_v71 (F := Ideal) x0 x1 x2 x3 x4 x5 x6 x7 x8 x9 (ix2 R e) = lg x0 x1 x2 x3 x4 x5 x6 x7 x8 x9 R e := by
  rw [val_main_v71_apply]
  unfold lg
  refine Finset.sum_congr rfl fun k _ => ?_
  have el : lidx_main_v71 (ix2 R e) k = ix2 R k := by
    funext a
    match a with
    | ⟨0, _⟩ => rfl
    | ⟨1, _⟩ => rfl
  have er : ridx_main_v71 (ix2 R e) k = ix2 k e := by
    funext a
    match a with
    | ⟨0, _⟩ => rfl
    | ⟨1, _⟩ => rfl
  rw [el, er, router, tok_ref]

theorem reduces_max : S8192x16.Reduces [1] S8192 := by decide

/-- A maximum over a row of logits, from minus infinity. -/
theorem max_apply (y : FVec Ideal S8192x16 .f32) (R : Fin 8192) :
    Host.reduce FloatOps.maximumf y (constant S_ .f32 0xFF800000#32) reducesTo_S8192x16_S8192_d1 h_S_ (ix1 R) = rowMax (fun k => y (ix2 R k)) := by
  have e := hostReduce_maximumf_eq_multiReduction y 0xFF800000#32 reducesTo_S8192x16_S8192_d1 h_S_ reduces_max (.inl rfl) rfl
  refine (congrFun e (ix1 R)).trans ?_
  refine (Ideal.multiReduction_maximumf_single _ _ _ _ _ _).trans ?_
  rw [show (FloatOps.ofBits (F := Ideal) .f32 0xFF800000#32 : Ideal .f32) = Ideal.ofBits .f32 0xFF800000#32 from rfl, bot_f32]
  have e2 : (y ∘ reduces_max.lift (ix1 R)) = fun k => y (ix2 R k) := by
    funext k
    exact congrArg y (by
      funext a; apply Fin.ext; match a with | ⟨0, _⟩ => rfl | ⟨1, _⟩ => rfl)
  rw [e2]
  rfl

theorem ref_max (R : Fin 8192) : val_main_v72 (F := Ideal) x0 x1 x2 x3 x4 x5 x6 x7 x8 x9 (ix1 R) = rowMax (lg x0 x1 x2 x3 x4 x5 x6 x7 x8 x9 R) := by
  unfold val_main_v72
  generalize hy : val_main_v71 (F := Ideal) x0 x1 x2 x3 x4 x5 x6 x7 x8 x9 = y
  refine (max_apply y R).trans ?_
  subst hy
  exact congrArg rowMax (funext fun k => logits x0 x1 x2 x3 x4 x5 x6 x7 x8 x9 R k)

theorem ref_num (R : Fin 8192) (e : Fin 16) : val_main_v78 (F := Ideal) x0 x1 x2 x3 x4 x5 x6 x7 x8 x9 (ix2 R e) = num (lg x0 x1 x2 x3 x4 x5 x6 x7 x8 x9 R) e := by
  rw [val_main_v78_apply, val_main_v77_apply, val_main_v76_apply, val_main_v75_apply, val_main_v74_apply, val_main_v73_apply, val_main_cst_7_apply, logits]
  rw [show idx_main_v75 (idx_main_v76 (ix2 R e)) = ix1 R from by
    funext a
    match a with
    | ⟨0, _⟩ => rfl, ref_max]
  show Ideal.exp (lg x0 x1 x2 x3 x4 x5 x6 x7 x8 x9 R e - max (Ideal.ofBits .f32 0xFF800000#32) (rowMax (lg x0 x1 x2 x3 x4 x5 x6 x7 x8 x9 R))) = _
  rw [bot_f32, max_eq_right bot_le]
  rfl

/-- The reference's third result. -/
theorem three_ref (e : Fin 16) (R : Fin 8192) : val_main_v84 (F := Ideal) x0 x1 x2 x3 x4 x5 x6 x7 x8 x9 (ix2 e R) = aff (lg x0 x1 x2 x3 x4 x5 x6 x7 x8 x9 R) e := by
  rw [val_main_v84_apply]
  rw [show idx_main_v84 (ix2 e R) = ix2 R e from by
    funext a
    match a with
    | ⟨0, _⟩ => rfl
    | ⟨1, _⟩ => rfl]
  rw [val_main_v82_apply, val_main_v81_apply, val_main_v80_apply, val_main_v79_apply, val_main_cst_8_apply, ref_num]
  have h : ∀ k : Fin 16, val_main_v78 (F := Ideal) x0 x1 x2 x3 x4 x5 x6 x7 x8 x9 (idx_main_v79 (idx_main_v80 (idx_main_v81 (ix2 R e))) k) = num (lg x0 x1 x2 x3 x4 x5 x6 x7 x8 x9 R) k := fun k =>
    (congrArg (val_main_v78 (F := Ideal) x0 x1 x2 x3 x4 x5 x6 x7 x8 x9) (by
      funext a
      match a with
      | ⟨0, _⟩ => rfl
      | ⟨1, _⟩ => rfl)).trans (ref_num x0 x1 x2 x3 x4 x5 x6 x7 x8 x9 R k)
  rw [Finset.sum_congr rfl fun k _ => h k]
  show Ideal.div (num (lg x0 x1 x2 x3 x4 x5 x6 x7 x8 x9 R) e) (Ideal.ofBits .f32 0x00000000#32 + ∑ k, num (lg x0 x1 x2 x3 x4 x5 x6 x7 x8 x9 R) k) = _
  rw [zero_f32, zero_add]
  rfl

end OutProj.Ref

end
-- ==== Proof.DiffPayload.lean ====
/-
  THE DIFFERENTIAL ATTENTION BLOCKS read at an index (extended reals): what the body stores at a grid point, as sums over
  the blocks it loads — a tile of queries, a sequence's keys and values with the cached ones joined on below, the scale's
  parameters and the gain.
    `expo`, `pv`, `fin`  — the three steps of a head, as the body spells them: the exponentials of a row's scores, the values
                          weighted by them over their sum, and the difference of two such, normalized and scaled.
    `lam_apply`          — the masked sum over the four heads picks the head's own scale.
    `out_apply`          — the stored block, one head's 128 columns after the other's.
-/
module

public import proofs.«01_k».proof.Proof.AttnMath
public import proofs.«01_k».proof.Proof.Gen.DiffKernelIdeal.Frame
public import Idealize.ShloMosaic.Lib.MatmulPlain
public import Idealize.ShloMosaic.Lib.Pipeline.Value
public import Idealize.ShloMosaic.PureOps.Ideal.Laws

@[expose] public section

set_option maxRecDepth 16384

noncomputable section

namespace Cert.DiffKernelIdeal.Diff

open Cert.DiffKernelIdeal Cert.DiffKernelIdeal.Gen Cert.AttnMath Idealize.ShloMosaic Idealize.ShloMosaic.TcCoe Idealize.SL.Sem
open Idealize.ShloMosaic.ValueIdx

theorem zero_f32 : Ideal.ofBits .f32 0x00000000#32 = 0 := by simp [Ideal.ofBits, Ideal.ieee]

/-! ## The three steps of a head -/

/-- A column of row values spread over the rows. -/
theorem spread_apply {N : Nat} (hN : 1 < N) (v : FVec Ideal S512 .f32) (h) (r : Fin 512) (c : Fin N) :
    broadcastTo (⟨2, ![512, N]⟩ : Shape) (shapeCast S512x1 v shapeCasts_S512_S512x1) h (ix2 r c) = v (ix1 r) := by
  rw [broadcastTo_apply _ _ (ix2 r c) (ix2 r 0) (fun a => by
    match a with
    | ⟨0, _⟩ => show r.val = if (512 : Nat) = 1 then 0 else r.val; rw [if_neg (by decide)]
    | ⟨1, _⟩ => show 0 = if (1 : Nat) = 1 then 0 else c.val; rw [if_pos rfl])]
  exact shapeCast_apply v _ (ix2 r 0) (ix1 r) (by
    rewrite [Shape.rowMajor_val_one, Shape.rowMajor_val_two]; show r.val = r.val * 1 + 0; omega)

/-- The scores of a tile's half-head: scaled queries against keys. -/
def score (q : FVec Ideal S512x64 .bf16) (k : FVec Ideal S2304x64 .bf16) : FVec Ideal S512x2304 .f32 :=
  matmul dot_S512x64_S2304x64_S512x2304_1_1_0_0_n_n none (mulf q (broadcast S512x64 (Scalar.ofBits (F := Ideal) .bf16 0x3E00#16))) k (constant S512x2304 .f32 0x00000000#32)

/-- The exponentials of the scores less each row's greatest. -/
def expo (q : FVec Ideal S512x64 .bf16) (k : FVec Ideal S2304x64 .bf16) : FVec Ideal S512x2304 .f32 :=
  exp (subf (score q k) (broadcastTo S512x2304 (shapeCast S512x1 (multiReduction .maximumf [1] S512 (score q k) 0xFF800000#32 reduces_S512x2304_S512 (.inl rfl) rfl) shapeCasts_S512_S512x1) broadcasts_S512x1_S512x2304))

/-- Values weighted by a row's exponentials, over their sum. -/
def pv (e : FVec Ideal S512x2304 .f32) (v : FVec Ideal S2304x128 .bf16) : FVec Ideal S512x128 .f32 :=
  divf (matmul dot_S512x2304_S2304x128_S512x128_1_0_0_1_n_n none (truncf .bf16 e bitsLt_bf16_f32) v (constant S512x128 .f32 0x00000000#32))
    (broadcastTo S512x128 (shapeCast S512x1 (multiReduction .add [1] S512 e 0x00000000#32 reduces_S512x2304_S512 (.inl rfl) rfl) shapeCasts_S512_S512x1) broadcasts_S512x1_S512x128)

/-- The two halves' difference. -/
def dif (lam : FVec Ideal S1x1 .f32) (o₀ o₁ : FVec Ideal S512x128 .f32) : FVec Ideal S512x128 .f32 :=
  subf o₀ (mulf (broadcastTo S512x128 lam broadcasts_S1x1_S512x128) o₁)

/-- The difference normalized over the head's width, times the gain and the layer's constant. -/
def fin (g : Vec Ideal S1x128 .f32) (o : FVec Ideal S512x128 .f32) : FVec Ideal S512x128 .f32 :=
  mulf (mulf (mulf o (broadcastTo S512x128 (rsqrt (addf (divf (shapeCast S512x1 (multiReduction .add [1] S512 (mulf o o) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x3727C5AC#32)))) broadcasts_S512x1_S512x128))
    (broadcastTo S512x128 g broadcasts_S1x128_S512x128)) (broadcast S512x128 (Scalar.ofBits (F := Ideal) .f32 0x3F24FD5C#32))

/-- A row's scores. -/
abbrev sc (q : Fin 64 → EReal) (k : Fin 2304 → Fin 64 → EReal) (c : Fin 2304) : EReal :=
  ∑ d, (q d * Ideal.ofBits .bf16 0x3E00#16) * k c d

theorem score_apply (q : FVec Ideal S512x64 .bf16) (k : FVec Ideal S2304x64 .bf16) (r : Fin 512) (c : Fin 2304) :
    score q k (ix2 r c) = sc (fun d => q (ix2 r d)) (fun c d => k (ix2 c d)) c := by
  unfold score
  refine (Ideal.matmul_transposedRhs_apply (M := 512) (K := 64) (N := 2304) none _ k _ r c).trans ?_
  rw [show (constant (F := Ideal) S512x2304 .f32 0x00000000#32) (ix2 r c) = Ideal.ofBits .f32 0x00000000#32 from rfl, zero_f32, zero_add]
  rfl

/-- A row's greatest score. -/
theorem rowmax_apply (x : FVec Ideal S512x2304 .f32) (r : Fin 512) :
    (multiReduction .maximumf [1] S512 x 0xFF800000#32 reduces_S512x2304_S512 (.inl rfl) rfl : FVec Ideal S512 .f32) (ix1 r) = rowMax (fun k : Fin 2304 => x (ix2 r k)) := by
  refine (Ideal.multiReduction_maximumf_single _ _ _ _ _ _).trans ?_
  rw [show (FloatOps.ofBits (F := Ideal) .f32 0xFF800000#32 : Ideal .f32) = Ideal.ofBits .f32 0xFF800000#32 from rfl, bot_f32]
  have e : (x ∘ reduces_S512x2304_S512.lift (ix1 r)) = fun k : Fin 2304 => x (ix2 r k) := by
    funext c'
    exact congrArg x (by funext a; apply Fin.ext; match a with | ⟨0, _⟩ => rfl | ⟨1, _⟩ => rfl)
  rw [e]
  rfl

theorem expo_apply (q : FVec Ideal S512x64 .bf16) (k : FVec Ideal S2304x64 .bf16) (r : Fin 512) (c : Fin 2304) :
    expo q k (ix2 r c) = num (sc (fun d => q (ix2 r d)) (fun c d => k (ix2 c d))) c := by
  unfold expo num
  rw [show ∀ v : FVec Ideal S512x2304 .f32, exp v (ix2 r c) = Ideal.exp (v (ix2 r c)) from fun _ => rfl, subf_apply, score_apply,
    spread_apply (by decide), rowmax_apply]
  congr 2
  exact congrArg rowMax (funext fun c' => score_apply q k r c')

/-- A row of exponentials summed. -/
theorem rowsum_apply (e : FVec Ideal S512x2304 .f32) (r : Fin 512) :
    (multiReduction .add [1] S512 e 0x00000000#32 reduces_S512x2304_S512 (.inl rfl) rfl : FVec Ideal S512 .f32) (ix1 r) = ∑ k : Fin 2304, e (ix2 r k) := by
  refine (Ideal.multiReduction_add_single _ _ _ _ _ _).trans ?_
  refine Finset.sum_congr rfl fun k _ => ?_
  exact congrArg e (by funext a; apply Fin.ext; match a with | ⟨0, _⟩ => rfl | ⟨1, _⟩ => rfl)

theorem pv_apply (e : FVec Ideal S512x2304 .f32) (v : FVec Ideal S2304x128 .bf16) (r : Fin 512) (c : Fin 128) :
    pv e v (ix2 r c) = Ideal.div (∑ k : Fin 2304, e (ix2 r k) * v (ix2 k c)) (∑ k : Fin 2304, e (ix2 r k)) := by
  unfold pv
  rw [divf_apply, spread_apply (by decide), rowsum_apply]
  refine congrArg (fun x => Ideal.div x _) ?_
  refine (Ideal.matmul_plain_apply (M := 512) (K := 2304) (N := 128) none _ v _ r c).trans ?_
  rw [show (constant (F := Ideal) S512x128 .f32 0x00000000#32) (ix2 r c) = Ideal.ofBits .f32 0x00000000#32 from rfl, zero_f32, zero_add]
  rfl

theorem pv_expo_apply (q : FVec Ideal S512x64 .bf16) (k : FVec Ideal S2304x64 .bf16) (v : FVec Ideal S2304x128 .bf16) (r : Fin 512) (c : Fin 128) :
    pv (expo q k) v (ix2 r c) = attnK (sc (fun d => q (ix2 r d)) (fun c d => k (ix2 c d))) (fun k => v (ix2 k c)) := by
  rw [pv_apply]
  unfold attnK
  simp only [expo_apply]

/-- A row of 128 entries summed. -/
theorem rowsum128_apply (o : FVec Ideal S512x128 .f32) (r : Fin 512) :
    (multiReduction .add [1] S512 o 0x00000000#32 reduces_S512x128_S512 (.inl rfl) rfl : FVec Ideal S512 .f32) (ix1 r) = ∑ c : Fin 128, o (ix2 r c) := by
  refine (Ideal.multiReduction_add_single _ _ _ _ _ _).trans ?_
  refine Finset.sum_congr rfl fun k _ => ?_
  exact congrArg o (by funext a; apply Fin.ext; match a with | ⟨0, _⟩ => rfl | ⟨1, _⟩ => rfl)

/-- One entry of a normalized head. -/
abbrev nrm (o g : Fin 128 → EReal) (e : Fin 128) : EReal :=
  o e * Ideal.rsqrt (Ideal.div (∑ c, o c * o c) (Ideal.ofBits .f32 0x43000000#32) + Ideal.ofBits .f32 0x3727C5AC#32) * g e * Ideal.ofBits .f32 0x3F24FD5C#32

theorem fin_apply (g : Vec Ideal S1x128 .f32) (o : FVec Ideal S512x128 .f32) (r : Fin 512) (e : Fin 128) :
    fin g o (ix2 r e) = nrm (fun c => o (ix2 r c)) (fun c => g (ix2 0 c)) e := by
  unfold fin
  rw [mulf_apply, mulf_apply, mulf_apply, broadcast_apply]
  rw [broadcastTo_apply (rsqrt _) _ (ix2 r e) (ix2 r 0) (fun a => by
    match a with
    | ⟨0, _⟩ => show r.val = if (512 : Nat) = 1 then 0 else r.val; rw [if_neg (by decide)]
    | ⟨1, _⟩ => show 0 = if (1 : Nat) = 1 then 0 else e.val; rw [if_pos rfl])]
  rw [broadcastTo_apply g _ (ix2 r e) (ix2 0 e) (fun a => by
    match a with
    | ⟨0, _⟩ => show 0 = if (1 : Nat) = 1 then 0 else r.val; rw [if_pos rfl]
    | ⟨1, _⟩ => show e.val = if (128 : Nat) = 1 then 0 else e.val; rw [if_neg (by decide)])]
  rw [show ∀ v : FVec Ideal S512x1 .f32, rsqrt v (ix2 r 0) = Ideal.rsqrt (v (ix2 r 0)) from fun _ => rfl, addf_apply, divf_apply, broadcast_apply, broadcast_apply]
  rw [shapeCast_apply _ _ (ix2 r 0) (ix1 r) (by
    rewrite [Shape.rowMajor_val_one, Shape.rowMajor_val_two]; show r.val = r.val * 1 + 0; omega)]
  rw [rowsum128_apply]
  rfl

theorem dif_apply (lam : FVec Ideal S1x1 .f32) (o₀ o₁ : FVec Ideal S512x128 .f32) (r : Fin 512) (c : Fin 128) :
    dif lam o₀ o₁ (ix2 r c) = o₀ (ix2 r c) - lam (ix2 0 0) * o₁ (ix2 r c) := by
  unfold dif
  rw [subf_apply, mulf_apply, broadcastTo_apply lam _ (ix2 r c) (ix2 0 0) (fun a => by
    match a with
    | ⟨0, _⟩ => show 0 = if (1 : Nat) = 1 then 0 else r.val; rw [if_pos rfl]
    | ⟨1, _⟩ => show 0 = if (1 : Nat) = 1 then 0 else c.val; rw [if_pos rfl])]

/-! ## The payloads as those steps -/

theorem pay9_eq (q : Vec Ideal S512x256 .bf16) (v : Vec Ideal S2048x256 .bf16) (k : FVec Ideal S2304x256 .bf16) (cv : Vec Ideal S1x256x256 .f32) :
    k0_pay9 (F := Ideal) q v k cv = pv (expo (extractStridedSlice S512x64 ![0, 0] (k0_pay6 q) slices_S512x128_o0_0_S512x64)
      (extractStridedSlice S2304x64 ![0, 0] (k0_pay7 k) slices_S2304x128_o0_0_S2304x64)) (k0_pay8 v cv) := rfl

theorem pay10_eq (q : Vec Ideal S512x256 .bf16) (k : FVec Ideal S2304x256 .bf16) :
    k0_pay10 (F := Ideal) q k = expo (extractStridedSlice S512x64 ![0, 64] (k0_pay6 q) slices_S512x128_o0_64_S512x64)
      (extractStridedSlice S2304x64 ![0, 64] (k0_pay7 k) slices_S2304x128_o0_64_S2304x64) := rfl

theorem pay17_eq (q : Vec Ideal S512x256 .bf16) (k : FVec Ideal S2304x256 .bf16) :
    k0_pay17 (F := Ideal) q k = expo (extractStridedSlice S512x64 ![0, 0] (k0_pay14 q) slices_S512x128_o0_0_S512x64)
      (extractStridedSlice S2304x64 ![0, 0] (k0_pay15 k) slices_S2304x128_o0_0_S2304x64) := rfl

theorem pay12_eq (lam : FVec Ideal S1x1 .f32) (g : Vec Ideal S1x128 .f32) (o₀ : FVec Ideal S512x128 .f32) (q : Vec Ideal S512x256 .bf16)
    (v : Vec Ideal S2048x256 .bf16) (k : FVec Ideal S2304x256 .bf16) (cv : Vec Ideal S1x256x256 .f32) :
    k0_pay12 (F := Ideal) lam g o₀ (k0_pay10 q k) (k0_pay11 q v k cv) = fin g (dif lam o₀ (pv (k0_pay10 q k) (k0_pay8 v cv))) := rfl

theorem pay1_eq (w : FVec Ideal S512x128 .f32) (lam : FVec Ideal S1x1 .f32) (g : Vec Ideal S1x128 .f32) (q : Vec Ideal S512x256 .bf16)
    (k v : FVec Ideal S2304x256 .bf16) :
    k0_pay1 (F := Ideal) w lam (k0_pay14 q) (k0_pay15 k) (k0_pay16 v) g (k0_pay17 q k) (k0_pay18 q k v)
      = truncf .bf16 (concatenate S512x256 1 [⟨S512x128, w⟩, ⟨S512x128, fin g (dif lam (pv (k0_pay17 q k) (k0_pay16 v))
          (pv (expo (extractStridedSlice S512x64 ![0, 64] (k0_pay14 q) slices_S512x128_o0_64_S512x64)
            (extractStridedSlice S2304x64 ![0, 64] (k0_pay15 k) slices_S2304x128_o0_64_S2304x64)) (k0_pay16 v)))⟩] concatenates_S512x128_S512x128_S512x256_d1) bitsLt_bf16_f32 := rfl

/-! ## Slices and joins -/

/-- A column of a pair of heads: head `j`, column `e`. -/
abbrev hcol (j : Fin 2) (e : Fin 128) : Fin 256 := ⟨j.val * 128 + e.val, by omega⟩
/-- A column of one half of a head of the pair: head `j`, half `s`, column `d`. -/
abbrev qcol (j s : Fin 2) (d : Fin 64) : Fin 256 := ⟨j.val * 128 + s.val * 64 + d.val, by omega⟩

/-- A sequence's rows with the cached rows joined on below. -/
def joined (x : Vec Ideal S2048x256 .bf16) (y : Vec Ideal S1x256x256 .f32) (k : Fin 2304) (c : Fin 256) : EReal :=
  if h : k.val < 2048 then x (ix2 ⟨k.val, h⟩ c) else y (ix3 0 ⟨k.val - 2048, by omega⟩ c)

theorem pay3_apply (x : Vec Ideal S2048x256 .bf16) (y : Vec Ideal S1x256x256 .f32) (k : Fin 2304) (c : Fin 256) :
    k0_pay3 (F := Ideal) x y (ix2 k c) = joined x y k c := by
  unfold k0_pay3 joined
  split
  · rename_i h
    exact concatenate_pair_apply_left (t := S2304x256) (s₁ := S2048x256) (s₂ := S256x256) 0 x _ _ (ix2 k c) rfl (ix2 ⟨k.val, h⟩ c) (fun b => by match b with | ⟨0, _⟩ => rfl | ⟨1, _⟩ => rfl)
  · rename_i h
    refine (concatenate_pair_apply_right (t := S2304x256) (s₁ := S2048x256) (s₂ := S256x256) 0 x _ _ (ix2 k c) rfl rfl (ix2 ⟨k.val - 2048, by omega⟩ c)
      (fun b hb => by match b with | ⟨0, _⟩ => exact absurd rfl hb | ⟨1, _⟩ => rfl) (by show k.val - 2048 + 2048 = k.val; omega)).trans ?_
    rw [truncf_apply]
    exact shapeCast_apply y _ (ix2 ⟨k.val - 2048, by omega⟩ c) (ix3 0 ⟨k.val - 2048, by omega⟩ c) (by
      rewrite [Shape.rowMajor_val_three, Shape.rowMajor_val_two]; show (0 * 256 + (k.val - 2048)) * 256 + c.val = (k.val - 2048) * 256 + c.val; omega)

theorem pay4_eq (x : Vec Ideal S2048x256 .bf16) (y : Vec Ideal S1x256x256 .f32) : k0_pay4 (F := Ideal) x y = k0_pay3 x y := rfl

/-- A slice of 128 columns, then one of 64. -/
theorem slice_q {α : Type} {M : Nat} (x : (⟨2, ![M, 256]⟩ : Shape).Idx → α) (a b : Nat) (h₁) (h₂) (r : Fin M) (d : Fin 64) (c : Fin 256) (hc : c.val = a + b + d.val) :
    extractStridedSlice (⟨2, ![M, 64]⟩ : Shape) ![0, b] (extractStridedSlice (⟨2, ![M, 128]⟩ : Shape) ![0, a] x h₁) h₂ (ix2 r d) = x (ix2 r c) := by
  have hb : b + d.val < 128 := by have := h₂.2 1; have hd := d.isLt; change b + 64 ≤ 128 at this; omega
  rw [extractStridedSlice_apply _ _ _ (ix2 r d) (ix2 r ⟨b + d.val, hb⟩) (fun i => by match i with | ⟨0, _⟩ => show r.val = 0 + r.val; omega | ⟨1, _⟩ => rfl)]
  exact extractStridedSlice_apply _ _ _ _ (ix2 r c) (fun i => by match i with | ⟨0, _⟩ => show r.val = 0 + r.val; omega | ⟨1, _⟩ => show c.val = a + (b + d.val); omega)

theorem slice_v {α : Type} {M : Nat} (x : (⟨2, ![M, 256]⟩ : Shape).Idx → α) (a : Nat) (h₁) (r : Fin M) (e : Fin 128) (c : Fin 256) (hc : c.val = a + e.val) :
    extractStridedSlice (⟨2, ![M, 128]⟩ : Shape) ![0, a] x h₁ (ix2 r e) = x (ix2 r c) :=
  extractStridedSlice_apply _ _ _ _ (ix2 r c) (fun i => by match i with | ⟨0, _⟩ => show r.val = 0 + r.val; omega | ⟨1, _⟩ => exact hc)

/-! ## The scale -/

/-- A head's scale. -/
abbrev lamOf (p : Vec Ideal S1x4x4x64 .f32) (h : Fin 4) : EReal :=
  Ideal.exp (∑ d : Fin 64, p (ix4 0 0 h d) * p (ix4 0 1 h d)) - Ideal.exp (∑ d : Fin 64, p (ix4 0 2 h d) * p (ix4 0 3 h d)) + Ideal.ofBits .f32 0x3EB60549#32

theorem dot_apply (a b : Vec Ideal S1x1x4x64 .f32) (h : Fin 4) :
    shapeCast S4x1 (multiReduction .add [1] S4 (mulf (shapeCast S4x64 a shapeCasts_S1x1x4x64_S4x64 : FVec Ideal S4x64 .f32) (shapeCast S4x64 b shapeCasts_S1x1x4x64_S4x64 : FVec Ideal S4x64 .f32))
      0x00000000#32 reduces_S4x64_S4 (.inl rfl) rfl : FVec Ideal S4 .f32) shapeCasts_S4_S4x1 (ix2 h 0) = ∑ d : Fin 64, a (ix4 0 0 h d) * b (ix4 0 0 h d) := by
  refine (shapeCast_apply _ _ (ix2 h 0) (ix1 h) (by
    rewrite [Shape.rowMajor_val_one, Shape.rowMajor_val_two]; show h.val = h.val * 1 + 0; omega)).trans ?_
  refine (Ideal.multiReduction_add_single _ _ _ _ _ _).trans ?_
  have key : ∀ (z : Vec Ideal S1x1x4x64 .f32) (d : Fin 64), shapeCast S4x64 z shapeCasts_S1x1x4x64_S4x64 (reduces_S4x64_S4.lift (ix1 h) d) = z (ix4 0 0 h d) := fun z d =>
    shapeCast_apply z _ _ (ix4 0 0 h d) (by
      rewrite [Shape.rowMajor_val_four, Shape.rowMajor_val_two]; show ((0 * 1 + 0) * 4 + h.val) * 64 + d.val = h.val * 64 + d.val; omega)
  exact Finset.sum_congr rfl fun d _ => congrArg₂ (· * ·) (key a d) (key b d)

theorem pay2_apply (p : Vec Ideal S1x4x4x64 .f32) (h : Fin 4) :
    k0_pay2 (F := Ideal) (View.ld p r0_0) (View.ld p r0_1) (View.ld p r0_2) (View.ld p r0_3) (ix2 h 0) = lamOf p h := by
  unfold k0_pay2 lamOf
  rw [addf_apply, subf_apply, broadcast_apply]
  rw [show ∀ v : FVec Ideal S4x1 .f32, exp v (ix2 h 0) = Ideal.exp (v (ix2 h 0)) from fun _ => rfl,
    show ∀ v : FVec Ideal S4x1 .f32, exp v (ix2 h 0) = Ideal.exp (v (ix2 h 0)) from fun _ => rfl]
  rw [dot_apply, dot_apply]
  have e : ∀ (j : Fin 4) (R : Rect S1x4x4x64) (z : Fin 64 → S1x4x4x64.Idx) (d : Fin 64), (z d) = (ix4 0 j h d) → p (z d) = p (ix4 0 j h d) := fun j R z d hz => by rw [hz]
  congr 2
  · congr 1
    refine Finset.sum_congr rfl fun d _ => congrArg₂ (fun x y : EReal => x * y) (congrArg p ?_) (congrArg p ?_) <;>
    · funext a; apply Fin.ext; match a with
      | ⟨0, _⟩ => rfl
      | ⟨1, _⟩ => rfl
      | ⟨2, _⟩ => show 0 + 1 * h.val = h.val; omega
      | ⟨3, _⟩ => show 0 + 1 * d.val = d.val; omega
  · congr 1
    refine Finset.sum_congr rfl fun d _ => congrArg₂ (fun x y : EReal => x * y) (congrArg p ?_) (congrArg p ?_) <;>
    · funext a; apply Fin.ext; match a with
      | ⟨0, _⟩ => rfl
      | ⟨1, _⟩ => rfl
      | ⟨2, _⟩ => show 0 + 1 * h.val = h.val; omega
      | ⟨3, _⟩ => show 0 + 1 * d.val = d.val; omega

/-- A column's entries kept where a mask says so, summed. -/
theorem mask_apply (c : IVec S4x1 1) (x : FVec Ideal S4x1 .f32) :
    shapeCast S1x1 (multiReduction .add [0] S1 (select c x (broadcast S4x1 (Scalar.ofBits (F := Ideal) .f32 0x00000000#32)))
      0x00000000#32 reduces_S4x1_S1 (.inl rfl) rfl : FVec Ideal S1 .f32) shapeCasts_S1_S1x1 (ix2 0 0) = ∑ h : Fin 4, (if c (ix2 h 0) = 1 then x (ix2 h 0) else 0) := by
  refine (shapeCast_apply _ _ (ix2 0 0) (ix1 0) (by rewrite [Shape.rowMajor_val_one, Shape.rowMajor_val_two]; rfl)).trans ?_
  refine (Ideal.multiReduction_add_single _ _ _ _ _ _).trans ?_
  refine Finset.sum_congr rfl fun h _ => ?_
  rw [show reduces_S4x1_S1.lift (ix1 0) h = ix2 h 0 from by funext a; apply Fin.ext; match a with | ⟨0, _⟩ => rfl | ⟨1, _⟩ => rfl]
  show (if c (ix2 h 0) = 1 then x (ix2 h 0) else Ideal.ofBits .f32 0x00000000#32) = _
  rw [zero_f32]

/-- The masked sums pick head `2 h + j`. -/
theorem pay5_apply (h : Fin 2) (x : FVec Ideal S4x1 .f32) :
    k0_pay5 (F := Ideal) (BitVec.ofNat 32 h.val) x (iota .tc S4x1 32 [0] iota_S4x1_d0_w32) (ix2 0 0) = x (ix2 ⟨2 * h.val + 0, by omega⟩ 0) := by
  unfold k0_pay5
  refine (mask_apply _ x).trans ?_
  rw [Fin.sum_univ_four]
  match h with
  | 0 => rw [if_pos (by decide), if_neg (by decide), if_neg (by decide), if_neg (by decide)]; simp
  | 1 => rw [if_neg (by decide), if_neg (by decide), if_pos (by decide), if_neg (by decide)]; simp

theorem pay13_apply (h : Fin 2) (x : FVec Ideal S4x1 .f32) :
    k0_pay13 (F := Ideal) (BitVec.ofNat 32 h.val) x (iota .tc S4x1 32 [0] iota_S4x1_d0_w32) (ix2 0 0) = x (ix2 ⟨2 * h.val + 1, by omega⟩ 0) := by
  unfold k0_pay13
  refine (mask_apply _ x).trans ?_
  rw [Fin.sum_univ_four]
  match h with
  | 0 => rw [if_neg (by decide), if_pos (by decide), if_neg (by decide), if_neg (by decide)]; simp
  | 1 => rw [if_neg (by decide), if_neg (by decide), if_neg (by decide), if_pos (by decide)]; simp

/-! ## The stored block -/

/-- One half-head's attention at a row, over the blocks. -/
abbrev half (q : Vec Ideal S512x256 .bf16) (k v : Vec Ideal S2048x256 .bf16) (ck cv : Vec Ideal S1x256x256 .f32) (r : Fin 512) (j s : Fin 2) (e : Fin 128) : EReal :=
  attnK (sc (fun d => q (ix2 r (qcol j s d))) (fun c d => joined k ck c (qcol j s d))) (fun c => joined v cv c (hcol j e))

/-- A half-head sliced out of the blocks. -/
theorem half_eq (q : Vec Ideal S512x256 .bf16) (k v : Vec Ideal S2048x256 .bf16) (ck cv : Vec Ideal S1x256x256 .f32) (r : Fin 512) (e : Fin 128) (j s : Fin 2)
    (a b : Nat) (ha : j.val * 128 = a) (hb : s.val * 64 = b) (h₁ h₂ h₃ h₄ h₅) :
    pv (expo (extractStridedSlice S512x64 ![0, b] (extractStridedSlice S512x128 ![0, a] q h₁ : FVec Ideal S512x128 .bf16) h₂)
        (extractStridedSlice S2304x64 ![0, b] (extractStridedSlice S2304x128 ![0, a] (k0_pay3 (F := Ideal) k ck) h₃ : FVec Ideal S2304x128 .bf16) h₄))
      (extractStridedSlice S2304x128 ![0, a] (k0_pay4 (F := Ideal) v cv) h₅) (ix2 r e) = half q k v ck cv r j s e := by
  rw [pv_expo_apply]
  unfold half
  congr 1
  · congr 1
    · funext d
      exact slice_q q a b h₁ h₂ r d (qcol j s d) (by show j.val * 128 + s.val * 64 + d.val = _; omega)
    · funext c d
      exact (slice_q (k0_pay3 (F := Ideal) k ck) a b h₃ h₄ c d (qcol j s d) (by show j.val * 128 + s.val * 64 + d.val = _; omega)).trans (pay3_apply k ck c _)
  · funext c
    exact (slice_v (k0_pay3 (F := Ideal) v cv) a h₅ c e (hcol j e) (by show j.val * 128 + e.val = _; omega)).trans (pay3_apply v cv c _)

/-- What a grid point stores: head `j` of its pair of heads, row `r` of its tile. -/
theorem out_apply (i : grid0.Coords) (h : Fin 2) (hi : (i 1).val = h.val) (x0 : Vec Ideal S1x4x4x64 .f32) (x1 : Vec Ideal S1x128 .f32) (x2 : Vec Ideal S512x256 .bf16)
    (x3 x4 : Vec Ideal S2048x256 .bf16) (x5 x6 : Vec Ideal S1x256x256 .f32) (r : Fin 512) (j : Fin 2) (e : Fin 128) :
    out0_7 (F := Ideal) i x0 x1 x2 x3 x4 x5 x6 (ix2 r (hcol j e))
      = nrm (fun c => half x2 x3 x4 x5 x6 r j 0 c - lamOf x0 ⟨2 * h.val + j.val, by omega⟩ * half x2 x3 x4 x5 x6 r j 1 c) (fun c => x1 (ix2 0 c)) e := by
  unfold out0_7 k0_pay22 k0_pay21 k0_pay20 k0_pay19
  have hz2 : (![0, 0] : Fin 2 → Nat) = fun _ => 0 := funext fun a => by fin_cases a <;> rfl
  have hz3 : (![0, 0, 0] : Fin 3 → Nat) = fun _ => 0 := funext fun a => by fin_cases a <;> rfl
  rw [View.canon_unit_zero (S := S512x256) hz2]
  simp only [View.ld_unit_zero (S := S512x256) hz2, View.ld_unit_zero (S := S2048x256) hz2, View.ld_unit_zero (S := S1x128) hz2, View.ld_unit_zero (S := S1x256x256) hz3]
  rw [hi, pay1_eq, truncf_apply]
  match j with
  | 0 =>
    refine (concatenate_pair_apply_left (t := S512x256) (s₁ := S512x128) (s₂ := S512x128) 1 _ _ _ (ix2 r (hcol 0 e)) rfl (ix2 r e)
      (fun b => by match b with | ⟨0, _⟩ => rfl | ⟨1, _⟩ => show e.val = 0 * 128 + e.val; omega)).trans ?_
    rw [pay12_eq, fin_apply]
    congr 1
    funext c
    rw [dif_apply, pay5_apply, pay2_apply, pay9_eq, pay10_eq]
    exact congrArg₂ (fun x y : EReal => x - lamOf x0 ⟨2 * h.val + 0, by omega⟩ * y)
      (half_eq x2 x3 x4 x5 x6 r c 0 0 0 0 rfl rfl slices_S512x256_o0_0_S512x128 slices_S512x128_o0_0_S512x64 slices_S2304x256_o0_0_S2304x128 slices_S2304x128_o0_0_S2304x64 slices_S2304x256_o0_0_S2304x128) (half_eq x2 x3 x4 x5 x6 r c 0 1 0 64 rfl rfl slices_S512x256_o0_0_S512x128 slices_S512x128_o0_64_S512x64 slices_S2304x256_o0_0_S2304x128 slices_S2304x128_o0_64_S2304x64 slices_S2304x256_o0_0_S2304x128)
  | 1 =>
    refine (concatenate_pair_apply_right (t := S512x256) (s₁ := S512x128) (s₂ := S512x128) 1 _ _ _ (ix2 r (hcol 1 e)) rfl rfl (ix2 r e)
      (fun b hb => by match b with | ⟨0, _⟩ => rfl | ⟨1, _⟩ => exact absurd rfl hb) (by show e.val + 128 = 1 * 128 + e.val; omega)).trans ?_
    rw [fin_apply]
    congr 1
    funext c
    rw [dif_apply, pay13_apply, pay2_apply, pay17_eq]
    exact congrArg₂ (fun x y : EReal => x - lamOf x0 ⟨2 * h.val + 1, by omega⟩ * y)
      (half_eq x2 x3 x4 x5 x6 r c 1 0 128 0 rfl rfl slices_S512x256_o0_128_S512x128 slices_S512x128_o0_0_S512x64 slices_S2304x256_o0_128_S2304x128 slices_S2304x128_o0_0_S2304x64 slices_S2304x256_o0_128_S2304x128) (half_eq x2 x3 x4 x5 x6 r c 1 1 128 64 rfl rfl slices_S512x256_o0_128_S512x128 slices_S512x128_o0_64_S512x64 slices_S2304x256_o0_128_S2304x128 slices_S2304x128_o0_64_S2304x64 slices_S2304x256_o0_128_S2304x128)

end Cert.DiffKernelIdeal.Diff

end
-- ==== Proof.DiffBlocks.lean ====
/-
  THE DIFFERENTIAL ATTENTION'S BLOCKS: which entries of the arguments the body finds in its staged blocks at a grid point
  (point `8 b + 4 h + i` is tile `i` of sequence `b`, heads `2 h` and `2 h + 1`), and what the call leaves at an index of
  its result (`result_apply`).
-/
module

public import proofs.«01_k».proof.Proof.DiffPayload
public import proofs.«01_k».proof.Proof.Gen.DiffKernelIdeal.Value

@[expose] public section

set_option maxRecDepth 16384

noncomputable section

namespace Cert.DiffKernelIdeal.Diff

open Cert.DiffKernelIdeal Cert.DiffKernelIdeal.Gen Cert.DiffKernelIdeal.Value Cert.AttnMath Idealize.ShloMosaic Idealize.ShloMosaic.TcCoe Idealize.SL.Sem
open Idealize.ShloMosaic.ValueIdx

variable (m : (ℓ : Loc nD τ sig) → Buf (Elt Ideal) ℓ)

/-- The grid point of a sequence, a pair of heads and a tile. -/
abbrev pt (b h : Fin 2) (i : Fin 4) : Fin cfg0.N := ⟨8 * b.val + 4 * h.val + i.val, lt_of_lt_of_eq (by omega) N_0.symm⟩

/-- The block indices of every window at every grid point. -/
theorem idx_all : ∀ (b h : Fin 2) (i : Fin 4),
    ((win0_0.index (pt b h i) (0 : Fin 4) = 0 ∧ win0_0.index (pt b h i) (1 : Fin 4) = 0 ∧ win0_0.index (pt b h i) (2 : Fin 4) = 0 ∧ win0_0.index (pt b h i) (3 : Fin 4) = 0)
    ∧ (win0_1.index (pt b h i) (0 : Fin 2) = 0 ∧ win0_1.index (pt b h i) (1 : Fin 2) = 0))
    ∧ (win0_2.index (pt b h i) (0 : Fin 2) = 8 + b.val * 4 + i.val ∧ win0_2.index (pt b h i) (1 : Fin 2) = 3 + h.val)
    ∧ (win0_3.index (pt b h i) (0 : Fin 2) = 2 + b.val ∧ win0_3.index (pt b h i) (1 : Fin 2) = 5 + h.val)
    ∧ (win0_4.index (pt b h i) (0 : Fin 2) = 2 + b.val ∧ win0_4.index (pt b h i) (1 : Fin 2) = 7 + h.val)
    ∧ (win0_5.index (pt b h i) (0 : Fin 3) = b.val ∧ win0_5.index (pt b h i) (1 : Fin 3) = 0 ∧ win0_5.index (pt b h i) (2 : Fin 3) = h.val)
    ∧ (win0_6.index (pt b h i) (0 : Fin 3) = b.val ∧ win0_6.index (pt b h i) (1 : Fin 3) = 0 ∧ win0_6.index (pt b h i) (2 : Fin 3) = h.val)
    ∧ (win0_7.index (pt b h i) (0 : Fin 2) = b.val * 4 + i.val ∧ win0_7.index (pt b h i) (1 : Fin 2) = h.val) := by
  decide +kernel

/-- The second grid coordinate is the pair of heads, and every point writes back. -/
theorem coord_all : ∀ (b h : Fin 2) (i : Fin 4), (grid0.coords (pt b h i) 1).val = h.val ∧ (cfg0.win 7).flush (pt b h i) = true := by
  decide +kernel

theorem blk0 (c : Dev nD) (b h : Fin 2) (i : Fin 4) (x y : Fin 4) (d : Fin 64) :
    (iblk m c 0 (pt b h i) : Vec Ideal S1x4x4x64 .f32) (ix4 0 x y d) = m ((c : Thread nD τ).loc main_arg3) (ix4 0 x y d) := by
  unfold iblk
  rw [View.read_apply]
  show V m c main_arg3 _ = V m c main_arg3 _
  congr 1
  funext a
  apply Fin.ext
  obtain ⟨⟨⟨h0, h1, h2, h3⟩, -⟩, -⟩ := idx_all b h i
  match a with
  | ⟨0, _⟩ => show win0_0.index (pt b h i) 0 * 1 + 1 * 0 = 0; omega
  | ⟨1, _⟩ => show win0_0.index (pt b h i) 1 * 4 + 1 * x.val = x.val; omega
  | ⟨2, _⟩ => show win0_0.index (pt b h i) 2 * 4 + 1 * y.val = y.val; omega
  | ⟨3, _⟩ => show win0_0.index (pt b h i) 3 * 64 + 1 * d.val = d.val; omega

theorem blk1 (c : Dev nD) (b h : Fin 2) (i : Fin 4) (e : Fin 128) :
    (iblk m c 1 (pt b h i) : Vec Ideal S1x128 .f32) (ix2 0 e) = m ((c : Thread nD τ).loc main_arg4) (ix2 0 e) := by
  unfold iblk
  rw [View.read_apply]
  show V m c main_arg4 _ = V m c main_arg4 _
  congr 1
  funext a
  apply Fin.ext
  obtain ⟨⟨-, h0, h1⟩, -⟩ := idx_all b h i
  match a with
  | ⟨0, _⟩ => show win0_1.index (pt b h i) 0 * 1 + 1 * 0 = 0; omega
  | ⟨1, _⟩ => show win0_1.index (pt b h i) 1 * 128 + 1 * e.val = e.val; omega

theorem blk2 (c : Dev nD) (b h : Fin 2) (i : Fin 4) (r : Fin 512) (k : Fin 256) (R : Fin 8192) (C : Fin 2304)
    (hR : R.val = 4096 + b.val * 2048 + i.val * 512 + r.val) (hC : C.val = 768 + h.val * 256 + k.val) :
    (iblk m c 2 (pt b h i) : Vec Ideal S512x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, ⟨h0, h1⟩, -⟩ := idx_all b h i
  match a with
  | ⟨0, _⟩ => show win0_2.index (pt b h i) 0 * 512 + 1 * r.val = R.val; omega
  | ⟨1, _⟩ => show win0_2.index (pt b h i) 1 * 256 + 1 * k.val = C.val; omega

theorem blk3 (c : Dev nD) (b h : Fin 2) (i : Fin 4) (r : Fin 2048) (k : Fin 256) (R : Fin 8192) (C : Fin 2304)
    (hR : R.val = 4096 + b.val * 2048 + r.val) (hC : C.val = 1280 + h.val * 256 + k.val) :
    (iblk m c 3 (pt b h i) : Vec Ideal S2048x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, -, ⟨h0, h1⟩, -⟩ := idx_all b h i
  match a with
  | ⟨0, _⟩ => show win0_3.index (pt b h i) 0 * 2048 + 1 * r.val = R.val; omega
  | ⟨1, _⟩ => show win0_3.index (pt b h i) 1 * 256 + 1 * k.val = C.val; omega

theorem blk4 (c : Dev nD) (b h : Fin 2) (i : Fin 4) (r : Fin 2048) (k : Fin 256) (R : Fin 8192) (C : Fin 2304)
    (hR : R.val = 4096 + b.val * 2048 + r.val) (hC : C.val = 1792 + h.val * 256 + k.val) :
    (iblk m c 4 (pt b h i) : Vec Ideal S2048x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, -, -, ⟨h0, h1⟩, -⟩ := idx_all b h i
  match a with
  | ⟨0, _⟩ => show win0_4.index (pt b h i) 0 * 2048 + 1 * r.val = R.val; omega
  | ⟨1, _⟩ => show win0_4.index (pt b h i) 1 * 256 + 1 * k.val = C.val; omega

theorem blk5 (c : Dev nD) (b h : Fin 2) (i : Fin 4) (r : Fin 256) (k : Fin 256) (C : Fin 512) (hC : C.val = h.val * 256 + k.val) :
    (iblk m c 5 (pt b h i) : Vec Ideal S1x256x256 .f32) (ix3 0 r k) = m ((c : Thread nD τ).loc main_arg1) (ix3 b r C) := by
  unfold iblk
  rw [View.read_apply]
  show V m c main_arg1 _ = V m c main_arg1 _
  congr 1
  funext a
  apply Fin.ext
  obtain ⟨-, -, -, -, ⟨h0, h1, h2⟩, -⟩ := idx_all b h i
  match a with
  | ⟨0, _⟩ => show win0_5.index (pt b h i) 0 * 1 + 1 * 0 = b.val; omega
  | ⟨1, _⟩ => show win0_5.index (pt b h i) 1 * 256 + 1 * r.val = r.val; omega
  | ⟨2, _⟩ => show win0_5.index (pt b h i) 2 * 256 + 1 * k.val = C.val; omega

theorem blk6 (c : Dev nD) (b h : Fin 2) (i : Fin 4) (r : Fin 256) (k : Fin 256) (C : Fin 512) (hC : C.val = h.val * 256 + k.val) :
    (iblk m c 6 (pt b h i) : Vec Ideal S1x256x256 .f32) (ix3 0 r k) = m ((c : Thread nD τ).loc main_arg2) (ix3 b r C) := by
  unfold iblk
  rw [View.read_apply]
  show V m c main_arg2 _ = V m c main_arg2 _
  congr 1
  funext a
  apply Fin.ext
  obtain ⟨-, -, -, -, -, ⟨h0, h1, h2⟩, -⟩ := idx_all b h i
  match a with
  | ⟨0, _⟩ => show win0_6.index (pt b h i) 0 * 1 + 1 * 0 = b.val; omega
  | ⟨1, _⟩ => show win0_6.index (pt b h i) 1 * 256 + 1 * r.val = r.val; omega
  | ⟨2, _⟩ => show win0_6.index (pt b h i) 2 * 256 + 1 * k.val = C.val; omega

/-! ## The result at an index -/

/-- Row `n` of sequence `b`, in the array of both batches' projections. -/
abbrev prow (b : Fin 2) (n : Fin 2048) : Fin 8192 := ⟨4096 + b.val * 2048 + n.val, by omega⟩
/-- Head `h`'s column `e` in the key, value or query part of a projection row. -/
abbrev pcol (o : Nat) (ho : o + 512 ≤ 2304) (h : Fin 4) (e : Fin 128) : Fin 2304 := ⟨o + h.val * 128 + e.val, by omega⟩
/-- Head `h`'s column `e` among the 512 of all heads. -/
abbrev col (h : Fin 4) (e : Fin 128) : Fin 512 := ⟨h.val * 128 + e.val, by omega⟩
/-- Column `d` of half `s` of a head. -/
abbrev hc (s : Fin 2) (d : Fin 64) : Fin 128 := ⟨s.val * 64 + d.val, by omega⟩

/-- A sequence's rows of one part of the projection with the cached rows joined on below, at a head's column. -/
def rows (x : FVec Ideal S8192x2304 .bf16) (y : FVec Ideal S2x256x512 .f32) (o : Nat) (ho : o + 512 ≤ 2304) (b : Fin 2) (h : Fin 4) (k : Fin 2304) (e : Fin 128) : EReal :=
  if hk : k.val < 2048 then x (ix2 (prow b ⟨k.val, hk⟩) (pcol o ho h e)) else y (ix3 b ⟨k.val - 2048, by omega⟩ (col h e))

/-- One half of a head's attention, over the arguments. -/
def att (x : FVec Ideal S8192x2304 .bf16) (ck cv : FVec Ideal S2x256x512 .f32) (b : Fin 2) (n : Fin 2048) (h : Fin 4) (s : Fin 2) (e : Fin 128) : EReal :=
  attnK (sc (fun d => x (ix2 (prow b n) (pcol 768 (by decide) h (hc s d)))) (fun k d => rows x ck 1280 (by decide) b h k (hc s d))) (fun k => rows x cv 1792 (by decide) b h k e)

/-- Head `2 h + j` of a pair. -/
abbrev hd (h j : Fin 2) : Fin 4 := ⟨2 * h.val + j.val, by omega⟩

theorem joined_k (c : Dev nD) (b h : Fin 2) (i : Fin 4) (j : Fin 2) (k : Fin 2304) (e : Fin 128) (ke : Fin 256) (hke : ke.val = j.val * 128 + e.val) :
    joined (iblk m c 3 (pt b h i)) (iblk m c 5 (pt b h i)) k ke
      = rows (m ((c : Thread nD τ).loc main_arg0)) (m ((c : Thread nD τ).loc main_arg1)) 1280 (by decide) b (hd h j) k e := by
  unfold joined rows
  split
  · exact blk3 m c b h i _ _ _ _ rfl (by show 1280 + (2 * h.val + j.val) * 128 + e.val = 1280 + h.val * 256 + ke.val; omega)
  · exact blk5 m c b h i _ _ _ (by show (2 * h.val + j.val) * 128 + e.val = h.val * 256 + ke.val; omega)

theorem joined_v (c : Dev nD) (b h : Fin 2) (i : Fin 4) (j : Fin 2) (k : Fin 2304) (e : Fin 128) (ke : Fin 256) (hke : ke.val = j.val * 128 + e.val) :
    joined (iblk m c 4 (pt b h i)) (iblk m c 6 (pt b h i)) k ke
      = rows (m ((c : Thread nD τ).loc main_arg0)) (m ((c : Thread nD τ).loc main_arg2)) 1792 (by decide) b (hd h j) k e := by
  unfold joined rows
  split
  · exact blk4 m c b h i _ _ _ _ rfl (by show 1792 + (2 * h.val + j.val) * 128 + e.val = 1792 + h.val * 256 + ke.val; omega)
  · exact blk6 m c b h i _ _ _ (by show (2 * h.val + j.val) * 128 + e.val = h.val * 256 + ke.val; omega)

theorem half_att (c : Dev nD) (b h : Fin 2) (i : Fin 4) (r : Fin 512) (j s : Fin 2) (e : Fin 128) :
    half (iblk m c 2 (pt b h i)) (iblk m c 3 (pt b h i)) (iblk m c 4 (pt b h i)) (iblk m c 5 (pt b h i)) (iblk m c 6 (pt b h i)) r j s e
      = att (m ((c : Thread nD τ).loc main_arg0)) (m ((c : Thread nD τ).loc main_arg1)) (m ((c : Thread nD τ).loc main_arg2)) b ⟨i.val * 512 + r.val, by omega⟩ (hd h j) s e := by
  unfold half att
  congr 1
  · congr 1
    · funext d
      exact blk2 m c b h i r _ _ _ (by show 4096 + b.val * 2048 + (i.val * 512 + r.val) = _; omega)
        (by show 768 + (2 * h.val + j.val) * 128 + (s.val * 64 + d.val) = 768 + h.val * 256 + (j.val * 128 + s.val * 64 + d.val); omega)
    · funext k d
      exact joined_k m c b h i j k (hc s d) _ (by show j.val * 128 + s.val * 64 + d.val = j.val * 128 + (s.val * 64 + d.val); omega)
  · funext k
    exact joined_v m c b h i j k e _ rfl

/-- What the call leaves at row `n` of sequence `b`, head `h`, column `e`, over the arguments. -/
def res (x : FVec Ideal S8192x2304 .bf16) (ck cv : FVec Ideal S2x256x512 .f32) (p : FVec Ideal S1x4x4x64 .f32) (g : FVec Ideal S1x128 .f32)
    (b : Fin 2) (n : Fin 2048) (h : Fin 4) (e : Fin 128) : EReal :=
  nrm (fun c => att x ck cv b n h 0 c - lamOf p h * att x ck cv b n h 1 c) (fun c => g (ix2 0 c)) e

theorem result_tile (c : Dev nD) (b h : Fin 2) (i : Fin 4) (r : Fin 512) (j : Fin 2) (e : Fin 128) (R : Fin 4096) (C : Fin 512)
    (hR : R.val = b.val * 2048 + i.val * 512 + r.val) (hC : C.val = (2 * h.val + j.val) * 128 + e.val) :
    ((dats m 0 c).arrAt 7 cfg0.N : Vec Ideal S4096x512 .bf16) (ix2 R C)
      = res (m ((c : Thread nD τ).loc main_arg0)) (m ((c : Thread nD τ).loc main_arg1)) (m ((c : Thread nD τ).loc main_arg2)) (m ((c : Thread nD τ).loc main_arg3)) (m ((c : Thread nD τ).loc main_arg4))
          b ⟨i.val * 512 + r.val, by omega⟩ (hd h j) e := by
  obtain ⟨-, -, -, -, -, -, h0, h1⟩ := idx_all b h i
  obtain ⟨hco, hfl⟩ := coord_all b h i
  have e1 := congrFun (blocks7 m c (pt b h i) hfl) (ix2 r (hcol j e))
  rw [flushed7] at e1
  refine Eq.trans ?_ (e1.trans ?_)
  · rw [View.read_apply]
    show ((dats m 0 c).arrAt 7 cfg0.N : Vec Ideal S4096x512 .bf16) (ix2 R C) = ((dats m 0 c).arrAt 7 cfg0.N : Vec Ideal S4096x512 .bf16) _
    congr 1
    funext a
    apply Fin.ext
    match a with
    | ⟨0, _⟩ => show R.val = win0_7.index (pt b h i) 0 * 512 + 1 * r.val; omega
    | ⟨1, _⟩ => show C.val = win0_7.index (pt b h i) 1 * 256 + 1 * (j.val * 128 + e.val); omega
  · refine (out_apply (grid0.coords (pt b h i)) h hco (iblk m c 0 (pt b h i)) (iblk m c 1 (pt b h i)) (iblk m c 2 (pt b h i)) (iblk m c 3 (pt b h i))
      (iblk m c 4 (pt b h i)) (iblk m c 5 (pt b h i)) (iblk m c 6 (pt b h i)) r j e).trans ?_
    unfold res
    have hl : lamOf (iblk m c 0 (pt b h i)) (hd h j) = lamOf (m ((c : Thread nD τ).loc main_arg3)) (hd h j) := by
      unfold lamOf; simp only [blk0 m c b h i]
    have hg : (fun k : Fin 128 => (iblk m c 1 (pt b h i) : Vec Ideal S1x128 .f32) (ix2 0 k)) = fun k => m ((c : Thread nD τ).loc main_arg4) (ix2 0 k) :=
      funext fun k => blk1 m c b h i k
    rw [hg]
    refine congrArg (fun o : Fin 128 → EReal => nrm o _ e) (funext fun k => ?_)
    rw [hl, half_att m c b h i r j 0 k, half_att m c b h i r j 1 k]

end Cert.DiffKernelIdeal.Diff

end
-- ==== Proof.DiffReference.lean ====
/-
  THE REFERENCE'S DIFFERENTIAL ATTENTION read at an index (extended reals), stage by stage: the projection's rows joined with the
  cached ones, the scores, the normalized exponentials, the scale, the weighted values and the normalized result.
-/
module

public import proofs.«01_k».proof.Proof.DiffBlocks
public import proofs.«01_k».proof.Proof.Gen.DiffReferenceIdeal.Read
public import Idealize.ShloMosaic.Lib.KernelVsHost

@[expose] public section

set_option maxRecDepth 16384

noncomputable section

namespace Cert.DiffReferenceIdeal.Diff

open Cert.DiffReferenceIdeal Cert.DiffReferenceIdeal.Gen Cert.DiffReferenceIdeal.Read Cert.AttnMath Idealize.ShloMosaic Idealize.ShloMosaic.TcCoe Idealize.SL.Sem
open Idealize.ShloMosaic.ValueIdx
open Cert.DiffKernelIdeal.Diff (zero_f32 prow pcol col hc rows lamOf nrm)

variable (x0 : FVec Ideal S8192x2304 .bf16) (x1 x2 : FVec Ideal S2x256x512 .f32) (x3 : FVec Ideal S1x4x4x64 .f32) (x4 : FVec Ideal S1x128 .f32)

theorem ref_q (b : Fin 2) (n : Fin 2048) (h : Fin 4) (s : Fin 2) (d : Fin 64) :
    val_main_v3 (F := Ideal) x0 (ix5 b n h s d) = x0 (ix2 (prow b n) (pcol 768 (by decide) h (hc s d))) := by
  rw [val_main_v3_apply, val_main_v2_apply, val_main_v1_apply, val_main_v0_apply]
  refine congrArg x0 (funext fun a => Fin.ext ?_)
  match a with
  | ⟨0, _⟩ => show 4096 + ((((b.val * 2048 + n.val) * 4 + h.val) * 2 + s.val) * 64 + d.val) / 512 = 4096 + b.val * 2048 + n.val; omega
  | ⟨1, _⟩ => show 768 + ((((b.val * 2048 + n.val) * 4 + h.val) * 2 + s.val) * 64 + d.val) % 512 = 768 + h.val * 128 + (s.val * 64 + d.val); omega

theorem ref_k (b : Fin 2) (k : Fin 2304) (h : Fin 4) (s : Fin 2) (d : Fin 64) :
    val_main_v9 (F := Ideal) x0 x1 (ix5 b k h s d) = rows x0 x1 1280 (by decide) b h k (hc s d) := by
  unfold val_main_v9 rows
  split
  · rename_i hk
    refine (concatenate_pair_apply_left (t := S2x2304x4x2x64) (s₁ := S2x2048x4x2x64) (s₂ := S2x256x4x2x64) 1 _ _ _ (ix5 b k h s d) rfl (ix5 b ⟨k.val, hk⟩ h s d)
      (fun a => by match a with | ⟨0, _⟩ => rfl | ⟨1, _⟩ => rfl | ⟨2, _⟩ => rfl | ⟨3, _⟩ => rfl | ⟨4, _⟩ => rfl)).trans ?_
    rw [val_main_v5_apply, val_main_v4_apply, val_main_v1_apply, val_main_v0_apply]
    refine congrArg x0 (funext fun a => Fin.ext ?_)
    match a with
    | ⟨0, _⟩ => show 4096 + ((((b.val * 2048 + k.val) * 4 + h.val) * 2 + s.val) * 64 + d.val) / 512 = 4096 + b.val * 2048 + k.val; omega
    | ⟨1, _⟩ => show 1280 + ((((b.val * 2048 + k.val) * 4 + h.val) * 2 + s.val) * 64 + d.val) % 512 = 1280 + h.val * 128 + (s.val * 64 + d.val); omega
  · rename_i hk
    refine (concatenate_pair_apply_right (t := S2x2304x4x2x64) (s₁ := S2x2048x4x2x64) (s₂ := S2x256x4x2x64) 1 _ _ _ (ix5 b k h s d) rfl rfl (ix5 b ⟨k.val - 2048, by omega⟩ h s d)
      (fun a ha => by match a with | ⟨0, _⟩ => rfl | ⟨1, _⟩ => exact absurd rfl ha | ⟨2, _⟩ => rfl | ⟨3, _⟩ => rfl | ⟨4, _⟩ => rfl) (by show k.val - 2048 + 2048 = k.val; omega)).trans ?_
    rw [val_main_v8_apply]
    have hb : k.val - 2048 < 256 := by omega
    refine congrArg x1 (funext fun a => Fin.ext ?_)
    match a with
    | ⟨0, _⟩ => show ((((b.val * 256 + (k.val - 2048)) * 4 + h.val) * 2 + s.val) * 64 + d.val) / 131072 = b.val; omega
    | ⟨1, _⟩ => show ((((b.val * 256 + (k.val - 2048)) * 4 + h.val) * 2 + s.val) * 64 + d.val) / 512 % 256 = (k.val - 2048); omega
    | ⟨2, _⟩ => show ((((b.val * 256 + (k.val - 2048)) * 4 + h.val) * 2 + s.val) * 64 + d.val) % 512 = h.val * 128 + (s.val * 64 + d.val); omega

theorem ref_v (b : Fin 2) (k : Fin 2304) (h : Fin 4) (e : Fin 128) :
    val_main_v11 (F := Ideal) x0 x2 (ix4 b k h e) = rows x0 x2 1792 (by decide) b h k e := by
  unfold val_main_v11 rows
  split
  · rename_i hk
    refine (concatenate_pair_apply_left (t := S2x2304x4x128) (s₁ := S2x2048x4x128) (s₂ := S2x256x4x128) 1 _ _ _ (ix4 b k h e) rfl (ix4 b ⟨k.val, hk⟩ h e)
      (fun a => by match a with | ⟨0, _⟩ => rfl | ⟨1, _⟩ => rfl | ⟨2, _⟩ => rfl | ⟨3, _⟩ => rfl)).trans ?_
    rw [val_main_v7_apply, val_main_v6_apply, val_main_v1_apply, val_main_v0_apply]
    refine congrArg x0 (funext fun a => Fin.ext ?_)
    match a with
    | ⟨0, _⟩ => show 4096 + (((b.val * 2048 + k.val) * 4 + h.val) * 128 + e.val) / 512 = 4096 + b.val * 2048 + k.val; omega
    | ⟨1, _⟩ => show 1792 + (((b.val * 2048 + k.val) * 4 + h.val) * 128 + e.val) % 512 = 1792 + h.val * 128 + e.val; omega
  · rename_i hk
    refine (concatenate_pair_apply_right (t := S2x2304x4x128) (s₁ := S2x2048x4x128) (s₂ := S2x256x4x128) 1 _ _ _ (ix4 b k h e) rfl rfl (ix4 b ⟨k.val - 2048, by omega⟩ h e)
      (fun a ha => by match a with | ⟨0, _⟩ => rfl | ⟨1, _⟩ => exact absurd rfl ha | ⟨2, _⟩ => rfl | ⟨3, _⟩ => rfl) (by show k.val - 2048 + 2048 = k.val; omega)).trans ?_
    rw [val_main_v10_apply]
    have hb : k.val - 2048 < 256 := by omega
    refine congrArg x2 (funext fun a => Fin.ext ?_)
    match a with
    | ⟨0, _⟩ => show (((b.val * 256 + (k.val - 2048)) * 4 + h.val) * 128 + e.val) / 131072 = b.val; omega
    | ⟨1, _⟩ => show (((b.val * 256 + (k.val - 2048)) * 4 + h.val) * 128 + e.val) / 512 % 256 = (k.val - 2048); omega
    | ⟨2, _⟩ => show (((b.val * 256 + (k.val - 2048)) * 4 + h.val) * 128 + e.val) % 512 = h.val * 128 + e.val; omega

/-- A row's scores as the reference spells them: the product scaled afterwards. -/
def scR (b : Fin 2) (n : Fin 2048) (h : Fin 4) (s : Fin 2) (k : Fin 2304) : EReal :=
  (∑ d : Fin 64, x0 (ix2 (prow b n) (pcol 768 (by decide) h (hc s d))) * rows x0 x1 1280 (by decide) b h k (hc s d)) * Ideal.ofBits .f32 0x3E000000#32

theorem ref_score (b : Fin 2) (n : Fin 2048) (h : Fin 4) (s : Fin 2) (k : Fin 2304) :
    val_main_v32 (F := Ideal) x0 x1 (ix5 b h s n k) = scR x0 x1 b n h s k := by
  rw [val_main_v32_apply, val_main_v30_apply, val_main_v31_apply, val_main_cst_2_apply]
  refine congrArg (· * Ideal.ofBits .f32 0x3E000000#32) (Finset.sum_congr rfl fun d _ => ?_)
  exact congrArg₂ (· * ·)
    ((congrArg (val_main_v3 (F := Ideal) x0) (funext fun a => by match a with | ⟨0, _⟩ => rfl | ⟨1, _⟩ => rfl | ⟨2, _⟩ => rfl | ⟨3, _⟩ => rfl | ⟨4, _⟩ => rfl)).trans (ref_q x0 b n h s d))
    ((congrArg (val_main_v9 (F := Ideal) x0 x1) (funext fun a => by match a with | ⟨0, _⟩ => rfl | ⟨1, _⟩ => rfl | ⟨2, _⟩ => rfl | ⟨3, _⟩ => rfl | ⟨4, _⟩ => rfl)).trans (ref_k x0 x1 b k h s d))

theorem reduces_max : S2x4x2x2048x2304.Reduces [4] S2x4x2x2048 := by decide

/-- A maximum over the keys, from minus infinity. -/
theorem max_apply (y : FVec Ideal S2x4x2x2048x2304 .f32) (b : Fin 2) (h : Fin 4) (s : Fin 2) (n : Fin 2048) :
    Host.reduce FloatOps.maximumf y (constant S_ .f32 0xFF800000#32) reducesTo_S2x4x2x2048x2304_S2x4x2x2048_d4 h_S_ (ix4 b h s n) = rowMax (fun k => y (ix5 b h s n k)) := by
  have e := hostReduce_maximumf_eq_multiReduction y 0xFF800000#32 reducesTo_S2x4x2x2048x2304_S2x4x2x2048_d4 h_S_ reduces_max (.inl rfl) rfl
  refine (congrFun e (ix4 b h s n)).trans ?_
  refine (Ideal.multiReduction_maximumf_single _ _ _ _ _ _).trans ?_
  rw [show (FloatOps.ofBits (F := Ideal) .f32 0xFF800000#32 : Ideal .f32) = Ideal.ofBits .f32 0xFF800000#32 from rfl, bot_f32]
  have e2 : (y ∘ reduces_max.lift (ix4 b h s n)) = fun k => y (ix5 b h s n k) := by
    funext k
    exact congrArg y (by
      funext a; apply Fin.ext; match a with | ⟨0, _⟩ => rfl | ⟨1, _⟩ => rfl | ⟨2, _⟩ => rfl | ⟨3, _⟩ => rfl | ⟨4, _⟩ => rfl)
  rw [e2]
  rfl

theorem ref_max (b : Fin 2) (n : Fin 2048) (h : Fin 4) (s : Fin 2) :
    val_main_v33 (F := Ideal) x0 x1 (ix4 b h s n) = rowMax (scR x0 x1 b n h s) := by
  unfold val_main_v33
  generalize hy : val_main_v32 (F := Ideal) x0 x1 = y
  refine (max_apply y b h s n).trans ?_
  subst hy
  exact congrArg rowMax (funext fun k => ref_score x0 x1 b n h s k)

theorem ref_num (b : Fin 2) (n : Fin 2048) (h : Fin 4) (s : Fin 2) (k : Fin 2304) :
    val_main_v39 (F := Ideal) x0 x1 (ix5 b h s n k) = num (scR x0 x1 b n h s) k := by
  rw [val_main_v39_apply, val_main_v38_apply, val_main_v37_apply, val_main_v36_apply, val_main_v35_apply, val_main_v34_apply, val_main_cst_4_apply, ref_score]
  have e : idx_main_v36 (idx_main_v37 (ix5 b h s n k)) = ix4 b h s n := by
    funext a; match a with | ⟨0, _⟩ => rfl | ⟨1, _⟩ => rfl | ⟨2, _⟩ => rfl | ⟨3, _⟩ => rfl
  rw [e, ref_max]
  show Ideal.exp (scR x0 x1 b n h s k - max (Ideal.ofBits .f32 0xFF800000#32) (rowMax (scR x0 x1 b n h s))) = _
  rw [bot_f32, max_eq_right bot_le]
  rfl

theorem ref_sum (b : Fin 2) (n : Fin 2048) (h : Fin 4) (s : Fin 2) :
    val_main_v40 (F := Ideal) x0 x1 (ix4 b h s n) = ∑ k, num (scR x0 x1 b n h s) k := by
  rw [val_main_v40_apply, val_main_cst_5_apply, show (FloatOps.ofBits (F := Ideal) .f32 0x00000000#32 : Ideal .f32) = Ideal.ofBits .f32 0x00000000#32 from rfl, zero_f32, zero_add]
  refine Finset.sum_congr rfl fun k _ => ?_
  refine Eq.trans ?_ (ref_num x0 x1 b n h s k)
  exact congrArg (val_main_v39 (F := Ideal) x0 x1) (by
    funext a; match a with | ⟨0, _⟩ => rfl | ⟨1, _⟩ => rfl | ⟨2, _⟩ => rfl | ⟨3, _⟩ => rfl | ⟨4, _⟩ => rfl)

theorem ref_soft (b : Fin 2) (n : Fin 2048) (h : Fin 4) (s : Fin 2) (k : Fin 2304) :
    val_main_v43 (F := Ideal) x0 x1 (ix5 b h s n k) = Ideal.div (num (scR x0 x1 b n h s) k) (∑ j, num (scR x0 x1 b n h s) j) := by
  rw [val_main_v43_apply, ref_num, val_main_v42_apply, val_main_v41_apply]
  have e : idx_main_v41 (idx_main_v42 (ix5 b h s n k)) = ix4 b h s n := by
    funext a; match a with | ⟨0, _⟩ => rfl | ⟨1, _⟩ => rfl | ⟨2, _⟩ => rfl | ⟨3, _⟩ => rfl
  rw [e, ref_sum]
  rfl

theorem ref_lam0 (h : Fin 4) (d : Fin 64) : val_main_v14 (F := Ideal) x3 (ix2 h d) = x3 (ix4 0 0 h d) := by
  rw [val_main_v14_apply, val_main_v13_apply, val_main_v12_apply]
  have hh := h.isLt
  have hd := d.isLt
  refine congrArg x3 (funext fun a => Fin.ext ?_)
  match a with
  | ⟨0, _⟩ => rfl
  | ⟨1, _⟩ => show (((0) * 4 + (h.val * 64 + d.val) / 64 % 4) * 64 + (h.val * 64 + d.val) % 64) / 256 % 4 = 0; omega
  | ⟨2, _⟩ => show (((0) * 4 + (h.val * 64 + d.val) / 64 % 4) * 64 + (h.val * 64 + d.val) % 64) / 64 % 4 = h.val; omega
  | ⟨3, _⟩ => show (((0) * 4 + (h.val * 64 + d.val) / 64 % 4) * 64 + (h.val * 64 + d.val) % 64) % 64 = d.val; omega

theorem ref_lam1 (h : Fin 4) (d : Fin 64) : val_main_v16 (F := Ideal) x3 (ix2 h d) = x3 (ix4 0 1 h d) := by
  rw [val_main_v16_apply, val_main_v15_apply, val_main_v12_apply]
  have hh := h.isLt
  have hd := d.isLt
  refine congrArg x3 (funext fun a => Fin.ext ?_)
  match a with
  | ⟨0, _⟩ => rfl
  | ⟨1, _⟩ => show (((1 + 0) * 4 + (h.val * 64 + d.val) / 64 % 4) * 64 + (h.val * 64 + d.val) % 64) / 256 % 4 = 1; omega
  | ⟨2, _⟩ => show (((1 + 0) * 4 + (h.val * 64 + d.val) / 64 % 4) * 64 + (h.val * 64 + d.val) % 64) / 64 % 4 = h.val; omega
  | ⟨3, _⟩ => show (((1 + 0) * 4 + (h.val * 64 + d.val) / 64 % 4) * 64 + (h.val * 64 + d.val) % 64) % 64 = d.val; omega

theorem ref_lam2 (h : Fin 4) (d : Fin 64) : val_main_v21 (F := Ideal) x3 (ix2 h d) = x3 (ix4 0 2 h d) := by
  rw [val_main_v21_apply, val_main_v20_apply, val_main_v12_apply]
  have hh := h.isLt
  have hd := d.isLt
  refine congrArg x3 (funext fun a => Fin.ext ?_)
  match a with
  | ⟨0, _⟩ => rfl
  | ⟨1, _⟩ => show (((2 + 0) * 4 + (h.val * 64 + d.val) / 64 % 4) * 64 + (h.val * 64 + d.val) % 64) / 256 % 4 = 2; omega
  | ⟨2, _⟩ => show (((2 + 0) * 4 + (h.val * 64 + d.val) / 64 % 4) * 64 + (h.val * 64 + d.val) % 64) / 64 % 4 = h.val; omega
  | ⟨3, _⟩ => show (((2 + 0) * 4 + (h.val * 64 + d.val) / 64 % 4) * 64 + (h.val * 64 + d.val) % 64) % 64 = d.val; omega

theorem ref_lam3 (h : Fin 4) (d : Fin 64) : val_main_v23 (F := Ideal) x3 (ix2 h d) = x3 (ix4 0 3 h d) := by
  rw [val_main_v23_apply, val_main_v22_apply, val_main_v12_apply]
  have hh := h.isLt
  have hd := d.isLt
  refine congrArg x3 (funext fun a => Fin.ext ?_)
  match a with
  | ⟨0, _⟩ => rfl
  | ⟨1, _⟩ => show (((3 + 0) * 4 + (h.val * 64 + d.val) / 64 % 4) * 64 + (h.val * 64 + d.val) % 64) / 256 % 4 = 3; omega
  | ⟨2, _⟩ => show (((3 + 0) * 4 + (h.val * 64 + d.val) / 64 % 4) * 64 + (h.val * 64 + d.val) % 64) / 64 % 4 = h.val; omega
  | ⟨3, _⟩ => show (((3 + 0) * 4 + (h.val * 64 + d.val) / 64 % 4) * 64 + (h.val * 64 + d.val) % 64) % 64 = d.val; omega

theorem ref_lam (h : Fin 4) : val_main_v29 (F := Ideal) x3 (ix1 h) = lamOf x3 h := by
  rw [val_main_v29_apply, val_main_v27_apply, val_main_v28_apply, val_main_cst_1_apply, val_main_v19_apply, val_main_v26_apply, val_main_v18_apply, val_main_v25_apply,
    val_main_cst_apply, val_main_cst_0_apply, show (FloatOps.ofBits (F := Ideal) .f32 0x00000000#32 : Ideal .f32) = Ideal.ofBits .f32 0x00000000#32 from rfl, zero_f32, zero_add, zero_add]
  have e1 : ∑ k : Fin 64, val_main_v17 (F := Ideal) x3 (idx_main_v18 (ix1 h) k) = ∑ d : Fin 64, x3 (ix4 0 0 h d) * x3 (ix4 0 1 h d) := by
    refine Finset.sum_congr rfl fun d _ => ?_
    rw [val_main_v17_apply, show idx_main_v18 (ix1 h) d = ix2 h d from by funext a; match a with | ⟨0, _⟩ => rfl | ⟨1, _⟩ => rfl, ref_lam0, ref_lam1]
    rfl
  have e2 : ∑ k : Fin 64, val_main_v24 (F := Ideal) x3 (idx_main_v25 (ix1 h) k) = ∑ d : Fin 64, x3 (ix4 0 2 h d) * x3 (ix4 0 3 h d) := by
    refine Finset.sum_congr rfl fun d _ => ?_
    rw [val_main_v24_apply, show idx_main_v25 (ix1 h) d = ix2 h d from by funext a; match a with | ⟨0, _⟩ => rfl | ⟨1, _⟩ => rfl, ref_lam2, ref_lam3]
    rfl
  rw [e1, e2]
  rfl

/-- The weight of a row's key: the first half's less the scaled second half's. -/
theorem ref_weight (b : Fin 2) (h : Fin 4) (n : Fin 2048) (k : Fin 2304) :
    val_main_v51 (F := Ideal) x0 x1 x3 (ix4 b h n k)
      = Ideal.div (num (scR x0 x1 b n h 0) k) (∑ j, num (scR x0 x1 b n h 0) j) - lamOf x3 h * Ideal.div (num (scR x0 x1 b n h 1) k) (∑ j, num (scR x0 x1 b n h 1) j) := by
  have hb := b.isLt
  have hh := h.isLt
  have hn := n.isLt
  have hk := k.isLt
  rw [val_main_v51_apply, val_main_v45_apply, val_main_v44_apply, val_main_v50_apply, val_main_v49_apply, val_main_v46_apply, val_main_v48_apply, val_main_v47_apply]
  have i0 : idx_main_v44 (idx_main_v45 (ix4 b h n k)) = ix5 b h 0 n k := by
    funext a; apply Fin.ext
    match a with
    | ⟨0, _⟩ => show (((b.val * 4 + h.val) * 2048 + n.val) * 2304 + k.val) / 18874368 = b.val; omega
    | ⟨1, _⟩ => show (((b.val * 4 + h.val) * 2048 + n.val) * 2304 + k.val) / 4718592 % 4 = h.val; omega
    | ⟨2, _⟩ => rfl
    | ⟨3, _⟩ => show (((b.val * 4 + h.val) * 2048 + n.val) * 2304 + k.val) / 2304 % 2048 = n.val; omega
    | ⟨4, _⟩ => show (((b.val * 4 + h.val) * 2048 + n.val) * 2304 + k.val) % 2304 = k.val; omega
  have i1 : idx_main_v47 (idx_main_v48 (ix4 b h n k)) = ix5 b h 1 n k := by
    funext a; apply Fin.ext
    match a with
    | ⟨0, _⟩ => show (((b.val * 4 + h.val) * 2048 + n.val) * 2304 + k.val) / 18874368 = b.val; omega
    | ⟨1, _⟩ => show (((b.val * 4 + h.val) * 2048 + n.val) * 2304 + k.val) / 4718592 % 4 = h.val; omega
    | ⟨2, _⟩ => rfl
    | ⟨3, _⟩ => show (((b.val * 4 + h.val) * 2048 + n.val) * 2304 + k.val) / 2304 % 2048 = n.val; omega
    | ⟨4, _⟩ => show (((b.val * 4 + h.val) * 2048 + n.val) * 2304 + k.val) % 2304 = k.val; omega
  have il : idx_main_v46 (idx_main_v49 (ix4 b h n k)) = ix1 h := by
    funext a; match a with | ⟨0, _⟩ => rfl
  rw [i0, i1, il, ref_soft, ref_soft, ref_lam]
  rfl

theorem ref_att (b : Fin 2) (n : Fin 2048) (h : Fin 4) (e : Fin 128) :
    val_main_v53 (F := Ideal) x0 x1 x2 x3 (ix4 b n h e)
      = attnR (scR x0 x1 b n h 0) (scR x0 x1 b n h 1) (lamOf x3 h) (fun k => rows x0 x2 1792 (by decide) b h k e) := by
  rw [val_main_v53_apply, val_main_v52_apply]
  unfold attnR
  refine Finset.sum_congr rfl fun k _ => ?_
  exact congrArg₂ (fun x y : EReal => x * y)
    ((congrArg (val_main_v11 (F := Ideal) x0 x2) (funext fun a => by match a with | ⟨0, _⟩ => rfl | ⟨1, _⟩ => rfl | ⟨2, _⟩ => rfl | ⟨3, _⟩ => rfl)).trans (ref_v x0 x2 b k h e))
    ((congrArg (val_main_v51 (F := Ideal) x0 x1 x3) (funext fun a => by match a with | ⟨0, _⟩ => rfl | ⟨1, _⟩ => rfl | ⟨2, _⟩ => rfl | ⟨3, _⟩ => rfl)).trans (ref_weight x0 x1 x3 b h n k))

theorem ref_sq (b : Fin 2) (n : Fin 2048) (h : Fin 4) :
    val_main_v55 (F := Ideal) x0 x1 x2 x3 (ix3 b n h) = ∑ c, val_main_v53 (F := Ideal) x0 x1 x2 x3 (ix4 b n h c) * val_main_v53 (F := Ideal) x0 x1 x2 x3 (ix4 b n h c) := by
  rw [val_main_v55_apply, val_main_cst_6_apply, show (FloatOps.ofBits (F := Ideal) .f32 0x00000000#32 : Ideal .f32) = Ideal.ofBits .f32 0x00000000#32 from rfl, zero_f32, zero_add]
  refine Finset.sum_congr rfl fun c _ => ?_
  rw [val_main_v54_apply, show idx_main_v55 (ix3 b n h) c = ix4 b n h c from by
    funext a; match a with | ⟨0, _⟩ => rfl | ⟨1, _⟩ => rfl | ⟨2, _⟩ => rfl | ⟨3, _⟩ => rfl]
  rfl

/-- The reference's result at an index. -/
theorem ref_apply (b : Fin 2) (n : Fin 2048) (h : Fin 4) (e : Fin 128) (R : Fin 4096) (C : Fin 512) (hR : R.val = b.val * 2048 + n.val) (hC : C.val = h.val * 128 + e.val) :
    val_main_v71 (F := Ideal) x0 x1 x2 x3 x4 (ix2 R C)
      = nrm (fun c => attnR (scR x0 x1 b n h 0) (scR x0 x1 b n h 1) (lamOf x3 h) (fun k => rows x0 x2 1792 (by decide) b h k c)) (fun c => x4 (ix2 0 c)) e := by
  have hb := b.isLt
  have hh := h.isLt
  have hn := n.isLt
  have he := e.isLt
  have i70 : idx_main_v70 (ix2 R C) = ix4 b n h e := by
    funext a; apply Fin.ext
    match a with
    | ⟨0, _⟩ => show (R.val * 512 + C.val) / 1048576 = b.val; omega
    | ⟨1, _⟩ => show (R.val * 512 + C.val) / 512 % 2048 = n.val; omega
    | ⟨2, _⟩ => show (R.val * 512 + C.val) / 128 % 4 = h.val; omega
    | ⟨3, _⟩ => show (R.val * 512 + C.val) % 128 = e.val; omega
  have i56 : idx_main_v56 (idx_main_v62 (ix4 b n h e)) = ix3 b n h := by
    funext a; match a with | ⟨0, _⟩ => rfl | ⟨1, _⟩ => rfl | ⟨2, _⟩ => rfl
  have ig : idx_main_v64 (idx_main_v65 (idx_main_v66 (ix4 b n h e))) = ix2 0 e := by
    funext a; apply Fin.ext
    match a with
    | ⟨0, _⟩ => rfl
    | ⟨1, _⟩ => show e.val % 128 = e.val; omega
  rw [val_main_v71_apply, val_main_v70_apply, i70, val_main_v69_apply, val_main_v67_apply, val_main_v63_apply, val_main_v62_apply, val_main_v61_apply, val_main_v60_apply, val_main_v58_apply,
    val_main_v59_apply, val_main_cst_8_apply, val_main_v57_apply, val_main_cst_7_apply, val_main_v56_apply, i56, ref_sq, val_main_v66_apply, val_main_v65_apply, val_main_v64_apply, ig,
    val_main_v68_apply, val_main_cst_9_apply]
  have ho : (fun c => val_main_v53 (F := Ideal) x0 x1 x2 x3 (ix4 b n h c)) = fun c => attnR (scR x0 x1 b n h 0) (scR x0 x1 b n h 1) (lamOf x3 h) (fun k => rows x0 x2 1792 (by decide) b h k c) :=
    funext fun c => ref_att x0 x1 x2 x3 b n h c
  exact congrArg (fun o : Fin 128 → EReal => nrm o (fun c => x4 (ix2 0 c)) e) ho

end Cert.DiffReferenceIdeal.Diff

end
-- ==== Proof.DiffValue.lean ====
/-
  THE KERNEL'S DIFFERENTIAL ATTENTION IS THE REFERENCE'S, at finite arguments: the scores, the values and the scale are reals there, and
  over the reals dividing each half's weighted values by its own sum and then subtracting is weighting by the difference.
-/
module

public import proofs.«01_k».proof.Proof.DiffReference

@[expose] public section

set_option maxRecDepth 16384

noncomputable section

namespace Cert.DiffKernelIdeal.Diff

open Cert.DiffKernelIdeal Cert.DiffKernelIdeal.Gen Cert.AttnMath Idealize.ShloMosaic Idealize.ShloMosaic.TcCoe Idealize.SL.Sem
open Idealize.ShloMosaic.ValueIdx

/-- Every entry is a real. -/
def Real {s : Shape} (x : s.Idx → EReal) : Prop := ∃ f : s.Idx → ℝ, ∀ i, x i = (f i : EReal)

variable (x : FVec Ideal S8192x2304 .bf16) (ck cv : FVec Ideal S2x256x512 .f32) (p : FVec Ideal S1x4x4x64 .f32) (g : FVec Ideal S1x128 .f32)

theorem rows_real (y : FVec Ideal S2x256x512 .f32) (hx : Real (s := S8192x2304) x) (hy : Real (s := S2x256x512) y) (o : Nat) (ho : o + 512 ≤ 2304) (b : Fin 2) (h : Fin 4) :
    ∃ f : Fin 2304 → Fin 128 → ℝ, ∀ k e, rows x y o ho b h k e = (f k e : EReal) := by
  obtain ⟨fx, hfx⟩ := hx
  obtain ⟨fy, hfy⟩ := hy
  refine ⟨fun k e => if hk : k.val < 2048 then fx (ix2 (prow b ⟨k.val, hk⟩) (pcol o ho h e)) else fy (ix3 b ⟨k.val - 2048, by omega⟩ (col h e)), fun k e => ?_⟩
  unfold rows
  by_cases hk : k.val < 2048
  · simp only [dif_pos hk]; exact hfx _
  · simp only [dif_neg hk]; exact hfy _

/-- Both spellings of a row's scores are the same reals. -/
theorem scores_real (hx : Real (s := S8192x2304) x) (hk : Real (s := S2x256x512) ck) (b : Fin 2) (n : Fin 2048) (h : Fin 4) (s : Fin 2) :
    ∃ t : Fin 2304 → ℝ, sc (fun d => x (ix2 (prow b n) (pcol 768 (by decide) h (hc s d)))) (fun k d => rows x ck 1280 (by decide) b h k (hc s d)) = (fun k => (t k : EReal))
      ∧ Cert.DiffReferenceIdeal.Diff.scR x ck b n h s = fun k => (t k : EReal) := by
  obtain ⟨f, hf⟩ := rows_real x ck hx hk 1280 (by decide) b h
  obtain ⟨fx, hfx⟩ := hx
  refine ⟨fun k => ∑ d : Fin 64, fx (ix2 (prow b n) (pcol 768 (by decide) h (hc s d))) * (1 / 8) * f k (hc s d), funext fun k => ?_, funext fun k => ?_⟩
  · rw [coe_sum]
    refine Finset.sum_congr rfl fun d _ => ?_
    beta_reduce
    rw [hfx, hf, eighth_bf16, ← EReal.coe_mul, ← EReal.coe_mul]
  · unfold Cert.DiffReferenceIdeal.Diff.scR
    have e : ∀ d : Fin 64, x (ix2 (prow b n) (pcol 768 (by decide) h (hc s d))) * rows x ck 1280 (by decide) b h k (hc s d)
        = ((fx (ix2 (prow b n) (pcol 768 (by decide) h (hc s d))) * f k (hc s d) : ℝ) : EReal) := fun d => by rw [hfx, hf, ← EReal.coe_mul]
    rw [Finset.sum_congr rfl fun d _ => e d, ← coe_sum, eighth_f32, ← EReal.coe_mul, Finset.sum_mul]
    refine congrArg _ (Finset.sum_congr rfl fun d _ => by ring)

theorem lam_real (hp : Real (s := S1x4x4x64) p) (h : Fin 4) : ∃ r : ℝ, lamOf p h = (r : EReal) := by
  obtain ⟨f, hf⟩ := hp
  obtain ⟨r, hr⟩ := lamInit_f32
  have e : ∀ i j : Fin 4, ∑ d : Fin 64, p (ix4 0 i h d) * p (ix4 0 j h d) = ((∑ d : Fin 64, f (ix4 0 i h d) * f (ix4 0 j h d) : ℝ) : EReal) := fun i j => by
    rw [coe_sum]
    exact Finset.sum_congr rfl fun d _ => by rw [hf, hf, ← EReal.coe_mul]
  refine ⟨Real.exp (∑ d : Fin 64, f (ix4 0 0 h d) * f (ix4 0 1 h d)) - Real.exp (∑ d : Fin 64, f (ix4 0 2 h d) * f (ix4 0 3 h d)) + r, ?_⟩
  unfold lamOf
  rw [e, e, hr, Ideal.exp_coe, Ideal.exp_coe, ← EReal.coe_sub, ← EReal.coe_add]

theorem att_eq (hx : Real (s := S8192x2304) x) (hk : Real (s := S2x256x512) ck) (hv : Real (s := S2x256x512) cv) (hp : Real (s := S1x4x4x64) p) (b : Fin 2) (n : Fin 2048) (h : Fin 4) (e : Fin 128) :
    att x ck cv b n h 0 e - lamOf p h * att x ck cv b n h 1 e
      = attnR (Cert.DiffReferenceIdeal.Diff.scR x ck b n h 0) (Cert.DiffReferenceIdeal.Diff.scR x ck b n h 1) (lamOf p h) (fun k => rows x cv 1792 (by decide) b h k e) := by
  obtain ⟨t0, a0, r0⟩ := scores_real x ck hx hk b n h 0
  obtain ⟨t1, a1, r1⟩ := scores_real x ck hx hk b n h 1
  obtain ⟨lam, hl⟩ := lam_real p hp h
  obtain ⟨f, hf⟩ := rows_real x cv hx hv 1792 (by decide) b h
  have hv' : (fun k => rows x cv 1792 (by decide) b h k e) = fun k => (f k e : EReal) := funext fun k => hf k e
  unfold att
  rw [a0, a1, r0, r1, hl, hv']
  exact attn_eq (by decide) t0 t1 (fun k => f k e) lam

/-- The kernel's result array is the reference's. -/
theorem diff_eq (m : (ℓ : Loc nD τ sig) → Buf (Elt Ideal) ℓ) (c : Dev nD)
    (hx : Real (s := S8192x2304) (m ((c : Thread nD τ).loc main_arg0))) (hk : Real (s := S2x256x512) (m ((c : Thread nD τ).loc main_arg1)))
    (hv : Real (s := S2x256x512) (m ((c : Thread nD τ).loc main_arg2))) (hp : Real (s := S1x4x4x64) (m ((c : Thread nD τ).loc main_arg3))) :
    ((dats m 0 c).arrAt 7 cfg0.N : Vec Ideal S4096x512 .bf16)
      = Cert.DiffReferenceIdeal.Read.val_main_v71 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨R, C, rfl⟩ : ∃ (R : Fin 4096) (C : Fin 512), i = ix2 R C := ⟨i 0, i 1, by funext a; match a with | ⟨0, _⟩ => rfl | ⟨1, _⟩ => rfl⟩
  have hR := R.isLt
  have hC := C.isLt
  refine (result_tile m c ⟨R.val / 2048, by omega⟩ ⟨C.val / 256, by omega⟩ ⟨R.val % 2048 / 512, by omega⟩ ⟨R.val % 512, by omega⟩ ⟨C.val % 256 / 128, by omega⟩ ⟨C.val % 128, by omega⟩ R C
    (by show R.val = R.val / 2048 * 2048 + R.val % 2048 / 512 * 512 + R.val % 512; omega)
    (by show C.val = (2 * (C.val / 256) + C.val % 256 / 128) * 128 + C.val % 128; omega)).trans ?_
  refine Eq.trans ?_ (Cert.DiffReferenceIdeal.Diff.ref_apply _ _ _ _ _ ⟨R.val / 2048, by omega⟩ ⟨R.val % 2048 / 512 * 512 + R.val % 512, by omega⟩
    (hd ⟨C.val / 256, by omega⟩ ⟨C.val % 256 / 128, by omega⟩) ⟨C.val % 128, by omega⟩ R C
    (by show R.val = R.val / 2048 * 2048 + (R.val % 2048 / 512 * 512 + R.val % 512); omega)
    (by show C.val = (2 * (C.val / 256) + C.val % 256 / 128) * 128 + C.val % 128; omega)).symm
  unfold res
  exact congrArg (fun o : Fin 128 → EReal => nrm o _ _) (funext fun k => att_eq _ _ _ _ hx hk hv hp _ _ _ k)

end Cert.DiffKernelIdeal.Diff

end
-- ==== Proof.DiffClaims.lean ====
/- The claims about the differential attention: the runs of the program and of its reference, and the equality of their results at finite arguments. -/
module

public import proofs.«01_k».proof.Defs
public import proofs.«01_k».proof.Proof.DiffValue
public import proofs.«01_k».proof.Proof.Gen.DiffKernelIdeal.Value
public import proofs.«01_k».proof.Proof.Gen.Pre_finite_attention
public import proofs.«01_k».proof.Proof.Gen.DiffReferenceIdeal.Run
public import proofs.«01_k».proof.Proof.Gen.DiffReferenceIdeal.Read
public import Idealize.ShloMosaic.Lib.Quiescent

@[expose] public section

set_option maxRecDepth 16384

noncomputable section

namespace Cert.Proof.Diff

open Idealize.ShloMosaic Idealize.SL.Sem

/-- The reference ends, leaves its arguments as they were, and every counter at zero. -/
theorem frame_ref [Cert.DiffReferenceIdeal.Facts] : Cert.quiescent_DiffReferenceIdeal := fun m g _ =>
  (θ_run _ _ _).mono (fun r h => ⟨fun c => (h c).2, sem_eq_zero_of_no_sems (by decide) r.2⟩)
    (Cert.DiffReferenceIdeal.Value.run m g)

/-- A value whose magnitude is below plus infinity is a real. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    unfold Ideal.cmp at h
    simp only [hn, decide_false] at h
    exact absurd h (by decide)
  rw [max_lt_iff] at hlt
  exact (EReal.coe_toReal hlt.1.ne (fun e => by rw [e] at hlt; simp at hlt)).symm

/-- Program and reference end with the same result, when the projection, the two caches and the scale's parameters are finite. -/
theorem algebraic : Cert.algebraic_DiffKernelIdeal_DiffReferenceIdeal_pre_finite_attention := fun m g m' g' hpre hargs =>
  ⟨fun c => (Cert.DiffKernelIdeal.Gen.dats m 0 c).arrAt 7 Cert.DiffKernelIdeal.cfg0.N, Cert.DiffKernelIdeal.Value.run_blocks m g,
    (θ_run _ _ _).mono (fun r h c => ⟨(h c).1.trans (by
        refine (Cert.DiffReferenceIdeal.Read.val_main_v71_eq ..).trans ?_
        obtain ⟨h0, h1, h2, h3, h4⟩ := hargs c
        obtain ⟨p0, p1, p2, p3⟩ := hpre c
        rw [h0, h1, h2, h3, h4]
        exact (Cert.DiffKernelIdeal.Diff.diff_eq m c
          ⟨fun i => (_ : EReal).toReal, fun i => real_of_lt _ (congrFun p0 i)⟩
          ⟨fun i => (_ : EReal).toReal, fun i => real_of_lt _ (congrFun p1 i)⟩
          ⟨fun i => (_ : EReal).toReal, fun i => real_of_lt _ (congrFun p2 i)⟩
          ⟨fun i => (_ : EReal).toReal, fun i => real_of_lt _ (congrFun p3 i)⟩).symm), (h c).2⟩)
      (Cert.DiffReferenceIdeal.Value.run m' g')⟩

end Cert.Proof.Diff

end
-- ==== Proof.OutClaims.lean ====
/- The claims about the output projection: the runs of the program and of its reference, and the equality of their three results at finite arguments. -/
module

public import proofs.«01_k».proof.Defs
public import proofs.«01_k».proof.Proof.OutRef
public import proofs.«01_k».proof.Proof.DiffClaims
public import proofs.«01_k».proof.Proof.Gen.OutReferenceIdeal.Run
public import proofs.«01_k».proof.Proof.Gen.Pre_finite_router
public import Idealize.ShloMosaic.Lib.Quiescent

@[expose] public section

set_option maxRecDepth 16384

noncomputable section

namespace OutProj

open Cert.OutKernelIdeal Cert.OutKernelIdeal.Gen Cert.OutMath Idealize.ShloMosaic Idealize.ShloMosaic.TcCoe Idealize.SL.Sem
open Idealize.ShloMosaic.ValueIdx
open Cert.OutReferenceIdeal.Read (val_main_v46 val_main_v83 val_main_v84)

variable (m : (ℓ : Loc nD τ sig) → Buf (Elt Ideal) ℓ)

/-- The normalized residual rows. -/
theorem one_eq (c : Dev nD) : ((dats m 0 c).arrAt 10 cfg0.N : Vec Ideal S8192x1024 .f32)
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  rw [eq_ix2 j]
  exact (one_apply m c (j 0) (j 1)).trans (Ref.one_ref _ _ _ _ _ _ _ _ _ (j 0) (j 1)).symm

/-- The modulated rows. -/
theorem two_eq (c : Dev nD) : ((dats m 0 c).arrAt 11 cfg0.N : Vec Ideal S8192x1024 .bf16)
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  rw [eq_ix2 j]
  exact (two_apply m c (j 0) (j 1)).trans (Ref.two_ref _ _ _ _ _ _ _ _ _ (j 0) (j 1)).symm

/-- Every entry of every argument is a real. -/
def Reals (c : Dev nD) : Prop :=
  (∀ i, IsReal (A0 m c i))
    ∧ (∀ i, IsReal (A1 m c i))
    ∧ (∀ i, IsReal (A2 m c i))
    ∧ (∀ i, IsReal (A3 m c i))
    ∧ (∀ i, IsReal (A4 m c i))
    ∧ (∀ i, IsReal (A5 m c i))
    ∧ (∀ i, IsReal (A6 m c i))
    ∧ (∀ i, IsReal (A7 m c i))
    ∧ (∀ i, IsReal (A8 m c i))
    ∧ (∀ i, IsReal (A9 m c i))

/-- The shares of the logits, at real arguments. -/
theorem three_eq (c : Dev nD) (h : Reals m c) : ((dats m 0 c).arrAt 12 cfg0.N : Vec Ideal S16x8192 .f32)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨h0, h1, h2, h3, h4, h5, h6, h7, h8, h9⟩ := h
  funext j
  rw [eq_ix2 j]
  refine (three_apply m c (j 0) (j 1)).trans (Eq.trans ?_ (Ref.three_ref _ _ _ _ _ _ _ _ _ _ (j 0) (j 1)).symm)
  unfold three
  refine congrFun (congrArg aff (funext fun e => ?_)) (j 0)
  exact logits_split (fun k => two_real _ _ _ _ _ _ _ _ _ h0 h1 h2 h3 h4 h5 h6 h7 h8 (j 1) k) (fun k => h9 _)

/-- The run of the program: its three results as the reference's, its arguments unchanged. -/
theorem run_eq (ρ : Dev nD → PrngReg) (hr : ∀ c, Reals m c) : θ_run defs (onTc (τ := τ) (main (F := Ideal))) ⟨m, fun _ => 0, ρ⟩ fun r => ∀ c : Dev nD,
      r.2.mem ((c.tc : Thread nD τ).loc main_v0_0) = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v0_1) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_v0_2) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 10).trans (one_eq m c), ((h c).1 11).trans (two_eq m c), ((h c).1 12).trans (three_eq m c (hr c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c)))⟩) (run_main m ρ)

end OutProj

namespace Cert.Proof.Out

open Idealize.ShloMosaic Idealize.SL.Sem

/-- The reference ends, leaves its arguments as they were, and every counter at zero. -/
theorem frame_ref [Cert.OutReferenceIdeal.Facts] : Cert.quiescent_OutReferenceIdeal := fun m g _ =>
  (θ_run _ _ _).mono (fun r h => ⟨fun c => (h c).2.2.2, sem_eq_zero_of_no_sems (by decide) r.2⟩)
    (Cert.OutReferenceIdeal.Value.run m g)

/-- The precondition says that every entry of every argument is a real. -/
theorem reals (m : (ℓ : Loc Cert.OutKernelIdeal.nD Cert.OutKernelIdeal.τ Cert.OutKernelIdeal.sig) → Buf (Elt Ideal) ℓ)
    (hpre : Cert.Pre_OutKernelIdeal_finite_router m) (c : Dev Cert.OutKernelIdeal.nD) : OutProj.Reals m c := by
  obtain ⟨p0, p1, p2, p3, p4, p5, p6, p7, p8, p9⟩ := hpre c
  exact ⟨fun i => ⟨_, Diff.real_of_lt _ (congrFun p0 i)⟩, fun i => ⟨_, Diff.real_of_lt _ (congrFun p1 i)⟩, fun i => ⟨_, Diff.real_of_lt _ (congrFun p2 i)⟩, fun i => ⟨_, Diff.real_of_lt _ (congrFun p3 i)⟩, fun i => ⟨_, Diff.real_of_lt _ (congrFun p4 i)⟩, fun i => ⟨_, Diff.real_of_lt _ (congrFun p5 i)⟩, fun i => ⟨_, Diff.real_of_lt _ (congrFun p6 i)⟩, fun i => ⟨_, Diff.real_of_lt _ (congrFun p7 i)⟩, fun i => ⟨_, Diff.real_of_lt _ (congrFun p8 i)⟩, fun i => ⟨_, Diff.real_of_lt _ (congrFun p9 i)⟩⟩

/-- Program and reference end with the same three results, when every argument is finite. -/
theorem algebraic : Cert.algebraic_OutKernelIdeal_OutReferenceIdeal_pre_finite_router := fun m g m' g' hpre hargs =>
  ⟨_, _, _, OutProj.run_eq m g (reals m hpre),
    (θ_run _ _ _).mono (fun r h c => by
      obtain ⟨e0, e1, e2, ha⟩ := h c
      obtain ⟨h0, h1, h2, h3, h4, h5, h6, h7, h8, h9⟩ := hargs c
      refine ⟨e0.trans ((Cert.OutReferenceIdeal.Read.val_main_v46_eq ..).trans ?_), e1.trans ((Cert.OutReferenceIdeal.Read.val_main_v83_eq ..).trans ?_),
        e2.trans ((Cert.OutReferenceIdeal.Read.val_main_v84_eq ..).trans ?_), ha⟩
      · rw [h0, h1, h2, h3, h4, h5, h6, h7, h8]
      · rw [h0, h1, h2, h3, h4, h5, h6, h7, h8]
      · rw [h0, h1, h2, h3, h4, h5, h6, h7, h8, h9])
      (Cert.OutReferenceIdeal.Value.run m' g')⟩

end Cert.Proof.Out

end
-- ==== Proof.EvenState.lean ====
/- What the first layer's output projection's three outputs and the weights' scratch hold after each grid point, in the terms of the body's pure values. -/
module

public import proofs.«01_k».proof.Proof.Gen.EvenKernelIdeal.Frame
public import Idealize.ShloMosaic.Lib.Pipeline.Value
public import Idealize.ShloMosaic.Lib.Pipeline.ValueKit.Tiles
public import Idealize.ShloMosaic.Lib.ValueIdx
public import Idealize.ShloMosaic.Lib.MatmulPlain
public import Idealize.ShloMosaic.PureOps.Ideal.Laws

@[expose] public section

set_option maxRecDepth 16384

noncomputable section

namespace EvenProj

open Cert.EvenKernelIdeal Cert.EvenKernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weights' block is the whole argument at every point. -/
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem blk4 (c : Dev nD) (t : Fin cfg0.N) : (iblk m c 4 t : Vec F S1x1024x1024 .f32) = m ((c : Thread nD τ).loc main_arg4) := by
  funext i
  unfold iblk
  rw [View.read_apply]
  show V m c main_arg4 _ = _
  rw [V_main_arg4]
  congr 1
  funext a
  apply Fin.ext
  obtain ⟨h0, h1, h2⟩ := idx4 t
  match a with
  | ⟨0, _⟩ => show win0_4.index t 0 * 1 + 1 * (i 0).val = (i 0).val; omega
  | ⟨1, _⟩ => show win0_4.index t 1 * 1024 + 1 * (i 1).val = (i 1).val; omega
  | ⟨2, _⟩ => show win0_4.index t 2 * 1024 + 1 * (i 2).val = (i 2).val; omega

/-- The weights, as the scratch keeps them. -/
def W (c : Dev nD) : FVec F S1024x1024 .bf16 := k0_pay2 (m ((c : Thread nD τ).loc main_arg4))

/-- The upper 768 and the lower 256 rows of the weights, and the row of the normalization's parameters that the body loads. -/
def top (w : Vec F S1024x1024 .bf16) : Vec F S768x1024 .bf16 := View.ld w (Rect.unit ![0, 0] S768x1024.size inb_S1024x1024_S768x1024_0_0)
def bot (w : Vec F S1024x1024 .bf16) : Vec F S256x1024 .bf16 := View.ld w (Rect.unit ![768, 0] S256x1024.size inb_S1024x1024_S256x1024_768_0)
def row (g : Vec F S1x2x1024 .f32) : Vec F S1x1x1024 .f32 := View.ld g (Rect.unit ![0, 0, 0] S1x1x1024.size inb_S1x2x1024_S1x1x1024_0_0_0)

/-- The scratch holds the weights after every point. -/
theorem scratch (c : Dev nD) : ∀ (n : ℕ) (hn : n < cfg0.N), (outsAt0 m c n hn).2.2.2 = W m c := by
  intro n
  induction n with
  | zero =>
    intro hn
    rw [show outsAt0 m c 0 hn = _ from outsAt0_A m c ⟨0, hn⟩ rfl]
    dsimp only
    unfold sout0_A_0
    rw [View.read_writes_eq_canon _ _ _ (scover0_A_0 c _ _ _ _ _ _ _ _ _ _ _ _ _ _ _ _ _ _ _ _ _ _ _ _ _ _ _ _ _ _ _ _ _ _ _ _ _ _ _ _ _ _ _)]
    unfold kernelRun0_A kernelRun0_A.sl.HS0_1
    dsimp only
    rw [View.canon_unit_zero (S := S1024x1024) hz2]
    simp only [View.readAt_eq_ld, (hs0_4 _).read_unread, View.ld_unit_zero (S := S1x1024x1024) hz3]
    rw [blk4]
    rfl
  | succ n ih =>
    intro hn
    have hN := lt_of_lt_of_eq hn (show cfg0.N = 16 from N_0)
    rw [show outsAt0 m c (n + 1) hn = _ from outsAt0_B m c ⟨n + 1, hn⟩ (by show ¬(n + 1) % 16 = 0; omega)]
    dsimp only
    unfold sout0_B_0
    exact ih _

/-- What the first tile's body reads back of the scratch it has just filled: the two parts of the weights. -/
theorem filled_top (c : Dev nD) (arg5 : Memref sig .tc .vmem S1x1024x1024 .f32) (harg5 : arg5.IsWhole) (arg15 : Memref sig .tc .vmem S1024x1024 .bf16) (x4 : Vec F S1x1024x1024 .f32) :
    kernelRun0_A.sl.v7 c arg5 harg5 arg15 x4 = top (k0_pay2 x4) := by
  unfold kernelRun0_A.sl.v7 kernelRun0_A.sl.HS0_1 top
  refine (View.readCov_eq_canon_ld _ _ _ (View.cover_of_tiledL _ S1024x1024.size (by sl_kernel_rfl))).trans ?_
  rw [View.canon_unit_zero (S := S1024x1024) hz2]
  simp only [View.readAt_eq_ld, harg5.read_unread, View.ld_unit_zero (S := S1x1024x1024) hz3]

theorem filled_bot (c : Dev nD) (arg5 : Memref sig .tc .vmem S1x1024x1024 .f32) (harg5 : arg5.IsWhole) (arg15 : Memref sig .tc .vmem S1024x1024 .bf16) (x4 : Vec F S1x1024x1024 .f32) :
    kernelRun0_A.sl.v13 c arg5 harg5 arg15 x4 = bot (k0_pay2 x4) := by
  unfold kernelRun0_A.sl.v13 kernelRun0_A.sl.HS0_1 bot
  refine (View.readCov_eq_canon_ld _ _ _ (View.cover_of_tiledL _ S1024x1024.size (by sl_kernel_rfl))).trans ?_
  rw [View.canon_unit_zero (S := S1024x1024) hz2]
  simp only [View.readAt_eq_ld, harg5.read_unread, View.ld_unit_zero (S := S1x1024x1024) hz3]

/-- The six modulation vectors of a tile and the residual sum before its normalization. -/
def M6 (c : Dev nD) (t : Fin cfg0.N) : FVec F S6x1024 .f32 := k0_pay3 (iblk m c 7 t)
def Y (c : Dev nD) (t : Fin cfg0.N) : FVec F S512x1024 .f32 :=
  k0_pay4 (grid0.coords t) (iblk m c 0 t) (iblk m c 1 t) (top (W m c)) (iblk m c 2 t) (iblk m c 3 t) (bot (W m c)) (iblk m c 7 t) (iblk m c 5 t) (iblk m c 6 t)

/-- What every point leaves in the first output's block: the normalized residual sum. -/
theorem x1_tile (c : Dev nD) (t : Fin cfg0.N) :
    (outsAt0 m c t.val t.isLt).1 = k0_pay5 (Y m c t) (row (iblk m c 8 t)) (row (iblk m c 9 t)) := by
  by_cases h : t.val % 16 = 0
  · rw [outsAt0_A m c t h]
    dsimp only
    unfold out0_A_11
    rw [View.read_writes_eq_canon _ _ _ (cover0_A_11 c _ _ _ _ _ _ _ _ _ _ _ _ _ _ _ _ _ _ _ _ _ _ _ _ _ _ _ _ _ _ _ _ _ _ _ _ _ _ _ _ _ _ _)]
    unfold kernelRun0_A kernelRun0_A.sl.r_1
    dsimp only
    rw [View.canon_unit_zero (S := S512x1024) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_11
    rw [View.read_writes_eq_canon _ _ _ (cover0_B_11 c _ _ _ _ _ _ _ _ _ _ _ _ _ _ _ _ _ _ _ _ _ _ _ _ _ _ _ _ _ _ _ _ _ _ _ _ _ _ _ _ _ _ _ _)]
    unfold kernelRun0_B kernelRun0_B.sl.r_1
    dsimp only
    rw [View.canon_unit_zero (S := S512x1024) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread, (Memref.isWhole_whole cc0_scratch0).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl

/-- … in the second output's block: the same modulated. -/
theorem u2_tile (c : Dev nD) (t : Fin cfg0.N) :
    (outsAt0 m c t.val t.isLt).2.1 = k0_pay7 (M6 m c t) (Y m c t) (row (iblk m c 8 t)) (row (iblk m c 9 t)) := by
  by_cases h : t.val % 16 = 0
  · rw [outsAt0_A m c t h]
    dsimp only
    unfold out0_A_12
    rw [View.read_writes_eq_canon _ _ _ (cover0_A_12 c _ _ _ _ _ _ _ _ _ _ _ _ _ _ _ _ _ _ _ _ _ _ _ _ _ _ _ _ _ _ _ _ _ _ _ _ _ _ _ _ _ _ _)]
    unfold kernelRun0_A kernelRun0_A.sl.r kernelRun0_A.sl.r_1
    dsimp only
    rw [View.canon_unit_zero (S := S512x1024) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_12
    rw [View.read_writes_eq_canon _ _ _ (cover0_B_12 c _ _ _ _ _ _ _ _ _ _ _ _ _ _ _ _ _ _ _ _ _ _ _ _ _ _ _ _ _ _ _ _ _ _ _ _ _ _ _ _ _ _ _ _)]
    unfold kernelRun0_B kernelRun0_B.sl.r kernelRun0_B.sl.r_1
    dsimp only
    rw [View.canon_unit_zero (S := S512x1024) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread, (Memref.isWhole_whole cc0_scratch0).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl

/-- … and in the third output's block: the router's affinities. -/
theorem aff_tile (c : Dev nD) (t : Fin cfg0.N) :
    (outsAt0 m c t.val t.isLt).2.2.1 = k0_pay1 (k0_pay8 (M6 m c t) (Y m c t) (row (iblk m c 8 t)) (row (iblk m c 9 t))) (k0_pay9 (M6 m c t) (Y m c t) (row (iblk m c 8 t)) (row (iblk m c 9 t))) (k0_pay10 (iblk m c 10 t)) := by
  by_cases h : t.val % 16 = 0
  · rw [outsAt0_A m c t h]
    dsimp only
    unfold out0_A_13
    rw [View.read_writes_eq_canon _ _ _ (cover0_A_13 c _ _ _ _ _ _ _ _ _ _ _ _ _ _ _ _ _ _ _ _ _ _ _ _ _ _ _ _ _ _ _ _ _ _ _ _ _ _ _ _ _ _ _)]
    unfold kernelRun0_A kernelRun0_A.sl.r_2 kernelRun0_A.sl.r_3 kernelRun0_A.sl.r_4 kernelRun0_A.sl.r kernelRun0_A.sl.r_1
    dsimp only
    rw [View.canon_unit_zero (S := S16x512) hz2]
    simp only [filled_top, filled_bot, blk4, View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl
  · rw [outsAt0_B m c t h]
    dsimp only
    rw [scratch]
    unfold out0_B_13
    rw [View.read_writes_eq_canon _ _ _ (cover0_B_13 c _ _ _ _ _ _ _ _ _ _ _ _ _ _ _ _ _ _ _ _ _ _ _ _ _ _ _ _ _ _ _ _ _ _ _ _ _ _ _ _ _ _ _ _)]
    unfold kernelRun0_B kernelRun0_B.sl.r_2 kernelRun0_B.sl.r_3 kernelRun0_B.sl.r_4 kernelRun0_B.sl.r kernelRun0_B.sl.r_1
    dsimp only
    rw [View.canon_unit_zero (S := S16x512) hz2]
    simp only [View.readAt_eq_ld, (hs0_0 _).read_unread, (hs0_1 _).read_unread, (hs0_2 _).read_unread, (hs0_3 _).read_unread, (hs0_5 _).read_unread, (hs0_6 _).read_unread, (hs0_7 _).read_unread, (hs0_8 _).read_unread, (hs0_9 _).read_unread, (hs0_10 _).read_unread, (Memref.isWhole_whole cc0_scratch0).read_unread,
      View.ld_unit_zero (S := S512x768) hz2, View.ld_unit_zero (S := S512x256) hz2, View.ld_unit_zero (S := S512x1024) hz2, View.ld_unit_zero (S := S1x1x6x1024) hz4, View.ld_unit_zero (S := S1x1024x16) hz3]
    rfl

end EvenProj

end
-- ==== Proof.EvenPayload.lean ====
/- The first layer's output projection over the extended reals: what its body stores at a grid point, entry by entry. Apart from the
   residual sum, whose two products have other widths, its values are those of the second layer's body. -/
module

public import proofs.«01_k».proof.Proof.OutPayload
public import proofs.«01_k».proof.Proof.EvenState

@[expose] public section

set_option maxRecDepth 16384

noncomputable section

namespace EvenProj

open Cert.EvenKernelIdeal Cert.EvenKernelIdeal.Gen Cert.AttnMath Cert.OutMath Idealize.ShloMosaic Idealize.ShloMosaic.TcCoe Idealize.SL.Sem
open Idealize.ShloMosaic.ValueIdx

/-- Grid point `t`. -/
abbrev pt (t : Fin 16) : Fin cfg0.N := ⟨t.val, lt_of_lt_of_eq t.isLt N_0.symm⟩

/-- The body takes the prompt's rows at the first eight points, the samples' at the others. -/
theorem picks : ∀ t : Fin 16, Scalar.cmpi .slt (BitVec.ofNat 32 (grid0.coords (pt t) 0).val) 8#32 = if t.val < 8 then 1#1 else 0#1 := by
  decide +kernel

/-! ## The values that are the second layer's -/

theorem weights_apply (w : Vec Ideal S1x1024x1024 .f32) (k : Fin 1024) (n : Fin 1024) : k0_pay2 w (ix2 k n) = w (ix3 0 k n) :=
  OutProj.weights_apply w k n

theorem pay3_apply (v : Vec Ideal S1x1x6x1024 .f32) (k : Fin 1024) (j : Fin 6) :
    k0_pay3 (F := Ideal) v (ix2 (n0 := 6) (n1 := 1024) j k) = v (ix4 0 0 j k) := OutProj.pay3_apply v k j

/-- The normalized row. -/
theorem pay5_apply (y : FVec Ideal S512x1024 .f32) (g b : Vec Ideal S1x1x1024 .f32) (r : Fin 512) (n : Fin 1024) :
    k0_pay5 y g b (ix2 r n) = lnRow (fun k => y (ix2 r k)) (fun k => g (ix3 0 0 k)) (fun k => b (ix3 0 0 k)) n :=
  (OutProj.pay6_apply y (Cert.OutKernelIdeal.Gen.k0_pay5 (F := Ideal) g) b r n).trans
    (congrFun (congrArg (fun z => lnRow (fun k => y (ix2 r k)) z (fun k => b (ix3 0 0 k))) (funext fun k => OutProj.pay5_apply g k)) n)

/-- The modulated row. -/
theorem pay6_apply (v : FVec Ideal S6x1024 .f32) (y : FVec Ideal S512x1024 .f32) (g b : Vec Ideal S1x1x1024 .f32) (r : Fin 512) (n : Fin 1024) :
    k0_pay6 v y g b (ix2 r n) = tokRow (lnRow (fun k => y (ix2 r k)) (fun k => g (ix3 0 0 k)) (fun k => b (ix3 0 0 k))) (fun k => v (ix2 4 k)) (fun k => v (ix2 3 k)) n :=
  (OutProj.pay7_apply v y (Cert.OutKernelIdeal.Gen.k0_pay5 (F := Ideal) g) b r n).trans
    (congrFun (congrArg (fun z => tokRow (lnRow (fun k => y (ix2 r k)) z (fun k => b (ix3 0 0 k))) (fun k => v (ix2 4 k)) (fun k => v (ix2 3 k))) (funext fun k => OutProj.pay5_apply g k)) n)

theorem pay7_apply (v : FVec Ideal S6x1024 .f32) (y : FVec Ideal S512x1024 .f32) (g b : Vec Ideal S1x1x1024 .f32) (r : Fin 512) (n : Fin 1024) :
    k0_pay7 v y g b (ix2 r n) = k0_pay6 v y g b (ix2 r n) := by
  unfold k0_pay7
  rw [truncf_apply]

/-- The affinities of a tile's row. -/
theorem pay1_apply (v : FVec Ideal S6x1024 .f32) (y : FVec Ideal S512x1024 .f32) (g b : Vec Ideal S1x1x1024 .f32) (w : Vec Ideal S1x1024x16 .f32) (e : Fin 16) (r : Fin 512) :
    k0_pay1 (k0_pay8 v y g b) (k0_pay9 v y g b) (k0_pay10 w) (ix2 e r)
      = aff (fun e : Fin 16 => split (fun k => k0_pay6 v y g b (ix2 r k)) (fun k => w (ix3 0 k e))) e :=
  OutProj.pay1_apply v y (Cert.OutKernelIdeal.Gen.k0_pay5 (F := Ideal) g) b w e r

/-! ## The residual sum -/

theorem row_apply (y : FVec Ideal S1x1024 .f32) (r : Fin 512) (k : Fin 1024) :
    broadcastTo S512x1024 y broadcasts_S1x1024_S512x1024 (ix2 r k) = y (ix2 0 k) := OutProj.row_apply y r k

theorem rowOf_apply (y : FVec Ideal S6x1024 .f32) (k : Fin 1024) :
    extractStridedSlice S1x1024 ![2, 0] y slices_S6x1024_o2_0_S1x1024 (ix2 (n0 := 1) (n1 := 1024) 0 k) = y (ix2 (n0 := 6) (n1 := 1024) 2 k) :=
  OutProj.rowOf_apply y k 2 2 rfl _

/-- The residual row of a tile. -/
theorem pay4_apply (t : Fin 16) (a a' : Vec Ideal S512x768 .bf16) (wt : Vec Ideal S768x1024 .bf16) (b b' : Vec Ideal S512x256 .bf16) (wb : Vec Ideal S256x1024 .bf16) (v : Vec Ideal S1x1x6x1024 .f32)
    (x x' : Vec Ideal S512x1024 .f32) (r : Fin 512) (n : Fin 1024) :
    k0_pay4 (F := Ideal) (grid0.coords (pt t)) a a' wt b b' wb v x x' (ix2 r n)
      = resRow (fun n => if t.val < 8 then x (ix2 r n) else x' (ix2 r n)) (fun n => v (ix4 0 0 2 n))
          (fun n => ∑ k : Fin 768, (if t.val < 8 then a (ix2 r k) else a' (ix2 r k)) * wt (ix2 k n) + ∑ k : Fin 256, (if t.val < 8 then b (ix2 r k) else b' (ix2 r k)) * wb (ix2 k n)) n := by
  unfold k0_pay4 resRow
  dsimp only
  rw [picks t, addf_apply, mulf_apply, mulf_apply, broadcast_apply, row_apply, rowOf_apply, pay3_apply, addf_apply]
  have e1 : ∀ (p q : FVec Ideal S512x768 .bf16) (w : FVec Ideal S768x1024 .bf16),
      (matmul (φ₁ := .bf16) (φ₂ := .bf16) dot_S512x768_S768x1024_S512x1024_1_0_0_1_n_n none (Scalar.select (α := FVec Ideal S512x768 .bf16) (if t.val < 8 then 1#1 else 0#1) p q) w (constant (F := Ideal) S512x1024 .f32 0x00000000#32) : FVec Ideal S512x1024 .f32) (ix2 r n)
        = ∑ k : Fin 768, (if t.val < 8 then p (ix2 r k) else q (ix2 r k)) * w (ix2 k n) := by
    intro p q w
    refine (Ideal.matmul_plain_apply (M := 512) (K := 768) (N := 1024) none _ _ _ r n).trans ?_
    rw [show (constant (F := Ideal) S512x1024 .f32 0x00000000#32) (ix2 r n) = Ideal.ofBits .f32 0x00000000#32 from rfl, OutProj.zero_f32, zero_add]
    refine Finset.sum_congr rfl fun k _ => ?_
    by_cases h : t.val < 8
    · rw [if_pos h, if_pos h]; rfl
    · rw [if_neg h, if_neg h]; rfl
  have e2 : ∀ (p q : FVec Ideal S512x256 .bf16) (w : FVec Ideal S256x1024 .bf16),
      (matmul (φ₁ := .bf16) (φ₂ := .bf16) dot_S512x256_S256x1024_S512x1024_1_0_0_1_n_n none (Scalar.select (α := FVec Ideal S512x256 .bf16) (if t.val < 8 then 1#1 else 0#1) p q) w (constant (F := Ideal) S512x1024 .f32 0x00000000#32) : FVec Ideal S512x1024 .f32) (ix2 r n)
        = ∑ k : Fin 256, (if t.val < 8 then p (ix2 r k) else q (ix2 r k)) * w (ix2 k n) := by
    intro p q w
    refine (Ideal.matmul_plain_apply (M := 512) (K := 256) (N := 1024) none _ _ _ r n).trans ?_
    rw [show (constant (F := Ideal) S512x1024 .f32 0x00000000#32) (ix2 r n) = Ideal.ofBits .f32 0x00000000#32 from rfl, OutProj.zero_f32, zero_add]
    refine Finset.sum_congr rfl fun k _ => ?_
    by_cases h : t.val < 8
    · rw [if_pos h, if_pos h]; rfl
    · rw [if_neg h, if_neg h]; rfl
  have e3 : ∀ (p q : FVec Ideal S512x1024 .f32), (Scalar.select (α := FVec Ideal S512x1024 .f32) (if t.val < 8 then 1#1 else 0#1) p q) (ix2 r n) = if t.val < 8 then p (ix2 r n) else q (ix2 r n) := by
    intro p q
    by_cases h : t.val < 8
    · rw [if_pos h, if_pos h]; rfl
    · rw [if_neg h, if_neg h]; rfl
  rw [e1, e2, e3]
  rfl

end EvenProj

end
-- ==== Proof.EvenValue.lean ====
/- The first layer's output projection's three results over the extended reals, entry by entry, in terms of the call's arguments. -/
module

public import proofs.«01_k».proof.Proof.EvenPayload
public import proofs.«01_k».proof.Proof.OutValue

@[expose] public section

set_option maxRecDepth 16384

noncomputable section

namespace EvenProj

open Cert.EvenKernelIdeal Cert.EvenKernelIdeal.Gen Cert.AttnMath Cert.OutMath Idealize.ShloMosaic Idealize.ShloMosaic.TcCoe Idealize.SL.Sem
open Idealize.ShloMosaic.ValueIdx
open OutProj (rowSeg seg seg_eq)

/-! ## The results, row by row -/

section Rows

variable (a0 a1 : Vec Ideal S4096x768 .bf16) (a2 a3 : Vec Ideal S4096x256 .bf16) (a4 : Vec Ideal S1x1024x1024 .f32) (a5 a6 : Vec Ideal S4096x1024 .f32) (a7 : Vec Ideal S2x8x6x1024 .f32)
  (a8 a9 : Vec Ideal S2x2x1024 .f32) (a10 : Vec Ideal S2x1024x16 .f32)

/-- The prompt's rows followed by the samples'. -/
def joined {W : ℕ} (p q : (⟨2, ![4096, W]⟩ : Shape).Idx → EReal) (R : Fin 8192) (k : Fin W) : EReal :=
  if h : R.val < 4096 then p (ix2 ⟨R.val, h⟩ k) else q (ix2 ⟨R.val - 4096, by omega⟩ k)

theorem joined_real {W : ℕ} (p q : (⟨2, ![4096, W]⟩ : Shape).Idx → EReal) (hp : ∀ i, IsReal (p i)) (hq : ∀ i, IsReal (q i)) (R : Fin 8192) (k : Fin W) : IsReal (joined p q R k) := by
  unfold joined
  split
  · exact hp _
  · exact hq _

/-- The projection of a row: its first 768 columns by the upper weights, its last 256 by the lower ones. -/
def upd (R : Fin 8192) (n : Fin 1024) : EReal :=
  ∑ k : Fin 768, joined (W := 768) a0 a1 R k * a4 (ix3 0 ⟨k.val, by omega⟩ n) + ∑ k : Fin 256, joined (W := 256) a2 a3 R k * a4 (ix3 0 ⟨768 + k.val, by omega⟩ n)

/-- A row of the residual sum. -/
def res (R : Fin 8192) : Fin 1024 → EReal := resRow (fun n => joined (W := 1024) a5 a6 R n) (fun n => a7 (ix4 0 (rowSeg R) 2 n)) (upd a0 a1 a2 a3 a4 R)

/-- The first result. -/
def one (R : Fin 8192) : Fin 1024 → EReal := lnRow (res a0 a1 a2 a3 a4 a5 a6 a7 R) (fun n => a8 (ix3 0 0 n)) (fun n => a9 (ix3 0 0 n))

/-- The second result. -/
def two (R : Fin 8192) : Fin 1024 → EReal := tokRow (one a0 a1 a2 a3 a4 a5 a6 a7 a8 a9 R) (fun n => a7 (ix4 0 (rowSeg R) 4 n)) (fun n => a7 (ix4 0 (rowSeg R) 3 n))

/-- The third result, as the program forms the logits. -/
def three (R : Fin 8192) : Fin 16 → EReal := aff fun e => split (two a0 a1 a2 a3 a4 a5 a6 a7 a8 a9 R) (fun k => a10 (ix3 0 k e))

/-- At real arguments the second result is real, and the logits are the product itself. -/
theorem two_real (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i)) (h9 : ∀ i, IsReal (a9 i)) (R : Fin 8192) (n : Fin 1024) :
    IsReal (two a0 a1 a2 a3 a4 a5 a6 a7 a8 a9 R n) := by
  refine tokRow_real (fun k => lnRow_real (fun k => resRow_real (fun _ => joined_real (W := 1024) a5 a6 h5 h6 R _) (fun _ => h7 _) (fun n => ?_) k) (fun _ => h8 _) (fun _ => h9 _) k) (fun _ => h7 _) (fun _ => h7 _) n
  exact (IsReal.sum _ _ fun k => (joined_real (W := 768) a0 a1 h0 h1 R k).mul (h4 _)).add (IsReal.sum _ _ fun k => (joined_real (W := 256) a2 a3 h2 h3 R k).mul (h4 _))

end Rows

/-! ## The blocks -/

variable (m : (ℓ : Loc nD τ sig) → Buf (Elt Ideal) ℓ)

/-- The block indices at every grid point. -/
theorem idxIn : ∀ t : Fin 16, (t.val < 8 → (win0_0.index (pt t) (0 : Fin 2) = t.val ∧ win0_0.index (pt t) (1 : Fin 2) = 0) ∧ (win0_2.index (pt t) (0 : Fin 2) = t.val ∧ win0_2.index (pt t) (1 : Fin 2) = 0))
    ∧ (8 ≤ t.val → (win0_1.index (pt t) (0 : Fin 2) = t.val - 8 ∧ win0_1.index (pt t) (1 : Fin 2) = 0) ∧ (win0_3.index (pt t) (0 : Fin 2) = t.val - 8 ∧ win0_3.index (pt t) (1 : Fin 2) = 0))
    ∧ (t.val < 8 → win0_5.index (pt t) (0 : Fin 2) = t.val ∧ win0_5.index (pt t) (1 : Fin 2) = 0)
    ∧ (8 ≤ t.val → win0_6.index (pt t) (0 : Fin 2) = t.val - 8 ∧ win0_6.index (pt t) (1 : Fin 2) = 0) := by
  decide +kernel

theorem idx7 : ∀ t : Fin 16, win0_7.index (pt t) (0 : Fin 4) = 0 ∧ win0_7.index (pt t) (1 : Fin 4) = (seg t).val ∧ win0_7.index (pt t) (2 : Fin 4) = 0 ∧ win0_7.index (pt t) (3 : Fin 4) = 0 := by
  decide +kernel

theorem idx8 : ∀ t : Fin 16, (win0_8.index (pt t) (0 : Fin 3) = 0 ∧ win0_8.index (pt t) (1 : Fin 3) = 0 ∧ win0_8.index (pt t) (2 : Fin 3) = 0)
    ∧ (win0_9.index (pt t) (0 : Fin 3) = 0 ∧ win0_9.index (pt t) (1 : Fin 3) = 0 ∧ win0_9.index (pt t) (2 : Fin 3) = 0)
    ∧ (win0_10.index (pt t) (0 : Fin 3) = 0 ∧ win0_10.index (pt t) (1 : Fin 3) = 0 ∧ win0_10.index (pt t) (2 : Fin 3) = 0) := by
  decide +kernel

theorem blk0 (c : Dev nD) (t : Fin 16) (ht : t.val < 8) (r : Fin 512) (k : Fin 768) (R : Fin 4096) (hR : R.val = t.val * 512 + r.val) :
    (iblk m c 0 (pt t) : Vec Ideal S512x768 .bf16) (ix2 r k) = m ((c : Thread nD τ).loc main_arg0) (ix2 R k) := by
  unfold iblk
  rw [View.read_apply]
  show V m c main_arg0 _ = _
  rw [V_main_arg0]
  congr 1
  funext a
  apply Fin.ext
  obtain ⟨h0, h1⟩ := ((idxIn t).1 ht).1
  match a with
  | ⟨0, _⟩ => show win0_0.index (pt t) 0 * 512 + 1 * r.val = R.val; omega
  | ⟨1, _⟩ => show win0_0.index (pt t) 1 * 768 + 1 * k.val = k.val; omega

theorem blk1 (c : Dev nD) (t : Fin 16) (ht : 8 ≤ t.val) (r : Fin 512) (k : Fin 768) (R : Fin 4096) (hR : R.val = (t.val - 8) * 512 + r.val) :
    (iblk m c 1 (pt t) : Vec Ideal S512x768 .bf16) (ix2 r k) = m ((c : Thread nD τ).loc main_arg1) (ix2 R k) := by
  unfold iblk
  rw [View.read_apply]
  show V m c main_arg1 _ = _
  rw [V_main_arg1]
  congr 1
  funext a
  apply Fin.ext
  obtain ⟨h0, h1⟩ := ((idxIn t).2.1 ht).1
  match a with
  | ⟨0, _⟩ => show win0_1.index (pt t) 0 * 512 + 1 * r.val = R.val; omega
  | ⟨1, _⟩ => show win0_1.index (pt t) 1 * 768 + 1 * k.val = k.val; omega

theorem blk2 (c : Dev nD) (t : Fin 16) (ht : t.val < 8) (r : Fin 512) (k : Fin 256) (R : Fin 4096) (hR : R.val = t.val * 512 + r.val) :
    (iblk m c 2 (pt t) : Vec Ideal S512x256 .bf16) (ix2 r k) = m ((c : Thread nD τ).loc main_arg2) (ix2 R k) := by
  unfold iblk
  rw [View.read_apply]
  show V m c main_arg2 _ = _
  rw [V_main_arg2]
  congr 1
  funext a
  apply Fin.ext
  obtain ⟨h0, h1⟩ := ((idxIn t).1 ht).2
  match a with
  | ⟨0, _⟩ => show win0_2.index (pt t) 0 * 512 + 1 * r.val = R.val; omega
  | ⟨1, _⟩ => show win0_2.index (pt t) 1 * 256 + 1 * k.val = k.val; omega

theorem blk3 (c : Dev nD) (t : Fin 16) (ht : 8 ≤ t.val) (r : Fin 512) (k : Fin 256) (R : Fin 4096) (hR : R.val = (t.val - 8) * 512 + r.val) :
    (iblk m c 3 (pt t) : Vec Ideal S512x256 .bf16) (ix2 r k) = m ((c : Thread nD τ).loc main_arg3) (ix2 R k) := by
  unfold iblk
  rw [View.read_apply]
  show V m c main_arg3 _ = _
  rw [V_main_arg3]
  congr 1
  funext a
  apply Fin.ext
  obtain ⟨h0, h1⟩ := ((idxIn t).2.1 ht).2
  match a with
  | ⟨0, _⟩ => show win0_3.index (pt t) 0 * 512 + 1 * r.val = R.val; omega
  | ⟨1, _⟩ => show win0_3.index (pt t) 1 * 256 + 1 * k.val = k.val; omega

theorem blk5 (c : Dev nD) (t : Fin 16) (ht : t.val < 8) (r : Fin 512) (k : Fin 1024) (R : Fin 4096) (hR : R.val = t.val * 512 + r.val) :
    (iblk m c 5 (pt t) : Vec Ideal S512x1024 .f32) (ix2 r k) = m ((c : Thread nD τ).loc main_arg5) (ix2 R k) := by
  unfold iblk
  rw [View.read_apply]
  show V m c main_arg5 _ = _
  rw [V_main_arg5]
  congr 1
  funext a
  apply Fin.ext
  obtain ⟨h0, h1⟩ := (idxIn t).2.2.1 ht
  match a with
  | ⟨0, _⟩ => show win0_5.index (pt t) 0 * 512 + 1 * r.val = R.val; omega
  | ⟨1, _⟩ => show win0_5.index (pt t) 1 * 1024 + 1 * k.val = k.val; omega

theorem blk6 (c : Dev nD) (t : Fin 16) (ht : 8 ≤ t.val) (r : Fin 512) (k : Fin 1024) (R : Fin 4096) (hR : R.val = (t.val - 8) * 512 + r.val) :
    (iblk m c 6 (pt t) : Vec Ideal S512x1024 .f32) (ix2 r k) = m ((c : Thread nD τ).loc main_arg6) (ix2 R k) := by
  unfold iblk
  rw [View.read_apply]
  show V m c main_arg6 _ = _
  rw [V_main_arg6]
  congr 1
  funext a
  apply Fin.ext
  obtain ⟨h0, h1⟩ := (idxIn t).2.2.2 ht
  match a with
  | ⟨0, _⟩ => show win0_6.index (pt t) 0 * 512 + 1 * r.val = R.val; omega
  | ⟨1, _⟩ => show win0_6.index (pt t) 1 * 1024 + 1 * k.val = k.val; omega

theorem blk7 (c : Dev nD) (t : Fin 16) (j : Fin 6) (k : Fin 1024) :
    (iblk m c 7 (pt t) : Vec Ideal S1x1x6x1024 .f32) (ix4 0 0 j k) = m ((c : Thread nD τ).loc main_arg7) (ix4 0 (seg t) j k) := by
  unfold iblk
  rw [View.read_apply]
  show V m c main_arg7 _ = _
  rw [V_main_arg7]
  congr 1
  funext a
  apply Fin.ext
  obtain ⟨h0, h1, h2, h3⟩ := idx7 t
  match a with
  | ⟨0, _⟩ => show win0_7.index (pt t) 0 * 1 + 1 * 0 = 0; omega
  | ⟨1, _⟩ => show win0_7.index (pt t) 1 * 1 + 1 * 0 = (seg t).val; omega
  | ⟨2, _⟩ => show win0_7.index (pt t) 2 * 6 + 1 * j.val = j.val; omega
  | ⟨3, _⟩ => show win0_7.index (pt t) 3 * 1024 + 1 * k.val = k.val; omega

theorem blk8 (c : Dev nD) (t : Fin 16) (k : Fin 1024) :
    row (iblk m c 8 (pt t) : Vec Ideal S1x2x1024 .f32) (ix3 0 0 k) = m ((c : Thread nD τ).loc main_arg8) (ix3 0 0 k) := by
  unfold row
  refine (View.ld_unit_apply_of (iblk m c 8 (pt t) : Vec Ideal S1x2x1024 .f32) _ _ _ (ix3 0 0 k) (ix3 0 0 k) (fun a => by
    match a with
    | ⟨0, _⟩ => rfl
    | ⟨1, _⟩ => rfl
    | ⟨2, _⟩ => exact (Nat.zero_add _).symm)).trans ?_
  unfold iblk
  rw [View.read_apply]
  show V m c main_arg8 _ = _
  rw [V_main_arg8]
  congr 1
  funext a
  apply Fin.ext
  obtain ⟨h0, h1, h2⟩ := (idx8 t).1
  match a with
  | ⟨0, _⟩ => show win0_8.index (pt t) 0 * 1 + 1 * 0 = 0; omega
  | ⟨1, _⟩ => show win0_8.index (pt t) 1 * 2 + 1 * 0 = 0; omega
  | ⟨2, _⟩ => show win0_8.index (pt t) 2 * 1024 + 1 * k.val = k.val; omega

theorem blk9 (c : Dev nD) (t : Fin 16) (k : Fin 1024) :
    row (iblk m c 9 (pt t) : Vec Ideal S1x2x1024 .f32) (ix3 0 0 k) = m ((c : Thread nD τ).loc main_arg9) (ix3 0 0 k) := by
  unfold row
  refine (View.ld_unit_apply_of (iblk m c 9 (pt t) : Vec Ideal S1x2x1024 .f32) _ _ _ (ix3 0 0 k) (ix3 0 0 k) (fun a => by
    match a with
    | ⟨0, _⟩ => rfl
    | ⟨1, _⟩ => rfl
    | ⟨2, _⟩ => exact (Nat.zero_add _).symm)).trans ?_
  unfold iblk
  rw [View.read_apply]
  show V m c main_arg9 _ = _
  rw [V_main_arg9]
  congr 1
  funext a
  apply Fin.ext
  obtain ⟨h0, h1, h2⟩ := (idx8 t).2.1
  match a with
  | ⟨0, _⟩ => show win0_9.index (pt t) 0 * 1 + 1 * 0 = 0; omega
  | ⟨1, _⟩ => show win0_9.index (pt t) 1 * 2 + 1 * 0 = 0; omega
  | ⟨2, _⟩ => show win0_9.index (pt t) 2 * 1024 + 1 * k.val = k.val; omega

theorem blk10 (c : Dev nD) (t : Fin 16) (k : Fin 1024) (e : Fin 16) :
    (iblk m c 10 (pt t) : Vec Ideal S1x1024x16 .f32) (ix3 0 k e) = m ((c : Thread nD τ).loc main_arg10) (ix3 0 k e) := by
  unfold iblk
  rw [View.read_apply]
  show V m c main_arg10 _ = _
  rw [V_main_arg10]
  congr 1
  funext a
  apply Fin.ext
  obtain ⟨h0, h1, h2⟩ := (idx8 t).2.2
  match a with
  | ⟨0, _⟩ => show win0_10.index (pt t) 0 * 1 + 1 * 0 = 0; omega
  | ⟨1, _⟩ => show win0_10.index (pt t) 1 * 1024 + 1 * k.val = k.val; omega
  | ⟨2, _⟩ => show win0_10.index (pt t) 2 * 16 + 1 * e.val = e.val; omega

theorem top_apply (c : Dev nD) (k : Fin 768) (n : Fin 1024) : top (W m c) (ix2 k n) = m ((c : Thread nD τ).loc main_arg4) (ix3 0 ⟨k.val, by omega⟩ n) := by
  unfold top
  refine (View.ld_unit_apply_of (Val := Elt Ideal) (S := S1024x1024) (e := .bf16) (W m c) _ _ _ (ix2 k n) (ix2 (⟨k.val, by omega⟩ : Fin 1024) n) (fun a => by
    match a with
    | ⟨0, _⟩ => exact (Nat.zero_add _).symm
    | ⟨1, _⟩ => exact (Nat.zero_add _).symm)).trans ?_
  exact weights_apply _ _ _

theorem bot_apply (c : Dev nD) (k : Fin 256) (n : Fin 1024) : bot (W m c) (ix2 k n) = m ((c : Thread nD τ).loc main_arg4) (ix3 0 ⟨768 + k.val, by omega⟩ n) := by
  unfold bot
  refine (View.ld_unit_apply_of (Val := Elt Ideal) (S := S1024x1024) (e := .bf16) (W m c) _ _ _ (ix2 k n) (ix2 (⟨768 + k.val, by omega⟩ : Fin 1024) n) (fun a => by
    match a with
    | ⟨0, _⟩ => rfl
    | ⟨1, _⟩ => exact (Nat.zero_add _).symm)).trans ?_
  exact weights_apply _ _ _

/-- The call's arguments. -/
abbrev A0 (c : Dev nD) : Vec Ideal S4096x768 .bf16 := m ((c : Thread nD τ).loc main_arg0)
abbrev A1 (c : Dev nD) : Vec Ideal S4096x768 .bf16 := m ((c : Thread nD τ).loc main_arg1)
abbrev A2 (c : Dev nD) : Vec Ideal S4096x256 .bf16 := m ((c : Thread nD τ).loc main_arg2)
abbrev A3 (c : Dev nD) : Vec Ideal S4096x256 .bf16 := m ((c : Thread nD τ).loc main_arg3)
abbrev A4 (c : Dev nD) : Vec Ideal S1x1024x1024 .f32 := m ((c : Thread nD τ).loc main_arg4)
abbrev A5 (c : Dev nD) : Vec Ideal S4096x1024 .f32 := m ((c : Thread nD τ).loc main_arg5)
abbrev A6 (c : Dev nD) : Vec Ideal S4096x1024 .f32 := m ((c : Thread nD τ).loc main_arg6)
abbrev A7 (c : Dev nD) : Vec Ideal S2x8x6x1024 .f32 := m ((c : Thread nD τ).loc main_arg7)
abbrev A8 (c : Dev nD) : Vec Ideal S2x2x1024 .f32 := m ((c : Thread nD τ).loc main_arg8)
abbrev A9 (c : Dev nD) : Vec Ideal S2x2x1024 .f32 := m ((c : Thread nD τ).loc main_arg9)
abbrev A10 (c : Dev nD) : Vec Ideal S2x1024x16 .f32 := m ((c : Thread nD τ).loc main_arg10)

/-! ## A tile's rows -/

theorem Y_apply (c : Dev nD) (t : Fin 16) (r : Fin 512) (R : Fin 8192) (hR : R.val = t.val * 512 + r.val) (n : Fin 1024) :
    Y m c (pt t) (ix2 r n) = res (A0 m c) (A1 m c) (A2 m c) (A3 m c) (A4 m c) (A5 m c) (A6 m c) (A7 m c) R n := by
  unfold Y
  refine (pay4_apply t _ _ _ _ _ _ _ _ _ r n).trans ?_
  unfold res
  rw [seg_eq t r R hR]
  unfold resRow upd
  dsimp only
  have ex : (if t.val < 8 then (iblk m c 5 (pt t) : Vec Ideal S512x1024 .f32) (ix2 r n) else (iblk m c 6 (pt t) : Vec Ideal S512x1024 .f32) (ix2 r n)) = joined (W := 1024) (A5 m c) (A6 m c) R n := by
    unfold joined
    by_cases h : t.val < 8
    · rw [if_pos h, dif_pos (by omega)]
      exact blk5 m c t h r n _ hR
    · rw [if_neg h, dif_neg (by omega)]
      exact blk6 m c t (by omega) r n _ (by show R.val - 4096 = _; omega)
  rw [ex, blk7 m c t 2 n]
  congr 2
  congr 1
  · refine Finset.sum_congr rfl fun k _ => ?_
    rw [top_apply m c k n]
    congr 1
    unfold joined
    by_cases h : t.val < 8
    · rw [if_pos h, dif_pos (by omega)]
      exact blk0 m c t h r k _ hR
    · rw [if_neg h, dif_neg (by omega)]
      exact blk1 m c t (by omega) r k _ (by show R.val - 4096 = _; omega)
  · refine Finset.sum_congr rfl fun k _ => ?_
    rw [bot_apply m c k n]
    congr 1
    unfold joined
    by_cases h : t.val < 8
    · rw [if_pos h, dif_pos (by omega)]
      exact blk2 m c t h r k _ hR
    · rw [if_neg h, dif_neg (by omega)]
      exact blk3 m c t (by omega) r k _ (by show R.val - 4096 = _; omega)

theorem M6_apply (c : Dev nD) (t : Fin 16) (j : Fin 6) (n : Fin 1024) : M6 m c (pt t) (ix2 j n) = A7 m c (ix4 0 (seg t) j n) := by
  unfold M6
  exact (pay3_apply _ n j).trans (blk7 m c t j n)

theorem one_tile (c : Dev nD) (t : Fin 16) (r : Fin 512) (R : Fin 8192) (hR : R.val = t.val * 512 + r.val) :
    lnRow (fun k => Y m c (pt t) (ix2 r k)) (fun k => row (iblk m c 8 (pt t)) (ix3 0 0 k)) (fun k => row (iblk m c 9 (pt t)) (ix3 0 0 k))
      = one (A0 m c) (A1 m c) (A2 m c) (A3 m c) (A4 m c) (A5 m c) (A6 m c) (A7 m c) (A8 m c) (A9 m c) R := by
  unfold one
  rw [funext (Y_apply m c t r R hR), funext (blk8 m c t), funext (blk9 m c t)]

theorem two_tile (c : Dev nD) (t : Fin 16) (r : Fin 512) (R : Fin 8192) (hR : R.val = t.val * 512 + r.val) (n : Fin 1024) :
    k0_pay6 (M6 m c (pt t)) (Y m c (pt t)) (row (iblk m c 8 (pt t))) (row (iblk m c 9 (pt t))) (ix2 r n)
      = two (A0 m c) (A1 m c) (A2 m c) (A3 m c) (A4 m c) (A5 m c) (A6 m c) (A7 m c) (A8 m c) (A9 m c) R n := by
  refine (pay6_apply _ _ _ _ r n).trans ?_
  rw [one_tile m c t r R hR, funext (M6_apply m c t 4), funext (M6_apply m c t 3)]
  unfold two
  rw [seg_eq t r R hR]

theorem three_tile (c : Dev nD) (t : Fin 16) (r : Fin 512) (R : Fin 8192) (hR : R.val = t.val * 512 + r.val) (e : Fin 16) :
    k0_pay1 (k0_pay8 (M6 m c (pt t)) (Y m c (pt t)) (row (iblk m c 8 (pt t))) (row (iblk m c 9 (pt t)))) (k0_pay9 (M6 m c (pt t)) (Y m c (pt t)) (row (iblk m c 8 (pt t))) (row (iblk m c 9 (pt t)))) (k0_pay10 (iblk m c 10 (pt t))) (ix2 e r)
      = three (A0 m c) (A1 m c) (A2 m c) (A3 m c) (A4 m c) (A5 m c) (A6 m c) (A7 m c) (A8 m c) (A9 m c) (A10 m c) R e := by
  refine (pay1_apply _ _ _ _ _ e r).trans ?_
  unfold three
  refine congrFun (congrArg aff (funext fun e => ?_)) e
  rw [funext (two_tile m c t r R hR)]
  exact congrArg (split _) (funext fun k => blk10 m c t k e)

/-! ## The final arrays -/

theorem idx11 : ∀ t : Fin 16, win0_11.index (pt t) (0 : Fin 2) = t.val ∧ win0_11.index (pt t) (1 : Fin 2) = 0 ∧ (cfg0.win 11).flush (pt t) = true := by
  decide +kernel
theorem inj11 : ∀ t t' : Fin cfg0.N, (cfg0.win 11).flush t = true → (cfg0.win 11).flush t' = true → win0_11.index t = win0_11.index t' → t = t' :=
  (by decide +kernel : ∀ t t' : Fin grid0.N, (cfg0.win 11).flush t = true → (cfg0.win 11).flush t' = true → win0_11.index t = win0_11.index t' → t = t')
/-- A block of a final array is what the point that wrote it back held. -/
theorem blocks11 (c : Dev nD) (t : Fin cfg0.N) (hf : (cfg0.win 11).flush t = true) :
    ((cfg0.win 11).blk t).view.read (Elt Ideal) ((dats m 0 c).arrAt 11 cfg0.N) = (cfg0.win 11).cut (grid0.coords t) ((outsAt0 m c t.val t.isLt).1) := by
  refine ((dats m 0 c).read_blk_arrAt_eq_flushed 11 (fun t t' hf hf' hne => (cfg0.win 11).disjoint_blk fun h => hne (inj11 t t' hf hf' h)) cfg0.N t t.isLt hf).trans ?_
  show (cfg0.win 11).cut (grid0.coords t) ((dats m 0 c).after 11 t) = _
  rw [after0_11]

theorem idx12 : ∀ t : Fin 16, win0_12.index (pt t) (0 : Fin 2) = t.val ∧ win0_12.index (pt t) (1 : Fin 2) = 0 ∧ (cfg0.win 12).flush (pt t) = true := by
  decide +kernel
theorem inj12 : ∀ t t' : Fin cfg0.N, (cfg0.win 12).flush t = true → (cfg0.win 12).flush t' = true → win0_12.index t = win0_12.index t' → t = t' :=
  (by decide +kernel : ∀ t t' : Fin grid0.N, (cfg0.win 12).flush t = true → (cfg0.win 12).flush t' = true → win0_12.index t = win0_12.index t' → t = t')
/-- A block of a final array is what the point that wrote it back held. -/
theorem blocks12 (c : Dev nD) (t : Fin cfg0.N) (hf : (cfg0.win 12).flush t = true) :
    ((cfg0.win 12).blk t).view.read (Elt Ideal) ((dats m 0 c).arrAt 12 cfg0.N) = (cfg0.win 12).cut (grid0.coords t) ((outsAt0 m c t.val t.isLt).2.1) := by
  refine ((dats m 0 c).read_blk_arrAt_eq_flushed 12 (fun t t' hf hf' hne => (cfg0.win 12).disjoint_blk fun h => hne (inj12 t t' hf hf' h)) cfg0.N t t.isLt hf).trans ?_
  show (cfg0.win 12).cut (grid0.coords t) ((dats m 0 c).after 12 t) = _
  rw [after0_12]

theorem idx13 : ∀ t : Fin 16, win0_13.index (pt t) (0 : Fin 2) = 0 ∧ win0_13.index (pt t) (1 : Fin 2) = t.val ∧ (cfg0.win 13).flush (pt t) = true := by
  decide +kernel
theorem inj13 : ∀ t t' : Fin cfg0.N, (cfg0.win 13).flush t = true → (cfg0.win 13).flush t' = true → win0_13.index t = win0_13.index t' → t = t' :=
  (by decide +kernel : ∀ t t' : Fin grid0.N, (cfg0.win 13).flush t = true → (cfg0.win 13).flush t' = true → win0_13.index t = win0_13.index t' → t = t')
/-- A block of a final array is what the point that wrote it back held. -/
theorem blocks13 (c : Dev nD) (t : Fin cfg0.N) (hf : (cfg0.win 13).flush t = true) :
    ((cfg0.win 13).blk t).view.read (Elt Ideal) ((dats m 0 c).arrAt 13 cfg0.N) = (cfg0.win 13).cut (grid0.coords t) ((outsAt0 m c t.val t.isLt).2.2.1) := by
  refine ((dats m 0 c).read_blk_arrAt_eq_flushed 13 (fun t t' hf hf' hne => (cfg0.win 13).disjoint_blk fun h => hne (inj13 t t' hf hf' h)) cfg0.N t t.isLt hf).trans ?_
  show (cfg0.win 13).cut (grid0.coords t) ((dats m 0 c).after 13 t) = _
  rw [after0_13]

/-- The first result: the normalized rows. -/
theorem one_apply (c : Dev nD) (R : Fin 8192) (n : Fin 1024) :
    ((dats m 0 c).arrAt 11 cfg0.N : Vec Ideal S8192x1024 .f32) (ix2 R n) = one (A0 m c) (A1 m c) (A2 m c) (A3 m c) (A4 m c) (A5 m c) (A6 m c) (A7 m c) (A8 m c) (A9 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx11 t
  have e1 := congrFun (blocks11 m c (pt t) hf) (ix2 r n)
  rw [x1_tile m c (pt t)] at e1
  refine Eq.trans ?_ (e1.trans ?_)
  · rw [View.read_apply]
    show ((dats m 0 c).arrAt 11 cfg0.N : Vec Ideal S8192x1024 .f32) (ix2 R n) = ((dats m 0 c).arrAt 11 cfg0.N : Vec Ideal S8192x1024 .f32) _
    congr 1
    funext a
    apply Fin.ext
    match a with
    | ⟨0, _⟩ => show R.val = win0_11.index (pt t) 0 * 512 + 1 * r.val; omega
    | ⟨1, _⟩ => show n.val = win0_11.index (pt t) 1 * 1024 + 1 * n.val; omega
  · exact (pay5_apply _ _ _ r n).trans (congrFun (one_tile m c t r R hR) n)

/-- The second result: the modulated rows. -/
theorem two_apply (c : Dev nD) (R : Fin 8192) (n : Fin 1024) :
    ((dats m 0 c).arrAt 12 cfg0.N : Vec Ideal S8192x1024 .bf16) (ix2 R n) = two (A0 m c) (A1 m c) (A2 m c) (A3 m c) (A4 m c) (A5 m c) (A6 m c) (A7 m c) (A8 m c) (A9 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx12 t
  have e1 := congrFun (blocks12 m c (pt t) hf) (ix2 r n)
  rw [u2_tile m c (pt t)] at e1
  refine Eq.trans ?_ (e1.trans ?_)
  · rw [View.read_apply]
    show ((dats m 0 c).arrAt 12 cfg0.N : Vec Ideal S8192x1024 .bf16) (ix2 R n) = ((dats m 0 c).arrAt 12 cfg0.N : Vec Ideal S8192x1024 .bf16) _
    congr 1
    funext a
    apply Fin.ext
    match a with
    | ⟨0, _⟩ => show R.val = win0_12.index (pt t) 0 * 512 + 1 * r.val; omega
    | ⟨1, _⟩ => show n.val = win0_12.index (pt t) 1 * 1024 + 1 * n.val; omega
  · exact (pay7_apply _ _ _ _ r n).trans (two_tile m c t r R hR n)

/-- The third result: the affinities, one column for each row. -/
theorem three_apply (c : Dev nD) (n : Fin 16) (R : Fin 8192) :
    ((dats m 0 c).arrAt 13 cfg0.N : Vec Ideal S16x8192 .f32) (ix2 n R) = three (A0 m c) (A1 m c) (A2 m c) (A3 m c) (A4 m c) (A5 m c) (A6 m c) (A7 m c) (A8 m c) (A9 m c) (A10 m c) R n := by
  obtain ⟨t, ht⟩ : ∃ t : Fin 16, t.val = R.val / 512 := ⟨⟨R.val / 512, by omega⟩, rfl⟩
  obtain ⟨r, hr⟩ : ∃ r : Fin 512, r.val = R.val % 512 := ⟨⟨R.val % 512, by omega⟩, rfl⟩
  have hR : R.val = t.val * 512 + r.val := by omega
  obtain ⟨h0, h1, hf⟩ := idx13 t
  have e1 := congrFun (blocks13 m c (pt t) hf) (ix2 n r)
  rw [aff_tile m c (pt t)] at e1
  refine Eq.trans ?_ (e1.trans ?_)
  · rw [View.read_apply]
    show ((dats m 0 c).arrAt 13 cfg0.N : Vec Ideal S16x8192 .f32) (ix2 n R) = ((dats m 0 c).arrAt 13 cfg0.N : Vec Ideal S16x8192 .f32) _
    congr 1
    funext a
    apply Fin.ext
    match a with
    | ⟨0, _⟩ => show n.val = win0_13.index (pt t) 0 * 16 + 1 * n.val; omega
    | ⟨1, _⟩ => show R.val = win0_13.index (pt t) 1 * 512 + 1 * r.val; omega
  · exact three_tile m c t r R hR n

end EvenProj

end
-- ==== Proof.EvenRef.lean ====
/-
  THE REFERENCE OF THE FIRST LAYER'S OUTPUT PROJECTION over the extended reals, read at an index, stage by stage: the joined halves and their product
  with the weights, the residual sum, its normalization, the modulated rows, and the shares of the router's logits.
-/
module

public import proofs.«01_k».proof.Proof.EvenValue
public import proofs.«01_k».proof.Proof.Gen.EvenReferenceIdeal.Read
public import Idealize.ShloMosaic.Lib.KernelVsHost

@[expose] public section

set_option maxRecDepth 16384

noncomputable section

namespace EvenProj.Ref

open Cert.EvenReferenceIdeal Cert.EvenReferenceIdeal.Gen Cert.EvenReferenceIdeal.Read Cert.AttnMath Cert.OutMath Idealize.ShloMosaic Idealize.ShloMosaic.TcCoe Idealize.SL.Sem
open Idealize.ShloMosaic.ValueIdx
open OutProj (rowSeg zero_f32)

variable (x0 x1 : Vec Ideal S4096x768 .bf16) (x2 x3 : Vec Ideal S4096x256 .bf16) (x4 : Vec Ideal S1x1024x1024 .f32) (x5 x6 : Vec Ideal S4096x1024 .f32) (x7 : Vec Ideal S2x8x6x1024 .f32)
  (x8 x9 : Vec Ideal S2x2x1024 .f32) (x10 : Vec Ideal S2x1024x16 .f32)

/-! ## The joined halves and their product -/

theorem rows0 (R : Fin 8192) (k : Fin 768) : val_main_v0 (F := Ideal) x0 x1 (ix2 R k) = joined (W := 768) x0 x1 R k := by
  unfold val_main_v0 joined
  by_cases h : R.val < 4096
  · rw [dif_pos h]
    exact concatenate_apply_piece (t := S8192x768) 0 _ _ (ix2 R k) 0 (by simp) S4096x768 x0 rfl rfl 0 rfl (ix2 ⟨R.val, h⟩ k)
      (fun b hb => by
        match b with
        | ⟨0, _⟩ => exact absurd rfl hb
        | ⟨1, _⟩ => rfl)
      (by show 0 + R.val = R.val; omega)
  · rw [dif_neg h]
    exact concatenate_apply_piece (t := S8192x768) 0 _ _ (ix2 R k) 1 (by simp) S4096x768 x1 rfl rfl 4096 rfl (ix2 ⟨R.val - 4096, by omega⟩ k)
      (fun b hb => by
        match b with
        | ⟨0, _⟩ => exact absurd rfl hb
        | ⟨1, _⟩ => rfl)
      (by show 4096 + (R.val - 4096) = R.val; omega)

theorem rows1 (R : Fin 8192) (k : Fin 256) : val_main_v1 (F := Ideal) x2 x3 (ix2 R k) = joined (W := 256) x2 x3 R k := by
  unfold val_main_v1 joined
  by_cases h : R.val < 4096
  · rw [dif_pos h]
    exact concatenate_apply_piece (t := S8192x256) 0 _ _ (ix2 R k) 0 (by simp) S4096x256 x2 rfl rfl 0 rfl (ix2 ⟨R.val, h⟩ k)
      (fun b hb => by
        match b with
        | ⟨0, _⟩ => exact absurd rfl hb
        | ⟨1, _⟩ => rfl)
      (by show 0 + R.val = R.val; omega)
  · rw [dif_neg h]
    exact concatenate_apply_piece (t := S8192x256) 0 _ _ (ix2 R k) 1 (by simp) S4096x256 x3 rfl rfl 4096 rfl (ix2 ⟨R.val - 4096, by omega⟩ k)
      (fun b hb => by
        match b with
        | ⟨0, _⟩ => exact absurd rfl hb
        | ⟨1, _⟩ => rfl)
      (by show 4096 + (R.val - 4096) = R.val; omega)

theorem inputs (R : Fin 8192) (k : Fin 1024) : val_main_v6 (F := Ideal) x5 x6 (ix2 R k) = joined (W := 1024) x5 x6 R k := by
  unfold val_main_v6 joined
  by_cases h : R.val < 4096
  · rw [dif_pos h]
    exact concatenate_apply_piece (t := S8192x1024) 0 _ _ (ix2 R k) 0 (by simp) S4096x1024 x5 rfl rfl 0 rfl (ix2 ⟨R.val, h⟩ k)
      (fun b hb => by
        match b with
        | ⟨0, _⟩ => exact absurd rfl hb
        | ⟨1, _⟩ => rfl)
      (by show 0 + R.val = R.val; omega)
  · rw [dif_neg h]
    exact concatenate_apply_piece (t := S8192x1024) 0 _ _ (ix2 R k) 1 (by simp) S4096x1024 x6 rfl rfl 4096 rfl (ix2 ⟨R.val - 4096, by omega⟩ k)
      (fun b hb => by
        match b with
        | ⟨0, _⟩ => exact absurd rfl hb
        | ⟨1, _⟩ => rfl)
      (by show 4096 + (R.val - 4096) = R.val; omega)

theorem left_half (R : Fin 8192) (k : Fin 768) (K : Fin 1024) (hK : K.val = k.val) : val_main_v3 (F := Ideal) x0 x1 x2 x3 (ix2 R K) = joined (W := 768) x0 x1 R k := by
  rw [val_main_v3_apply, ← rows0]
  unfold val_main_v2
  generalize val_main_v0 (F := Ideal) x0 x1 = y0
  generalize val_main_v1 (F := Ideal) x2 x3 = y1
  exact concatenate_apply_piece (t := S8192x1024) 1 _ _ (ix2 R K) 0 (by simp) S8192x768 y0 rfl rfl 0 rfl (ix2 R k)
      (fun b hb => by
        match b with
        | ⟨0, _⟩ => rfl
        | ⟨1, _⟩ => exact absurd rfl hb)
      (by show 0 + k.val = K.val; omega)

theorem right_half (R : Fin 8192) (k : Fin 256) (K : Fin 1024) (hK : K.val = 768 + k.val) : val_main_v3 (F := Ideal) x0 x1 x2 x3 (ix2 R K) = joined (W := 256) x2 x3 R k := by
  rw [val_main_v3_apply, ← rows1]
  unfold val_main_v2
  generalize val_main_v0 (F := Ideal) x0 x1 = y0
  generalize val_main_v1 (F := Ideal) x2 x3 = y1
  exact concatenate_apply_piece (t := S8192x1024) 1 _ _ (ix2 R K) 1 (by simp) S8192x256 y1 rfl rfl 768 rfl (ix2 R k)
      (fun b hb => by
        match b with
        | ⟨0, _⟩ => rfl
        | ⟨1, _⟩ => exact absurd rfl hb)
      (by show 768 + k.val = K.val; omega)

theorem weights (k n : Fin 1024) : val_main_v4 (F := Ideal) x4 (ix2 k n) = x4 (ix3 0 k n) := by
  rw [val_main_v4_apply]
  refine congrArg x4 ?_
  funext a
  apply Fin.ext
  match a with
  | ⟨0, _⟩ => rfl
  | ⟨1, _⟩ => show (k.val * 1024 + n.val) / 1024 % 1024 = k.val; omega
  | ⟨2, _⟩ => show (k.val * 1024 + n.val) % 1024 = n.val; omega

/-- The product of the joined halves is the sum of the halves' products. -/
theorem product (R : Fin 8192) (n : Fin 1024) : val_main_v5 (F := Ideal) x0 x1 x2 x3 x4 (ix2 R n) = upd x0 x1 x2 x3 x4 R n := by
  rw [val_main_v5_apply]
  have e : ∀ k : Fin 1024, val_main_v3 (F := Ideal) x0 x1 x2 x3 (lidx_main_v5 (ix2 R n) k) * val_main_v4 (F := Ideal) x4 (ridx_main_v5 (ix2 R n) k)
      = val_main_v3 (F := Ideal) x0 x1 x2 x3 (ix2 R k) * x4 (ix3 0 k n) := by
    intro k
    have el : lidx_main_v5 (ix2 R n) k = ix2 R k := by
      funext a
      match a with
      | ⟨0, _⟩ => rfl
      | ⟨1, _⟩ => rfl
    have er : ridx_main_v5 (ix2 R n) k = ix2 k n := by
      funext a
      match a with
      | ⟨0, _⟩ => rfl
      | ⟨1, _⟩ => rfl
    rw [el, er, weights]
  rw [Finset.sum_congr rfl fun k _ => e k]
  refine (Fin.sum_univ_add (a := 768) (b := 256) (fun k : Fin 1024 => val_main_v3 (F := Ideal) x0 x1 x2 x3 (ix2 R k) * x4 (ix3 0 k n))).trans ?_
  unfold upd
  congr 1
  · refine Finset.sum_congr rfl fun k _ => ?_
    rw [left_half x0 x1 x2 x3 R k _ rfl]
    rfl
  · refine Finset.sum_congr rfl fun k _ => ?_
    rw [right_half x0 x1 x2 x3 R k _ rfl]
    rfl

/-! ## The modulation's vectors, one for each row -/

theorem vec2 (R : Fin 8192) (n : Fin 1024) : val_main_v17 (F := Ideal) x7 (ix2 R n) = x7 (ix4 0 (rowSeg R) 2 n) := by
  unfold val_main_v17
  by_cases h : R.val < 4096
  · refine (concatenate_apply_piece (t := S8192x1024) 0 _ _ (ix2 R n) 0 (by simp) S4096x1024 (val_main_v11 (F := Ideal) x7) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v11_apply, val_main_v10_apply, val_main_v9_apply]
    refine congrArg x7 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v16 (F := Ideal) x7) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v16_apply, val_main_v15_apply, val_main_v14_apply, val_main_v13_apply, val_main_v12_apply]
    refine congrArg x7 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem vec4 (R : Fin 8192) (n : Fin 1024) : val_main_v56 (F := Ideal) x7 (ix2 R n) = x7 (ix4 0 (rowSeg R) 4 n) := by
  unfold val_main_v56
  by_cases h : R.val < 4096
  · refine (concatenate_apply_piece (t := S8192x1024) 0 _ _ (ix2 R n) 0 (by simp) S4096x1024 (val_main_v50 (F := Ideal) x7) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v50_apply, val_main_v49_apply, val_main_v48_apply]
    refine congrArg x7 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v55 (F := Ideal) x7) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v55_apply, val_main_v54_apply, val_main_v53_apply, val_main_v52_apply, val_main_v51_apply]
    refine congrArg x7 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem vec3 (R : Fin 8192) (n : Fin 1024) : val_main_v68 (F := Ideal) x7 (ix2 R n) = x7 (ix4 0 (rowSeg R) 3 n) := by
  unfold val_main_v68
  by_cases h : R.val < 4096
  · refine (concatenate_apply_piece (t := S8192x1024) 0 _ _ (ix2 R n) 0 (by simp) S4096x1024 (val_main_v62 (F := Ideal) x7) rfl rfl 0 rfl (ix2 ⟨R.val, h⟩ n)
      (fun b hb => by
        match b with
        | ⟨0, _⟩ => exact absurd rfl hb
        | ⟨1, _⟩ => rfl)
      (by show 0 + R.val = R.val; omega)).trans ?_
    rw [val_main_v62_apply, val_main_v61_apply, val_main_v60_apply]
    refine congrArg x7 ?_
    have hs : (rowSeg R).val = 0 := if_pos h
    funext a
    apply Fin.ext
    match a with
    | ⟨0, _⟩ => rfl
    | ⟨1, _⟩ => exact hs.symm
    | ⟨2, _⟩ => rfl
    | ⟨3, _⟩ => exact Nat.mod_eq_of_lt n.isLt
  · refine (concatenate_apply_piece (t := S8192x1024) 0 _ _ (ix2 R n) 1 (by simp) S4096x1024 (val_main_v67 (F := Ideal) x7) rfl rfl 4096 rfl (ix2 ⟨R.val - 4096, by omega⟩ n)
      (fun b hb => by
        match b with
        | ⟨0, _⟩ => exact absurd rfl hb
        | ⟨1, _⟩ => rfl)
      (by show 4096 + (R.val - 4096) = R.val; omega)).trans ?_
    rw [val_main_v67_apply, val_main_v66_apply, val_main_v65_apply, val_main_v64_apply, val_main_v63_apply]
    refine congrArg x7 ?_
    have hs : (rowSeg R).val = 1 + (R.val - 4096) / 2048 := if_neg h
    have hR := R.isLt
    have hn := n.isLt
    funext a
    apply Fin.ext
    match a with
    | ⟨0, _⟩ => rfl
    | ⟨1, _⟩ =>
      show 1 + (((R.val - 4096) * 1024 + n.val) / 2097152 * 1024 + ((R.val - 4096) * 1024 + n.val) % 1024) / 1024 % 2 = (rowSeg R).val
      omega
    | ⟨2, _⟩ => rfl
    | ⟨3, _⟩ =>
      show (((R.val - 4096) * 1024 + n.val) / 2097152 * 1024 + ((R.val - 4096) * 1024 + n.val) % 1024) % 1024 = n.val
      omega

theorem par7 (R : Fin 8192) (n : Fin 1024) : val_main_v41 (F := Ideal) x8 (ix2 R n) = x8 (ix3 0 0 n) := by
  rw [val_main_v41_apply, val_main_v40_apply, val_main_v39_apply, val_main_v38_apply]
  refine congrArg x8 ?_
  funext a
  apply Fin.ext
  match a with
  | ⟨0, _⟩ => rfl
  | ⟨1, _⟩ => rfl
  | ⟨2, _⟩ => exact Nat.mod_eq_of_lt n.isLt

theorem par8 (R : Fin 8192) (n : Fin 1024) : val_main_v46 (F := Ideal) x9 (ix2 R n) = x9 (ix3 0 0 n) := by
  rw [val_main_v46_apply, val_main_v45_apply, val_main_v44_apply, val_main_v43_apply]
  refine congrArg x9 ?_
  funext a
  apply Fin.ext
  match a with
  | ⟨0, _⟩ => rfl
  | ⟨1, _⟩ => rfl
  | ⟨2, _⟩ => exact Nat.mod_eq_of_lt n.isLt

/-! ## The residual sum and its normalization -/

theorem residual (R : Fin 8192) (n : Fin 1024) : val_main_v19 (F := Ideal) x0 x1 x2 x3 x4 x5 x6 x7 (ix2 R n) = res x0 x1 x2 x3 x4 x5 x6 x7 R n := by
  rw [val_main_v19_apply, val_main_v8_apply, val_main_v7_apply, val_main_cst_apply, val_main_v18_apply, vec2, product, inputs]
  rfl

theorem idx1 (i : S8192.Idx) : i = ix1 (i 0) := by
  funext a
  match a with
  | ⟨0, _⟩ => rfl

theorem ref_mean (R : Fin 8192) (n : Fin 1) : val_main_v23 (F := Ideal) x0 x1 x2 x3 x4 x5 x6 x7 (ix2 R n) = mean (res x0 x1 x2 x3 x4 x5 x6 x7 R) := by
  rw [val_main_v23_apply, val_main_v21_apply, val_main_v20_apply, val_main_v22_apply, val_main_cst_1_apply, val_main_cst_0_apply]
  have e : ∀ k : Fin 1024, val_main_v19 (F := Ideal) x0 x1 x2 x3 x4 x5 x6 x7 (idx_main_v20 (idx_main_v21 (ix2 R n)) k) = res x0 x1 x2 x3 x4 x5 x6 x7 R k := fun k =>
    (congrArg (val_main_v19 (F := Ideal) x0 x1 x2 x3 x4 x5 x6 x7) (by
      funext a
      match a with
      | ⟨0, _⟩ => rfl
      | ⟨1, _⟩ => rfl)).trans (residual x0 x1 x2 x3 x4 x5 x6 x7 R k)
  rw [Finset.sum_congr rfl fun k _ => e k]
  show Ideal.div (Ideal.ofBits .f32 0x00000000#32 + ∑ k, res x0 x1 x2 x3 x4 x5 x6 x7 R k) (Ideal.ofBits .f32 0x44800000#32) = _
  rw [zero_f32, zero_add]
  rfl

theorem centred (R : Fin 8192) (n : Fin 1024) : val_main_v25 (F := Ideal) x0 x1 x2 x3 x4 x5 x6 x7 (ix2 R n) = res x0 x1 x2 x3 x4 x5 x6 x7 R n - mean (res x0 x1 x2 x3 x4 x5 x6 x7 R) := by
  rw [val_main_v25_apply, val_main_v24_apply, residual, show idx_main_v24 (ix2 R n) = ix2 R 0 from by
    funext a
    match a with
    | ⟨0, _⟩ => rfl
    | ⟨1, _⟩ => rfl]
  exact congrArg (fun z => res x0 x1 x2 x3 x4 x5 x6 x7 R n - z) (ref_mean x0 x1 x2 x3 x4 x5 x6 x7 R 0)

theorem centred' (R : Fin 8192) (n : Fin 1024) : val_main_v32 (F := Ideal) x0 x1 x2 x3 x4 x5 x6 x7 (ix2 R n) = res x0 x1 x2 x3 x4 x5 x6 x7 R n - mean (res x0 x1 x2 x3 x4 x5 x6 x7 R) := by
  rw [val_main_v32_apply, val_main_v31_apply, residual, show idx_main_v31 (ix2 R n) = ix2 R 0 from by
    funext a
    match a with
    | ⟨0, _⟩ => rfl
    | ⟨1, _⟩ => rfl]
  exact congrArg (fun z => res x0 x1 x2 x3 x4 x5 x6 x7 R n - z) (ref_mean x0 x1 x2 x3 x4 x5 x6 x7 R 0)

theorem deviation (R : Fin 8192) (n : Fin 1) :
    val_main_v35 (F := Ideal) x0 x1 x2 x3 x4 x5 x6 x7 (ix2 R n)
      = Ideal.rsqrt (Ideal.div (∑ k, (res x0 x1 x2 x3 x4 x5 x6 x7 R k - mean (res x0 x1 x2 x3 x4 x5 x6 x7 R)) * (res x0 x1 x2 x3 x4 x5 x6 x7 R k - mean (res x0 x1 x2 x3 x4 x5 x6 x7 R))) (Ideal.ofBits .f32 0x44800000#32) + Ideal.ofBits .f32 0x3727C5AC#32) := by
  rw [val_main_v35_apply, val_main_v34_apply, val_main_v30_apply, val_main_v28_apply, val_main_v27_apply, val_main_v29_apply, val_main_v33_apply, val_main_cst_2_apply, val_main_cst_3_apply, val_main_cst_4_apply]
  have e : ∀ k : Fin 1024, val_main_v26 (F := Ideal) x0 x1 x2 x3 x4 x5 x6 x7 (idx_main_v27 (idx_main_v28 (ix2 R n)) k)
      = (res x0 x1 x2 x3 x4 x5 x6 x7 R k - mean (res x0 x1 x2 x3 x4 x5 x6 x7 R)) * (res x0 x1 x2 x3 x4 x5 x6 x7 R k - mean (res x0 x1 x2 x3 x4 x5 x6 x7 R)) := fun k =>
    (congrArg (val_main_v26 (F := Ideal) x0 x1 x2 x3 x4 x5 x6 x7) (a₂ := ix2 R k) (by
      funext a
      match a with
      | ⟨0, _⟩ => rfl
      | ⟨1, _⟩ => rfl)).trans (by rw [val_main_v26_apply, centred x0 x1 x2 x3 x4 x5 x6 x7 R k]; rfl)
  rw [Finset.sum_congr rfl fun k _ => e k]
  show Ideal.rsqrt (Ideal.div (Ideal.ofBits .f32 0x00000000#32 + _) (Ideal.ofBits .f32 0x44800000#32) + Ideal.ofBits .f32 0x3727C5AC#32) = _
  rw [zero_f32, zero_add]

/-- The reference's first result. -/
theorem one_ref (R : Fin 8192) (n : Fin 1024) : val_main_v47 (F := Ideal) x0 x1 x2 x3 x4 x5 x6 x7 x8 x9 (ix2 R n) = one x0 x1 x2 x3 x4 x5 x6 x7 x8 x9 R n := by
  rw [val_main_v47_apply, val_main_v42_apply, val_main_v37_apply, val_main_v36_apply, centred', par7, par8]
  have e := deviation x0 x1 x2 x3 x4 x5 x6 x7 R 0
  rw [show idx_main_v36 (ix2 R n) = ix2 R 0 from by
    funext a
    match a with
    | ⟨0, _⟩ => rfl
    | ⟨1, _⟩ => rfl, e]
  rfl

/-! ## The modulated rows -/

theorem tok_ref (R : Fin 8192) (n : Fin 1024) : val_main_v69 (F := Ideal) x0 x1 x2 x3 x4 x5 x6 x7 x8 x9 (ix2 R n) = two x0 x1 x2 x3 x4 x5 x6 x7 x8 x9 R n := by
  rw [val_main_v69_apply, val_main_v59_apply, val_main_v58_apply, val_main_v57_apply, val_main_cst_5_apply, vec4, vec3, one_ref]
  rfl

/-- The reference's second result. -/
theorem two_ref (R : Fin 8192) (n : Fin 1024) : val_main_v84 (F := Ideal) x0 x1 x2 x3 x4 x5 x6 x7 x8 x9 (ix2 R n) = two x0 x1 x2 x3 x4 x5 x6 x7 x8 x9 R n := by
  rw [val_main_v84_apply, tok_ref]
  rfl

/-! ## The router's affinities -/

theorem router (k : Fin 1024) (e : Fin 16) : val_main_v71 (F := Ideal) x10 (ix2 k e) = x10 (ix3 0 k e) := by
  rw [val_main_v71_apply, val_main_v70_apply]
  refine congrArg x10 ?_
  funext a
  apply Fin.ext
  match a with
  | ⟨0, _⟩ => rfl
  | ⟨1, _⟩ => show (k.val * 16 + e.val) / 16 % 1024 = k.val; omega
  | ⟨2, _⟩ => show (k.val * 16 + e.val) % 16 = e.val; omega

/-- The reference's logits of a row. -/
def lg (R : Fin 8192) (e : Fin 16) : EReal := ∑ k : Fin 1024, two x0 x1 x2 x3 x4 x5 x6 x7 x8 x9 R k * x10 (ix3 0 k e)

theorem logits (R : Fin 8192) (e : Fin 16) : val_main_v72 (F := Ideal) x0 x1 x2 x3 x4 x5 x6 x7 x8 x9 x10 (ix2 R e) = lg x0 x1 x2 x3 x4 x5 x6 x7 x8 x9 x10 R e := by
  rw [val_main_v72_apply]
  unfold lg
  refine Finset.sum_congr rfl fun k _ => ?_
  have el : lidx_main_v72 (ix2 R e) k = ix2 R k := by
    funext a
    match a with
    | ⟨0, _⟩ => rfl
    | ⟨1, _⟩ => rfl
  have er : ridx_main_v72 (ix2 R e) k = ix2 k e := by
    funext a
    match a with
    | ⟨0, _⟩ => rfl
    | ⟨1, _⟩ => rfl
  rw [el, er, router, tok_ref]

theorem reduces_max : S8192x16.Reduces [1] S8192 := by decide

/-- A maximum over a row of logits, from minus infinity. -/
theorem max_apply (y : FVec Ideal S8192x16 .f32) (R : Fin 8192) :
    Host.reduce FloatOps.maximumf y (constant S_ .f32 0xFF800000#32) reducesTo_S8192x16_S8192_d1 h_S_ (ix1 R) = rowMax (fun k => y (ix2 R k)) := by
  have e := hostReduce_maximumf_eq_multiReduction y 0xFF800000#32 reducesTo_S8192x16_S8192_d1 h_S_ reduces_max (.inl rfl) rfl
  refine (congrFun e (ix1 R)).trans ?_
  refine (Ideal.multiReduction_maximumf_single _ _ _ _ _ _).trans ?_
  rw [show (FloatOps.ofBits (F := Ideal) .f32 0xFF800000#32 : Ideal .f32) = Ideal.ofBits .f32 0xFF800000#32 from rfl, bot_f32]
  have e2 : (y ∘ reduces_max.lift (ix1 R)) = fun k => y (ix2 R k) := by
    funext k
    exact congrArg y (by
      funext a; apply Fin.ext; match a with | ⟨0, _⟩ => rfl | ⟨1, _⟩ => rfl)
  rw [e2]
  rfl

theorem ref_max (R : Fin 8192) : val_main_v73 (F := Ideal) x0 x1 x2 x3 x4 x5 x6 x7 x8 x9 x10 (ix1 R) = rowMax (lg x0 x1 x2 x3 x4 x5 x6 x7 x8 x9 x10 R) := by
  unfold val_main_v73
  generalize hy : val_main_v72 (F := Ideal) x0 x1 x2 x3 x4 x5 x6 x7 x8 x9 x10 = y
  refine (max_apply y R).trans ?_
  subst hy
  exact congrArg rowMax (funext fun k => logits x0 x1 x2 x3 x4 x5 x6 x7 x8 x9 x10 R k)

theorem ref_num (R : Fin 8192) (e : Fin 16) : val_main_v79 (F := Ideal) x0 x1 x2 x3 x4 x5 x6 x7 x8 x9 x10 (ix2 R e) = num (lg x0 x1 x2 x3 x4 x5 x6 x7 x8 x9 x10 R) e := by
  rw [val_main_v79_apply, val_main_v78_apply, val_main_v77_apply, val_main_v76_apply, val_main_v75_apply, val_main_v74_apply, val_main_cst_7_apply, logits]
  rw [show idx_main_v76 (idx_main_v77 (ix2 R e)) = ix1 R from by
    funext a
    match a with
    | ⟨0, _⟩ => rfl, ref_max]
  show Ideal.exp (lg x0 x1 x2 x3 x4 x5 x6 x7 x8 x9 x10 R e - max (Ideal.ofBits .f32 0xFF800000#32) (rowMax (lg x0 x1 x2 x3 x4 x5 x6 x7 x8 x9 x10 R))) = _
  rw [bot_f32, max_eq_right bot_le]
  rfl

/-- The reference's third result. -/
theorem three_ref (e : Fin 16) (R : Fin 8192) : val_main_v85 (F := Ideal) x0 x1 x2 x3 x4 x5 x6 x7 x8 x9 x10 (ix2 e R) = aff (lg x0 x1 x2 x3 x4 x5 x6 x7 x8 x9 x10 R) e := by
  rw [val_main_v85_apply]
  rw [show idx_main_v85 (ix2 e R) = ix2 R e from by
    funext a
    match a with
    | ⟨0, _⟩ => rfl
    | ⟨1, _⟩ => rfl]
  rw [val_main_v83_apply, val_main_v82_apply, val_main_v81_apply, val_main_v80_apply, val_main_cst_8_apply, ref_num]
  have h : ∀ k : Fin 16, val_main_v79 (F := Ideal) x0 x1 x2 x3 x4 x5 x6 x7 x8 x9 x10 (idx_main_v80 (idx_main_v81 (idx_main_v82 (ix2 R e))) k) = num (lg x0 x1 x2 x3 x4 x5 x6 x7 x8 x9 x10 R) k := fun k =>
    (congrArg (val_main_v79 (F := Ideal) x0 x1 x2 x3 x4 x5 x6 x7 x8 x9 x10) (by
      funext a
      match a with
      | ⟨0, _⟩ => rfl
      | ⟨1, _⟩ => rfl)).trans (ref_num x0 x1 x2 x3 x4 x5 x6 x7 x8 x9 x10 R k)
  rw [Finset.sum_congr rfl fun k _ => h k]
  show Ideal.div (num (lg x0 x1 x2 x3 x4 x5 x6 x7 x8 x9 x10 R) e) (Ideal.ofBits .f32 0x00000000#32 + ∑ k, num (lg x0 x1 x2 x3 x4 x5 x6 x7 x8 x9 x10 R) k) = _
  rw [zero_f32, zero_add]
  rfl

end EvenProj.Ref

end
-- ==== Proof.EvenClaims.lean ====
/- The claims about the first layer's output projection: the runs of the program and of its reference, and the equality of their three results at finite arguments. -/
module

public import proofs.«01_k».proof.Defs
public import proofs.«01_k».proof.Proof.EvenRef
public import proofs.«01_k».proof.Proof.DiffClaims
public import proofs.«01_k».proof.Proof.Gen.EvenReferenceIdeal.Run
public import proofs.«01_k».proof.Proof.Gen.Pre_finite_first_router
public import Idealize.ShloMosaic.Lib.Quiescent

@[expose] public section

set_option maxRecDepth 16384

noncomputable section

namespace EvenProj

open Cert.EvenKernelIdeal Cert.EvenKernelIdeal.Gen Cert.OutMath Idealize.ShloMosaic Idealize.ShloMosaic.TcCoe Idealize.SL.Sem
open Idealize.ShloMosaic.ValueIdx
open Cert.EvenReferenceIdeal.Read (val_main_v47 val_main_v84 val_main_v85)

variable (m : (ℓ : Loc nD τ sig) → Buf (Elt Ideal) ℓ)

/-- The normalized residual rows. -/
theorem one_eq (c : Dev nD) : ((dats m 0 c).arrAt 11 cfg0.N : Vec Ideal S8192x1024 .f32)
    = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  rw [eq_ix2 j]
  exact (one_apply m c (j 0) (j 1)).trans (Ref.one_ref _ _ _ _ _ _ _ _ _ _ (j 0) (j 1)).symm

/-- The modulated rows. -/
theorem two_eq (c : Dev nD) : ((dats m 0 c).arrAt 12 cfg0.N : Vec Ideal S8192x1024 .bf16)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  rw [eq_ix2 j]
  exact (two_apply m c (j 0) (j 1)).trans (Ref.two_ref _ _ _ _ _ _ _ _ _ _ (j 0) (j 1)).symm

/-- Every entry of every argument is a real. -/
def Reals (c : Dev nD) : Prop :=
  (∀ i, IsReal (A0 m c i))
    ∧ (∀ i, IsReal (A1 m c i))
    ∧ (∀ i, IsReal (A2 m c i))
    ∧ (∀ i, IsReal (A3 m c i))
    ∧ (∀ i, IsReal (A4 m c i))
    ∧ (∀ i, IsReal (A5 m c i))
    ∧ (∀ i, IsReal (A6 m c i))
    ∧ (∀ i, IsReal (A7 m c i))
    ∧ (∀ i, IsReal (A8 m c i))
    ∧ (∀ i, IsReal (A9 m c i))
    ∧ (∀ i, IsReal (A10 m c i))

/-- The shares of the logits, at real arguments. -/
theorem three_eq (c : Dev nD) (h : Reals m c) : ((dats m 0 c).arrAt 13 cfg0.N : Vec Ideal S16x8192 .f32)
    = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h0, h1, h2, h3, h4, h5, h6, h7, h8, h9, h10⟩ := h
  funext j
  rw [eq_ix2 j]
  refine (three_apply m c (j 0) (j 1)).trans (Eq.trans ?_ (Ref.three_ref _ _ _ _ _ _ _ _ _ _ _ (j 0) (j 1)).symm)
  unfold three
  refine congrFun (congrArg aff (funext fun e => ?_)) (j 0)
  exact logits_split (fun k => two_real _ _ _ _ _ _ _ _ _ _ h0 h1 h2 h3 h4 h5 h6 h7 h8 h9 (j 1) k) (fun k => h10 _)

/-- The run of the program: its three results as the reference's, its arguments unchanged. -/
theorem run_eq (ρ : Dev nD → PrngReg) (hr : ∀ c, Reals m c) : θ_run defs (onTc (τ := τ) (main (F := Ideal))) ⟨m, fun _ => 0, ρ⟩ fun r => ∀ c : Dev nD,
      r.2.mem ((c.tc : Thread nD τ).loc main_v0_0) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v0_1) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v0_2) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 11).trans (one_eq m c), ((h c).1 12).trans (two_eq m c), ((h c).1 13).trans (three_eq m c (hr c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c)))⟩) (run_main m ρ)

end EvenProj

namespace Cert.Proof.Even

open Idealize.ShloMosaic Idealize.SL.Sem

/-- The reference ends, leaves its arguments as they were, and every counter at zero. -/
theorem frame_ref [Cert.EvenReferenceIdeal.Facts] : Cert.quiescent_EvenReferenceIdeal := fun m g _ =>
  (θ_run _ _ _).mono (fun r h => ⟨fun c => (h c).2.2.2, sem_eq_zero_of_no_sems (by decide) r.2⟩)
    (Cert.EvenReferenceIdeal.Value.run m g)

/-- The precondition says that every entry of every argument is a real. -/
theorem reals (m : (ℓ : Loc Cert.EvenKernelIdeal.nD Cert.EvenKernelIdeal.τ Cert.EvenKernelIdeal.sig) → Buf (Elt Ideal) ℓ)
    (hpre : Cert.Pre_EvenKernelIdeal_finite_first_router m) (c : Dev Cert.EvenKernelIdeal.nD) : EvenProj.Reals m c := by
  obtain ⟨p0, p1, p2, p3, p4, p5, p6, p7, p8, p9, p10⟩ := hpre c
  exact ⟨fun i => ⟨_, Diff.real_of_lt _ (congrFun p0 i)⟩, fun i => ⟨_, Diff.real_of_lt _ (congrFun p1 i)⟩, fun i => ⟨_, Diff.real_of_lt _ (congrFun p2 i)⟩, fun i => ⟨_, Diff.real_of_lt _ (congrFun p3 i)⟩, fun i => ⟨_, Diff.real_of_lt _ (congrFun p4 i)⟩, fun i => ⟨_, Diff.real_of_lt _ (congrFun p5 i)⟩, fun i => ⟨_, Diff.real_of_lt _ (congrFun p6 i)⟩, fun i => ⟨_, Diff.real_of_lt _ (congrFun p7 i)⟩, fun i => ⟨_, Diff.real_of_lt _ (congrFun p8 i)⟩, fun i => ⟨_, Diff.real_of_lt _ (congrFun p9 i)⟩, fun i => ⟨_, Diff.real_of_lt _ (congrFun p10 i)⟩⟩

/-- Program and reference end with the same three results, when every argument is finite. -/
theorem algebraic : Cert.algebraic_EvenKernelIdeal_EvenReferenceIdeal_pre_finite_first_router := fun m g m' g' hpre hargs =>
  ⟨_, _, _, EvenProj.run_eq m g (reals m hpre),
    (θ_run _ _ _).mono (fun r h c => by
      obtain ⟨e0, e1, e2, ha⟩ := h c
      obtain ⟨h0, h1, h2, h3, h4, h5, h6, h7, h8, h9, h10⟩ := hargs c
      refine ⟨e0.trans ((Cert.EvenReferenceIdeal.Read.val_main_v47_eq ..).trans ?_), e1.trans ((Cert.EvenReferenceIdeal.Read.val_main_v84_eq ..).trans ?_),
        e2.trans ((Cert.EvenReferenceIdeal.Read.val_main_v85_eq ..).trans ?_), ha⟩
      · rw [h0, h1, h2, h3, h4, h5, h6, h7, h8, h9]
      · rw [h0, h1, h2, h3, h4, h5, h6, h7, h8, h9]
      · rw [h0, h1, h2, h3, h4, h5, h6, h7, h8, h9, h10])
      (Cert.EvenReferenceIdeal.Value.run m' g')⟩

end Cert.Proof.Even

end
-- ==== Proof.CtxPayload.lean ====
/-
  THE PROMPTS' ATTENTION BLOCKS read at an index (extended reals): what the body stores at a grid point, as sums over the
  blocks it loads — a prompt's queries, keys and values, the scale's parameters and the gain. The steps are those of
  Proof/DiffPayload at this call's shapes; its scale and its slices are used as they are.
-/
module

public import proofs.«01_k».proof.Proof.DiffValue
public import proofs.«01_k».proof.Proof.Gen.CtxKernelIdeal.Frame

@[expose] public section

set_option maxRecDepth 16384

noncomputable section

namespace Cert.CtxKernelIdeal.Ctx

open Cert.CtxKernelIdeal Cert.CtxKernelIdeal.Gen Cert.AttnMath Idealize.ShloMosaic Idealize.ShloMosaic.TcCoe Idealize.SL.Sem
open Idealize.ShloMosaic.ValueIdx
open Cert.DiffKernelIdeal.Diff (zero_f32 nrm lamOf hcol qcol slice_q slice_v)

/-! ## The three steps of a head -/

/-- A column of row values spread over the rows. -/
theorem spread_apply {N : Nat} (hN : 1 < N) (v : FVec Ideal S256 .f32) (h) (r : Fin 256) (c : Fin N) :
    broadcastTo (⟨2, ![256, N]⟩ : Shape) (shapeCast S256x1 v shapeCasts_S256_S256x1) h (ix2 r c) = v (ix1 r) := by
  rw [broadcastTo_apply _ _ (ix2 r c) (ix2 r 0) (fun a => by
    match a with
    | ⟨0, _⟩ => show r.val = if (256 : Nat) = 1 then 0 else r.val; rw [if_neg (by decide)]
    | ⟨1, _⟩ => show 0 = if (1 : Nat) = 1 then 0 else c.val; rw [if_pos rfl])]
  exact shapeCast_apply v _ (ix2 r 0) (ix1 r) (by
    rewrite [Shape.rowMajor_val_one, Shape.rowMajor_val_two]; show r.val = r.val * 1 + 0; omega)

/-- The scores of a tile's half-head: scaled queries against keys. -/
def score (q : FVec Ideal S256x64 .bf16) (k : FVec Ideal S256x64 .bf16) : FVec Ideal S256x256 .f32 :=
  matmul dot_S256x64_S256x64_S256x256_1_1_0_0_n_n none (mulf q (broadcast S256x64 (Scalar.ofBits (F := Ideal) .bf16 0x3E00#16))) k (constant S256x256 .f32 0x00000000#32)

/-- The exponentials of the scores less each row's greatest. -/
def expo (q : FVec Ideal S256x64 .bf16) (k : FVec Ideal S256x64 .bf16) : FVec Ideal S256x256 .f32 :=
  exp (subf (score q k) (broadcastTo S256x256 (shapeCast S256x1 (multiReduction .maximumf [1] S256 (score q k) 0xFF800000#32 reduces_S256x256_S256 (.inl rfl) rfl) shapeCasts_S256_S256x1) broadcasts_S256x1_S256x256))

/-- Values weighted by a row's exponentials, over their sum. -/
def pv (e : FVec Ideal S256x256 .f32) (v : FVec Ideal S256x128 .bf16) : FVec Ideal S256x128 .f32 :=
  divf (matmul dot_S256x256_S256x128_S256x128_1_0_0_1_n_n none (truncf .bf16 e bitsLt_bf16_f32) v (constant S256x128 .f32 0x00000000#32))
    (broadcastTo S256x128 (shapeCast S256x1 (multiReduction .add [1] S256 e 0x00000000#32 reduces_S256x256_S256 (.inl rfl) rfl) shapeCasts_S256_S256x1) broadcasts_S256x1_S256x128)

/-- The two halves' difference. -/
def dif (lam : FVec Ideal S1x1 .f32) (o₀ o₁ : FVec Ideal S256x128 .f32) : FVec Ideal S256x128 .f32 :=
  subf o₀ (mulf (broadcastTo S256x128 lam broadcasts_S1x1_S256x128) o₁)

/-- The difference normalized over the head's width, times the gain and the layer's constant. -/
def fin (g : Vec Ideal S1x128 .f32) (o : FVec Ideal S256x128 .f32) : FVec Ideal S256x128 .f32 :=
  mulf (mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x3727C5AC#32)))) broadcasts_S256x1_S256x128))
    (broadcastTo S256x128 g broadcasts_S1x128_S256x128)) (broadcast S256x128 (Scalar.ofBits (F := Ideal) .f32 0x3F24FD5C#32))

/-- A row's scores. -/
abbrev sc (q : Fin 64 → EReal) (k : Fin 256 → Fin 64 → EReal) (c : Fin 256) : EReal :=
  ∑ d, (q d * Ideal.ofBits .bf16 0x3E00#16) * k c d

theorem score_apply (q : FVec Ideal S256x64 .bf16) (k : FVec Ideal S256x64 .bf16) (r : Fin 256) (c : Fin 256) :
    score q k (ix2 r c) = sc (fun d => q (ix2 r d)) (fun c d => k (ix2 c d)) c := by
  unfold score
  refine (Ideal.matmul_transposedRhs_apply (M := 256) (K := 64) (N := 256) none _ k _ r c).trans ?_
  rw [show (constant (F := Ideal) S256x256 .f32 0x00000000#32) (ix2 r c) = Ideal.ofBits .f32 0x00000000#32 from rfl, zero_f32, zero_add]
  rfl

/-- A row's greatest score. -/
theorem rowmax_apply (x : FVec Ideal S256x256 .f32) (r : Fin 256) :
    (multiReduction .maximumf [1] S256 x 0xFF800000#32 reduces_S256x256_S256 (.inl rfl) rfl : FVec Ideal S256 .f32) (ix1 r) = rowMax (fun k : Fin 256 => x (ix2 r k)) := by
  refine (Ideal.multiReduction_maximumf_single _ _ _ _ _ _).trans ?_
  rw [show (FloatOps.ofBits (F := Ideal) .f32 0xFF800000#32 : Ideal .f32) = Ideal.ofBits .f32 0xFF800000#32 from rfl, bot_f32]
  have e : (x ∘ reduces_S256x256_S256.lift (ix1 r)) = fun k : Fin 256 => x (ix2 r k) := by
    funext c'
    exact congrArg x (by funext a; apply Fin.ext; match a with | ⟨0, _⟩ => rfl | ⟨1, _⟩ => rfl)
  rw [e]
  rfl

theorem expo_apply (q : FVec Ideal S256x64 .bf16) (k : FVec Ideal S256x64 .bf16) (r : Fin 256) (c : Fin 256) :
    expo q k (ix2 r c) = num (sc (fun d => q (ix2 r d)) (fun c d => k (ix2 c d))) c := by
  unfold expo num
  rw [show ∀ v : FVec Ideal S256x256 .f32, exp v (ix2 r c) = Ideal.exp (v (ix2 r c)) from fun _ => rfl, subf_apply, score_apply,
    spread_apply (by decide), rowmax_apply]
  congr 2
  exact congrArg rowMax (funext fun c' => score_apply q k r c')

/-- A row of exponentials summed. -/
theorem rowsum_apply (e : FVec Ideal S256x256 .f32) (r : Fin 256) :
    (multiReduction .add [1] S256 e 0x00000000#32 reduces_S256x256_S256 (.inl rfl) rfl : FVec Ideal S256 .f32) (ix1 r) = ∑ k : Fin 256, e (ix2 r k) := by
  refine (Ideal.multiReduction_add_single _ _ _ _ _ _).trans ?_
  refine Finset.sum_congr rfl fun k _ => ?_
  exact congrArg e (by funext a; apply Fin.ext; match a with | ⟨0, _⟩ => rfl | ⟨1, _⟩ => rfl)

theorem pv_apply (e : FVec Ideal S256x256 .f32) (v : FVec Ideal S256x128 .bf16) (r : Fin 256) (c : Fin 128) :
    pv e v (ix2 r c) = Ideal.div (∑ k : Fin 256, e (ix2 r k) * v (ix2 k c)) (∑ k : Fin 256, e (ix2 r k)) := by
  unfold pv
  rw [divf_apply, spread_apply (by decide), rowsum_apply]
  refine congrArg (fun x => Ideal.div x _) ?_
  refine (Ideal.matmul_plain_apply (M := 256) (K := 256) (N := 128) none _ v _ r c).trans ?_
  rw [show (constant (F := Ideal) S256x128 .f32 0x00000000#32) (ix2 r c) = Ideal.ofBits .f32 0x00000000#32 from rfl, zero_f32, zero_add]
  rfl

theorem pv_expo_apply (q : FVec Ideal S256x64 .bf16) (k : FVec Ideal S256x64 .bf16) (v : FVec Ideal S256x128 .bf16) (r : Fin 256) (c : Fin 128) :
    pv (expo q k) v (ix2 r c) = attnK (sc (fun d => q (ix2 r d)) (fun c d => k (ix2 c d))) (fun k => v (ix2 k c)) := by
  rw [pv_apply]
  unfold attnK
  simp only [expo_apply]

/-- A row of 128 entries summed. -/
theorem rowsum128_apply (o : FVec Ideal S256x128 .f32) (r : Fin 256) :
    (multiReduction .add [1] S256 o 0x00000000#32 reduces_S256x128_S256 (.inl rfl) rfl : FVec Ideal S256 .f32) (ix1 r) = ∑ c : Fin 128, o (ix2 r c) := by
  refine (Ideal.multiReduction_add_single _ _ _ _ _ _).trans ?_
  refine Finset.sum_congr rfl fun k _ => ?_
  exact congrArg o (by funext a; apply Fin.ext; match a with | ⟨0, _⟩ => rfl | ⟨1, _⟩ => rfl)

theorem fin_apply (g : Vec Ideal S1x128 .f32) (o : FVec Ideal S256x128 .f32) (r : Fin 256) (e : Fin 128) :
    fin g o (ix2 r e) = nrm (fun c => o (ix2 r c)) (fun c => g (ix2 0 c)) e := by
  unfold fin
  rw [mulf_apply, mulf_apply, mulf_apply, broadcast_apply]
  rw [broadcastTo_apply (rsqrt _) _ (ix2 r e) (ix2 r 0) (fun a => by
    match a with
    | ⟨0, _⟩ => show r.val = if (256 : Nat) = 1 then 0 else r.val; rw [if_neg (by decide)]
    | ⟨1, _⟩ => show 0 = if (1 : Nat) = 1 then 0 else e.val; rw [if_pos rfl])]
  rw [broadcastTo_apply g _ (ix2 r e) (ix2 0 e) (fun a => by
    match a with
    | ⟨0, _⟩ => show 0 = if (1 : Nat) = 1 then 0 else r.val; rw [if_pos rfl]
    | ⟨1, _⟩ => show e.val = if (128 : Nat) = 1 then 0 else e.val; rw [if_neg (by decide)])]
  rw [show ∀ v : FVec Ideal S256x1 .f32, rsqrt v (ix2 r 0) = Ideal.rsqrt (v (ix2 r 0)) from fun _ => rfl, addf_apply, divf_apply, broadcast_apply, broadcast_apply]
  rw [shapeCast_apply _ _ (ix2 r 0) (ix1 r) (by
    rewrite [Shape.rowMajor_val_one, Shape.rowMajor_val_two]; show r.val = r.val * 1 + 0; omega)]
  rw [rowsum128_apply]
  rfl

theorem dif_apply (lam : FVec Ideal S1x1 .f32) (o₀ o₁ : FVec Ideal S256x128 .f32) (r : Fin 256) (c : Fin 128) :
    dif lam o₀ o₁ (ix2 r c) = o₀ (ix2 r c) - lam (ix2 0 0) * o₁ (ix2 r c) := by
  unfold dif
  rw [subf_apply, mulf_apply, broadcastTo_apply lam _ (ix2 r c) (ix2 0 0) (fun a => by
    match a with
    | ⟨0, _⟩ => show 0 = if (1 : Nat) = 1 then 0 else r.val; rw [if_pos rfl]
    | ⟨1, _⟩ => show 0 = if (1 : Nat) = 1 then 0 else c.val; rw [if_pos rfl])]

/-! ## The payloads as those steps -/

/-- The sum of a masked column, as one entry. -/
abbrev total (s : FVec Ideal S4x1 .f32) : FVec Ideal S1x1 .f32 :=
  shapeCast S1x1 (multiReduction .add [0] S1 s 0x00000000#32 reduces_S4x1_S1 (.inl rfl) rfl : FVec Ideal S1 .f32) shapeCasts_S1_S1x1

variable (q k v : Vec Ideal S256x256 .bf16) (g : Vec Ideal S1x128 .f32)

theorem pay4_eq (s : FVec Ideal S4x1 .f32) :
    k0_pay4 (F := Ideal) q k v s = dif (total s)
      (pv (expo (extractStridedSlice S256x64 ![0, 0] (extractStridedSlice S256x128 ![0, 0] q slices_S256x256_o0_0_S256x128) slices_S256x128_o0_0_S256x64) (extractStridedSlice S256x64 ![0, 0] (extractStridedSlice S256x128 ![0, 0] k slices_S256x256_o0_0_S256x128) slices_S256x128_o0_0_S256x64)) (extractStridedSlice S256x128 ![0, 0] v slices_S256x256_o0_0_S256x128))
      (pv (expo (extractStridedSlice S256x64 ![0, 64] (extractStridedSlice S256x128 ![0, 0] q slices_S256x256_o0_0_S256x128) slices_S256x128_o0_64_S256x64) (extractStridedSlice S256x64 ![0, 64] (extractStridedSlice S256x128 ![0, 0] k slices_S256x256_o0_0_S256x128) slices_S256x128_o0_64_S256x64)) (extractStridedSlice S256x128 ![0, 0] v slices_S256x256_o0_0_S256x128)) := rfl

theorem pay6_eq (s : FVec Ideal S4x1 .f32) : k0_pay6 (F := Ideal) g (k0_pay4 q k v s) (k0_pay5 q k v s) = fin g (k0_pay4 q k v s) := rfl

theorem pay1_eq (w : FVec Ideal S256x128 .f32) (lam : FVec Ideal S1x1 .f32) :
    k0_pay1 (F := Ideal) w lam (k0_pay10 v) g (k0_pay11 q k v) (k0_pay12 q k) (k0_pay13 q k)
      = truncf .bf16 (concatenate S256x256 1 [⟨S256x128, w⟩, ⟨S256x128, fin g (dif lam
          (pv (expo (extractStridedSlice S256x64 ![0, 0] (k0_pay8 q) slices_S256x128_o0_0_S256x64) (extractStridedSlice S256x64 ![0, 0] (k0_pay9 k) slices_S256x128_o0_0_S256x64)) (k0_pay10 v))
          (pv (expo (extractStridedSlice S256x64 ![0, 64] (k0_pay8 q) slices_S256x128_o0_64_S256x64) (extractStridedSlice S256x64 ![0, 64] (k0_pay9 k) slices_S256x128_o0_64_S256x64)) (k0_pay10 v)))⟩] concatenates_S256x128_S256x128_S256x256_d1) bitsLt_bf16_f32 := rfl

/-! ## The scale -/

/-- The first head of the pair's. -/
theorem scale0 (i : grid0.Coords) (h : Fin 2) (hi : (i 1).val = h.val) (p : Vec Ideal S1x4x4x64 .f32) :
    total (k0_pay3 (F := Ideal) i (View.ld p r0_0) (View.ld p r0_1) (View.ld p r0_2) (View.ld p r0_3)) (ix2 0 0) = lamOf p ⟨2 * h.val + 0, by omega⟩ := by
  refine Eq.trans ?_ ((Cert.DiffKernelIdeal.Diff.pay5_apply h _).trans (Cert.DiffKernelIdeal.Diff.pay2_apply p _))
  rw [← hi]
  rfl

/-- The second head's. -/
theorem scale1 (i : grid0.Coords) (h : Fin 2) (hi : (i 1).val = h.val) (p : Vec Ideal S1x4x4x64 .f32) :
    k0_pay7 (F := Ideal) (BitVec.ofNat 32 (i 1).val) (k0_pay2 (View.ld p r0_0) (View.ld p r0_1) (View.ld p r0_2) (View.ld p r0_3)) (iota .tc S4x1 32 [0] iota_S4x1_d0_w32) (ix2 0 0)
      = lamOf p ⟨2 * h.val + 1, by omega⟩ := by
  refine Eq.trans ?_ ((Cert.DiffKernelIdeal.Diff.pay13_apply h _).trans (Cert.DiffKernelIdeal.Diff.pay2_apply p _))
  rw [← hi]
  rfl

/-! ## The stored block -/

/-- One half-head's attention at a row, over the blocks. -/
abbrev half (r : Fin 256) (j s : Fin 2) (e : Fin 128) : EReal :=
  attnK (sc (fun d => q (ix2 r (qcol j s d))) (fun c d => k (ix2 c (qcol j s d)))) (fun c => v (ix2 c (hcol j e)))

/-- A half-head sliced out of the blocks. -/
theorem half_eq (r : Fin 256) (e : Fin 128) (j s : Fin 2) (a b : Nat) (ha : j.val * 128 = a) (hb : s.val * 64 = b) (h₁ h₂) :
    pv (expo (extractStridedSlice S256x64 ![0, b] (extractStridedSlice S256x128 ![0, a] q h₁ : FVec Ideal S256x128 .bf16) h₂)
        (extractStridedSlice S256x64 ![0, b] (extractStridedSlice S256x128 ![0, a] k h₁ : FVec Ideal S256x128 .bf16) h₂))
      (extractStridedSlice S256x128 ![0, a] v h₁) (ix2 r e) = half q k v r j s e := by
  rw [pv_expo_apply]
  unfold half
  congr 1
  · congr 1
    · funext d
      exact slice_q q a b h₁ h₂ r d (qcol j s d) (by show j.val * 128 + s.val * 64 + d.val = _; omega)
    · funext c d
      exact slice_q k a b h₁ h₂ c d (qcol j s d) (by show j.val * 128 + s.val * 64 + d.val = _; omega)
  · funext c
    exact slice_v v a h₁ c e (hcol j e) (by show j.val * 128 + e.val = _; omega)

/-- What a grid point stores: head `j` of its pair of heads, row `r` of its prompt. -/
theorem out_apply (i : grid0.Coords) (h : Fin 2) (hi : (i 1).val = h.val) (x0 : Vec Ideal S1x4x4x64 .f32) (r : Fin 256) (j : Fin 2) (e : Fin 128) :
    out0_5 (F := Ideal) i x0 g q k v (ix2 r (hcol j e))
      = nrm (fun c => half q k v r j 0 c - lamOf x0 ⟨2 * h.val + j.val, by omega⟩ * half q k v r j 1 c) (fun c => g (ix2 0 c)) e := by
  unfold out0_5 k0_pay14
  have hz2 : (![0, 0] : Fin 2 → Nat) = fun _ => 0 := funext fun a => by fin_cases a <;> rfl
  rw [View.canon_unit_zero (S := S256x256) hz2]
  simp only [View.ld_unit_zero (S := S256x256) hz2, View.ld_unit_zero (S := S1x128) hz2]
  rw [pay1_eq, truncf_apply]
  match j with
  | 0 =>
    refine (concatenate_pair_apply_left (t := S256x256) (s₁ := S256x128) (s₂ := S256x128) 1 _ _ _ (ix2 r (hcol 0 e)) rfl (ix2 r e)
      (fun b => by match b with | ⟨0, _⟩ => rfl | ⟨1, _⟩ => show e.val = 0 * 128 + e.val; omega)).trans ?_
    rw [pay6_eq, fin_apply, pay4_eq]
    congr 1
    funext c
    rw [dif_apply, scale0 i h hi x0]
    exact congrArg₂ (fun x y : EReal => x - lamOf x0 ⟨2 * h.val + 0, by omega⟩ * y)
      (half_eq q k v r c 0 0 0 0 rfl rfl slices_S256x256_o0_0_S256x128 slices_S256x128_o0_0_S256x64) (half_eq q k v r c 0 1 0 64 rfl rfl slices_S256x256_o0_0_S256x128 slices_S256x128_o0_64_S256x64)
  | 1 =>
    refine (concatenate_pair_apply_right (t := S256x256) (s₁ := S256x128) (s₂ := S256x128) 1 _ _ _ (ix2 r (hcol 1 e)) rfl rfl (ix2 r e)
      (fun b hb => by match b with | ⟨0, _⟩ => rfl | ⟨1, _⟩ => exact absurd rfl hb) (by show e.val + 128 = 1 * 128 + e.val; omega)).trans ?_
    rw [fin_apply]
    congr 1
    funext c
    rw [dif_apply, scale1 i h hi x0]
    exact congrArg₂ (fun x y : EReal => x - lamOf x0 ⟨2 * h.val + 1, by omega⟩ * y)
      (half_eq q k v r c 1 0 128 0 rfl rfl slices_S256x256_o0_128_S256x128 slices_S256x128_o0_0_S256x64) (half_eq q k v r c 1 1 128 64 rfl rfl slices_S256x256_o0_128_S256x128 slices_S256x128_o0_64_S256x64)

end Cert.CtxKernelIdeal.Ctx

end
-- ==== Proof.CtxBlocks.lean ====
/-
  THE PROMPTS' ATTENTION'S BLOCKS: which entries of the arguments the body finds in its staged blocks at a grid point
  (point `2 b + h` is prompt `b`, heads `2 h` and `2 h + 1`), and what the call leaves at an index of its result
  (`result_tile`).
-/
module

public import proofs.«01_k».proof.Proof.CtxPayload
public import proofs.«01_k».proof.Proof.Gen.CtxKernelIdeal.Value

@[expose] public section

set_option maxRecDepth 16384

noncomputable section

namespace Cert.CtxKernelIdeal.Ctx

open Cert.CtxKernelIdeal Cert.CtxKernelIdeal.Gen Cert.CtxKernelIdeal.Value Cert.AttnMath Idealize.ShloMosaic Idealize.ShloMosaic.TcCoe Idealize.SL.Sem
open Idealize.ShloMosaic.ValueIdx
open Cert.DiffKernelIdeal.Diff (nrm lamOf hcol qcol pcol col hc hd)

variable (m : (ℓ : Loc nD τ sig) → Buf (Elt Ideal) ℓ)

/-- The grid point of a prompt and a pair of heads. -/
abbrev pt (b : Fin 16) (h : Fin 2) : Fin cfg0.N := ⟨2 * b.val + h.val, lt_of_lt_of_eq (by omega) N_0.symm⟩

/-- The block indices of every window at every grid point. -/
theorem idx_all : ∀ (b : Fin 16) (h : Fin 2),
    ((win0_0.index (pt b h) (0 : Fin 4) = 0 ∧ win0_0.index (pt b h) (1 : Fin 4) = 0 ∧ win0_0.index (pt b h) (2 : Fin 4) = 0 ∧ win0_0.index (pt b h) (3 : Fin 4) = 0)
    ∧ (win0_1.index (pt b h) (0 : Fin 2) = 0 ∧ win0_1.index (pt b h) (1 : Fin 2) = 0))
    ∧ (win0_2.index (pt b h) (0 : Fin 2) = b.val ∧ win0_2.index (pt b h) (1 : Fin 2) = 3 + h.val)
    ∧ (win0_3.index (pt b h) (0 : Fin 2) = b.val ∧ win0_3.index (pt b h) (1 : Fin 2) = 5 + h.val)
    ∧ (win0_4.index (pt b h) (0 : Fin 2) = b.val ∧ win0_4.index (pt b h) (1 : Fin 2) = 7 + h.val)
    ∧ (win0_5.index (pt b h) (0 : Fin 2) = b.val ∧ win0_5.index (pt b h) (1 : Fin 2) = h.val) := by
  decide +kernel

/-- The second grid coordinate is the pair of heads, and every point writes back. -/
theorem coord_all : ∀ (b : Fin 16) (h : Fin 2), (grid0.coords (pt b h) 1).val = h.val ∧ (cfg0.win 5).flush (pt b h) = true := by
  decide +kernel

theorem blk0 (c : Dev nD) (b : Fin 16) (h : Fin 2) (x y : Fin 4) (d : Fin 64) :
    (iblk m c 0 (pt b h) : Vec Ideal S1x4x4x64 .f32) (ix4 0 x y d) = m ((c : Thread nD τ).loc main_arg1) (ix4 0 x y d) := by
  unfold iblk
  rw [View.read_apply]
  show V m c main_arg1 _ = V m c main_arg1 _
  congr 1
  funext a
  apply Fin.ext
  obtain ⟨⟨⟨h0, h1, h2, h3⟩, -⟩, -⟩ := idx_all b h
  match a with
  | ⟨0, _⟩ => show win0_0.index (pt b h) 0 * 1 + 1 * 0 = 0; omega
  | ⟨1, _⟩ => show win0_0.index (pt b h) 1 * 4 + 1 * x.val = x.val; omega
  | ⟨2, _⟩ => show win0_0.index (pt b h) 2 * 4 + 1 * y.val = y.val; omega
  | ⟨3, _⟩ => show win0_0.index (pt b h) 3 * 64 + 1 * d.val = d.val; omega

theorem blk1 (c : Dev nD) (b : Fin 16) (h : Fin 2) (e : Fin 128) :
    (iblk m c 1 (pt b h) : Vec Ideal S1x128 .f32) (ix2 0 e) = m ((c : Thread nD τ).loc main_arg2) (ix2 0 e) := by
  unfold iblk
  rw [View.read_apply]
  show V m c main_arg2 _ = V m c main_arg2 _
  congr 1
  funext a
  apply Fin.ext
  obtain ⟨⟨-, h0, h1⟩, -⟩ := idx_all b h
  match a with
  | ⟨0, _⟩ => show win0_1.index (pt b h) 0 * 1 + 1 * 0 = 0; omega
  | ⟨1, _⟩ => show win0_1.index (pt b h) 1 * 128 + 1 * e.val = e.val; omega

theorem blk2 (c : Dev nD) (b : Fin 16) (h : Fin 2) (r k : Fin 256) (R : Fin 8192) (C : Fin 2304) (hR : R.val = b.val * 256 + r.val) (hC : C.val = 768 + h.val * 256 + k.val) :
    (iblk m c 2 (pt b h) : Vec Ideal S256x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, ⟨h0, h1⟩, -⟩ := idx_all b h
  match a with
  | ⟨0, _⟩ => show win0_2.index (pt b h) 0 * 256 + 1 * r.val = R.val; omega
  | ⟨1, _⟩ => show win0_2.index (pt b h) 1 * 256 + 1 * k.val = C.val; omega

theorem blk3 (c : Dev nD) (b : Fin 16) (h : Fin 2) (r k : Fin 256) (R : Fin 8192) (C : Fin 2304) (hR : R.val = b.val * 256 + r.val) (hC : C.val = 1280 + h.val * 256 + k.val) :
    (iblk m c 3 (pt b h) : Vec Ideal S256x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, -, ⟨h0, h1⟩, -⟩ := idx_all b h
  match a with
  | ⟨0, _⟩ => show win0_3.index (pt b h) 0 * 256 + 1 * r.val = R.val; omega
  | ⟨1, _⟩ => show win0_3.index (pt b h) 1 * 256 + 1 * k.val = C.val; omega

theorem blk4 (c : Dev nD) (b : Fin 16) (h : Fin 2) (r k : Fin 256) (R : Fin 8192) (C : Fin 2304) (hR : R.val = b.val * 256 + r.val) (hC : C.val = 1792 + h.val * 256 + k.val) :
    (iblk m c 4 (pt b h) : Vec Ideal S256x256 .bf16) (ix2 r k) = m ((c : Thread nD τ).loc main_arg0) (ix2 R C) := by
  unfold iblk
  rw [View.read_apply]
  show V m c main_arg0 _ = V m c main_arg0 _
  congr 1
  funext a
  apply Fin.ext
  obtain ⟨-, -, -, ⟨h0, h1⟩, -⟩ := idx_all b h
  match a with
  | ⟨0, _⟩ => show win0_4.index (pt b h) 0 * 256 + 1 * r.val = R.val; omega
  | ⟨1, _⟩ => show win0_4.index (pt b h) 1 * 256 + 1 * k.val = C.val; omega

/-! ## The result at an index -/

/-- Row `n` of prompt `b`, in the array of both batches' projections. -/
abbrev prow (b : Fin 16) (n : Fin 256) : Fin 8192 := ⟨b.val * 256 + n.val, by omega⟩

/-- A prompt's rows of one part of the projection, at a head's column. -/
def rows (x : FVec Ideal S8192x2304 .bf16) (o : Nat) (ho : o + 512 ≤ 2304) (b : Fin 16) (h : Fin 4) (k : Fin 256) (e : Fin 128) : EReal :=
  x (ix2 (prow b k) (pcol o ho h e))

/-- One half of a head's attention, over the arguments. -/
def att (x : FVec Ideal S8192x2304 .bf16) (b : Fin 16) (n : Fin 256) (h : Fin 4) (s : Fin 2) (e : Fin 128) : EReal :=
  attnK (sc (fun d => rows x 768 (by decide) b h n (hc s d)) (fun k d => rows x 1280 (by decide) b h k (hc s d))) (fun k => rows x 1792 (by decide) b h k e)

theorem half_att (c : Dev nD) (b : Fin 16) (h : Fin 2) (r : Fin 256) (j s : Fin 2) (e : Fin 128) :
    half (iblk m c 2 (pt b h)) (iblk m c 3 (pt b h)) (iblk m c 4 (pt b h)) r j s e = att (m ((c : Thread nD τ).loc main_arg0)) b r (hd h j) s e := by
  unfold half att rows
  congr 1
  · congr 1
    · funext d
      exact blk2 m c b h r _ _ _ rfl
        (by show 768 + (2 * h.val + j.val) * 128 + (s.val * 64 + d.val) = 768 + h.val * 256 + (j.val * 128 + s.val * 64 + d.val); omega)
    · funext k d
      exact blk3 m c b h k _ _ _ rfl
        (by show 1280 + (2 * h.val + j.val) * 128 + (s.val * 64 + d.val) = 1280 + h.val * 256 + (j.val * 128 + s.val * 64 + d.val); omega)
  · funext k
    exact blk4 m c b h k _ _ _ rfl (by show 1792 + (2 * h.val + j.val) * 128 + e.val = 1792 + h.val * 256 + (j.val * 128 + e.val); omega)

/-- What the call leaves at row `n` of prompt `b`, head `h`, column `e`, over the arguments. -/
def res (x : FVec Ideal S8192x2304 .bf16) (p : FVec Ideal S1x4x4x64 .f32) (g : FVec Ideal S1x128 .f32) (b : Fin 16) (n : Fin 256) (h : Fin 4) (e : Fin 128) : EReal :=
  nrm (fun c => att x b n h 0 c - lamOf p h * att x b n h 1 c) (fun c => g (ix2 0 c)) e

theorem result_tile (c : Dev nD) (b : Fin 16) (h : Fin 2) (r : Fin 256) (j : Fin 2) (e : Fin 128) (R : Fin 4096) (C : Fin 512)
    (hR : R.val = b.val * 256 + r.val) (hC : C.val = (2 * h.val + j.val) * 128 + e.val) :
    ((dats m 0 c).arrAt 5 cfg0.N : Vec Ideal S4096x512 .bf16) (ix2 R C)
      = res (m ((c : Thread nD τ).loc main_arg0)) (m ((c : Thread nD τ).loc main_arg1)) (m ((c : Thread nD τ).loc main_arg2)) b r (hd h j) e := by
  obtain ⟨-, -, -, -, h0, h1⟩ := idx_all b h
  obtain ⟨hco, hfl⟩ := coord_all b h
  have e1 := congrFun (blocks5 m c (pt b h) hfl) (ix2 r (hcol j e))
  rw [flushed5] at e1
  refine Eq.trans ?_ (e1.trans ?_)
  · rw [View.read_apply]
    show ((dats m 0 c).arrAt 5 cfg0.N : Vec Ideal S4096x512 .bf16) (ix2 R C) = ((dats m 0 c).arrAt 5 cfg0.N : Vec Ideal S4096x512 .bf16) _
    congr 1
    funext a
    apply Fin.ext
    match a with
    | ⟨0, _⟩ => show R.val = win0_5.index (pt b h) 0 * 256 + 1 * r.val; omega
    | ⟨1, _⟩ => show C.val = win0_5.index (pt b h) 1 * 256 + 1 * (j.val * 128 + e.val); omega
  · refine (out_apply (iblk m c 2 (pt b h)) (iblk m c 3 (pt b h)) (iblk m c 4 (pt b h)) (iblk m c 1 (pt b h)) (grid0.coords (pt b h)) h hco (iblk m c 0 (pt b h)) r j e).trans ?_
    unfold res
    have hl : lamOf (iblk m c 0 (pt b h)) (hd h j) = lamOf (m ((c : Thread nD τ).loc main_arg1)) (hd h j) := by
      unfold lamOf; simp only [blk0 m c b h]
    have hg : (fun k : Fin 128 => (iblk m c 1 (pt b h) : Vec Ideal S1x128 .f32) (ix2 0 k)) = fun k => m ((c : Thread nD τ).loc main_arg2) (ix2 0 k) :=
      funext fun k => blk1 m c b h k
    rw [hg]
    refine congrArg (fun o : Fin 128 → EReal => nrm o _ e) (funext fun k => ?_)
    rw [hl, half_att m c b h r j 0 k, half_att m c b h r j 1 k]

end Cert.CtxKernelIdeal.Ctx

end
-- ==== Proof.CtxReference.lean ====
/-
  THE REFERENCE'S ATTENTION OF THE PROMPTS read at an index (extended reals), stage by stage: the projection's rows, the scores, the
  normalized exponentials, the scale, the weighted values and the normalized result.
-/
module

public import proofs.«01_k».proof.Proof.CtxBlocks
public import proofs.«01_k».proof.Proof.Gen.CtxReferenceIdeal.Read
public import Idealize.ShloMosaic.Lib.KernelVsHost

@[expose] public section

set_option maxRecDepth 16384

noncomputable section

namespace Cert.CtxReferenceIdeal.Ctx

open Cert.CtxReferenceIdeal Cert.CtxReferenceIdeal.Gen Cert.CtxReferenceIdeal.Read Cert.AttnMath Idealize.ShloMosaic Idealize.ShloMosaic.TcCoe Idealize.SL.Sem
open Idealize.ShloMosaic.ValueIdx
open Cert.DiffKernelIdeal.Diff (zero_f32 pcol col hc lamOf nrm)
open Cert.CtxKernelIdeal.Ctx (prow rows)

variable (x0 : FVec Ideal S8192x2304 .bf16) (x1 : FVec Ideal S1x4x4x64 .f32) (x2 : FVec Ideal S1x128 .f32)

theorem ref_q (b : Fin 16) (n : Fin 256) (h : Fin 4) (s : Fin 2) (d : Fin 64) :
    val_main_v3 (F := Ideal) x0 (ix5 b n h s d) = rows x0 768 (by decide) b h n (hc s d) := by
  rw [val_main_v3_apply, val_main_v2_apply, val_main_v1_apply, val_main_v0_apply]
  refine congrArg x0 (funext fun a => Fin.ext ?_)
  match a with
  | ⟨0, _⟩ => show ((((b.val * 256 + n.val) * 4 + h.val) * 2 + s.val) * 64 + d.val) / 512 = b.val * 256 + n.val; omega
  | ⟨1, _⟩ => show 768 + ((((b.val * 256 + n.val) * 4 + h.val) * 2 + s.val) * 64 + d.val) % 512 = 768 + h.val * 128 + (s.val * 64 + d.val); omega

theorem ref_k (b : Fin 16) (k : Fin 256) (h : Fin 4) (s : Fin 2) (d : Fin 64) :
    val_main_v5 (F := Ideal) x0 (ix5 b k h s d) = rows x0 1280 (by decide) b h k (hc s d) := by
  rw [val_main_v5_apply, val_main_v4_apply, val_main_v1_apply, val_main_v0_apply]
  refine congrArg x0 (funext fun a => Fin.ext ?_)
  match a with
  | ⟨0, _⟩ => show ((((b.val * 256 + k.val) * 4 + h.val) * 2 + s.val) * 64 + d.val) / 512 = b.val * 256 + k.val; omega
  | ⟨1, _⟩ => show 1280 + ((((b.val * 256 + k.val) * 4 + h.val) * 2 + s.val) * 64 + d.val) % 512 = 1280 + h.val * 128 + (s.val * 64 + d.val); omega

theorem ref_v (b : Fin 16) (k : Fin 256) (h : Fin 4) (e : Fin 128) :
    val_main_v7 (F := Ideal) x0 (ix4 b k h e) = rows x0 1792 (by decide) b h k e := by
  rw [val_main_v7_apply, val_main_v6_apply, val_main_v1_apply, val_main_v0_apply]
  refine congrArg x0 (funext fun a => Fin.ext ?_)
  match a with
  | ⟨0, _⟩ => show (((b.val * 256 + k.val) * 4 + h.val) * 128 + e.val) / 512 = b.val * 256 + k.val; omega
  | ⟨1, _⟩ => show 1792 + (((b.val * 256 + k.val) * 4 + h.val) * 128 + e.val) % 512 = 1792 + h.val * 128 + e.val; omega

/-- A row's scores as the reference spells them: the product scaled afterwards. -/
def scR (b : Fin 16) (n : Fin 256) (h : Fin 4) (s : Fin 2) (k : Fin 256) : EReal :=
  (∑ d : Fin 64, rows x0 768 (by decide) b h n (hc s d) * rows x0 1280 (by decide) b h k (hc s d)) * Ideal.ofBits .f32 0x3E000000#32

theorem ref_score (b : Fin 16) (n : Fin 256) (h : Fin 4) (s : Fin 2) (k : Fin 256) :
    val_main_v28 (F := Ideal) x0 (ix5 b h s n k) = scR x0 b n h s k := by
  rw [val_main_v28_apply, val_main_v26_apply, val_main_v27_apply, val_main_cst_2_apply]
  refine congrArg (· * Ideal.ofBits .f32 0x3E000000#32) (Finset.sum_congr rfl fun d _ => ?_)
  exact congrArg₂ (· * ·)
    ((congrArg (val_main_v3 (F := Ideal) x0) (funext fun a => by match a with | ⟨0, _⟩ => rfl | ⟨1, _⟩ => rfl | ⟨2, _⟩ => rfl | ⟨3, _⟩ => rfl | ⟨4, _⟩ => rfl)).trans (ref_q x0 b n h s d))
    ((congrArg (val_main_v5 (F := Ideal) x0) (funext fun a => by match a with | ⟨0, _⟩ => rfl | ⟨1, _⟩ => rfl | ⟨2, _⟩ => rfl | ⟨3, _⟩ => rfl | ⟨4, _⟩ => rfl)).trans (ref_k x0 b k h s d))

theorem reduces_max : S16x4x2x256x256.Reduces [4] S16x4x2x256 := by decide

/-- A maximum over the keys, from minus infinity. -/
theorem max_apply (y : FVec Ideal S16x4x2x256x256 .f32) (b : Fin 16) (h : Fin 4) (s : Fin 2) (n : Fin 256) :
    Host.reduce FloatOps.maximumf y (constant S_ .f32 0xFF800000#32) reducesTo_S16x4x2x256x256_S16x4x2x256_d4 h_S_ (ix4 b h s n) = rowMax (fun k => y (ix5 b h s n k)) := by
  have e := hostReduce_maximumf_eq_multiReduction y 0xFF800000#32 reducesTo_S16x4x2x256x256_S16x4x2x256_d4 h_S_ reduces_max (.inl rfl) rfl
  refine (congrFun e (ix4 b h s n)).trans ?_
  refine (Ideal.multiReduction_maximumf_single _ _ _ _ _ _).trans ?_
  rw [show (FloatOps.ofBits (F := Ideal) .f32 0xFF800000#32 : Ideal .f32) = Ideal.ofBits .f32 0xFF800000#32 from rfl, bot_f32]
  have e2 : (y ∘ reduces_max.lift (ix4 b h s n)) = fun k => y (ix5 b h s n k) := by
    funext k
    exact congrArg y (by
      funext a; apply Fin.ext; match a with | ⟨0, _⟩ => rfl | ⟨1, _⟩ => rfl | ⟨2, _⟩ => rfl | ⟨3, _⟩ => rfl | ⟨4, _⟩ => rfl)
  rw [e2]
  rfl

theorem ref_max (b : Fin 16) (n : Fin 256) (h : Fin 4) (s : Fin 2) :
    val_main_v29 (F := Ideal) x0 (ix4 b h s n) = rowMax (scR x0 b n h s) := by
  unfold val_main_v29
  generalize hy : val_main_v28 (F := Ideal) x0 = y
  refine (max_apply y b h s n).trans ?_
  subst hy
  exact congrArg rowMax (funext fun k => ref_score x0 b n h s k)

theorem ref_num (b : Fin 16) (n : Fin 256) (h : Fin 4) (s : Fin 2) (k : Fin 256) :
    val_main_v35 (F := Ideal) x0 (ix5 b h s n k) = num (scR x0 b n h s) k := by
  rw [val_main_v35_apply, val_main_v34_apply, val_main_v33_apply, val_main_v32_apply, val_main_v31_apply, val_main_v30_apply, val_main_cst_4_apply, ref_score]
  have e : idx_main_v32 (idx_main_v33 (ix5 b h s n k)) = ix4 b h s n := by
    funext a; match a with | ⟨0, _⟩ => rfl | ⟨1, _⟩ => rfl | ⟨2, _⟩ => rfl | ⟨3, _⟩ => rfl
  rw [e, ref_max]
  show Ideal.exp (scR x0 b n h s k - max (Ideal.ofBits .f32 0xFF800000#32) (rowMax (scR x0 b n h s))) = _
  rw [bot_f32, max_eq_right bot_le]
  rfl

theorem ref_sum (b : Fin 16) (n : Fin 256) (h : Fin 4) (s : Fin 2) :
    val_main_v36 (F := Ideal) x0 (ix4 b h s n) = ∑ k, num (scR x0 b n h s) k := by
  rw [val_main_v36_apply, val_main_cst_5_apply, show (FloatOps.ofBits (F := Ideal) .f32 0x00000000#32 : Ideal .f32) = Ideal.ofBits .f32 0x00000000#32 from rfl, zero_f32, zero_add]
  refine Finset.sum_congr rfl fun k _ => ?_
  refine Eq.trans ?_ (ref_num x0 b n h s k)
  exact congrArg (val_main_v35 (F := Ideal) x0) (by
    funext a; match a with | ⟨0, _⟩ => rfl | ⟨1, _⟩ => rfl | ⟨2, _⟩ => rfl | ⟨3, _⟩ => rfl | ⟨4, _⟩ => rfl)

theorem ref_soft (b : Fin 16) (n : Fin 256) (h : Fin 4) (s : Fin 2) (k : Fin 256) :
    val_main_v39 (F := Ideal) x0 (ix5 b h s n k) = Ideal.div (num (scR x0 b n h s) k) (∑ j, num (scR x0 b n h s) j) := by
  rw [val_main_v39_apply, ref_num, val_main_v38_apply, val_main_v37_apply]
  have e : idx_main_v37 (idx_main_v38 (ix5 b h s n k)) = ix4 b h s n := by
    funext a; match a with | ⟨0, _⟩ => rfl | ⟨1, _⟩ => rfl | ⟨2, _⟩ => rfl | ⟨3, _⟩ => rfl
  rw [e, ref_sum]
  rfl

/-- A head's scale, which both references spell alike. -/
theorem ref_lam (h : Fin 4) : val_main_v25 (F := Ideal) x1 (ix1 h) = lamOf x1 h := Cert.DiffReferenceIdeal.Diff.ref_lam x1 h

/-- The weight of a row's key: the first half's less the scaled second half's. -/
theorem ref_weight (b : Fin 16) (h : Fin 4) (n : Fin 256) (k : Fin 256) :
    val_main_v47 (F := Ideal) x0 x1 (ix4 b h n k)
      = Ideal.div (num (scR x0 b n h 0) k) (∑ j, num (scR x0 b n h 0) j) - lamOf x1 h * Ideal.div (num (scR x0 b n h 1) k) (∑ j, num (scR x0 b n h 1) j) := by
  have hb := b.isLt
  have hh := h.isLt
  have hn := n.isLt
  have hk := k.isLt
  rw [val_main_v47_apply, val_main_v41_apply, val_main_v40_apply, val_main_v46_apply, val_main_v45_apply, val_main_v42_apply, val_main_v44_apply, val_main_v43_apply]
  have i0 : idx_main_v40 (idx_main_v41 (ix4 b h n k)) = ix5 b h 0 n k := by
    funext a; apply Fin.ext
    match a with
    | ⟨0, _⟩ => show (((b.val * 4 + h.val) * 256 + n.val) * 256 + k.val) / 262144 = b.val; omega
    | ⟨1, _⟩ => show (((b.val * 4 + h.val) * 256 + n.val) * 256 + k.val) / 65536 % 4 = h.val; omega
    | ⟨2, _⟩ => rfl
    | ⟨3, _⟩ => show (((b.val * 4 + h.val) * 256 + n.val) * 256 + k.val) / 256 % 256 = n.val; omega
    | ⟨4, _⟩ => show (((b.val * 4 + h.val) * 256 + n.val) * 256 + k.val) % 256 = k.val; omega
  have i1 : idx_main_v43 (idx_main_v44 (ix4 b h n k)) = ix5 b h 1 n k := by
    funext a; apply Fin.ext
    match a with
    | ⟨0, _⟩ => show (((b.val * 4 + h.val) * 256 + n.val) * 256 + k.val) / 262144 = b.val; omega
    | ⟨1, _⟩ => show (((b.val * 4 + h.val) * 256 + n.val) * 256 + k.val) / 65536 % 4 = h.val; omega
    | ⟨2, _⟩ => rfl
    | ⟨3, _⟩ => show (((b.val * 4 + h.val) * 256 + n.val) * 256 + k.val) / 256 % 256 = n.val; omega
    | ⟨4, _⟩ => show (((b.val * 4 + h.val) * 256 + n.val) * 256 + k.val) % 256 = k.val; omega
  have il : idx_main_v42 (idx_main_v45 (ix4 b h n k)) = ix1 h := by
    funext a; match a with | ⟨0, _⟩ => rfl
  rw [i0, i1, il, ref_soft, ref_soft, ref_lam]
  rfl

theorem ref_att (b : Fin 16) (n : Fin 256) (h : Fin 4) (e : Fin 128) :
    val_main_v49 (F := Ideal) x0 x1 (ix4 b n h e)
      = attnR (scR x0 b n h 0) (scR x0 b n h 1) (lamOf x1 h) (fun k => rows x0 1792 (by decide) b h k e) := by
  rw [val_main_v49_apply, val_main_v48_apply]
  unfold attnR
  refine Finset.sum_congr rfl fun k _ => ?_
  exact congrArg₂ (fun x y : EReal => x * y)
    ((congrArg (val_main_v7 (F := Ideal) x0) (funext fun a => by match a with | ⟨0, _⟩ => rfl | ⟨1, _⟩ => rfl | ⟨2, _⟩ => rfl | ⟨3, _⟩ => rfl)).trans (ref_v x0 b k h e))
    ((congrArg (val_main_v47 (F := Ideal) x0 x1) (funext fun a => by match a with | ⟨0, _⟩ => rfl | ⟨1, _⟩ => rfl | ⟨2, _⟩ => rfl | ⟨3, _⟩ => rfl)).trans (ref_weight x0 x1 b h n k))

theorem ref_sq (b : Fin 16) (n : Fin 256) (h : Fin 4) :
    val_main_v51 (F := Ideal) x0 x1 (ix3 b n h) = ∑ c, val_main_v49 (F := Ideal) x0 x1 (ix4 b n h c) * val_main_v49 (F := Ideal) x0 x1 (ix4 b n h c) := by
  rw [val_main_v51_apply, val_main_cst_6_apply, show (FloatOps.ofBits (F := Ideal) .f32 0x00000000#32 : Ideal .f32) = Ideal.ofBits .f32 0x00000000#32 from rfl, zero_f32, zero_add]
  refine Finset.sum_congr rfl fun c _ => ?_
  rw [val_main_v50_apply, show idx_main_v51 (ix3 b n h) c = ix4 b n h c from by
    funext a; match a with | ⟨0, _⟩ => rfl | ⟨1, _⟩ => rfl | ⟨2, _⟩ => rfl | ⟨3, _⟩ => rfl]
  rfl

/-- The reference's result at an index. -/
theorem ref_apply (b : Fin 16) (n : Fin 256) (h : Fin 4) (e : Fin 128) (R : Fin 4096) (C : Fin 512) (hR : R.val = b.val * 256 + n.val) (hC : C.val = h.val * 128 + e.val) :
    val_main_v67 (F := Ideal) x0 x1 x2 (ix2 R C)
      = nrm (fun c => attnR (scR x0 b n h 0) (scR x0 b n h 1) (lamOf x1 h) (fun k => rows x0 1792 (by decide) b h k c)) (fun c => x2 (ix2 0 c)) e := by
  have hb := b.isLt
  have hh := h.isLt
  have hn := n.isLt
  have he := e.isLt
  have i70 : idx_main_v66 (ix2 R C) = ix4 b n h e := by
    funext a; apply Fin.ext
    match a with
    | ⟨0, _⟩ => show (R.val * 512 + C.val) / 131072 = b.val; omega
    | ⟨1, _⟩ => show (R.val * 512 + C.val) / 512 % 256 = n.val; omega
    | ⟨2, _⟩ => show (R.val * 512 + C.val) / 128 % 4 = h.val; omega
    | ⟨3, _⟩ => show (R.val * 512 + C.val) % 128 = e.val; omega
  have i56 : idx_main_v52 (idx_main_v58 (ix4 b n h e)) = ix3 b n h := by
    funext a; match a with | ⟨0, _⟩ => rfl | ⟨1, _⟩ => rfl | ⟨2, _⟩ => rfl
  have ig : idx_main_v60 (idx_main_v61 (idx_main_v62 (ix4 b n h e))) = ix2 0 e := by
    funext a; apply Fin.ext
    match a with
    | ⟨0, _⟩ => rfl
    | ⟨1, _⟩ => show e.val % 128 = e.val; omega
  rw [val_main_v67_apply, val_main_v66_apply, i70, val_main_v65_apply, val_main_v63_apply, val_main_v59_apply, val_main_v58_apply, val_main_v57_apply, val_main_v56_apply, val_main_v54_apply,
    val_main_v55_apply, val_main_cst_8_apply, val_main_v53_apply, val_main_cst_7_apply, val_main_v52_apply, i56, ref_sq, val_main_v62_apply, val_main_v61_apply, val_main_v60_apply, ig,
    val_main_v64_apply, val_main_cst_9_apply]
  have ho : (fun c => val_main_v49 (F := Ideal) x0 x1 (ix4 b n h c)) = fun c => attnR (scR x0 b n h 0) (scR x0 b n h 1) (lamOf x1 h) (fun k => rows x0 1792 (by decide) b h k c) :=
    funext fun c => ref_att x0 x1 b n h c
  exact congrArg (fun o : Fin 128 → EReal => nrm o (fun c => x2 (ix2 0 c)) e) ho

end Cert.CtxReferenceIdeal.Ctx

end
-- ==== Proof.CtxValue.lean ====
/-
  THE KERNEL'S ATTENTION OF THE PROMPTS IS THE REFERENCE'S, at finite arguments: the scores, the values and the scale are reals there, and
  over the reals dividing each half's weighted values by its own sum and then subtracting is weighting by the difference.
-/
module

public import proofs.«01_k».proof.Proof.CtxReference

@[expose] public section

set_option maxRecDepth 16384

noncomputable section

namespace Cert.CtxKernelIdeal.Ctx

open Cert.CtxKernelIdeal Cert.CtxKernelIdeal.Gen Cert.AttnMath Idealize.ShloMosaic Idealize.ShloMosaic.TcCoe Idealize.SL.Sem
open Idealize.ShloMosaic.ValueIdx
open Cert.DiffKernelIdeal.Diff (Real lam_real lamOf nrm pcol hc hd)

variable (x : FVec Ideal S8192x2304 .bf16) (p : FVec Ideal S1x4x4x64 .f32)

/-- Both spellings of a row's scores are the same reals. -/
theorem scores_real (hx : Real (s := S8192x2304) x) (b : Fin 16) (n : Fin 256) (h : Fin 4) (s : Fin 2) :
    ∃ t : Fin 256 → ℝ, sc (fun d => rows x 768 (by decide) b h n (hc s d)) (fun k d => rows x 1280 (by decide) b h k (hc s d)) = (fun k => (t k : EReal))
      ∧ Cert.CtxReferenceIdeal.Ctx.scR x b n h s = fun k => (t k : EReal) := by
  obtain ⟨f, hf⟩ := hx
  refine ⟨fun k => ∑ d : Fin 64, f (ix2 (prow b n) (pcol 768 (by decide) h (hc s d))) * (1 / 8) * f (ix2 (prow b k) (pcol 1280 (by decide) h (hc s d))), funext fun k => ?_, funext fun k => ?_⟩
  · rw [coe_sum]
    refine Finset.sum_congr rfl fun d _ => ?_
    unfold rows
    beta_reduce
    rw [hf, hf, eighth_bf16, ← EReal.coe_mul, ← EReal.coe_mul]
  · unfold Cert.CtxReferenceIdeal.Ctx.scR rows
    have e : ∀ d : Fin 64, x (ix2 (prow b n) (pcol 768 (by decide) h (hc s d))) * x (ix2 (prow b k) (pcol 1280 (by decide) h (hc s d)))
        = ((f (ix2 (prow b n) (pcol 768 (by decide) h (hc s d))) * f (ix2 (prow b k) (pcol 1280 (by decide) h (hc s d))) : ℝ) : EReal) := fun d => by rw [hf, hf, ← EReal.coe_mul]
    rw [Finset.sum_congr rfl fun d _ => e d, ← coe_sum, eighth_f32, ← EReal.coe_mul, Finset.sum_mul]
    refine congrArg _ (Finset.sum_congr rfl fun d _ => by ring)

theorem att_eq (hx : Real (s := S8192x2304) x) (hp : Real (s := S1x4x4x64) p) (b : Fin 16) (n : Fin 256) (h : Fin 4) (e : Fin 128) :
    att x b n h 0 e - lamOf p h * att x b n h 1 e
      = attnR (Cert.CtxReferenceIdeal.Ctx.scR x b n h 0) (Cert.CtxReferenceIdeal.Ctx.scR x b n h 1) (lamOf p h) (fun k => rows x 1792 (by decide) b h k e) := by
  obtain ⟨t0, a0, r0⟩ := scores_real x hx b n h 0
  obtain ⟨t1, a1, r1⟩ := scores_real x hx b n h 1
  obtain ⟨lam, hl⟩ := lam_real p hp h
  obtain ⟨f, hf⟩ := hx
  have hv' : (fun k => rows x 1792 (by decide) b h k e) = fun k => (f (ix2 (prow b k) (pcol 1792 (by decide) h e)) : EReal) := funext fun k => hf _
  unfold att
  rw [a0, a1, r0, r1, hl, hv']
  exact attn_eq (by decide) t0 t1 _ lam

/-- The kernel's result array is the reference's. -/
theorem ctx_eq (m : (ℓ : Loc nD τ sig) → Buf (Elt Ideal) ℓ) (c : Dev nD)
    (hx : Real (s := S8192x2304) (m ((c : Thread nD τ).loc main_arg0))) (hp : Real (s := S1x4x4x64) (m ((c : Thread nD τ).loc main_arg1))) :
    ((dats m 0 c).arrAt 5 cfg0.N : Vec Ideal S4096x512 .bf16)
      = Cert.CtxReferenceIdeal.Read.val_main_v67 (F := Ideal) (m ((c : Thread nD τ).loc main_arg0)) (m ((c : Thread nD τ).loc main_arg1)) (m ((c : Thread nD τ).loc main_arg2)) := by
  funext i
  obtain ⟨R, C, rfl⟩ : ∃ (R : Fin 4096) (C : Fin 512), i = ix2 R C := ⟨i 0, i 1, by funext a; match a with | ⟨0, _⟩ => rfl | ⟨1, _⟩ => rfl⟩
  have hR := R.isLt
  have hC := C.isLt
  refine (result_tile m c ⟨R.val / 256, by omega⟩ ⟨C.val / 256, by omega⟩ ⟨R.val % 256, by omega⟩ ⟨C.val % 256 / 128, by omega⟩ ⟨C.val % 128, by omega⟩ R C
    (by show R.val = R.val / 256 * 256 + R.val % 256; omega)
    (by show C.val = (2 * (C.val / 256) + C.val % 256 / 128) * 128 + C.val % 128; omega)).trans ?_
  refine Eq.trans ?_ (Cert.CtxReferenceIdeal.Ctx.ref_apply _ _ _ ⟨R.val / 256, by omega⟩ ⟨R.val % 256, by omega⟩
    (hd ⟨C.val / 256, by omega⟩ ⟨C.val % 256 / 128, by omega⟩) ⟨C.val % 128, by omega⟩ R C
    (by show R.val = R.val / 256 * 256 + R.val % 256; omega)
    (by show C.val = (2 * (C.val / 256) + C.val % 256 / 128) * 128 + C.val % 128; omega)).symm
  unfold res
  exact congrArg (fun o : Fin 128 → EReal => nrm o _ _) (funext fun k => att_eq _ _ hx hp _ _ _ k)

end Cert.CtxKernelIdeal.Ctx

end
-- ==== Proof.CtxClaims.lean ====
/- The claims about the prompts' attention: the runs of the program and of its reference, and the equality of their results at finite arguments. -/
module

public import proofs.«01_k».proof.Defs
public import proofs.«01_k».proof.Proof.CtxValue
public import proofs.«01_k».proof.Proof.DiffClaims
public import proofs.«01_k».proof.Proof.Gen.CtxKernelIdeal.Value
public import proofs.«01_k».proof.Proof.Gen.Pre_finite_prompt_attention
public import proofs.«01_k».proof.Proof.Gen.CtxReferenceIdeal.Run
public import proofs.«01_k».proof.Proof.Gen.CtxReferenceIdeal.Read
public import Idealize.ShloMosaic.Lib.Quiescent

@[expose] public section

set_option maxRecDepth 16384

noncomputable section

namespace Cert.Proof.Ctx

open Idealize.ShloMosaic Idealize.SL.Sem

/-- The reference ends, leaves its arguments as they were, and every counter at zero. -/
theorem frame_ref [Cert.CtxReferenceIdeal.Facts] : Cert.quiescent_CtxReferenceIdeal := fun m g _ =>
  (θ_run _ _ _).mono (fun r h => ⟨fun c => (h c).2, sem_eq_zero_of_no_sems (by decide) r.2⟩)
    (Cert.CtxReferenceIdeal.Value.run m g)

/-- Program and reference end with the same result, when the projection and the scale's parameters are finite. -/
theorem algebraic : Cert.algebraic_CtxKernelIdeal_CtxReferenceIdeal_pre_finite_prompt_attention := fun m g m' g' hpre hargs =>
  ⟨fun c => (Cert.CtxKernelIdeal.Gen.dats m 0 c).arrAt 5 Cert.CtxKernelIdeal.cfg0.N, Cert.CtxKernelIdeal.Value.run_blocks m g,
    (θ_run _ _ _).mono (fun r h c => ⟨(h c).1.trans (by
        refine (Cert.CtxReferenceIdeal.Read.val_main_v67_eq ..).trans ?_
        obtain ⟨h0, h1, h2⟩ := hargs c
        obtain ⟨p0, p1⟩ := hpre c
        rw [h0, h1, h2]
        exact (Cert.CtxKernelIdeal.Ctx.ctx_eq m c
          ⟨fun i => (_ : EReal).toReal, fun i => Diff.real_of_lt _ (congrFun p0 i)⟩
          ⟨fun i => (_ : EReal).toReal, fun i => Diff.real_of_lt _ (congrFun p1 i)⟩).symm), (h c).2⟩)
      (Cert.CtxReferenceIdeal.Value.run m' g')⟩

end Cert.Proof.Ctx

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ProjKernel
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Pre_finite_router
public import proofs.«01_k».proof.Proof.Gen.EvenKernel
public import proofs.«01_k».proof.Proof.Gen.EvenKernel.Frame
public import proofs.«01_k».proof.Proof.Gen.EvenKernelIdeal
public import proofs.«01_k».proof.Proof.Gen.EvenKernelIdeal.Frame
public import proofs.«01_k».proof.Proof.Gen.EvenReferenceIdeal
public import proofs.«01_k».proof.Proof.Gen.EvenReferenceIdeal.Run
public import proofs.«01_k».proof.Proof.Gen.EvenReferenceIdeal.Read
public import proofs.«01_k».proof.Proof.Gen.Pre_finite_first_router
public import proofs.«01_k».proof.Proof.Gen.DiffKernel
public import proofs.«01_k».proof.Proof.Gen.DiffKernel.Frame
public import proofs.«01_k».proof.Proof.Gen.DiffKernelIdeal
public import proofs.«01_k».proof.Proof.Gen.DiffKernelIdeal.Frame
public import proofs.«01_k».proof.Proof.Gen.DiffKernelIdeal.Value
public import proofs.«01_k».proof.Proof.Gen.DiffReferenceIdeal
public import proofs.«01_k».proof.Proof.Gen.DiffReferenceIdeal.Run
public import proofs.«01_k».proof.Proof.Gen.DiffReferenceIdeal.Read
public import proofs.«01_k».proof.Proof.Gen.Pre_finite_attention
public import proofs.«01_k».proof.Proof.Gen.CtxKernel
public import proofs.«01_k».proof.Proof.Gen.CtxKernel.Frame
public import proofs.«01_k».proof.Proof.Gen.CtxKernelIdeal
public import proofs.«01_k».proof.Proof.Gen.CtxKernelIdeal.Frame
public import proofs.«01_k».proof.Proof.Gen.CtxKernelIdeal.Value
public import proofs.«01_k».proof.Proof.Gen.CtxReferenceIdeal
public import proofs.«01_k».proof.Proof.Gen.CtxReferenceIdeal.Run
public import proofs.«01_k».proof.Proof.Gen.CtxReferenceIdeal.Read
public import proofs.«01_k».proof.Proof.Gen.Pre_finite_prompt_attention
public import proofs.«01_k».proof.Proof.FfnClaims
public import proofs.«01_k».proof.Proof.ProjClaims
public import proofs.«01_k».proof.Proof.InClaims
public import proofs.«01_k».proof.Proof.OutClaims
public import proofs.«01_k».proof.Proof.EvenClaims
public import proofs.«01_k».proof.Proof.DiffClaims
public import proofs.«01_k».proof.Proof.CtxClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.ProjKernel.Gen.facts, Cert.ProjKernelIdeal.Gen.facts, Cert.ProjReferenceIdeal.Gen.facts,
    Cert.InKernel.Gen.facts, Cert.InKernelIdeal.Gen.facts, Cert.InReferenceIdeal.Gen.facts,
    Cert.OutKernel.Gen.facts, Cert.OutKernelIdeal.Gen.facts, Cert.OutReferenceIdeal.Gen.facts,
    Cert.EvenKernel.Gen.facts, Cert.EvenKernelIdeal.Gen.facts, Cert.EvenReferenceIdeal.Gen.facts,
    Cert.DiffKernel.Gen.facts, Cert.DiffKernelIdeal.Gen.facts, Cert.DiffReferenceIdeal.Gen.facts,
    Cert.CtxKernel.Gen.facts, Cert.CtxKernelIdeal.Gen.facts, Cert.CtxReferenceIdeal.Gen.facts, Cert.Pre_finite_router.Gen.facts, Cert.Pre_finite_first_router.Gen.facts, Cert.Pre_finite_attention.Gen.facts,
    Cert.Pre_finite_prompt_attention.Gen.facts,
    fun m g _ => Cert.Kernel.Gen.frame m g, fun m g _ => Cert.KernelIdeal.Gen.frame m g, Ffn.frame_ref,
    Proj.frame_kernel, Proj.frame_ideal, Proj.frame_ref,
    fun m g _ => Cert.InKernel.Gen.frame m g, fun m g _ => Cert.InKernelIdeal.Gen.frame m g, In.frame_ref,
    fun m g _ => Cert.OutKernel.Gen.frame m g, fun m g _ => Cert.OutKernelIdeal.Gen.frame m g, fun m g _ => Cert.OutKernelIdeal.Gen.frame m g,
    Out.frame_ref, fun m g _ => Out.frame_ref m g trivial,
    fun m g _ => Cert.EvenKernel.Gen.frame m g, fun m g _ => Cert.EvenKernelIdeal.Gen.frame m g, fun m g _ => Cert.EvenKernelIdeal.Gen.frame m g,
    Even.frame_ref, fun m g _ => Even.frame_ref m g trivial,
    fun m g _ => Cert.DiffKernel.Gen.frame m g, fun m g _ => Cert.DiffKernelIdeal.Gen.frame m g, fun m g _ => Cert.DiffKernelIdeal.Gen.frame m g,
    Diff.frame_ref, fun m g _ => Diff.frame_ref m g trivial,
    fun m g _ => Cert.CtxKernel.Gen.frame m g, fun m g _ => Cert.CtxKernelIdeal.Gen.frame m g, fun m g _ => Cert.CtxKernelIdeal.Gen.frame m g,
    Ctx.frame_ref, fun m g _ => Ctx.frame_ref m g trivial,
    trivial, Ffn.algebraic, trivial, Proj.algebraic, trivial, In.algebraic, trivial, Out.algebraic, trivial, Even.algebraic, trivial, Diff.algebraic,
    trivial, Ctx.algebraic⟩

end Cert.Proof

end
